-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)) (v1 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_v7) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v16)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v16)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v16) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v16)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v16) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v29)) (v1 : (c : Dev Cert.Kernel9Ideal.nD) → Buf (Elt Ideal) ((c.tc : Thread Cert.Kernel9Ideal.nD Cert.Kernel9Ideal.τ).loc Cert.Kernel9Ideal.main_v40)) (v2 : (c : Dev Cert.Kernel9Ideal.nD) → Buf (Elt Ideal) ((c.tc : Thread Cert.Kernel9Ideal.nD Cert.Kernel9Ideal.τ).loc Cert.Kernel9Ideal.main_v42)) (v3 : (c : Dev Cert.Kernel9Ideal.nD) → Buf (Elt Ideal) ((c.tc : Thread Cert.Kernel9Ideal.nD Cert.Kernel9Ideal.τ).loc Cert.Kernel9Ideal.main_v38)) (v4 : (c : Dev Cert.Kernel9Ideal.nD) → Buf (Elt Ideal) ((c.tc : Thread Cert.Kernel9Ideal.nD Cert.Kernel9Ideal.τ).loc Cert.Kernel9Ideal.main_v35)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v29) = v0 c
          ∧ r.2.mem ((c.tc : Thread Cert.Kernel9Ideal.nD Cert.Kernel9Ideal.τ).loc Cert.Kernel9Ideal.main_v40) = v1 c
          ∧ r.2.mem ((c.tc : Thread Cert.Kernel9Ideal.nD Cert.Kernel9Ideal.τ).loc Cert.Kernel9Ideal.main_v42) = v2 c
          ∧ r.2.mem ((c.tc : Thread Cert.Kernel9Ideal.nD Cert.Kernel9Ideal.τ).loc Cert.Kernel9Ideal.main_v38) = v3 c
          ∧ r.2.mem ((c.tc : Thread Cert.Kernel9Ideal.nD Cert.Kernel9Ideal.τ).loc Cert.Kernel9Ideal.main_v35) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v39) = v1 c
          ∧ r.2.mem ((c.tc : Thread Cert.Reference9Ideal.nD Cert.Reference9Ideal.τ).loc Cert.Reference9Ideal.main_v40) = v2 c
          ∧ r.2.mem ((c.tc : Thread Cert.Reference9Ideal.nD Cert.Reference9Ideal.τ).loc Cert.Reference9Ideal.main_v38) = v3 c
          ∧ r.2.mem ((c.tc : Thread Cert.Reference9Ideal.nD Cert.Reference9Ideal.τ).loc Cert.Reference9Ideal.main_v32) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)) (v2 : (c : Dev Cert.Kernel12Ideal.nD) → Buf (Elt Ideal) ((c.tc : Thread Cert.Kernel12Ideal.nD Cert.Kernel12Ideal.τ).loc Cert.Kernel12Ideal.main_v2_2)) (v3 : (c : Dev Cert.Kernel12Ideal.nD) → Buf (Elt Ideal) ((c.tc : Thread Cert.Kernel12Ideal.nD Cert.Kernel12Ideal.τ).loc Cert.Kernel12Ideal.main_v2_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_v2_2) = v2 c
          ∧ r.2.mem ((c.tc : Thread Cert.Kernel12Ideal.nD Cert.Kernel12Ideal.τ).loc Cert.Kernel12Ideal.main_v2_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v118) = v0 c
          ∧ r.2.mem ((c.tc : Thread Cert.Reference12Ideal.nD Cert.Reference12Ideal.τ).loc Cert.Reference12Ideal.main_v120) = v1 c
          ∧ r.2.mem ((c.tc : Thread Cert.Reference12Ideal.nD Cert.Reference12Ideal.τ).loc Cert.Reference12Ideal.main_v123) = v2 c
          ∧ r.2.mem ((c.tc : Thread Cert.Reference12Ideal.nD Cert.Reference12Ideal.τ).loc Cert.Reference12Ideal.main_v126) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v53) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v26) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)) (v2 : (c : Dev Cert.Kernel15Ideal.nD) → Buf (Elt Ideal) ((c.tc : Thread Cert.Kernel15Ideal.nD Cert.Kernel15Ideal.τ).loc Cert.Kernel15Ideal.main_v4_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_v4_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v24) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v26) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)) (v2 : (c : Dev Cert.Kernel16Ideal.nD) → Buf (Elt Ideal) ((c.tc : Thread Cert.Kernel16Ideal.nD Cert.Kernel16Ideal.τ).loc Cert.Kernel16Ideal.main_v4_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_v4_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v26) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v26) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)) (v2 : (c : Dev Cert.Kernel19Ideal.nD) → Buf (Elt Ideal) ((c.tc : Thread Cert.Kernel19Ideal.nD Cert.Kernel19Ideal.τ).loc Cert.Kernel19Ideal.main_v4_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_v4_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v24) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v26) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v9) = v0 c
          ∧ r.2.mem ((c.tc : Thread Cert.Reference20Ideal.nD Cert.Reference20Ideal.τ).loc Cert.Reference20Ideal.main_v15) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S2x4x8192x64 : Shape := ⟨4, ![2, 4, 8192, 64]⟩
abbrev S2x8448x64 : Shape := ⟨3, ![2, 8448, 64]⟩
abbrev S_ : Shape := ⟨0, ![]⟩

class Facts : Prop where
  bcast_S_S2x4x8192x64 : S_.BroadcastsInDim S2x4x8192x64 (![] : Fin 0 → Fin S2x4x8192x64.rank)
  bcast_S_S2x8448x64 : S_.BroadcastsInDim S2x8448x64 (![] : Fin 0 → Fin S2x8448x64.rank)

variable [Facts]

def fn {F : FTy → Type} [FloatOps F] (main_arg0 : FVec F S2x4x8192x64 .f32) (main_arg1 : FVec F S2x8448x64 .f32) (main_arg2 : FVec F S2x8448x64 .f32) (main_arg3 : FVec F S2x4x8192x64 .f32) : IVec S2x4x8192x64 1 × IVec S2x8448x64 1 × IVec S2x8448x64 1 × IVec S2x4x8192x64 1 :=
  let main_v0 : FVec F S2x4x8192x64 .f32 := Host.absf main_arg0
  let main_cst : FVec F S_ .f32 := constant S_ .f32 0x7F800000#32
  let main_v1 : FVec F S2x4x8192x64 .f32 := broadcastInDim S2x4x8192x64 ![] bcast_S_S2x4x8192x64 main_cst
  let main_v2 : IVec S2x4x8192x64 1 := cmpf .olt main_v0 main_v1
  let main_v3 : FVec F S2x8448x64 .f32 := Host.absf main_arg1
  let main_cst_0 : FVec F S_ .f32 := constant S_ .f32 0x7F800000#32
  let main_v4 : FVec F S2x8448x64 .f32 := broadcastInDim S2x8448x64 ![] bcast_S_S2x8448x64 main_cst_0
  let main_v5 : IVec S2x8448x64 1 := cmpf .olt main_v3 main_v4
  let main_v6 : FVec F S2x8448x64 .f32 := Host.absf main_arg2
  let main_cst_1 : FVec F S_ .f32 := constant S_ .f32 0x7F800000#32
  let main_v7 : FVec F S2x8448x64 .f32 := broadcastInDim S2x8448x64 ![] bcast_S_S2x8448x64 main_cst_1
  let main_v8 : IVec S2x8448x64 1 := cmpf .olt main_v6 main_v7
  let main_v9 : FVec F S2x4x8192x64 .f32 := Host.absf main_arg3
  let main_cst_2 : FVec F S_ .f32 := constant S_ .f32 0x7F800000#32
  let main_v10 : FVec F S2x4x8192x64 .f32 := broadcastInDim S2x4x8192x64 ![] bcast_S_S2x4x8192x64 main_cst_2
  let main_v11 : IVec S2x4x8192x64 1 := cmpf .olt main_v9 main_v10
  (main_v2, main_v5, main_v8, main_v11)
-- ==== Pre_finite2.lean ====
abbrev S8448x1024 : Shape := ⟨2, ![8448, 1024]⟩
abbrev S1024x5632 : Shape := ⟨2, ![1024, 5632]⟩
abbrev S2816x1024 : Shape := ⟨2, ![2816, 1024]⟩
abbrev S_ : Shape := ⟨0, ![]⟩

class Facts : Prop where
  bcast_S_S8448x1024 : S_.BroadcastsInDim S8448x1024 (![] : Fin 0 → Fin S8448x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S8448x1024 .f32) (main_arg1 : FVec F S1024x5632 .f32) (main_arg2 : FVec F S2816x1024 .f32) (main_arg3 : FVec F S8448x1024 .f32) : IVec S8448x1024 1 × IVec S1024x5632 1 × IVec S2816x1024 1 × IVec S8448x1024 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S8448x1024 .f32 := Host.absf main_arg3
  let main_cst_2 : FVec F S_ .f32 := constant S_ .f32 0x7F800000#32
  let main_v10 : FVec F S8448x1024 .f32 := broadcastInDim S8448x1024 ![] bcast_S_S8448x1024 main_cst_2
  let main_v11 : IVec S8448x1024 1 := cmpf .olt main_v9 main_v10
  (main_v2, main_v5, main_v8, main_v11)
-- ==== Kernel.lean ====
abbrev S2x4x8192x64 : Shape := ⟨4, ![2, 4, 8192, 64]⟩
abbrev S2x8448x64 : Shape := ⟨3, ![2, 8448, 64]⟩
abbrev S2x32768x64 : Shape := ⟨3, ![2, 32768, 64]⟩
abbrev S2x32768x8448 : Shape := ⟨3, ![2, 32768, 8448]⟩
abbrev S_ : Shape := ⟨0, ![]⟩
abbrev S2x32768 : Shape := ⟨2, ![2, 32768]⟩
abbrev S2x32768x1 : Shape := ⟨3, ![2, 32768, 1]⟩
abbrev S2x64x32768 : Shape := ⟨3, ![2, 64, 32768]⟩
abbrev S2x1x32768 : Shape := ⟨3, ![2, 1, 32768]⟩
abbrev S2x33x256x64 : Shape := ⟨4, ![2, 33, 256, 64]⟩
abbrev S2x33x64x256 : Shape := ⟨4, ![2, 33, 64, 256]⟩
abbrev S1x512x64 : Shape := ⟨3, ![1, 512, 64]⟩
abbrev S1x64x512 : Shape := ⟨3, ![1, 64, 512]⟩
abbrev S1x8448x64 : Shape := ⟨3, ![1, 8448, 64]⟩
abbrev S1x33x64x256 : Shape := ⟨4, ![1, 33, 64, 256]⟩
abbrev S1x1x512 : Shape := ⟨3, ![1, 1, 512]⟩
abbrev S8448x64 : Shape := ⟨2, ![8448, 64]⟩
abbrev S512x64 : Shape := ⟨2, ![512, 64]⟩
abbrev S64x512 : Shape := ⟨2, ![64, 512]⟩
abbrev S512 : Shape := ⟨1, ![512]⟩
abbrev S1x512 : Shape := ⟨2, ![1, 512]⟩
abbrev S1x256x64 : Shape := ⟨3, ![1, 256, 64]⟩
abbrev S256x64 : Shape := ⟨2, ![256, 64]⟩
abbrev S256x512 : Shape := ⟨2, ![256, 512]⟩
abbrev S1x1x64x256 : Shape := ⟨4, ![1, 1, 64, 256]⟩
abbrev S64x256 : Shape := ⟨2, ![64, 256]⟩

abbrev nBuf : Space → Nat
  | .hbm => 37
  | .vmem => 24
  | .smem => 0
  | _ => 0

abbrev bufTy : (tb : Table) → Fin (tcTables nBuf tb) → BufTy
  | .hbm, ⟨0, _⟩ => ⟨S2x4x8192x64, .f32⟩
  | .hbm, ⟨1, _⟩ => ⟨S2x8448x64, .f32⟩
  | .hbm, ⟨2, _⟩ => ⟨S2x8448x64, .f32⟩
  | .hbm, ⟨3, _⟩ => ⟨S2x4x8192x64, .f32⟩
  | .hbm, ⟨4, _⟩ => ⟨S2x32768x64, .f32⟩
  | .hbm, ⟨5, _⟩ => ⟨S2x32768x64, .f32⟩
  | .hbm, ⟨6, _⟩ => ⟨S2x32768x8448, .f32⟩
  | .hbm, ⟨7, _⟩ => ⟨S_, .f32⟩
  | .hbm, ⟨8, _⟩ => ⟨S2x32768x8448, .f32⟩
  | .hbm, ⟨9, _⟩ => ⟨S2x32768x8448, .f32⟩
  | .hbm, ⟨10, _⟩ => ⟨S_, .f32⟩
  | .hbm, ⟨11, _⟩ => ⟨S2x32768, .f32⟩
  | .hbm, ⟨12, _⟩ => ⟨S2x32768x1, .f32⟩
  | .hbm, ⟨13, _⟩ => ⟨S2x32768x8448, .f32⟩
  | .hbm, ⟨14, _⟩ => ⟨S2x32768x8448, .f32⟩
  | .hbm, ⟨15, _⟩ => ⟨S2x32768x8448, .f32⟩
  | .hbm, ⟨16, _⟩ => ⟨S_, .f32⟩
  | .hbm, ⟨17, _⟩ => ⟨S2x32768, .f32⟩
  | .hbm, ⟨18, _⟩ => ⟨S2x32768x1, .f32⟩
  | .hbm, ⟨19, _⟩ => ⟨S2x32768x8448, .f32⟩
  | .hbm, ⟨20, _⟩ => ⟨S2x32768x8448, .f32⟩
  | .hbm, ⟨21, _⟩ => ⟨S2x32768x64, .f32⟩
  | .hbm, ⟨22, _⟩ => ⟨S2x64x32768, .f32⟩
  | .hbm, ⟨23, _⟩ => ⟨S2x32768x1, .f32⟩
  | .hbm, ⟨24, _⟩ => ⟨S2x32768x1, .f32⟩
  | .hbm, ⟨25, _⟩ => ⟨S2x1x32768, .f32⟩
  | .hbm, ⟨26, _⟩ => ⟨S2x32768x64, .bf16⟩
  | .hbm, ⟨27, _⟩ => ⟨S2x8448x64, .bf16⟩
  | .hbm, ⟨28, _⟩ => ⟨S2x8448x64, .bf16⟩
  | .hbm, ⟨29, _⟩ => ⟨S2x64x32768, .bf16⟩
  | .hbm, ⟨30, _⟩ => ⟨S2x32768x64, .bf16⟩
  | .hbm, ⟨31, _⟩ => ⟨S2x33x256x64, .bf16⟩
  | .hbm, ⟨32, _⟩ => ⟨S2x33x64x256, .bf16⟩
  | .hbm, ⟨33, _⟩ => ⟨S2x64x32768, .bf16⟩
  | .hbm, ⟨34, _⟩ => ⟨S2x64x32768, .f32⟩
  | .hbm, ⟨35, _⟩ => ⟨S2x8448x64, .f32⟩
  | .hbm, ⟨36, _⟩ => ⟨S2x8448x64, .f32⟩
  | .local _ .vmem, ⟨0, _⟩ => ⟨S1x512x64, .bf16⟩
  | .local _ .vmem, ⟨1, _⟩ => ⟨S1x512x64, .bf16⟩
  | .local _ .vmem, ⟨2, _⟩ => ⟨S1x64x512, .bf16⟩
  | .local _ .vmem, ⟨3, _⟩ => ⟨S1x64x512, .bf16⟩
  | .local _ .vmem, ⟨4, _⟩ => ⟨S1x8448x64, .bf16⟩
  | .local _ .vmem, ⟨5, _⟩ => ⟨S1x8448x64, .bf16⟩
  | .local _ .vmem, ⟨6, _⟩ => ⟨S1x33x64x256, .bf16⟩
  | .local _ .vmem, ⟨7, _⟩ => ⟨S1x33x64x256, .bf16⟩
  | .local _ .vmem, ⟨8, _⟩ => ⟨S1x8448x64, .bf16⟩
  | .local _ .vmem, ⟨9, _⟩ => ⟨S1x8448x64, .bf16⟩
  | .local _ .vmem, ⟨10, _⟩ => ⟨S1x512x64, .bf16⟩
  | .local _ .vmem, ⟨11, _⟩ => ⟨S1x512x64, .bf16⟩
  | .local _ .vmem, ⟨12, _⟩ => ⟨S1x64x512, .bf16⟩
  | .local _ .vmem, ⟨13, _⟩ => ⟨S1x64x512, .bf16⟩
  | .local _ .vmem, ⟨14, _⟩ => ⟨S1x64x512, .f32⟩
  | .local _ .vmem, ⟨15, _⟩ => ⟨S1x64x512, .f32⟩
  | .local _ .vmem, ⟨16, _⟩ => ⟨S1x1x512, .f32⟩
  | .local _ .vmem, ⟨17, _⟩ => ⟨S1x1x512, .f32⟩
  | .local _ .vmem, ⟨18, _⟩ => ⟨S1x64x512, .f32⟩
  | .local _ .vmem, ⟨19, _⟩ => ⟨S1x64x512, .f32⟩
  | .local _ .vmem, ⟨20, _⟩ => ⟨S1x8448x64, .f32⟩
  | .local _ .vmem, ⟨21, _⟩ => ⟨S1x8448x64, .f32⟩
  | .local _ .vmem, ⟨22, _⟩ => ⟨S1x8448x64, .f32⟩
  | .local _ .vmem, ⟨23, _⟩ => ⟨S1x8448x64, .f32⟩
  | _, _ => ⟨S2x4x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27_0 : Ref sig .tc := ⟨.hbm, 34, rfl⟩
abbrev main_v27_1 : Ref sig .tc := ⟨.hbm, 35, rfl⟩
abbrev main_v27_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 64], ![false, false]⟩

@[reducible] def k0_t1_loop : Scf.Loop 32 :=
  let c0_i32_21 : BitVec 32 := 0#32
  let c11_i32 : BitVec 32 := 11#32
  let v24 : BitVec 32 := Scalar.addi c0_i32_21 c11_i32
  let c1_i32 : BitVec 32 := 1#32
  ⟨c0_i32_21, v24, c1_i32⟩
def k0_mult1 (k0_t1 : Fin k0_t1_loop.trips) : BitVec 32 :=
  let c0_i32_21 : BitVec 32 := 0#32
  let c1_i32 : BitVec 32 := 1#32
  let arg14 : BitVec 32 := Scf.iv c0_i32_21 c1_i32 k0_t1
  let c3_i32 : BitVec 32 := 3#32
  let v31 : BitVec 32 := Scalar.muli arg14 c3_i32
  let c0_i32_27 : BitVec 32 := 0#32
  let v32 : BitVec 32 := Scalar.addi v31 c0_i32_27
  let c256_i32 : BitVec 32 := 256#32
  let v33 : BitVec 32 := Scalar.muli v32 c256_i32
  v33
def k0_off1 (k0_t1 : Fin k0_t1_loop.trips) (c0_i32_27 : BitVec 32) : Fin 3 → Nat :=
  let c0_28 : Index := 0#32
  let c0_i32_21 : BitVec 32 := 0#32
  let c1_i32 : BitVec 32 := 1#32
  let arg14 : BitVec 32 := Scf.iv c0_i32_21 c1_i32 k0_t1
  let c3_i32 : BitVec 32 := 3#32
  let v31 : BitVec 32 := Scalar.muli arg14 c3_i32
  let v32 : BitVec 32 := Scalar.addi v31 c0_i32_27
  let c256_i32 : BitVec 32 := 256#32
  let v33 : BitVec 32 := Scalar.muli v32 c256_i32
  let v34 : BitVec 32 := v33
  let v35 : Index := Scalar.indexCast v34
  let c0_29 : Index := 0#32
  ![0, v35.toNat, 0]
def k0_off2 (k0_t1 : Fin k0_t1_loop.trips) (c0_i32_27 : BitVec 32) : Fin 4 → Nat :=
  let c0_44 : Index := 0#32
  let c0_i32_21 : BitVec 32 := 0#32
  let c1_i32 : BitVec 32 := 1#32
  let arg14 : BitVec 32 := Scf.iv c0_i32_21 c1_i32 k0_t1
  let c3_i32 : BitVec 32 := 3#32
  let v31 : BitVec 32 := Scalar.muli arg14 c3_i32
  let v32 : BitVec 32 := Scalar.addi v31 c0_i32_27
  let v69 : Index := Scalar.indexCast v32
  let c0_45 : Index := 0#32
  let c0_46 : Index := 0#32
  ![0, v69.toNat, 0, 0]
def k0_mult2 (k0_t1 : Fin k0_t1_loop.trips) : BitVec 32 :=
  let c0_i32_21 : BitVec 32 := 0#32
  let c1_i32 : BitVec 32 := 1#32
  let arg14 : BitVec 32 := Scf.iv c0_i32_21 c1_i32 k0_t1
  let c3_i32_48 : BitVec 32 := 3#32
  let v74 : BitVec 32 := Scalar.muli arg14 c3_i32_48
  let c1_i32_49 : BitVec 32 := 1#32
  let v75 : BitVec 32 := Scalar.addi v74 c1_i32_49
  let c256_i32_50 : BitVec 32 := 256#32
  let v76 : BitVec 32 := Scalar.muli v75 c256_i32_50
  v76
def k0_mult3 (k0_t1 : Fin k0_t1_loop.trips) : BitVec 32 :=
  let c0_i32_21 : BitVec 32 := 0#32
  let c1_i32 : BitVec 32 := 1#32
  let arg14 : BitVec 32 := Scf.iv c0_i32_21 c1_i32 k0_t1
  let c3_i32_71 : BitVec 32 := 3#32
  let v117 : BitVec 32 := Scalar.muli arg14 c3_i32_71
  let c2_i32 : BitVec 32 := 2#32
  let v118 : BitVec 32 := Scalar.addi v117 c2_i32
  let c256_i32_72 : BitVec 32 := 256#32
  let v119 : BitVec 32 := Scalar.muli v118 c256_i32_72
  v119
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8448x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x33x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8448x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8448x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8448x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S2x4x8192x64 : Shape := ⟨4, ![2, 4, 8192, 64]⟩
abbrev S2x8448x64 : Shape := ⟨3, ![2, 8448, 64]⟩
abbrev S2x4x8192x8448 : Shape := ⟨4, ![2, 4, 8192, 8448]⟩
abbrev S_ : Shape := ⟨0, ![]⟩
abbrev S2x4x8192 : Shape := ⟨3, ![2, 4, 8192]⟩
abbrev S2x4x8192x1 : Shape := ⟨4, ![2, 4, 8192, 1]⟩
abbrev S2x64x8448 : Shape := ⟨3, ![2, 64, 8448]⟩
abbrev S2x32768x64 : Shape := ⟨3, ![2, 32768, 64]⟩
abbrev S2x64x32768 : Shape := ⟨3, ![2, 64, 32768]⟩

abbrev nBuf : Space → Nat
  | .hbm => 71
  | .vmem => 0
  | .smem => 0
  | _ => 0

abbrev bufTy : (tb : Table) → Fin (tcTables nBuf tb) → BufTy
  | .hbm, ⟨0, _⟩ => ⟨S2x4x8192x64, .f32⟩
  | .hbm, ⟨1, _⟩ => ⟨S2x8448x64, .f32⟩
  | .hbm, ⟨2, _⟩ => ⟨S2x8448x64, .f32⟩
  | .hbm, ⟨3, _⟩ => ⟨S2x4x8192x64, .f32⟩
  | .hbm, ⟨4, _⟩ => ⟨S2x4x8192x8448, .f32⟩
  | .hbm, ⟨5, _⟩ => ⟨S_, .f32⟩
  | .hbm, ⟨6, _⟩ => ⟨S2x4x8192x8448, .f32⟩
  | .hbm, ⟨7, _⟩ => ⟨S2x4x8192x8448, .f32⟩
  | .hbm, ⟨8, _⟩ => ⟨S_, .f32⟩
  | .hbm, ⟨9, _⟩ => ⟨S2x4x8192, .f32⟩
  | .hbm, ⟨10, _⟩ => ⟨S2x4x8192x1, .f32⟩
  | .hbm, ⟨11, _⟩ => ⟨S2x4x8192x8448, .f32⟩
  | .hbm, ⟨12, _⟩ => ⟨S2x4x8192x8448, .i1⟩
  | .hbm, ⟨13, _⟩ => ⟨S2x4x8192x8448, .f32⟩
  | .hbm, ⟨14, _⟩ => ⟨S_, .f32⟩
  | .hbm, ⟨15, _⟩ => ⟨S2x4x8192, .f32⟩
  | .hbm, ⟨16, _⟩ => ⟨S_, .f32⟩
  | .hbm, ⟨17, _⟩ => ⟨S2x4x8192, .f32⟩
  | .hbm, ⟨18, _⟩ => ⟨S2x4x8192, .f32⟩
  | .hbm, ⟨19, _⟩ => ⟨S_, .f32⟩
  | .hbm, ⟨20, _⟩ => ⟨S2x4x8192, .f32⟩
  | .hbm, ⟨21, _⟩ => ⟨S2x4x8192, .i1⟩
  | .hbm, ⟨22, _⟩ => ⟨S_, .f32⟩
  | .hbm, ⟨23, _⟩ => ⟨S2x4x8192, .f32⟩
  | .hbm, ⟨24, _⟩ => ⟨S2x4x8192, .i1⟩
  | .hbm, ⟨25, _⟩ => ⟨S_, .f32⟩
  | .hbm, ⟨26, _⟩ => ⟨S2x4x8192, .f32⟩
  | .hbm, ⟨27, _⟩ => ⟨S_, .f32⟩
  | .hbm, ⟨28, _⟩ => ⟨S2x4x8192, .f32⟩
  | .hbm, ⟨29, _⟩ => ⟨S_, .f32⟩
  | .hbm, ⟨30, _⟩ => ⟨S2x4x8192, .f32⟩
  | .hbm, ⟨31, _⟩ => ⟨S2x4x8192, .f32⟩
  | .hbm, ⟨32, _⟩ => ⟨S2x4x8192, .f32⟩
  | .hbm, ⟨33, _⟩ => ⟨S2x4x8192x1, .f32⟩
  | .hbm, ⟨34, _⟩ => ⟨S2x4x8192x8448, .f32⟩
  | .hbm, ⟨35, _⟩ => ⟨S2x4x8192x8448, .f32⟩
  | .hbm, ⟨36, _⟩ => ⟨S2x4x8192x8448, .f32⟩
  | .hbm, ⟨37, _⟩ => ⟨S_, .f32⟩
  | .hbm, ⟨38, _⟩ => ⟨S2x4x8192, .f32⟩
  | .hbm, ⟨39, _⟩ => ⟨S2x4x8192x1, .f32⟩
  | .hbm, ⟨40, _⟩ => ⟨S2x4x8192x8448, .f32⟩
  | .hbm, ⟨41, _⟩ => ⟨S2x4x8192x8448, .f32⟩
  | .hbm, ⟨42, _⟩ => ⟨S2x4x8192x1, .f32⟩
  | .hbm, ⟨43, _⟩ => ⟨S_, .f32⟩
  | .hbm, ⟨44, _⟩ => ⟨S2x4x8192x1, .f32⟩
  | .hbm, ⟨45, _⟩ => ⟨S2x4x8192x1, .f32⟩
  | .hbm, ⟨46, _⟩ => ⟨S2x4x8192x64, .f32⟩
  | .hbm, ⟨47, _⟩ => ⟨S2x64x8448, .f32⟩
  | .hbm, ⟨48, _⟩ => ⟨S2x8448x64, .f32⟩
  | .hbm, ⟨49, _⟩ => ⟨S2x4x8192x8448, .f32⟩
  | .hbm, ⟨50, _⟩ => ⟨S2x4x8192x8448, .f32⟩
  | .hbm, ⟨51, _⟩ => ⟨S2x4x8192x8448, .f32⟩
  | .hbm, ⟨52, _⟩ => ⟨S2x4x8192x8448, .f32⟩
  | .hbm, ⟨53, _⟩ => ⟨S_, .f32⟩
  | .hbm, ⟨54, _⟩ => ⟨S2x4x8192, .f32⟩
  | .hbm, ⟨55, _⟩ => ⟨S2x4x8192x1, .f32⟩
  | .hbm, ⟨56, _⟩ => ⟨S2x4x8192x1, .f32⟩
  | .hbm, ⟨57, _⟩ => ⟨S2x4x8192x8448, .f32⟩
  | .hbm, ⟨58, _⟩ => ⟨S2x4x8192x8448, .f32⟩
  | .hbm, ⟨59, _⟩ => ⟨S_, .f32⟩
  | .hbm, ⟨60, _⟩ => ⟨S2x4x8192, .f32⟩
  | .hbm, ⟨61, _⟩ => ⟨S2x4x8192x8448, .f32⟩
  | .hbm, ⟨62, _⟩ => ⟨S2x4x8192x8448, .f32⟩
  | .hbm, ⟨63, _⟩ => ⟨S2x4x8192x8448, .f32⟩
  | .hbm, ⟨64, _⟩ => ⟨S_, .f32⟩
  | .hbm, ⟨65, _⟩ => ⟨S2x4x8192x8448, .f32⟩
  | .hbm, ⟨66, _⟩ => ⟨S2x4x8192x8448, .f32⟩
  | .hbm, ⟨67, _⟩ => ⟨S2x8448x64, .f32⟩
  | .hbm, ⟨68, _⟩ => ⟨S2x4x8192x64, .f32⟩
  | .hbm, ⟨69, _⟩ => ⟨S2x32768x64, .f32⟩
  | .hbm, ⟨70, _⟩ => ⟨S2x64x32768, .f32⟩
  | _, _ => ⟨S2x4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel2.lean ====
abbrev S8448x1024 : Shape := ⟨2, ![8448, 1024]⟩
abbrev S1024x5632 : Shape := ⟨2, ![1024, 5632]⟩
abbrev S2816x1024 : Shape := ⟨2, ![2816, 1024]⟩
abbrev S8448x2816 : Shape := ⟨2, ![8448, 2816]⟩
abbrev S2x8448x2816 : Shape := ⟨3, ![2, 8448, 2816]⟩
abbrev S384x1024 : Shape := ⟨2, ![384, 1024]⟩
abbrev S1024x1408 : Shape := ⟨2, ![1024, 1408]⟩
abbrev S384x1408 : Shape := ⟨2, ![384, 1408]⟩
abbrev S2x384x1408 : Shape := ⟨3, ![2, 384, 1408]⟩
abbrev S1x384x1408 : Shape := ⟨3, ![1, 384, 1408]⟩
abbrev S1408x1024 : Shape := ⟨2, ![1408, 1024]⟩
abbrev S768x2816 : Shape := ⟨2, ![768, 2816]⟩
abbrev S768x1024 : Shape := ⟨2, ![768, 1024]⟩
abbrev S2x384x2816 : Shape := ⟨3, ![2, 384, 2816]⟩

abbrev nBuf : Space → Nat
  | .hbm => 13
  | .vmem => 28
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S2816x1024, .f32⟩
  | .hbm, ⟨3, _⟩ => ⟨S8448x1024, .f32⟩
  | .hbm, ⟨4, _⟩ => ⟨S8448x1024, .bf16⟩
  | .hbm, ⟨5, _⟩ => ⟨S1024x5632, .bf16⟩
  | .hbm, ⟨6, _⟩ => ⟨S2816x1024, .bf16⟩
  | .hbm, ⟨7, _⟩ => ⟨S8448x1024, .bf16⟩
  | .hbm, ⟨8, _⟩ => ⟨S8448x2816, .bf16⟩
  | .hbm, ⟨9, _⟩ => ⟨S2x8448x2816, .f32⟩
  | .hbm, ⟨10, _⟩ => ⟨S2x8448x2816, .bf16⟩
  | .hbm, ⟨11, _⟩ => ⟨S8448x1024, .f32⟩
  | .hbm, ⟨12, _⟩ => ⟨S8448x1024, .bf16⟩
  | .local _ .vmem, ⟨0, _⟩ => ⟨S384x1024, .bf16⟩
  | .local _ .vmem, ⟨1, _⟩ => ⟨S384x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S384x1408, .bf16⟩
  | .local _ .vmem, ⟨7, _⟩ => ⟨S384x1408, .bf16⟩
  | .local _ .vmem, ⟨8, _⟩ => ⟨S2x384x1408, .f32⟩
  | .local _ .vmem, ⟨9, _⟩ => ⟨S2x384x1408, .f32⟩
  | .local _ .vmem, ⟨10, _⟩ => ⟨S384x1024, .bf16⟩
  | .local _ .vmem, ⟨11, _⟩ => ⟨S384x1024, .bf16⟩
  | .local _ .vmem, ⟨12, _⟩ => ⟨S1408x1024, .bf16⟩
  | .local _ .vmem, ⟨13, _⟩ => ⟨S1408x1024, .bf16⟩
  | .local _ .vmem, ⟨14, _⟩ => ⟨S2x384x1408, .f32⟩
  | .local _ .vmem, ⟨15, _⟩ => ⟨S2x384x1408, .f32⟩
  | .local _ .vmem, ⟨16, _⟩ => ⟨S2x384x1408, .bf16⟩
  | .local _ .vmem, ⟨17, _⟩ => ⟨S2x384x1408, .bf16⟩
  | .local _ .vmem, ⟨18, _⟩ => ⟨S768x2816, .bf16⟩
  | .local _ .vmem, ⟨19, _⟩ => ⟨S768x2816, .bf16⟩
  | .local _ .vmem, ⟨20, _⟩ => ⟨S2816x1024, .bf16⟩
  | .local _ .vmem, ⟨21, _⟩ => ⟨S768x1024, .f32⟩
  | .local _ .vmem, ⟨22, _⟩ => ⟨S768x1024, .f32⟩
  | .local _ .vmem, ⟨23, _⟩ => ⟨S2x384x2816, .bf16⟩
  | .local _ .vmem, ⟨24, _⟩ => ⟨S2x384x2816, .bf16⟩
  | .local _ .vmem, ⟨25, _⟩ => ⟨S1024x5632, .bf16⟩
  | .local _ .vmem, ⟨26, _⟩ => ⟨S384x1024, .bf16⟩
  | .local _ .vmem, ⟨27, _⟩ => ⟨S384x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27

abbrev nD : Nat := 1
abbrev τ : Topo := Topo.v7x

variable {F : FTy → Type} [FloatOps F]

abbrev grid0 : Pipeline.Grid := ⟨2, ![2, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x384x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 22], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage1_0 : Fin 2 → Memref sig .tc .vmem S384x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2x384x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x384x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![1, 11], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S768x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S768x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![22], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2x384x2816 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x5632 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S384x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]
-- ==== Reference2Ideal.lean ====
abbrev S8448x1024 : Shape := ⟨2, ![8448, 1024]⟩
abbrev S1024x5632 : Shape := ⟨2, ![1024, 5632]⟩
abbrev S2816x1024 : Shape := ⟨2, ![2816, 1024]⟩
abbrev S8448x5632 : Shape := ⟨2, ![8448, 5632]⟩
abbrev S8448x2816 : Shape := ⟨2, ![8448, 2816]⟩
abbrev S_ : Shape := ⟨0, ![]⟩
abbrev S1024x2816 : Shape := ⟨2, ![1024, 2816]⟩
abbrev S5632x1024 : Shape := ⟨2, ![5632, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S2816x1024, .f32⟩
  | .hbm, ⟨3, _⟩ => ⟨S8448x1024, .f32⟩
  | .hbm, ⟨4, _⟩ => ⟨S8448x5632, .f32⟩
  | .hbm, ⟨5, _⟩ => ⟨S8448x2816, .f32⟩
  | .hbm, ⟨6, _⟩ => ⟨S8448x2816, .f32⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x2816, .f32⟩
  | .hbm, ⟨11, _⟩ => ⟨S8448x2816, .f32⟩
  | .hbm, ⟨12, _⟩ => ⟨S_, .f32⟩
  | .hbm, ⟨13, _⟩ => ⟨S8448x2816, .f32⟩
  | .hbm, ⟨14, _⟩ => ⟨S8448x2816, .f32⟩
  | .hbm, ⟨15, _⟩ => ⟨S_, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x2816, .f32⟩
  | .hbm, ⟨20, _⟩ => ⟨S8448x2816, .f32⟩
  | .hbm, ⟨21, _⟩ => ⟨S8448x1024, .f32⟩
  | .hbm, ⟨22, _⟩ => ⟨S1024x2816, .f32⟩
  | .hbm, ⟨23, _⟩ => ⟨S2816x1024, .f32⟩
  | .hbm, ⟨24, _⟩ => ⟨S8448x2816, .f32⟩
  | .hbm, ⟨25, _⟩ => ⟨S8448x2816, .f32⟩
  | .hbm, ⟨26, _⟩ => ⟨S8448x2816, .f32⟩
  | .hbm, ⟨27, _⟩ => ⟨S8448x2816, .f32⟩
  | .hbm, ⟨28, _⟩ => ⟨S8448x2816, .f32⟩
  | .hbm, ⟨29, _⟩ => ⟨S8448x2816, .f32⟩
  | .hbm, ⟨30, _⟩ => ⟨S8448x2816, .f32⟩
  | .hbm, ⟨31, _⟩ => ⟨S8448x5632, .f32⟩
  | .hbm, ⟨32, _⟩ => ⟨S5632x1024, .f32⟩
  | .hbm, ⟨33, _⟩ => ⟨S1024x5632, .f32⟩
  | .hbm, ⟨34, _⟩ => ⟨S8448x1024, .f32⟩
  | .hbm, ⟨35, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== Kernel3.lean ====
abbrev S8448x1024 : Shape := ⟨2, ![8448, 1024]⟩
abbrev S1024x4352 : Shape := ⟨2, ![1024, 4352]⟩
abbrev S8448x4352 : Shape := ⟨2, ![8448, 4352]⟩
abbrev S1408x512 : Shape := ⟨2, ![1408, 512]⟩
abbrev S1408x2176 : Shape := ⟨2, ![1408, 2176]⟩
abbrev S512x2176 : Shape := ⟨2, ![512, 2176]⟩

abbrev nBuf : Space → Nat
  | .hbm => 6
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024x4352, .f32⟩
  | .hbm, ⟨2, _⟩ => ⟨S8448x4352, .f32⟩
  | .hbm, ⟨3, _⟩ => ⟨S8448x1024, .bf16⟩
  | .hbm, ⟨4, _⟩ => ⟨S8448x4352, .bf16⟩
  | .hbm, ⟨5, _⟩ => ⟨S1024x4352, .bf16⟩
  | .local _ .vmem, ⟨0, _⟩ => ⟨S1408x512, .bf16⟩
  | .local _ .vmem, ⟨1, _⟩ => ⟨S1408x512, .bf16⟩
  | .local _ .vmem, ⟨2, _⟩ => ⟨S1408x2176, .bf16⟩
  | .local _ .vmem, ⟨3, _⟩ => ⟨S1408x2176, .bf16⟩
  | .local _ .vmem, ⟨4, _⟩ => ⟨S512x2176, .bf16⟩
  | .local _ .vmem, ⟨5, _⟩ => ⟨S512x2176, .bf16⟩
  | .local _ .vmem, ⟨6, _⟩ => ⟨S512x2176, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 6], ![false, false, false]⟩

def k0_cond3 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel3Ideal.lean ====
abbrev S8448x1024 : Shape := ⟨2, ![8448, 1024]⟩
abbrev S1024x4352 : Shape := ⟨2, ![1024, 4352]⟩
abbrev S8448x4352 : Shape := ⟨2, ![8448, 4352]⟩
abbrev S1408x512 : Shape := ⟨2, ![1408, 512]⟩
abbrev S1408x2176 : Shape := ⟨2, ![1408, 2176]⟩
abbrev S512x2176 : Shape := ⟨2, ![512, 2176]⟩

abbrev nBuf : Space → Nat
  | .hbm => 6
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024x4352, .f32⟩
  | .hbm, ⟨2, _⟩ => ⟨S8448x4352, .f32⟩
  | .hbm, ⟨3, _⟩ => ⟨S8448x1024, .bf16⟩
  | .hbm, ⟨4, _⟩ => ⟨S8448x4352, .bf16⟩
  | .hbm, ⟨5, _⟩ => ⟨S1024x4352, .bf16⟩
  | .local _ .vmem, ⟨0, _⟩ => ⟨S1408x512, .bf16⟩
  | .local _ .vmem, ⟨1, _⟩ => ⟨S1408x512, .bf16⟩
  | .local _ .vmem, ⟨2, _⟩ => ⟨S1408x2176, .bf16⟩
  | .local _ .vmem, ⟨3, _⟩ => ⟨S1408x2176, .bf16⟩
  | .local _ .vmem, ⟨4, _⟩ => ⟨S512x2176, .bf16⟩
  | .local _ .vmem, ⟨5, _⟩ => ⟨S512x2176, .bf16⟩
  | .local _ .vmem, ⟨6, _⟩ => ⟨S512x2176, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 6], ![false, false, false]⟩

def k0_cond3 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8448x1024 : Shape := ⟨2, ![8448, 1024]⟩
abbrev S1024x4352 : Shape := ⟨2, ![1024, 4352]⟩
abbrev S8448x4352 : Shape := ⟨2, ![8448, 4352]⟩
abbrev S4352x1024 : Shape := ⟨2, ![4352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x4352, .f32⟩
  | .hbm, ⟨2, _⟩ => ⟨S8448x4352, .f32⟩
  | .hbm, ⟨3, _⟩ => ⟨S8448x4352, .f32⟩
  | .hbm, ⟨4, _⟩ => ⟨S4352x1024, .f32⟩
  | .hbm, ⟨5, _⟩ => ⟨S1024x4352, .f32⟩
  | .hbm, ⟨6, _⟩ => ⟨S8448x1024, .f32⟩
  | .hbm, ⟨7, _⟩ => ⟨S1024x4352, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8448x1024 : Shape := ⟨2, ![8448, 1024]⟩
abbrev S1024x4352 : Shape := ⟨2, ![1024, 4352]⟩
abbrev S8448x4352 : Shape := ⟨2, ![8448, 4352]⟩
abbrev S768x2176 : Shape := ⟨2, ![768, 2176]⟩
abbrev S1024x2176 : Shape := ⟨2, ![1024, 2176]⟩
abbrev S768x1024 : Shape := ⟨2, ![768, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024x4352, .f32⟩
  | .hbm, ⟨2, _⟩ => ⟨S8448x4352, .f32⟩
  | .hbm, ⟨3, _⟩ => ⟨S8448x4352, .bf16⟩
  | .hbm, ⟨4, _⟩ => ⟨S1024x4352, .bf16⟩
  | .hbm, ⟨5, _⟩ => ⟨S8448x1024, .bf16⟩
  | .local _ .vmem, ⟨0, _⟩ => ⟨S768x2176, .bf16⟩
  | .local _ .vmem, ⟨1, _⟩ => ⟨S768x2176, .bf16⟩
  | .local _ .vmem, ⟨2, _⟩ => ⟨S1024x2176, .bf16⟩
  | .local _ .vmem, ⟨3, _⟩ => ⟨S1024x2176, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8448x1024 : Shape := ⟨2, ![8448, 1024]⟩
abbrev S1024x4352 : Shape := ⟨2, ![1024, 4352]⟩
abbrev S8448x4352 : Shape := ⟨2, ![8448, 4352]⟩
abbrev S4352x1024 : Shape := ⟨2, ![4352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x4352, .f32⟩
  | .hbm, ⟨2, _⟩ => ⟨S8448x4352, .f32⟩
  | .hbm, ⟨3, _⟩ => ⟨S8448x4352, .f32⟩
  | .hbm, ⟨4, _⟩ => ⟨S4352x1024, .f32⟩
  | .hbm, ⟨5, _⟩ => ⟨S1024x4352, .f32⟩
  | .hbm, ⟨6, _⟩ => ⟨S8448x1024, .f32⟩
  | .hbm, ⟨7, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8448x1024 : Shape := ⟨2, ![8448, 1024]⟩
abbrev S1024x5632 : Shape := ⟨2, ![1024, 5632]⟩
abbrev S2816x1024 : Shape := ⟨2, ![2816, 1024]⟩
abbrev S8448x5632 : Shape := ⟨2, ![8448, 5632]⟩
abbrev S8448x2816 : Shape := ⟨2, ![8448, 2816]⟩
abbrev S_ : Shape := ⟨0, ![]⟩
abbrev S1024x2816 : Shape := ⟨2, ![1024, 2816]⟩
abbrev S1x8448x2816 : Shape := ⟨3, ![1, 8448, 2816]⟩
abbrev S2x8448x2816 : Shape := ⟨3, ![2, 8448, 2816]⟩
abbrev S1408x512 : Shape := ⟨2, ![1408, 512]⟩
abbrev S1x1408x1408 : Shape := ⟨3, ![1, 1408, 1408]⟩
abbrev S512x1408 : Shape := ⟨2, ![512, 1408]⟩
abbrev S1408x1408 : Shape := ⟨2, ![1408, 1408]⟩

abbrev nBuf : Space → Nat
  | .hbm => 36
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S2816x1024, .f32⟩
  | .hbm, ⟨3, _⟩ => ⟨S8448x1024, .f32⟩
  | .hbm, ⟨4, _⟩ => ⟨S8448x5632, .f32⟩
  | .hbm, ⟨5, _⟩ => ⟨S8448x2816, .f32⟩
  | .hbm, ⟨6, _⟩ => ⟨S8448x2816, .f32⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x2816, .f32⟩
  | .hbm, ⟨11, _⟩ => ⟨S8448x2816, .f32⟩
  | .hbm, ⟨12, _⟩ => ⟨S_, .f32⟩
  | .hbm, ⟨13, _⟩ => ⟨S8448x2816, .f32⟩
  | .hbm, ⟨14, _⟩ => ⟨S8448x2816, .f32⟩
  | .hbm, ⟨15, _⟩ => ⟨S_, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x2816, .f32⟩
  | .hbm, ⟨20, _⟩ => ⟨S8448x2816, .f32⟩
  | .hbm, ⟨21, _⟩ => ⟨S8448x2816, .bf16⟩
  | .hbm, ⟨22, _⟩ => ⟨S1024x2816, .f32⟩
  | .hbm, ⟨23, _⟩ => ⟨S8448x2816, .f32⟩
  | .hbm, ⟨24, _⟩ => ⟨S8448x2816, .f32⟩
  | .hbm, ⟨25, _⟩ => ⟨S8448x2816, .f32⟩
  | .hbm, ⟨26, _⟩ => ⟨S8448x2816, .f32⟩
  | .hbm, ⟨27, _⟩ => ⟨S8448x2816, .f32⟩
  | .hbm, ⟨28, _⟩ => ⟨S8448x2816, .f32⟩
  | .hbm, ⟨29, _⟩ => ⟨S8448x2816, .f32⟩
  | .hbm, ⟨30, _⟩ => ⟨S1x8448x2816, .f32⟩
  | .hbm, ⟨31, _⟩ => ⟨S1x8448x2816, .f32⟩
  | .hbm, ⟨32, _⟩ => ⟨S2x8448x2816, .f32⟩
  | .hbm, ⟨33, _⟩ => ⟨S2x8448x2816, .bf16⟩
  | .hbm, ⟨34, _⟩ => ⟨S8448x1024, .bf16⟩
  | .hbm, ⟨35, _⟩ => ⟨S1024x2816, .bf16⟩
  | .local _ .vmem, ⟨0, _⟩ => ⟨S1408x512, .bf16⟩
  | .local _ .vmem, ⟨1, _⟩ => ⟨S1408x512, .bf16⟩
  | .local _ .vmem, ⟨2, _⟩ => ⟨S1x1408x1408, .bf16⟩
  | .local _ .vmem, ⟨3, _⟩ => ⟨S1x1408x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 6], ![false, false, false]⟩

def k0_cond3 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8448x1024 : Shape := ⟨2, ![8448, 1024]⟩
abbrev S1024x5632 : Shape := ⟨2, ![1024, 5632]⟩
abbrev S2816x1024 : Shape := ⟨2, ![2816, 1024]⟩
abbrev S8448x5632 : Shape := ⟨2, ![8448, 5632]⟩
abbrev S8448x2816 : Shape := ⟨2, ![8448, 2816]⟩
abbrev S_ : Shape := ⟨0, ![]⟩
abbrev S1024x2816 : Shape := ⟨2, ![1024, 2816]⟩
abbrev S5632x1024 : Shape := ⟨2, ![5632, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S2816x1024, .f32⟩
  | .hbm, ⟨3, _⟩ => ⟨S8448x1024, .f32⟩
  | .hbm, ⟨4, _⟩ => ⟨S8448x5632, .f32⟩
  | .hbm, ⟨5, _⟩ => ⟨S8448x2816, .f32⟩
  | .hbm, ⟨6, _⟩ => ⟨S8448x2816, .f32⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x2816, .f32⟩
  | .hbm, ⟨11, _⟩ => ⟨S8448x2816, .f32⟩
  | .hbm, ⟨12, _⟩ => ⟨S_, .f32⟩
  | .hbm, ⟨13, _⟩ => ⟨S8448x2816, .f32⟩
  | .hbm, ⟨14, _⟩ => ⟨S8448x2816, .f32⟩
  | .hbm, ⟨15, _⟩ => ⟨S_, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x2816, .f32⟩
  | .hbm, ⟨20, _⟩ => ⟨S8448x2816, .f32⟩
  | .hbm, ⟨21, _⟩ => ⟨S8448x1024, .f32⟩
  | .hbm, ⟨22, _⟩ => ⟨S1024x2816, .f32⟩
  | .hbm, ⟨23, _⟩ => ⟨S2816x1024, .f32⟩
  | .hbm, ⟨24, _⟩ => ⟨S8448x2816, .f32⟩
  | .hbm, ⟨25, _⟩ => ⟨S8448x2816, .f32⟩
  | .hbm, ⟨26, _⟩ => ⟨S8448x2816, .f32⟩
  | .hbm, ⟨27, _⟩ => ⟨S8448x2816, .f32⟩
  | .hbm, ⟨28, _⟩ => ⟨S8448x2816, .f32⟩
  | .hbm, ⟨29, _⟩ => ⟨S8448x2816, .f32⟩
  | .hbm, ⟨30, _⟩ => ⟨S8448x2816, .f32⟩
  | .hbm, ⟨31, _⟩ => ⟨S8448x5632, .f32⟩
  | .hbm, ⟨32, _⟩ => ⟨S5632x1024, .f32⟩
  | .hbm, ⟨33, _⟩ => ⟨S1024x5632, .f32⟩
  | .hbm, ⟨34, _⟩ => ⟨S8448x1024, .f32⟩
  | .hbm, ⟨35, _⟩ => ⟨S1024x2816, .f32⟩
  | .hbm, ⟨36, _⟩ => ⟨S1024x2816, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩

abbrev nD : Nat := 1
abbrev τ : Topo := Topo.v7x

variable {F : FTy → Type} [FloatOps F]
-- ==== Kernel6.lean ====
abbrev S8448x1024 : Shape := ⟨2, ![8448, 1024]⟩
abbrev S1024x5632 : Shape := ⟨2, ![1024, 5632]⟩
abbrev S2816x1024 : Shape := ⟨2, ![2816, 1024]⟩
abbrev S8448x5632 : Shape := ⟨2, ![8448, 5632]⟩
abbrev S8448x2816 : Shape := ⟨2, ![8448, 2816]⟩
abbrev S_ : Shape := ⟨0, ![]⟩
abbrev S1024x2816 : Shape := ⟨2, ![1024, 2816]⟩
abbrev S1x8448x2816 : Shape := ⟨3, ![1, 8448, 2816]⟩
abbrev S2x8448x2816 : Shape := ⟨3, ![2, 8448, 2816]⟩
abbrev S1408x512 : Shape := ⟨2, ![1408, 512]⟩
abbrev S1x1408x1408 : Shape := ⟨3, ![1, 1408, 1408]⟩
abbrev S512x1408 : Shape := ⟨2, ![512, 1408]⟩
abbrev S1408x1408 : Shape := ⟨2, ![1408, 1408]⟩

abbrev nBuf : Space → Nat
  | .hbm => 36
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S2816x1024, .f32⟩
  | .hbm, ⟨3, _⟩ => ⟨S8448x1024, .f32⟩
  | .hbm, ⟨4, _⟩ => ⟨S8448x5632, .f32⟩
  | .hbm, ⟨5, _⟩ => ⟨S8448x2816, .f32⟩
  | .hbm, ⟨6, _⟩ => ⟨S8448x2816, .f32⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x2816, .f32⟩
  | .hbm, ⟨11, _⟩ => ⟨S8448x2816, .f32⟩
  | .hbm, ⟨12, _⟩ => ⟨S_, .f32⟩
  | .hbm, ⟨13, _⟩ => ⟨S8448x2816, .f32⟩
  | .hbm, ⟨14, _⟩ => ⟨S8448x2816, .f32⟩
  | .hbm, ⟨15, _⟩ => ⟨S_, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x2816, .f32⟩
  | .hbm, ⟨20, _⟩ => ⟨S8448x2816, .f32⟩
  | .hbm, ⟨21, _⟩ => ⟨S8448x2816, .bf16⟩
  | .hbm, ⟨22, _⟩ => ⟨S1024x2816, .f32⟩
  | .hbm, ⟨23, _⟩ => ⟨S8448x2816, .f32⟩
  | .hbm, ⟨24, _⟩ => ⟨S8448x2816, .f32⟩
  | .hbm, ⟨25, _⟩ => ⟨S8448x2816, .f32⟩
  | .hbm, ⟨26, _⟩ => ⟨S8448x2816, .f32⟩
  | .hbm, ⟨27, _⟩ => ⟨S8448x2816, .f32⟩
  | .hbm, ⟨28, _⟩ => ⟨S8448x2816, .f32⟩
  | .hbm, ⟨29, _⟩ => ⟨S8448x2816, .f32⟩
  | .hbm, ⟨30, _⟩ => ⟨S1x8448x2816, .f32⟩
  | .hbm, ⟨31, _⟩ => ⟨S1x8448x2816, .f32⟩
  | .hbm, ⟨32, _⟩ => ⟨S2x8448x2816, .f32⟩
  | .hbm, ⟨33, _⟩ => ⟨S2x8448x2816, .bf16⟩
  | .hbm, ⟨34, _⟩ => ⟨S8448x1024, .bf16⟩
  | .hbm, ⟨35, _⟩ => ⟨S1024x2816, .bf16⟩
  | .local _ .vmem, ⟨0, _⟩ => ⟨S1408x512, .bf16⟩
  | .local _ .vmem, ⟨1, _⟩ => ⟨S1408x512, .bf16⟩
  | .local _ .vmem, ⟨2, _⟩ => ⟨S1x1408x1408, .bf16⟩
  | .local _ .vmem, ⟨3, _⟩ => ⟨S1x1408x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 6], ![false, false, false]⟩

def k0_cond3 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8448x1024 : Shape := ⟨2, ![8448, 1024]⟩
abbrev S1024x5632 : Shape := ⟨2, ![1024, 5632]⟩
abbrev S2816x1024 : Shape := ⟨2, ![2816, 1024]⟩
abbrev S8448x5632 : Shape := ⟨2, ![8448, 5632]⟩
abbrev S8448x2816 : Shape := ⟨2, ![8448, 2816]⟩
abbrev S_ : Shape := ⟨0, ![]⟩
abbrev S1024x2816 : Shape := ⟨2, ![1024, 2816]⟩
abbrev S5632x1024 : Shape := ⟨2, ![5632, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S2816x1024, .f32⟩
  | .hbm, ⟨3, _⟩ => ⟨S8448x1024, .f32⟩
  | .hbm, ⟨4, _⟩ => ⟨S8448x5632, .f32⟩
  | .hbm, ⟨5, _⟩ => ⟨S8448x2816, .f32⟩
  | .hbm, ⟨6, _⟩ => ⟨S8448x2816, .f32⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x2816, .f32⟩
  | .hbm, ⟨11, _⟩ => ⟨S8448x2816, .f32⟩
  | .hbm, ⟨12, _⟩ => ⟨S_, .f32⟩
  | .hbm, ⟨13, _⟩ => ⟨S8448x2816, .f32⟩
  | .hbm, ⟨14, _⟩ => ⟨S8448x2816, .f32⟩
  | .hbm, ⟨15, _⟩ => ⟨S_, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x2816, .f32⟩
  | .hbm, ⟨20, _⟩ => ⟨S8448x2816, .f32⟩
  | .hbm, ⟨21, _⟩ => ⟨S8448x1024, .f32⟩
  | .hbm, ⟨22, _⟩ => ⟨S1024x2816, .f32⟩
  | .hbm, ⟨23, _⟩ => ⟨S2816x1024, .f32⟩
  | .hbm, ⟨24, _⟩ => ⟨S8448x2816, .f32⟩
  | .hbm, ⟨25, _⟩ => ⟨S8448x2816, .f32⟩
  | .hbm, ⟨26, _⟩ => ⟨S8448x2816, .f32⟩
  | .hbm, ⟨27, _⟩ => ⟨S8448x2816, .f32⟩
  | .hbm, ⟨28, _⟩ => ⟨S8448x2816, .f32⟩
  | .hbm, ⟨29, _⟩ => ⟨S8448x2816, .f32⟩
  | .hbm, ⟨30, _⟩ => ⟨S8448x2816, .f32⟩
  | .hbm, ⟨31, _⟩ => ⟨S8448x5632, .f32⟩
  | .hbm, ⟨32, _⟩ => ⟨S5632x1024, .f32⟩
  | .hbm, ⟨33, _⟩ => ⟨S1024x5632, .f32⟩
  | .hbm, ⟨34, _⟩ => ⟨S8448x1024, .f32⟩
  | .hbm, ⟨35, _⟩ => ⟨S1024x2816, .f32⟩
  | .hbm, ⟨36, _⟩ => ⟨S1024x2816, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩

abbrev nD : Nat := 1
abbrev τ : Topo := Topo.v7x

variable {F : FTy → Type} [FloatOps F]
-- ==== Kernel7.lean ====
abbrev S8448x1024 : Shape := ⟨2, ![8448, 1024]⟩
abbrev S1024x5632 : Shape := ⟨2, ![1024, 5632]⟩
abbrev S2816x1024 : Shape := ⟨2, ![2816, 1024]⟩
abbrev S8448x5632 : Shape := ⟨2, ![8448, 5632]⟩
abbrev S8448x2816 : Shape := ⟨2, ![8448, 2816]⟩
abbrev S_ : Shape := ⟨0, ![]⟩
abbrev S1024x2816 : Shape := ⟨2, ![1024, 2816]⟩
abbrev S1x8448x2816 : Shape := ⟨3, ![1, 8448, 2816]⟩
abbrev S2x8448x2816 : Shape := ⟨3, ![2, 8448, 2816]⟩
abbrev S2816x256 : Shape := ⟨2, ![2816, 256]⟩
abbrev S256x1024 : Shape := ⟨2, ![256, 1024]⟩

abbrev nBuf : Space → Nat
  | .hbm => 36
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S2816x1024, .f32⟩
  | .hbm, ⟨3, _⟩ => ⟨S8448x1024, .f32⟩
  | .hbm, ⟨4, _⟩ => ⟨S8448x5632, .f32⟩
  | .hbm, ⟨5, _⟩ => ⟨S8448x2816, .f32⟩
  | .hbm, ⟨6, _⟩ => ⟨S8448x2816, .f32⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x2816, .f32⟩
  | .hbm, ⟨11, _⟩ => ⟨S8448x2816, .f32⟩
  | .hbm, ⟨12, _⟩ => ⟨S_, .f32⟩
  | .hbm, ⟨13, _⟩ => ⟨S8448x2816, .f32⟩
  | .hbm, ⟨14, _⟩ => ⟨S8448x2816, .f32⟩
  | .hbm, ⟨15, _⟩ => ⟨S_, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x2816, .f32⟩
  | .hbm, ⟨20, _⟩ => ⟨S8448x2816, .f32⟩
  | .hbm, ⟨21, _⟩ => ⟨S8448x2816, .bf16⟩
  | .hbm, ⟨22, _⟩ => ⟨S1024x2816, .f32⟩
  | .hbm, ⟨23, _⟩ => ⟨S8448x2816, .f32⟩
  | .hbm, ⟨24, _⟩ => ⟨S8448x2816, .f32⟩
  | .hbm, ⟨25, _⟩ => ⟨S8448x2816, .f32⟩
  | .hbm, ⟨26, _⟩ => ⟨S8448x2816, .f32⟩
  | .hbm, ⟨27, _⟩ => ⟨S8448x2816, .f32⟩
  | .hbm, ⟨28, _⟩ => ⟨S8448x2816, .f32⟩
  | .hbm, ⟨29, _⟩ => ⟨S8448x2816, .f32⟩
  | .hbm, ⟨30, _⟩ => ⟨S1x8448x2816, .f32⟩
  | .hbm, ⟨31, _⟩ => ⟨S1x8448x2816, .f32⟩
  | .hbm, ⟨32, _⟩ => ⟨S2x8448x2816, .f32⟩
  | .hbm, ⟨33, _⟩ => ⟨S2x8448x2816, .bf16⟩
  | .hbm, ⟨34, _⟩ => ⟨S8448x1024, .bf16⟩
  | .hbm, ⟨35, _⟩ => ⟨S2816x1024, .bf16⟩
  | .local _ .vmem, ⟨0, _⟩ => ⟨S2816x256, .bf16⟩
  | .local _ .vmem, ⟨1, _⟩ => ⟨S2816x256, .bf16⟩
  | .local _ .vmem, ⟨2, _⟩ => ⟨S2816x1024, .bf16⟩
  | .local _ .vmem, ⟨3, _⟩ => ⟨S2816x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8448x1024 : Shape := ⟨2, ![8448, 1024]⟩
abbrev S1024x5632 : Shape := ⟨2, ![1024, 5632]⟩
abbrev S2816x1024 : Shape := ⟨2, ![2816, 1024]⟩
abbrev S8448x5632 : Shape := ⟨2, ![8448, 5632]⟩
abbrev S8448x2816 : Shape := ⟨2, ![8448, 2816]⟩
abbrev S_ : Shape := ⟨0, ![]⟩
abbrev S1024x2816 : Shape := ⟨2, ![1024, 2816]⟩
abbrev S5632x1024 : Shape := ⟨2, ![5632, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S2816x1024, .f32⟩
  | .hbm, ⟨3, _⟩ => ⟨S8448x1024, .f32⟩
  | .hbm, ⟨4, _⟩ => ⟨S8448x5632, .f32⟩
  | .hbm, ⟨5, _⟩ => ⟨S8448x2816, .f32⟩
  | .hbm, ⟨6, _⟩ => ⟨S8448x2816, .f32⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x2816, .f32⟩
  | .hbm, ⟨11, _⟩ => ⟨S8448x2816, .f32⟩
  | .hbm, ⟨12, _⟩ => ⟨S_, .f32⟩
  | .hbm, ⟨13, _⟩ => ⟨S8448x2816, .f32⟩
  | .hbm, ⟨14, _⟩ => ⟨S8448x2816, .f32⟩
  | .hbm, ⟨15, _⟩ => ⟨S_, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x2816, .f32⟩
  | .hbm, ⟨20, _⟩ => ⟨S8448x2816, .f32⟩
  | .hbm, ⟨21, _⟩ => ⟨S8448x1024, .f32⟩
  | .hbm, ⟨22, _⟩ => ⟨S1024x2816, .f32⟩
  | .hbm, ⟨23, _⟩ => ⟨S2816x1024, .f32⟩
  | .hbm, ⟨24, _⟩ => ⟨S8448x2816, .f32⟩
  | .hbm, ⟨25, _⟩ => ⟨S8448x2816, .f32⟩
  | .hbm, ⟨26, _⟩ => ⟨S8448x2816, .f32⟩
  | .hbm, ⟨27, _⟩ => ⟨S8448x2816, .f32⟩
  | .hbm, ⟨28, _⟩ => ⟨S8448x2816, .f32⟩
  | .hbm, ⟨29, _⟩ => ⟨S8448x2816, .f32⟩
  | .hbm, ⟨30, _⟩ => ⟨S8448x2816, .f32⟩
  | .hbm, ⟨31, _⟩ => ⟨S8448x5632, .f32⟩
  | .hbm, ⟨32, _⟩ => ⟨S5632x1024, .f32⟩
  | .hbm, ⟨33, _⟩ => ⟨S1024x5632, .f32⟩
  | .hbm, ⟨34, _⟩ => ⟨S8448x1024, .f32⟩
  | .hbm, ⟨35, _⟩ => ⟨S2816x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== Kernel8.lean ====
abbrev S8448x1024 : Shape := ⟨2, ![8448, 1024]⟩
abbrev S1024x4352 : Shape := ⟨2, ![1024, 4352]⟩
abbrev S8448x4352 : Shape := ⟨2, ![8448, 4352]⟩
abbrev S256x1024 : Shape := ⟨2, ![256, 1024]⟩
abbrev S1024x2176 : Shape := ⟨2, ![1024, 2176]⟩
abbrev S256x2176 : Shape := ⟨2, ![256, 2176]⟩

abbrev nBuf : Space → Nat
  | .hbm => 5
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x4352, .f32⟩
  | .hbm, ⟨2, _⟩ => ⟨S8448x1024, .bf16⟩
  | .hbm, ⟨3, _⟩ => ⟨S1024x4352, .bf16⟩
  | .hbm, ⟨4, _⟩ => ⟨S8448x4352, .f32⟩
  | .local _ .vmem, ⟨0, _⟩ => ⟨S256x1024, .bf16⟩
  | .local _ .vmem, ⟨1, _⟩ => ⟨S256x1024, .bf16⟩
  | .local _ .vmem, ⟨2, _⟩ => ⟨S1024x2176, .bf16⟩
  | .local _ .vmem, ⟨3, _⟩ => ⟨S1024x2176, .bf16⟩
  | .local _ .vmem, ⟨4, _⟩ => ⟨S256x2176, .f32⟩
  | .local _ .vmem, ⟨5, _⟩ => ⟨S256x2176, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8448x1024 : Shape := ⟨2, ![8448, 1024]⟩
abbrev S1024x4352 : Shape := ⟨2, ![1024, 4352]⟩
abbrev S8448x4352 : Shape := ⟨2, ![8448, 4352]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x4352, .f32⟩
  | .hbm, ⟨2, _⟩ => ⟨S8448x4352, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S8448x512 : Shape := ⟨2, ![8448, 512]⟩
abbrev S8448x1024 : Shape := ⟨2, ![8448, 1024]⟩
abbrev S512x1024 : Shape := ⟨2, ![512, 1024]⟩
abbrev S1024x1024 : Shape := ⟨2, ![1024, 1024]⟩
abbrev S768x512 : Shape := ⟨2, ![768, 512]⟩
abbrev S768x1024 : Shape := ⟨2, ![768, 1024]⟩
abbrev S_ : Shape := ⟨0, ![]⟩

abbrev nBuf : Space → Nat
  | .hbm => 57
  | .vmem => 30
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x1024, .f32⟩
  | .hbm, ⟨3, _⟩ => ⟨S8448x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8448x1024, .f32⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S8448x512, .bf16⟩
  | .hbm, ⟨12, _⟩ => ⟨S8448x1024, .f32⟩
  | .hbm, ⟨13, _⟩ => ⟨S8448x512, .bf16⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S_, .f32⟩
  | .hbm, ⟨18, _⟩ => ⟨S8448x1024, .f32⟩
  | .hbm, ⟨19, _⟩ => ⟨S8448x1024, .f32⟩
  | .hbm, ⟨20, _⟩ => ⟨S_, .f32⟩
  | .hbm, ⟨21, _⟩ => ⟨S8448x1024, .f32⟩
  | .hbm, ⟨22, _⟩ => ⟨S8448x1024, .f32⟩
  | .hbm, ⟨23, _⟩ => ⟨S_, .f32⟩
  | .hbm, ⟨24, _⟩ => ⟨S8448x1024, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S8448x1024, .f32⟩
  | .hbm, ⟨29, _⟩ => ⟨S8448x1024, .f32⟩
  | .hbm, ⟨30, _⟩ => ⟨S_, .f32⟩
  | .hbm, ⟨31, _⟩ => ⟨S8448x1024, .f32⟩
  | .hbm, ⟨32, _⟩ => ⟨S8448x1024, .f32⟩
  | .hbm, ⟨33, _⟩ => ⟨S_, .f32⟩
  | .hbm, ⟨34, _⟩ => ⟨S8448x1024, .f32⟩
  | .hbm, ⟨35, _⟩ => ⟨S8448x1024, .f32⟩
  | .hbm, ⟨36, _⟩ => ⟨S_, .f32⟩
  | .hbm, ⟨37, _⟩ => ⟨S8448x1024, .f32⟩
  | .hbm, ⟨38, _⟩ => ⟨S8448x1024, .f32⟩
  | .hbm, ⟨39, _⟩ => ⟨S8448x1024, .f32⟩
  | .hbm, ⟨40, _⟩ => ⟨S8448x1024, .f32⟩
  | .hbm, ⟨41, _⟩ => ⟨S8448x1024, .f32⟩
  | .hbm, ⟨42, _⟩ => ⟨S8448x1024, .bf16⟩
  | .hbm, ⟨43, _⟩ => ⟨S8448x1024, .f32⟩
  | .hbm, ⟨44, _⟩ => ⟨S8448x1024, .bf16⟩
  | .hbm, ⟨45, _⟩ => ⟨S8448x1024, .bf16⟩
  | .hbm, ⟨46, _⟩ => ⟨S8448x1024, .f32⟩
  | .hbm, ⟨47, _⟩ => ⟨S8448x1024, .f32⟩
  | .hbm, ⟨48, _⟩ => ⟨S8448x1024, .f32⟩
  | .hbm, ⟨49, _⟩ => ⟨S8448x1024, .f32⟩
  | .hbm, ⟨50, _⟩ => ⟨S8448x1024, .f32⟩
  | .hbm, ⟨51, _⟩ => ⟨S8448x1024, .f32⟩
  | .hbm, ⟨52, _⟩ => ⟨S8448x1024, .f32⟩
  | .hbm, ⟨53, _⟩ => ⟨S8448x1024, .bf16⟩
  | .hbm, ⟨54, _⟩ => ⟨S8448x512, .bf16⟩
  | .hbm, ⟨55, _⟩ => ⟨S8448x1024, .bf16⟩
  | .hbm, ⟨56, _⟩ => ⟨S8448x512, .bf16⟩
  | .local _ .vmem, ⟨0, _⟩ => ⟨S768x512, .bf16⟩
  | .local _ .vmem, ⟨1, _⟩ => ⟨S768x512, .bf16⟩
  | .local _ .vmem, ⟨2, _⟩ => ⟨S512x1024, .bf16⟩
  | .local _ .vmem, ⟨3, _⟩ => ⟨S768x1024, .f32⟩
  | .local _ .vmem, ⟨4, _⟩ => ⟨S768x1024, .f32⟩
  | .local _ .vmem, ⟨5, _⟩ => ⟨S768x512, .bf16⟩
  | .local _ .vmem, ⟨6, _⟩ => ⟨S768x512, .bf16⟩
  | .local _ .vmem, ⟨7, _⟩ => ⟨S512x1024, .bf16⟩
  | .local _ .vmem, ⟨8, _⟩ => ⟨S768x1024, .f32⟩
  | .local _ .vmem, ⟨9, _⟩ => ⟨S768x1024, .f32⟩
  | .local _ .vmem, ⟨10, _⟩ => ⟨S768x1024, .bf16⟩
  | .local _ .vmem, ⟨11, _⟩ => ⟨S768x1024, .bf16⟩
  | .local _ .vmem, ⟨12, _⟩ => ⟨S1024x1024, .bf16⟩
  | .local _ .vmem, ⟨13, _⟩ => ⟨S768x1024, .f32⟩
  | .local _ .vmem, ⟨14, _⟩ => ⟨S768x1024, .f32⟩
  | .local _ .vmem, ⟨15, _⟩ => ⟨S768x1024, .bf16⟩
  | .local _ .vmem, ⟨16, _⟩ => ⟨S768x1024, .bf16⟩
  | .local _ .vmem, ⟨17, _⟩ => ⟨S1024x1024, .bf16⟩
  | .local _ .vmem, ⟨18, _⟩ => ⟨S768x1024, .bf16⟩
  | .local _ .vmem, ⟨19, _⟩ => ⟨S768x1024, .bf16⟩
  | .local _ .vmem, ⟨20, _⟩ => ⟨S768x1024, .bf16⟩
  | .local _ .vmem, ⟨21, _⟩ => ⟨S768x1024, .bf16⟩
  | .local _ .vmem, ⟨22, _⟩ => ⟨S512x1024, .bf16⟩
  | .local _ .vmem, ⟨23, _⟩ => ⟨S768x512, .bf16⟩
  | .local _ .vmem, ⟨24, _⟩ => ⟨S768x512, .bf16⟩
  | .local _ .vmem, ⟨25, _⟩ => ⟨S768x1024, .bf16⟩
  | .local _ .vmem, ⟨26, _⟩ => ⟨S768x1024, .bf16⟩
  | .local _ .vmem, ⟨27, _⟩ => ⟨S512x1024, .bf16⟩
  | .local _ .vmem, ⟨28, _⟩ => ⟨S768x512, .bf16⟩
  | .local _ .vmem, ⟨29, _⟩ => ⟨S768x512, .bf16⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S768x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S512x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S768x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 11], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S768x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S768x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 11], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S768x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S768x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 11], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S768x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S512x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S768x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 11], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S768x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 1 → Memref sig .tc .vmem S512x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false]

abbrev stage5_2 : Fin 2 → Memref sig .tc .vmem S768x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== Reference9Ideal.lean ====
abbrev S8448x512 : Shape := ⟨2, ![8448, 512]⟩
abbrev S8448x1024 : Shape := ⟨2, ![8448, 1024]⟩
abbrev S512x1024 : Shape := ⟨2, ![512, 1024]⟩
abbrev S1024x1024 : Shape := ⟨2, ![1024, 1024]⟩
abbrev S_ : Shape := ⟨0, ![]⟩
abbrev S1024x512 : Shape := ⟨2, ![1024, 512]⟩

abbrev nBuf : Space → Nat
  | .hbm => 55
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x1024, .f32⟩
  | .hbm, ⟨3, _⟩ => ⟨S8448x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S_, .f32⟩
  | .hbm, ⟨11, _⟩ => ⟨S8448x1024, .f32⟩
  | .hbm, ⟨12, _⟩ => ⟨S8448x1024, .f32⟩
  | .hbm, ⟨13, _⟩ => ⟨S_, .f32⟩
  | .hbm, ⟨14, _⟩ => ⟨S8448x1024, .f32⟩
  | .hbm, ⟨15, _⟩ => ⟨S8448x1024, .f32⟩
  | .hbm, ⟨16, _⟩ => ⟨S_, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S_, .f32⟩
  | .hbm, ⟨25, _⟩ => ⟨S8448x1024, .f32⟩
  | .hbm, ⟨26, _⟩ => ⟨S8448x1024, .f32⟩
  | .hbm, ⟨27, _⟩ => ⟨S_, .f32⟩
  | .hbm, ⟨28, _⟩ => ⟨S8448x1024, .f32⟩
  | .hbm, ⟨29, _⟩ => ⟨S8448x1024, .f32⟩
  | .hbm, ⟨30, _⟩ => ⟨S_, .f32⟩
  | .hbm, ⟨31, _⟩ => ⟨S8448x1024, .f32⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S8448x1024, .f32⟩
  | .hbm, ⟨38, _⟩ => ⟨S1024x1024, .f32⟩
  | .hbm, ⟨39, _⟩ => ⟨S1024x1024, .f32⟩
  | .hbm, ⟨40, _⟩ => ⟨S8448x1024, .f32⟩
  | .hbm, ⟨41, _⟩ => ⟨S8448x1024, .f32⟩
  | .hbm, ⟨42, _⟩ => ⟨S8448x1024, .f32⟩
  | .hbm, ⟨43, _⟩ => ⟨S1024x512, .f32⟩
  | .hbm, ⟨44, _⟩ => ⟨S512x1024, .f32⟩
  | .hbm, ⟨45, _⟩ => ⟨S8448x512, .f32⟩
  | .hbm, ⟨46, _⟩ => ⟨S8448x1024, .f32⟩
  | .hbm, ⟨47, _⟩ => ⟨S8448x1024, .f32⟩
  | .hbm, ⟨48, _⟩ => ⟨S8448x1024, .f32⟩
  | .hbm, ⟨49, _⟩ => ⟨S1024x512, .f32⟩
  | .hbm, ⟨50, _⟩ => ⟨S512x1024, .f32⟩
  | .hbm, ⟨51, _⟩ => ⟨S8448x512, .f32⟩
  | .hbm, ⟨52, _⟩ => ⟨S8448x1024, .f32⟩
  | .hbm, ⟨53, _⟩ => ⟨S8448x512, .bf16⟩
  | .hbm, ⟨54, _⟩ => ⟨S8448x512, .bf16⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel10.lean ====
abbrev S8448x1024 : Shape := ⟨2, ![8448, 1024]⟩
abbrev S1024x1024 : Shape := ⟨2, ![1024, 1024]⟩
abbrev S2816x512 : Shape := ⟨2, ![2816, 512]⟩
abbrev S2816x1024 : Shape := ⟨2, ![2816, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | .hbm, ⟨3, _⟩ => ⟨S8448x1024, .bf16⟩
  | .hbm, ⟨4, _⟩ => ⟨S8448x1024, .bf16⟩
  | .hbm, ⟨5, _⟩ => ⟨S1024x1024, .bf16⟩
  | .local _ .vmem, ⟨0, _⟩ => ⟨S2816x512, .bf16⟩
  | .local _ .vmem, ⟨1, _⟩ => ⟨S2816x512, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel10Ideal.lean ====
abbrev S8448x1024 : Shape := ⟨2, ![8448, 1024]⟩
abbrev S1024x1024 : Shape := ⟨2, ![1024, 1024]⟩
abbrev S2816x512 : Shape := ⟨2, ![2816, 512]⟩
abbrev S2816x1024 : Shape := ⟨2, ![2816, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | .hbm, ⟨3, _⟩ => ⟨S8448x1024, .bf16⟩
  | .hbm, ⟨4, _⟩ => ⟨S8448x1024, .bf16⟩
  | .hbm, ⟨5, _⟩ => ⟨S1024x1024, .bf16⟩
  | .local _ .vmem, ⟨0, _⟩ => ⟨S2816x512, .bf16⟩
  | .local _ .vmem, ⟨1, _⟩ => ⟨S2816x512, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8448x1024 : Shape := ⟨2, ![8448, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | .hbm, ⟨3, _⟩ => ⟨S8448x1024, .f32⟩
  | .hbm, ⟨4, _⟩ => ⟨S1024x1024, .f32⟩
  | .hbm, ⟨5, _⟩ => ⟨S1024x1024, .f32⟩
  | .hbm, ⟨6, _⟩ => ⟨S8448x1024, .f32⟩
  | .hbm, ⟨7, _⟩ => ⟨S1024x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8448x512 : Shape := ⟨2, ![8448, 512]⟩
abbrev S512x1024 : Shape := ⟨2, ![512, 1024]⟩
abbrev S8448x1024 : Shape := ⟨2, ![8448, 1024]⟩
abbrev S2816x512 : Shape := ⟨2, ![2816, 512]⟩
abbrev S2816x1024 : Shape := ⟨2, ![2816, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8448x512, .f32⟩
  | .hbm, ⟨1, _⟩ => ⟨S512x1024, .f32⟩
  | .hbm, ⟨2, _⟩ => ⟨S8448x1024, .f32⟩
  | .hbm, ⟨3, _⟩ => ⟨S8448x512, .bf16⟩
  | .hbm, ⟨4, _⟩ => ⟨S8448x1024, .bf16⟩
  | .hbm, ⟨5, _⟩ => ⟨S512x1024, .bf16⟩
  | .local _ .vmem, ⟨0, _⟩ => ⟨S2816x512, .bf16⟩
  | .local _ .vmem, ⟨1, _⟩ => ⟨S2816x512, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .bf16⟩
  | .local _ .vmem, ⟨5, _⟩ => ⟨S512x1024, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8448x512 : Shape := ⟨2, ![8448, 512]⟩
abbrev S512x1024 : Shape := ⟨2, ![512, 1024]⟩
abbrev S8448x1024 : Shape := ⟨2, ![8448, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S512x1024, .f32⟩
  | .hbm, ⟨2, _⟩ => ⟨S8448x1024, .f32⟩
  | .hbm, ⟨3, _⟩ => ⟨S8448x1024, .f32⟩
  | .hbm, ⟨4, _⟩ => ⟨S1024x512, .f32⟩
  | .hbm, ⟨5, _⟩ => ⟨S512x1024, .f32⟩
  | .hbm, ⟨6, _⟩ => ⟨S8448x512, .f32⟩
  | .hbm, ⟨7, _⟩ => ⟨S512x1024, .bf16⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S8448x1024 : Shape := ⟨2, ![8448, 1024]⟩
abbrev S1024 : Shape := ⟨1, ![1024]⟩
abbrev S2x1024 : Shape := ⟨2, ![2, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S2x1 : Shape := ⟨2, ![2, 1]⟩

abbrev nBuf : Space → Nat
  | .hbm => 11
  | .vmem => 11
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S8448x1024, .f32⟩
  | .hbm, ⟨5, _⟩ => ⟨S1x1024, .f32⟩
  | .hbm, ⟨6, _⟩ => ⟨S8448x1024, .bf16⟩
  | .hbm, ⟨7, _⟩ => ⟨S8448x1024, .f32⟩
  | .hbm, ⟨8, _⟩ => ⟨S1x1024, .f32⟩
  | .hbm, ⟨9, _⟩ => ⟨S2x1024, .f32⟩
  | .hbm, ⟨10, _⟩ => ⟨S2x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S2x1024, .f32⟩
  | .local _ .vmem, ⟨10, _⟩ => ⟨S2x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference12Ideal.lean ====
abbrev S8448x1024 : Shape := ⟨2, ![8448, 1024]⟩
abbrev S1024 : Shape := ⟨1, ![1024]⟩
abbrev S2x1024 : Shape := ⟨2, ![2, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S256 : Shape := ⟨1, ![256]⟩
abbrev S256x1 : Shape := ⟨2, ![256, 1]⟩

abbrev nBuf : Space → Nat
  | .hbm => 160
  | .vmem => 0
  | .smem => 0
  | _ => 0

abbrev hbmTy0_0 (i : Nat) : BufTy := match i % 128 with
  | 0 => ⟨S8448x1024, .f32⟩
  | 1 => ⟨S1024, .f32⟩
  | 2 => ⟨S2x1024, .f32⟩
  | 3 => ⟨S2x1024, .f32⟩
  | 4 => ⟨S8448x1024, .f32⟩
  | 5 => ⟨S8192x1024, .f32⟩
  | 6 => ⟨S1x1024, .f32⟩
  | 7 => ⟨S1024, .f32⟩
  | 8 => ⟨S1x1024, .f32⟩
  | 9 => ⟨S1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S1x1024, .f32⟩
  | 28 => ⟨S8192x1024, .f32⟩
  | 29 => ⟨S8192x1024, .f32⟩
  | 30 => ⟨S_, .f32⟩
  | 31 => ⟨S1024, .f32⟩
  | 32 => ⟨S1024, .f32⟩
  | 33 => ⟨S1x1024, .f32⟩
  | 34 => ⟨S8192x1024, .f32⟩
  | 35 => ⟨S8192x1024, .f32⟩
  | 36 => ⟨S1x1024, .f32⟩
  | 37 => ⟨S8192x1024, .f32⟩
  | 38 => ⟨S8192x1024, .f32⟩
  | 39 => ⟨S8192x1024, .f32⟩
  | 40 => ⟨S_, .f32⟩
  | 41 => ⟨S1024, .f32⟩
  | 42 => ⟨S1x1024, .f32⟩
  | 43 => ⟨S_, .f32⟩
  | 44 => ⟨S1024, .f32⟩
  | 45 => ⟨S8192x1024, .f32⟩
  | 46 => ⟨S_, .f32⟩
  | 47 => ⟨S1024, .f32⟩
  | 48 => ⟨S1x1024, .f32⟩
  | 49 => ⟨S8192x1024, .f32⟩
  | 50 => ⟨S8192x1024, .f32⟩
  | 51 => ⟨S_, .f32⟩
  | 52 => ⟨S1024, .f32⟩
  | 53 => ⟨S8192x1024, .f32⟩
  | 54 => ⟨S_, .f32⟩
  | 55 => ⟨S1024, .f32⟩
  | 56 => ⟨S1x1024, .f32⟩
  | 57 => ⟨S8192x1024, .f32⟩
  | 58 => ⟨S8192x1024, .f32⟩
  | 59 => ⟨S_, .f32⟩
  | 60 => ⟨S1024, .f32⟩
  | 61 => ⟨S8192x1024, .f32⟩
  | 62 => ⟨S_, .f32⟩
  | 63 => ⟨S8192, .f32⟩
  | 64 => ⟨S8192x1, .f32⟩
  | 65 => ⟨S8192x1024, .f32⟩
  | 66 => ⟨S8192x1024, .f32⟩
  | 67 => ⟨S8192x1, .f32⟩
  | 68 => ⟨S_, .f32⟩
  | 69 => ⟨S8192x1, .f32⟩
  | 70 => ⟨S8192x1, .f32⟩
  | 71 => ⟨S_, .f32⟩
  | 72 => ⟨S8192, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S256x1024, .f32⟩
  | 79 => ⟨S1x1024, .f32⟩
  | 80 => ⟨S1024, .f32⟩
  | 81 => ⟨S1x1024, .f32⟩
  | 82 => ⟨S1024, .f32⟩
  | 83 => ⟨S256x1024, .f32⟩
  | 84 => ⟨S_, .f32⟩
  | 85 => ⟨S256, .f32⟩
  | 86 => ⟨S256x1, .f32⟩
  | 87 => ⟨S_, .f32⟩
  | 88 => ⟨S256x1, .f32⟩
  | 89 => ⟨S256x1, .f32⟩
  | 90 => ⟨S_, .f32⟩
  | 91 => ⟨S256x1, .f32⟩
  | 92 => ⟨S256x1, .f32⟩
  | 93 => ⟨S256x1, .f32⟩
  | 94 => ⟨S256x1, .f32⟩
  | 95 => ⟨S_, .f32⟩
  | 96 => ⟨S256x1, .f32⟩
  | 97 => ⟨S256x1, .f32⟩
  | 98 => ⟨S256x1024, .f32⟩
  | 99 => ⟨S256x1024, .f32⟩
  | 100 => ⟨S1x1024, .f32⟩
  | 101 => ⟨S256x1024, .f32⟩
  | 102 => ⟨S256x1024, .f32⟩
  | 103 => ⟨S_, .f32⟩
  | 104 => ⟨S1024, .f32⟩
  | 105 => ⟨S1024, .f32⟩
  | 106 => ⟨S1x1024, .f32⟩
  | 107 => ⟨S256x1024, .f32⟩
  | 108 => ⟨S256x1024, .f32⟩
  | 109 => ⟨S1x1024, .f32⟩
  | 110 => ⟨S256x1024, .f32⟩
  | 111 => ⟨S256x1024, .f32⟩
  | 112 => ⟨S256x1024, .f32⟩
  | 113 => ⟨S_, .f32⟩
  | 114 => ⟨S1024, .f32⟩
  | 115 => ⟨S1x1024, .f32⟩
  | 116 => ⟨S_, .f32⟩
  | 117 => ⟨S1024, .f32⟩
  | 118 => ⟨S256x1024, .f32⟩
  | 119 => ⟨S_, .f32⟩
  | 120 => ⟨S1024, .f32⟩
  | 121 => ⟨S1x1024, .f32⟩
  | 122 => ⟨S256x1024, .f32⟩
  | 123 => ⟨S256x1024, .f32⟩
  | 124 => ⟨S_, .f32⟩
  | 125 => ⟨S1024, .f32⟩
  | 126 => ⟨S256x1024, .f32⟩
  | 127 => ⟨S_, .f32⟩
  | _ => ⟨S8448x1024, .f32⟩

abbrev hbmTy0_1 (i : Nat) : BufTy := match i % 128 with
  | 0 => ⟨S1024, .f32⟩
  | 1 => ⟨S1x1024, .f32⟩
  | 2 => ⟨S256x1024, .f32⟩
  | 3 => ⟨S256x1024, .f32⟩
  | 4 => ⟨S_, .f32⟩
  | 5 => ⟨S1024, .f32⟩
  | 6 => ⟨S256x1024, .f32⟩
  | 7 => ⟨S_, .f32⟩
  | 8 => ⟨S256, .f32⟩
  | 9 => ⟨S256x1, .f32⟩
  | 10 => ⟨S256x1024, .f32⟩
  | 11 => ⟨S256x1024, .f32⟩
  | 12 => ⟨S256x1, .f32⟩
  | 13 => ⟨S_, .f32⟩
  | 14 => ⟨S256x1, .f32⟩
  | 15 => ⟨S256x1, .f32⟩
  | 16 => ⟨S_, .f32⟩
  | 17 => ⟨S256, .f32⟩
  | 18 => ⟨S256x1024, .f32⟩
  | 19 => ⟨S256x1024, .f32⟩
  | 20 => ⟨S256x1024, .f32⟩
  | 21 => ⟨S256x1024, .f32⟩
  | 22 => ⟨S256x1024, .f32⟩
  | 23 => ⟨S8448x1024, .f32⟩
  | 24 => ⟨S1024, .f32⟩
  | 25 => ⟨S1x1024, .f32⟩
  | 26 => ⟨S1x1024, .f32⟩
  | 27 => ⟨S1x1024, .f32⟩
  | 28 => ⟨S2x1024, .f32⟩
  | 29 => ⟨S1x1024, .f32⟩
  | 30 => ⟨S1x1024, .f32⟩
  | 31 => ⟨S2x1024, .f32⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_13 : Ref sig .tc := ⟨.hbm, 84, rfl⟩
abbrev main_v65 : Ref sig .tc := ⟨.hbm, 85, rfl⟩
abbrev main_v66 : Ref sig .tc := ⟨.hbm, 86, rfl⟩
abbrev main_cst_14 : Ref sig .tc := ⟨.hbm, 87, rfl⟩
abbrev main_v67 : Ref sig .tc := ⟨.hbm, 88, rfl⟩
abbrev main_v68 : Ref sig .tc := ⟨.hbm, 89, rfl⟩
abbrev main_cst_15 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_16 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_17 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_18 : Ref sig .tc := ⟨.hbm, 113, rfl⟩
abbrev main_v89 : Ref sig .tc := ⟨.hbm, 114, rfl⟩
abbrev main_v90 : Ref sig .tc := ⟨.hbm, 115, rfl⟩
abbrev main_cst_19 : Ref sig .tc := ⟨.hbm, 116, rfl⟩
abbrev main_v91 : Ref sig .tc := ⟨.hbm, 117, rfl⟩
abbrev main_v92 : Ref sig .tc := ⟨.hbm, 118, rfl⟩
abbrev main_cst_20 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_21 : Ref sig .tc := ⟨.hbm, 124, rfl⟩
abbrev main_v97 : Ref sig .tc := ⟨.hbm, 125, rfl⟩
abbrev main_v98 : Ref sig .tc := ⟨.hbm, 126, rfl⟩
abbrev main_cst_22 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_23 : Ref sig .tc := ⟨.hbm, 132, rfl⟩
abbrev main_v103 : Ref sig .tc := ⟨.hbm, 133, rfl⟩
abbrev main_v104 : Ref sig .tc := ⟨.hbm, 134, rfl⟩
abbrev main_cst_24 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_25 : Ref sig .tc := ⟨.hbm, 141, rfl⟩
abbrev main_v110 : Ref sig .tc := ⟨.hbm, 142, rfl⟩
abbrev main_v111 : Ref sig .tc := ⟨.hbm, 143, rfl⟩
abbrev main_cst_26 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩

abbrev nD : Nat := 1
abbrev τ : Topo := Topo.v7x

variable {F : FTy → Type} [FloatOps F]
-- ==== Kernel13.lean ====
abbrev S8448x1024 : Shape := ⟨2, ![8448, 1024]⟩
abbrev S1024 : Shape := ⟨1, ![1024]⟩
abbrev S2x1024 : Shape := ⟨2, ![2, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1x1024, .f32⟩
  | .hbm, ⟨5, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2x1024, .f32⟩
  | .local _ .vmem, ⟨4, _⟩ => ⟨S2x1024, .f32⟩
  | .local _ .vmem, ⟨5, _⟩ => ⟨S256x1024, .bf16⟩
  | .local _ .vmem, ⟨6, _⟩ => ⟨S256x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S8448x1024 : Shape := ⟨2, ![8448, 1024]⟩
abbrev S1024 : Shape := ⟨1, ![1024]⟩
abbrev S2x1024 : Shape := ⟨2, ![2, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S256 : Shape := ⟨1, ![256]⟩
abbrev S256x1 : Shape := ⟨2, ![256, 1]⟩

abbrev nBuf : Space → Nat
  | .hbm => 66
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S8192x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S256x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S1024, .f32⟩
  | .hbm, ⟨39, _⟩ => ⟨S256x1024, .f32⟩
  | .hbm, ⟨40, _⟩ => ⟨S_, .f32⟩
  | .hbm, ⟨41, _⟩ => ⟨S256, .f32⟩
  | .hbm, ⟨42, _⟩ => ⟨S256x1, .f32⟩
  | .hbm, ⟨43, _⟩ => ⟨S_, .f32⟩
  | .hbm, ⟨44, _⟩ => ⟨S256x1, .f32⟩
  | .hbm, ⟨45, _⟩ => ⟨S256x1, .f32⟩
  | .hbm, ⟨46, _⟩ => ⟨S_, .f32⟩
  | .hbm, ⟨47, _⟩ => ⟨S256x1, .f32⟩
  | .hbm, ⟨48, _⟩ => ⟨S256x1, .f32⟩
  | .hbm, ⟨49, _⟩ => ⟨S256x1, .f32⟩
  | .hbm, ⟨50, _⟩ => ⟨S256x1024, .f32⟩
  | .hbm, ⟨51, _⟩ => ⟨S256x1024, .f32⟩
  | .hbm, ⟨52, _⟩ => ⟨S1x1024, .f32⟩
  | .hbm, ⟨53, _⟩ => ⟨S256x1024, .f32⟩
  | .hbm, ⟨54, _⟩ => ⟨S256x1024, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S1x1024, .f32⟩
  | .hbm, ⟨59, _⟩ => ⟨S256x1024, .f32⟩
  | .hbm, ⟨60, _⟩ => ⟨S256x1024, .f32⟩
  | .hbm, ⟨61, _⟩ => ⟨S1x1024, .f32⟩
  | .hbm, ⟨62, _⟩ => ⟨S256x1024, .f32⟩
  | .hbm, ⟨63, _⟩ => ⟨S256x1024, .f32⟩
  | .hbm, ⟨64, _⟩ => ⟨S8448x1024, .f32⟩
  | .hbm, ⟨65, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== Kernel14.lean ====
abbrev S4x1024x768 : Shape := ⟨3, ![4, 1024, 768]⟩
abbrev S4096x768 : Shape := ⟨2, ![4096, 768]⟩
abbrev S256x768 : Shape := ⟨2, ![256, 768]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel14Ideal.lean ====
abbrev S4x1024x768 : Shape := ⟨3, ![4, 1024, 768]⟩
abbrev S4096x768 : Shape := ⟨2, ![4096, 768]⟩
abbrev S256x768 : Shape := ⟨2, ![256, 768]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S4x1024x768 : Shape := ⟨3, ![4, 1024, 768]⟩
abbrev S_ : Shape := ⟨0, ![]⟩
abbrev S4096x768 : Shape := ⟨2, ![4096, 768]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S_, .f32⟩
  | .hbm, ⟨5, _⟩ => ⟨S4x1024x768, .f32⟩
  | .hbm, ⟨6, _⟩ => ⟨S4x1024x768, .f32⟩
  | .hbm, ⟨7, _⟩ => ⟨S_, .f32⟩
  | .hbm, ⟨8, _⟩ => ⟨S4x1024x768, .f32⟩
  | .hbm, ⟨9, _⟩ => ⟨S4x1024x768, .f32⟩
  | .hbm, ⟨10, _⟩ => ⟨S4x1024x768, .f32⟩
  | .hbm, ⟨11, _⟩ => ⟨S_, .f32⟩
  | .hbm, ⟨12, _⟩ => ⟨S4x1024x768, .f32⟩
  | .hbm, ⟨13, _⟩ => ⟨S4x1024x768, .f32⟩
  | .hbm, ⟨14, _⟩ => ⟨S4x1024x768, .f32⟩
  | .hbm, ⟨15, _⟩ => ⟨S_, .f32⟩
  | .hbm, ⟨16, _⟩ => ⟨S4x1024x768, .f32⟩
  | .hbm, ⟨17, _⟩ => ⟨S4x1024x768, .f32⟩
  | .hbm, ⟨18, _⟩ => ⟨S4x1024x768, .f32⟩
  | .hbm, ⟨19, _⟩ => ⟨S_, .f32⟩
  | .hbm, ⟨20, _⟩ => ⟨S4x1024x768, .f32⟩
  | .hbm, ⟨21, _⟩ => ⟨S4x1024x768, .f32⟩
  | .hbm, ⟨22, _⟩ => ⟨S_, .f32⟩
  | .hbm, ⟨23, _⟩ => ⟨S4x1024x768, .f32⟩
  | .hbm, ⟨24, _⟩ => ⟨S4x1024x768, .f32⟩
  | .hbm, ⟨25, _⟩ => ⟨S4x1024x768, .f32⟩
  | .hbm, ⟨26, _⟩ => ⟨S_, .f32⟩
  | .hbm, ⟨27, _⟩ => ⟨S4x1024x768, .f32⟩
  | .hbm, ⟨28, _⟩ => ⟨S4x1024x768, .f32⟩
  | .hbm, ⟨29, _⟩ => ⟨S4x1024x768, .f32⟩
  | .hbm, ⟨30, _⟩ => ⟨S_, .f32⟩
  | .hbm, ⟨31, _⟩ => ⟨S4x1024x768, .f32⟩
  | .hbm, ⟨32, _⟩ => ⟨S4x1024x768, .f32⟩
  | .hbm, ⟨33, _⟩ => ⟨S4x1024x768, .f32⟩
  | .hbm, ⟨34, _⟩ => ⟨S_, .f32⟩
  | .hbm, ⟨35, _⟩ => ⟨S4x1024x768, .f32⟩
  | .hbm, ⟨36, _⟩ => ⟨S4x1024x768, .f32⟩
  | .hbm, ⟨37, _⟩ => ⟨S4096x768, .f32⟩
  | .hbm, ⟨38, _⟩ => ⟨S4096x768, .f32⟩
  | .hbm, ⟨39, _⟩ => ⟨S4096x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel15.lean ====
abbrev S4x1024x544 : Shape := ⟨3, ![4, 1024, 544]⟩
abbrev S4096x544 : Shape := ⟨2, ![4096, 544]⟩
abbrev S256x544 : Shape := ⟨2, ![256, 544]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x544, .f32⟩
  | .hbm, ⟨1, _⟩ => ⟨S4x1024x544, .f32⟩
  | .hbm, ⟨2, _⟩ => ⟨S4x1024x544, .f32⟩
  | .hbm, ⟨3, _⟩ => ⟨S4x1024x544, .f32⟩
  | .hbm, ⟨4, _⟩ => ⟨S4096x544, .f32⟩
  | .hbm, ⟨5, _⟩ => ⟨S4096x544, .f32⟩
  | .hbm, ⟨6, _⟩ => ⟨S4096x544, .f32⟩
  | .hbm, ⟨7, _⟩ => ⟨S4096x544, .f32⟩
  | .hbm, ⟨8, _⟩ => ⟨S4096x544, .f32⟩
  | .hbm, ⟨9, _⟩ => ⟨S4096x544, .f32⟩
  | .hbm, ⟨10, _⟩ => ⟨S4096x544, .f32⟩
  | .local _ .vmem, ⟨0, _⟩ => ⟨S256x544, .f32⟩
  | .local _ .vmem, ⟨1, _⟩ => ⟨S256x544, .f32⟩
  | .local _ .vmem, ⟨2, _⟩ => ⟨S256x544, .f32⟩
  | .local _ .vmem, ⟨3, _⟩ => ⟨S256x544, .f32⟩
  | .local _ .vmem, ⟨4, _⟩ => ⟨S256x544, .f32⟩
  | .local _ .vmem, ⟨5, _⟩ => ⟨S256x544, .f32⟩
  | .local _ .vmem, ⟨6, _⟩ => ⟨S256x544, .f32⟩
  | .local _ .vmem, ⟨7, _⟩ => ⟨S256x544, .f32⟩
  | .local _ .vmem, ⟨8, _⟩ => ⟨S256x544, .f32⟩
  | .local _ .vmem, ⟨9, _⟩ => ⟨S256x544, .f32⟩
  | .local _ .vmem, ⟨10, _⟩ => ⟨S256x544, .f32⟩
  | .local _ .vmem, ⟨11, _⟩ => ⟨S256x544, .f32⟩
  | .local _ .vmem, ⟨12, _⟩ => ⟨S256x544, .f32⟩
  | .local _ .vmem, ⟨13, _⟩ => ⟨S256x544, .f32⟩
  | _, _ => ⟨S4x1024x544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x544 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x544 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x544 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x544 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel15Ideal.lean ====
abbrev S4x1024x544 : Shape := ⟨3, ![4, 1024, 544]⟩
abbrev S4096x544 : Shape := ⟨2, ![4096, 544]⟩
abbrev S256x544 : Shape := ⟨2, ![256, 544]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x544, .f32⟩
  | .hbm, ⟨1, _⟩ => ⟨S4x1024x544, .f32⟩
  | .hbm, ⟨2, _⟩ => ⟨S4x1024x544, .f32⟩
  | .hbm, ⟨3, _⟩ => ⟨S4x1024x544, .f32⟩
  | .hbm, ⟨4, _⟩ => ⟨S4096x544, .f32⟩
  | .hbm, ⟨5, _⟩ => ⟨S4096x544, .f32⟩
  | .hbm, ⟨6, _⟩ => ⟨S4096x544, .f32⟩
  | .hbm, ⟨7, _⟩ => ⟨S4096x544, .f32⟩
  | .hbm, ⟨8, _⟩ => ⟨S4096x544, .f32⟩
  | .hbm, ⟨9, _⟩ => ⟨S4096x544, .f32⟩
  | .hbm, ⟨10, _⟩ => ⟨S4096x544, .f32⟩
  | .local _ .vmem, ⟨0, _⟩ => ⟨S256x544, .f32⟩
  | .local _ .vmem, ⟨1, _⟩ => ⟨S256x544, .f32⟩
  | .local _ .vmem, ⟨2, _⟩ => ⟨S256x544, .f32⟩
  | .local _ .vmem, ⟨3, _⟩ => ⟨S256x544, .f32⟩
  | .local _ .vmem, ⟨4, _⟩ => ⟨S256x544, .f32⟩
  | .local _ .vmem, ⟨5, _⟩ => ⟨S256x544, .f32⟩
  | .local _ .vmem, ⟨6, _⟩ => ⟨S256x544, .f32⟩
  | .local _ .vmem, ⟨7, _⟩ => ⟨S256x544, .f32⟩
  | .local _ .vmem, ⟨8, _⟩ => ⟨S256x544, .f32⟩
  | .local _ .vmem, ⟨9, _⟩ => ⟨S256x544, .f32⟩
  | .local _ .vmem, ⟨10, _⟩ => ⟨S256x544, .f32⟩
  | .local _ .vmem, ⟨11, _⟩ => ⟨S256x544, .f32⟩
  | .local _ .vmem, ⟨12, _⟩ => ⟨S256x544, .f32⟩
  | .local _ .vmem, ⟨13, _⟩ => ⟨S256x544, .f32⟩
  | _, _ => ⟨S4x1024x544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x544 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x544 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x544 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x544 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S4x1024x544 : Shape := ⟨3, ![4, 1024, 544]⟩
abbrev S_ : Shape := ⟨0, ![]⟩
abbrev S4096x544 : Shape := ⟨2, ![4096, 544]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x544, .f32⟩
  | .hbm, ⟨1, _⟩ => ⟨S4x1024x544, .f32⟩
  | .hbm, ⟨2, _⟩ => ⟨S4x1024x544, .f32⟩
  | .hbm, ⟨3, _⟩ => ⟨S4x1024x544, .f32⟩
  | .hbm, ⟨4, _⟩ => ⟨S_, .f32⟩
  | .hbm, ⟨5, _⟩ => ⟨S4x1024x544, .f32⟩
  | .hbm, ⟨6, _⟩ => ⟨S4x1024x544, .f32⟩
  | .hbm, ⟨7, _⟩ => ⟨S_, .f32⟩
  | .hbm, ⟨8, _⟩ => ⟨S4x1024x544, .f32⟩
  | .hbm, ⟨9, _⟩ => ⟨S4x1024x544, .f32⟩
  | .hbm, ⟨10, _⟩ => ⟨S4x1024x544, .f32⟩
  | .hbm, ⟨11, _⟩ => ⟨S_, .f32⟩
  | .hbm, ⟨12, _⟩ => ⟨S4x1024x544, .f32⟩
  | .hbm, ⟨13, _⟩ => ⟨S4x1024x544, .f32⟩
  | .hbm, ⟨14, _⟩ => ⟨S4x1024x544, .f32⟩
  | .hbm, ⟨15, _⟩ => ⟨S_, .f32⟩
  | .hbm, ⟨16, _⟩ => ⟨S4x1024x544, .f32⟩
  | .hbm, ⟨17, _⟩ => ⟨S4x1024x544, .f32⟩
  | .hbm, ⟨18, _⟩ => ⟨S4x1024x544, .f32⟩
  | .hbm, ⟨19, _⟩ => ⟨S_, .f32⟩
  | .hbm, ⟨20, _⟩ => ⟨S4x1024x544, .f32⟩
  | .hbm, ⟨21, _⟩ => ⟨S4x1024x544, .f32⟩
  | .hbm, ⟨22, _⟩ => ⟨S_, .f32⟩
  | .hbm, ⟨23, _⟩ => ⟨S4x1024x544, .f32⟩
  | .hbm, ⟨24, _⟩ => ⟨S4x1024x544, .f32⟩
  | .hbm, ⟨25, _⟩ => ⟨S4x1024x544, .f32⟩
  | .hbm, ⟨26, _⟩ => ⟨S_, .f32⟩
  | .hbm, ⟨27, _⟩ => ⟨S4x1024x544, .f32⟩
  | .hbm, ⟨28, _⟩ => ⟨S4x1024x544, .f32⟩
  | .hbm, ⟨29, _⟩ => ⟨S4x1024x544, .f32⟩
  | .hbm, ⟨30, _⟩ => ⟨S_, .f32⟩
  | .hbm, ⟨31, _⟩ => ⟨S4x1024x544, .f32⟩
  | .hbm, ⟨32, _⟩ => ⟨S4x1024x544, .f32⟩
  | .hbm, ⟨33, _⟩ => ⟨S4x1024x544, .f32⟩
  | .hbm, ⟨34, _⟩ => ⟨S_, .f32⟩
  | .hbm, ⟨35, _⟩ => ⟨S4x1024x544, .f32⟩
  | .hbm, ⟨36, _⟩ => ⟨S4x1024x544, .f32⟩
  | .hbm, ⟨37, _⟩ => ⟨S4096x544, .f32⟩
  | .hbm, ⟨38, _⟩ => ⟨S4096x544, .f32⟩
  | .hbm, ⟨39, _⟩ => ⟨S4096x544, .f32⟩
  | _, _ => ⟨S4x1024x544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel16.lean ====
abbrev S4x512x128 : Shape := ⟨3, ![4, 512, 128]⟩
abbrev S2048x128 : Shape := ⟨2, ![2048, 128]⟩
abbrev S256x128 : Shape := ⟨2, ![256, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S4x512x128, .f32⟩
  | .hbm, ⟨3, _⟩ => ⟨S4x512x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel16Ideal.lean ====
abbrev S4x512x128 : Shape := ⟨3, ![4, 512, 128]⟩
abbrev S2048x128 : Shape := ⟨2, ![2048, 128]⟩
abbrev S256x128 : Shape := ⟨2, ![256, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S4x512x128, .f32⟩
  | .hbm, ⟨3, _⟩ => ⟨S4x512x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S4x512x128 : Shape := ⟨3, ![4, 512, 128]⟩
abbrev S_ : Shape := ⟨0, ![]⟩
abbrev S2048x128 : Shape := ⟨2, ![2048, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S4x512x128, .f32⟩
  | .hbm, ⟨3, _⟩ => ⟨S4x512x128, .f32⟩
  | .hbm, ⟨4, _⟩ => ⟨S_, .f32⟩
  | .hbm, ⟨5, _⟩ => ⟨S4x512x128, .f32⟩
  | .hbm, ⟨6, _⟩ => ⟨S4x512x128, .f32⟩
  | .hbm, ⟨7, _⟩ => ⟨S_, .f32⟩
  | .hbm, ⟨8, _⟩ => ⟨S4x512x128, .f32⟩
  | .hbm, ⟨9, _⟩ => ⟨S4x512x128, .f32⟩
  | .hbm, ⟨10, _⟩ => ⟨S4x512x128, .f32⟩
  | .hbm, ⟨11, _⟩ => ⟨S_, .f32⟩
  | .hbm, ⟨12, _⟩ => ⟨S4x512x128, .f32⟩
  | .hbm, ⟨13, _⟩ => ⟨S4x512x128, .f32⟩
  | .hbm, ⟨14, _⟩ => ⟨S4x512x128, .f32⟩
  | .hbm, ⟨15, _⟩ => ⟨S_, .f32⟩
  | .hbm, ⟨16, _⟩ => ⟨S4x512x128, .f32⟩
  | .hbm, ⟨17, _⟩ => ⟨S4x512x128, .f32⟩
  | .hbm, ⟨18, _⟩ => ⟨S4x512x128, .f32⟩
  | .hbm, ⟨19, _⟩ => ⟨S_, .f32⟩
  | .hbm, ⟨20, _⟩ => ⟨S4x512x128, .f32⟩
  | .hbm, ⟨21, _⟩ => ⟨S4x512x128, .f32⟩
  | .hbm, ⟨22, _⟩ => ⟨S_, .f32⟩
  | .hbm, ⟨23, _⟩ => ⟨S4x512x128, .f32⟩
  | .hbm, ⟨24, _⟩ => ⟨S4x512x128, .f32⟩
  | .hbm, ⟨25, _⟩ => ⟨S4x512x128, .f32⟩
  | .hbm, ⟨26, _⟩ => ⟨S_, .f32⟩
  | .hbm, ⟨27, _⟩ => ⟨S4x512x128, .f32⟩
  | .hbm, ⟨28, _⟩ => ⟨S4x512x128, .f32⟩
  | .hbm, ⟨29, _⟩ => ⟨S4x512x128, .f32⟩
  | .hbm, ⟨30, _⟩ => ⟨S_, .f32⟩
  | .hbm, ⟨31, _⟩ => ⟨S4x512x128, .f32⟩
  | .hbm, ⟨32, _⟩ => ⟨S4x512x128, .f32⟩
  | .hbm, ⟨33, _⟩ => ⟨S4x512x128, .f32⟩
  | .hbm, ⟨34, _⟩ => ⟨S_, .f32⟩
  | .hbm, ⟨35, _⟩ => ⟨S4x512x128, .f32⟩
  | .hbm, ⟨36, _⟩ => ⟨S4x512x128, .f32⟩
  | .hbm, ⟨37, _⟩ => ⟨S2048x128, .f32⟩
  | .hbm, ⟨38, _⟩ => ⟨S2048x128, .f32⟩
  | .hbm, ⟨39, _⟩ => ⟨S2048x128, .f32⟩
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel17.lean ====
abbrev S4x128x1024 : Shape := ⟨3, ![4, 128, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel17Ideal.lean ====
abbrev S4x128x1024 : Shape := ⟨3, ![4, 128, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S4x128x1024 : Shape := ⟨3, ![4, 128, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel18.lean ====
abbrev S4x1024x704 : Shape := ⟨3, ![4, 1024, 704]⟩
abbrev S4096x704 : Shape := ⟨2, ![4096, 704]⟩
abbrev S256x704 : Shape := ⟨2, ![256, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel18Ideal.lean ====
abbrev S4x1024x704 : Shape := ⟨3, ![4, 1024, 704]⟩
abbrev S4096x704 : Shape := ⟨2, ![4096, 704]⟩
abbrev S256x704 : Shape := ⟨2, ![256, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S4x1024x704 : Shape := ⟨3, ![4, 1024, 704]⟩
abbrev S_ : Shape := ⟨0, ![]⟩
abbrev S4096x704 : Shape := ⟨2, ![4096, 704]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S_, .f32⟩
  | .hbm, ⟨5, _⟩ => ⟨S4x1024x704, .f32⟩
  | .hbm, ⟨6, _⟩ => ⟨S4x1024x704, .f32⟩
  | .hbm, ⟨7, _⟩ => ⟨S_, .f32⟩
  | .hbm, ⟨8, _⟩ => ⟨S4x1024x704, .f32⟩
  | .hbm, ⟨9, _⟩ => ⟨S4x1024x704, .f32⟩
  | .hbm, ⟨10, _⟩ => ⟨S4x1024x704, .f32⟩
  | .hbm, ⟨11, _⟩ => ⟨S_, .f32⟩
  | .hbm, ⟨12, _⟩ => ⟨S4x1024x704, .f32⟩
  | .hbm, ⟨13, _⟩ => ⟨S4x1024x704, .f32⟩
  | .hbm, ⟨14, _⟩ => ⟨S4x1024x704, .f32⟩
  | .hbm, ⟨15, _⟩ => ⟨S_, .f32⟩
  | .hbm, ⟨16, _⟩ => ⟨S4x1024x704, .f32⟩
  | .hbm, ⟨17, _⟩ => ⟨S4x1024x704, .f32⟩
  | .hbm, ⟨18, _⟩ => ⟨S4x1024x704, .f32⟩
  | .hbm, ⟨19, _⟩ => ⟨S_, .f32⟩
  | .hbm, ⟨20, _⟩ => ⟨S4x1024x704, .f32⟩
  | .hbm, ⟨21, _⟩ => ⟨S4x1024x704, .f32⟩
  | .hbm, ⟨22, _⟩ => ⟨S_, .f32⟩
  | .hbm, ⟨23, _⟩ => ⟨S4x1024x704, .f32⟩
  | .hbm, ⟨24, _⟩ => ⟨S4x1024x704, .f32⟩
  | .hbm, ⟨25, _⟩ => ⟨S4x1024x704, .f32⟩
  | .hbm, ⟨26, _⟩ => ⟨S_, .f32⟩
  | .hbm, ⟨27, _⟩ => ⟨S4x1024x704, .f32⟩
  | .hbm, ⟨28, _⟩ => ⟨S4x1024x704, .f32⟩
  | .hbm, ⟨29, _⟩ => ⟨S4x1024x704, .f32⟩
  | .hbm, ⟨30, _⟩ => ⟨S_, .f32⟩
  | .hbm, ⟨31, _⟩ => ⟨S4x1024x704, .f32⟩
  | .hbm, ⟨32, _⟩ => ⟨S4x1024x704, .f32⟩
  | .hbm, ⟨33, _⟩ => ⟨S4x1024x704, .f32⟩
  | .hbm, ⟨34, _⟩ => ⟨S_, .f32⟩
  | .hbm, ⟨35, _⟩ => ⟨S4x1024x704, .f32⟩
  | .hbm, ⟨36, _⟩ => ⟨S4x1024x704, .f32⟩
  | .hbm, ⟨37, _⟩ => ⟨S4096x704, .f32⟩
  | .hbm, ⟨38, _⟩ => ⟨S4096x704, .f32⟩
  | .hbm, ⟨39, _⟩ => ⟨S4096x704, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel19.lean ====
abbrev S4x352x1024 : Shape := ⟨3, ![4, 352, 1024]⟩
abbrev S1408x1024 : Shape := ⟨2, ![1408, 1024]⟩
abbrev S128x1024 : Shape := ⟨2, ![128, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S4x352x1024 : Shape := ⟨3, ![4, 352, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel20.lean ====
abbrev S8192x1024 : Shape := ⟨2, ![8192, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference20Ideal.lean ====
abbrev S8192x1024 : Shape := ⟨2, ![8192, 1024]⟩
abbrev S_ : Shape := ⟨0, ![]⟩
abbrev S8192 : Shape := ⟨1, ![8192]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1024, .f32⟩
  | .hbm, ⟨25, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.Attn.Tile.lean ====
/- One key block of the backward attention at one tile of queries, read at an index: the recomputed probabilities, the
   gradient of the scores, and what the block adds to the gradients of v, k and q. -/
module

public import proofs.«01_k».proof.Proof.Gen.KernelIdeal.Skeleton
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

variable (v3 : Vec Ideal S1x512x64 .bf16) (v7 : Vec Ideal S1x64x512 .bf16) (v11 : Vec Ideal S1x512x64 .bf16)
  (v13 : Vec Ideal S1x64x512 .bf16) (v16 : Vec Ideal S1x64x512 .f32) (v21 : Vec Ideal S1x1x512 .f32)
  (kb vb : Vec Ideal S1x256x64 .bf16) (old : Vec Ideal S1x256x64 .f32) (kt : Vec Ideal S1x1x64x256 .bf16)

/-- The scale 1/8 as the kernel writes it. -/
abbrev sc8 : EReal := Ideal.ofBits FTy.bf16 15872#16

/-- The probability of query `q` at the key row `kr`, from the saved log-sum-exp. -/
def pw (kr : Fin 64 → EReal) (q : Fin 512) : EReal :=
  Ideal.exp (∑ x : Fin 64, kr x * (v7 (ix3 0 x q) * sc8) - v21 (ix3 0 0 q))

/-- The gradient of the score of query `q` at the key row `kr` and value row `vr`. -/
def dsw (kr vr : Fin 64 → EReal) (q : Fin 512) : EReal :=
  pw v7 v21 kr q * (∑ x : Fin 64, vr x * v13 (ix3 0 x q) - ∑ x : Fin 64, v13 (ix3 0 x q) * v16 (ix3 0 x q))

/-- What the tile adds to the gradient of v at the key row `kr`. -/
def cdv (kr : Fin 64 → EReal) (d : Fin 64) : EReal := ∑ q : Fin 512, pw v7 v21 kr q * v11 (ix3 0 q d)

/-- What the tile adds to the gradient of k at the key row `kr`. -/
def cdk (kr vr : Fin 64 → EReal) (d : Fin 64) : EReal :=
  ∑ q : Fin 512, dsw v7 v13 v16 v21 kr vr q * (v3 (ix3 0 q d) * sc8)

theorem pay2_at (l : Fin 256) (q : Fin 512) : k0_pay2 (F := Ideal) (k0_pay20 v7) (k0_pay24 v21) kb (ix2 l q)
    = pw v7 v21 (fun x => kb (ix3 0 l x)) q := by
  pointwise [k0_pay2, k0_pay20, k0_pay24, pw]

theorem pay3_at (l : Fin 256) (q : Fin 512) :
    k0_pay3 (F := Ideal) (k0_pay20 v7) (k0_pay22 v13) (k0_pay23 v13 v16) (k0_pay24 v21) kb vb (ix2 l q)
    = dsw v7 v13 v16 v21 (fun x => kb (ix3 0 l x)) (fun x => vb (ix3 0 l x)) q := by
  rw [dsw, ← pay2_at v7 v21 kb l q]
  pointwise [k0_pay3, k0_pay22, k0_pay23]

theorem pay8_eq : @k0_pay8 Ideal _ = k0_pay3 := rfl
theorem pay15_eq : @k0_pay15 Ideal _ = k0_pay3 := rfl
theorem pay7_eq : @k0_pay7 Ideal _ = k0_pay2 := rfl
theorem pay14_eq : @k0_pay14 Ideal _ = k0_pay2 := rfl
theorem pay9_eq : @k0_pay9 Ideal _ = k0_pay4 := rfl
theorem pay16_eq : @k0_pay16 Ideal _ = k0_pay4 := rfl
theorem pay13_eq : @k0_pay13 Ideal _ = k0_pay6 := rfl
theorem pay27_eq : @k0_pay27 Ideal _ = k0_pay6 := rfl

theorem pay4_at (l : Fin 256) (d : Fin 64) :
    k0_pay4 (F := Ideal) (k0_pay20 v7) (k0_pay21 v11) (k0_pay24 v21) kb old (ix3 0 l d)
    = old (ix3 0 l d) + cdv v7 v11 v21 (fun x => kb (ix3 0 l x)) d := by
  rw [cdv, ← Finset.sum_congr rfl fun q _ => congrArg (· * _) (pay2_at v7 v21 kb l q)]
  pointwise [k0_pay4, k0_pay21]

theorem pay26_at (l : Fin 256) (d : Fin 64) :
    k0_pay26 (F := Ideal) v3 (k0_pay3 (k0_pay20 v7) (k0_pay22 v13) (k0_pay23 v13 v16) (k0_pay24 v21) kb vb) old (ix3 0 l d)
    = old (ix3 0 l d) + cdk v3 v7 v13 v16 v21 (fun x => kb (ix3 0 l x)) (fun x => vb (ix3 0 l x)) d := by
  rw [cdk, ← Finset.sum_congr rfl fun q _ => congrArg (· * _) (pay3_at v7 v13 v16 v21 kb vb l q)]
  generalize k0_pay3 (F := Ideal) (k0_pay20 v7) (k0_pay22 v13) (k0_pay23 v13 v16) (k0_pay24 v21) kb vb = p
  pointwise [k0_pay26, k0_pay19]

theorem pay5_eq : k0_pay5 (F := Ideal) (k0_pay19 v3) (k0_pay20 v7) (k0_pay22 v13) (k0_pay23 v13 v16) (k0_pay24 v21) kb vb old
    = k0_pay26 v3 (k0_pay3 (k0_pay20 v7) (k0_pay22 v13) (k0_pay23 v13 v16) (k0_pay24 v21) kb vb) old := rfl

theorem pay12_eq : k0_pay12 (F := Ideal) (k0_pay10 old)
      (k0_pay11 (k0_pay19 v3) (k0_pay20 v7) (k0_pay22 v13) (k0_pay23 v13 v16) (k0_pay24 v21) kb vb)
    = k0_pay26 v3 (k0_pay3 (k0_pay20 v7) (k0_pay22 v13) (k0_pay23 v13 v16) (k0_pay24 v21) kb vb) old := rfl

theorem pay6_at (acc : FVec Ideal S64x512 .f32) (d : Fin 64) (q : Fin 512) :
    k0_pay6 (F := Ideal) acc (k0_pay3 (k0_pay20 v7) (k0_pay22 v13) (k0_pay23 v13 v16) (k0_pay24 v21) kb vb) kt (ix2 d q)
    = acc (ix2 d q) + ∑ l : Fin 256, kt (ix4 0 0 d l)
        * dsw v7 v13 v16 v21 (fun x => kb (ix3 0 l x)) (fun x => vb (ix3 0 l x)) q := by
  rw [← Finset.sum_congr rfl fun l _ => congrArg (_ * ·) (pay3_at v7 v13 v16 v21 kb vb l q)]
  generalize k0_pay3 (F := Ideal) (k0_pay20 v7) (k0_pay22 v13) (k0_pay23 v13 v16) (k0_pay24 v21) kb vb = p
  pointwise [k0_pay6]

theorem pay28_at (acc : FVec Ideal S64x512 .f32) (d : Fin 64) (q : Fin 512) :
    k0_pay1 (F := Ideal) (k0_pay28 acc) (ix3 0 d q) = acc (ix2 d q) * Ideal.ofBits FTy.f32 0x3E000000#32 := by
  pointwise [k0_pay1, k0_pay28]

theorem pay17_at (j : S1x8448x64.Idx) : k0_pay17 (F := Ideal) j = 0 := by pointwise [k0_pay17]
theorem pay18_at (j : S1x8448x64.Idx) : k0_pay18 (F := Ideal) j = 0 := by pointwise [k0_pay18]
theorem pay25_at (j : S64x512.Idx) : k0_pay25 (F := Ideal) j = 0 := by pointwise [k0_pay25]

end Cert.KernelIdeal.Attn

end
-- ==== Proof.Attn.Trip.lean ====
/- One trip of the key loop, three key blocks: what it yields and what it leaves in the gradients of k and v; then the
   whole loop, by induction on the trips. -/
module

public import proofs.«01_k».proof.Proof.Gen.KernelIdeal.Loops
public import proofs.«01_k».proof.Proof.Attn.Tile
public import Idealize.ShloMosaic.Lib.Pipeline.ValueKit
public import Idealize.ShloMosaic.Lib.WritesUnit

@[expose] public section

set_option maxRecDepth 16384

noncomputable section

namespace Cert.KernelIdeal.Attn

open Cert.KernelIdeal Cert.KernelIdeal.Gen Idealize.ShloMosaic Idealize.ShloMosaic.TcCoe Idealize.SL.Sem

/-- Row `j` of the keys or values. -/
def row (x : Vec Ideal S1x8448x64 .bf16) (j : Fin 8448) : Fin 64 → EReal := fun d => x (ix3 0 j d)

/-- What key block `n` adds to the (unscaled) gradient of q. -/
def cdq (v7 v13 : Vec Ideal S1x64x512 .bf16) (v16 : Vec Ideal S1x64x512 .f32) (v21 : Vec Ideal S1x1x512 .f32)
    (K V : Vec Ideal S1x8448x64 .bf16) (T : Vec Ideal S1x33x64x256 .bf16) (n : Fin 33) (d : Fin 64) (q : Fin 512) : EReal :=
  ∑ l : Fin 256, T (ix4 0 n d l) * dsw v7 v13 v16 v21 (row K ⟨256 * n.val + l.val, by omega⟩) (row V ⟨256 * n.val + l.val, by omega⟩) q

/-- The same at any natural number, zero past the last block. -/
def cdqN (v7 v13 : Vec Ideal S1x64x512 .bf16) (v16 : Vec Ideal S1x64x512 .f32) (v21 : Vec Ideal S1x1x512 .f32)
    (K V : Vec Ideal S1x8448x64 .bf16) (T : Vec Ideal S1x33x64x256 .bf16) (d : Fin 64) (q : Fin 512) (n : ℕ) : EReal :=
  if h : n < 33 then cdq v7 v13 v16 v21 K V T ⟨n, h⟩ d q else 0

section Blocks

variable {κ : Kind} {sp : Space} {e : EltTy}

/-- A block of 256 rows read at a row is the whole array read at that row. -/
theorem load_block (v : View sig κ sp S1x8448x64 e) (f : v.ty.Contents (Elt Ideal)) {off : Fin S1x8448x64.rank → ℕ} (o : ℕ)
    (heq : off = ![0, o, 0]) (inb : ∀ a, off a + S1x256x64.size a ≤ S1x8448x64.size a) (l : Fin 256) (d : Fin 64)
    (j : Fin 8448) (hj : j.val = o + l.val) :
    v.readAt (Elt Ideal) (Rect.unit off S1x256x64.size inb).toLoadRect f (ix3 0 l d) = v.read (Elt Ideal) f (ix3 0 j d) := by
  subst heq
  rw [View.readAt_eq_ld]
  refine View.ld_unit_apply_of _ _ _ _ _ (ix3 0 j d) fun a => ?_
  fin_cases a
  · rfl
  · exact hj
  · exact (Nat.zero_add _).symm

/-- A block of the transposed keys read at an index. -/
theorem load_blockT (v : View sig κ sp S1x33x64x256 e) (f : v.ty.Contents (Elt Ideal)) {off : Fin S1x33x64x256.rank → ℕ} (n : Fin 33)
    (heq : off = ![0, n.val, 0, 0]) (inb : ∀ a, off a + S1x1x64x256.size a ≤ S1x33x64x256.size a) (d : Fin 64) (l : Fin 256) :
    v.readAt (Elt Ideal) (Rect.unit off S1x1x64x256.size inb).toLoadRect f (ix4 0 0 d l) = v.read (Elt Ideal) f (ix4 0 n d l) := by
  subst heq
  rw [View.readAt_eq_ld]
  refine View.ld_unit_apply_of _ _ _ _ _ (ix4 0 n d l) fun a => ?_
  fin_cases a
  · rfl
  · rfl
  · exact (Nat.zero_add _).symm
  · exact (Nat.zero_add _).symm

/-- One block stored and read back at a row. -/
theorem store_block (v : View sig κ sp S1x8448x64 .f32) (f : v.ty.Contents (Elt Ideal)) {off : Fin S1x8448x64.rank → ℕ} (o : ℕ)
    (heq : off = ![0, o, 0]) (inb : ∀ a, off a + S1x256x64.size a ≤ S1x8448x64.size a) (ho : o + 256 ≤ 8448)
    (w : Vec Ideal S1x256x64 .f32) (L : List (View.Piece (Elt Ideal) S1x8448x64 .f32)) (g : Fin 8448 → Fin 64 → EReal)
    (hw : ∀ (l : Fin 256) (d : Fin 64), w (ix3 0 l d) = g ⟨o + l.val, by omega⟩ d) (j : Fin 8448) (d : Fin 64) :
    v.read (Elt Ideal) (v.writes (Elt Ideal) f (⟨Rect.unit off S1x256x64.size inb, w⟩ :: L)) (ix3 0 j d)
      = if o ≤ j.val ∧ j.val < o + 256 then g j d else v.read (Elt Ideal) (v.writes (Elt Ideal) f L) (ix3 0 j d) := by
  by_cases h : o ≤ j.val ∧ j.val < o + 256
  · rw [if_pos h]
    have hlt : j.val - o < 256 := by omega
    refine (View.read_writes_cons_unit_of_mem v f inb w L (ix3 0 j d) (ix3 0 ⟨j.val - o, hlt⟩ d) heq fun a => ?_).trans ?_
    · fin_cases a
      · rfl
      · show j.val = o + (j.val - o); omega
      · exact (Nat.zero_add _).symm
    · refine (hw ⟨j.val - o, hlt⟩ d).trans (congrArg (g · d) (Fin.ext ?_))
      show o + (j.val - o) = j.val; omega
  · rw [if_neg h]
    refine View.read_writes_cons_unit_of_not_mem v f inb w L (ix3 0 j d) heq (1 : Fin 3) ?_
    show j.val < o ∨ o + 256 ≤ j.val
    omega

/-- Three neighbouring blocks stored and read back at a row. -/
theorem store_blocks (v : View sig κ sp S1x8448x64 .f32) (f : v.ty.Contents (Elt Ideal)) {off0 off1 off2 : Fin S1x8448x64.rank → ℕ}
    (o : ℕ) (ho : o + 768 ≤ 8448) (h0 : off0 = ![0, o, 0]) (h1 : off1 = ![0, o + 256, 0]) (h2 : off2 = ![0, o + 512, 0])
    (i0 : ∀ a, off0 a + S1x256x64.size a ≤ S1x8448x64.size a) (i1 : ∀ a, off1 a + S1x256x64.size a ≤ S1x8448x64.size a)
    (i2 : ∀ a, off2 a + S1x256x64.size a ≤ S1x8448x64.size a)
    (w0 w1 w2 : Vec Ideal S1x256x64 .f32) (g : Fin 8448 → Fin 64 → EReal)
    (hw0 : ∀ (l : Fin 256) (d : Fin 64), w0 (ix3 0 l d) = g ⟨o + l.val, by omega⟩ d)
    (hw1 : ∀ (l : Fin 256) (d : Fin 64), w1 (ix3 0 l d) = g ⟨o + 256 + l.val, by omega⟩ d)
    (hw2 : ∀ (l : Fin 256) (d : Fin 64), w2 (ix3 0 l d) = g ⟨o + 512 + l.val, by omega⟩ d) (j : Fin 8448) (d : Fin 64) :
    v.read (Elt Ideal) (v.writes (Elt Ideal) f [⟨Rect.unit off2 S1x256x64.size i2, w2⟩, ⟨Rect.unit off1 S1x256x64.size i1, w1⟩,
        ⟨Rect.unit off0 S1x256x64.size i0, w0⟩]) (ix3 0 j d)
      = if o ≤ j.val ∧ j.val < o + 768 then g j d else v.read (Elt Ideal) f (ix3 0 j d) := by
  rw [store_block v f (o + 512) h2 i2 (by omega) w2 _ g hw2, store_block v f (o + 256) h1 i1 (by omega) w1 _ g hw1,
    store_block v f o h0 i0 (by omega) w0 _ g hw0, View.writes_nil]
  split_ifs <;> first | rfl | omega

end Blocks

variable (𝒱 : Variants) (c : Dev nD) (bd : Option 𝒱.V) (i : grid0.Coords)
  (arg2 : Memref sig .tc .vmem S1x512x64 .bf16) (harg2 : arg2.IsWhole)
  (arg3 : Memref sig .tc .vmem S1x64x512 .bf16) (harg3 : arg3.IsWhole)
  (arg4 : Memref sig .tc .vmem S1x8448x64 .bf16) (harg4 : arg4.IsWhole)
  (arg5 : Memref sig .tc .vmem S1x33x64x256 .bf16) (harg5 : arg5.IsWhole)
  (arg6 : Memref sig .tc .vmem S1x8448x64 .bf16) (harg6 : arg6.IsWhole)
  (arg7 : Memref sig .tc .vmem S1x512x64 .bf16) (harg7 : arg7.IsWhole)
  (arg8 : Memref sig .tc .vmem S1x64x512 .bf16) (harg8 : arg8.IsWhole)
  (arg9 : Memref sig .tc .vmem S1x64x512 .f32) (harg9 : arg9.IsWhole)
  (arg10 : Memref sig .tc .vmem S1x1x512 .f32) (harg10 : arg10.IsWhole)
  (arg11 : Memref sig .tc .vmem S1x64x512 .f32) (harg11 : arg11.IsWhole)
  (arg12 : Memref sig .tc .vmem S1x8448x64 .f32) (harg12 : arg12.IsWhole)
  (arg13 : Memref sig .tc .vmem S1x8448x64 .f32) (harg13 : arg13.IsWhole)
  (v3 : Vec Ideal S1x512x64 .bf16) (v7 : Vec Ideal S1x64x512 .bf16) (v11 : Vec Ideal S1x512x64 .bf16) (v13 : Vec Ideal S1x64x512 .bf16) (v16 : Vec Ideal S1x64x512 .f32) (v21 : Vec Ideal S1x1x512 .f32)
  (X4 : BufTy.Contents (Elt Ideal) arg4.view.ty) (X5 : BufTy.Contents (Elt Ideal) arg5.view.ty) (X6 : BufTy.Contents (Elt Ideal) arg6.view.ty)
  (k : Fin k0_t1_loop.trips) (acc : FVec Ideal S64x512 .f32) (f12 : BufTy.Contents (Elt Ideal) arg12.view.ty)
  (f13 : BufTy.Contents (Elt Ideal) arg13.view.ty)

theorem trips_eq : k0_t1_loop.trips = 11 := by decide +kernel

theorem tripR_at (d : Fin 64) (q : Fin 512) :
    tripR_k0_t1 𝒱 c bd i arg2 harg2 arg3 harg3 arg4 harg4 arg5 harg5 arg6 harg6 arg7 harg7 arg8 harg8 arg9 harg9 arg10 harg10 arg11 harg11 arg12 harg12 arg13 harg13 v3 v7 v11 v13 v16 v21 X4 X5 X6 k acc f12 f13 (ix2 d q)
      = acc (ix2 d q)
        + cdqN v7 v13 v16 v21 (arg4.view.read (Elt Ideal) X4) (arg6.view.read (Elt Ideal) X6) (arg5.view.read (Elt Ideal) X5) d q (3 * k.val)
        + cdqN v7 v13 v16 v21 (arg4.view.read (Elt Ideal) X4) (arg6.view.read (Elt Ideal) X6) (arg5.view.read (Elt Ideal) X5) d q (3 * k.val + 1)
        + cdqN v7 v13 v16 v21 (arg4.view.read (Elt Ideal) X4) (arg6.view.read (Elt Ideal) X6) (arg5.view.read (Elt Ideal) X5) d q (3 * k.val + 2) := by
  have hk : k.val < 11 := lt_of_lt_of_eq k.isLt trips_eq
  unfold tripR_k0_t1 trip_k0_t1
  dsimp only
  simp only [trip_k0_t1.sl.r, trip_k0_t1.sl.r_1, trip_k0_t1.sl.r_2, trip_k0_t1.sl.r_3, trip_k0_t1.sl.r_4, trip_k0_t1.sl.r_5,
    trip_k0_t1.sl.r_6, trip_k0_t1.sl.r_7, pay27_eq, pay13_eq, pay15_eq, pay8_eq, pay6_at]
  rw [cdqN, cdqN, cdqN, dif_pos (by omega), dif_pos (by omega), dif_pos (by omega), cdq, cdq, cdq]
  have e1 := fun (r : Fin 3) => k0_off1_eq k r
  have e2 := fun (r : Fin 3) => k0_off2_eq k r
  have hT : ∀ (r : Fin 3) (inb) (l : Fin 256), View.readAt (Elt Ideal) arg5.view
      (Rect.unit (s := S1x33x64x256) (k0_off2 k (BitVec.ofNat 32 r.val)) S1x1x64x256.size inb).toLoadRect X5 (ix4 0 0 d l)
      = arg5.view.read (Elt Ideal) X5 (ix4 0 ⟨3 * k.val + r.val, by omega⟩ d l) := fun r inb l =>
    load_blockT arg5.view X5 ⟨3 * k.val + r.val, by omega⟩ (e2 r) inb d l
  have hK : ∀ (r : Fin 3) (inb) (l : Fin 256), (fun x => View.readAt (Elt Ideal) arg4.view
      (Rect.unit (s := S1x8448x64) (k0_off1 k (BitVec.ofNat 32 r.val)) S1x256x64.size inb).toLoadRect X4 (ix3 0 l x))
      = row (arg4.view.read (Elt Ideal) X4) ⟨256 * (3 * k.val + r.val) + l.val, by omega⟩ := fun r inb l => funext fun x =>
    load_block arg4.view X4 _ (e1 r) inb l x _ (by show 256 * (3 * k.val + r.val) + l.val = _; omega)
  have hV : ∀ (r : Fin 3) (inb) (l : Fin 256), (fun x => View.readAt (Elt Ideal) arg6.view
      (Rect.unit (s := S1x8448x64) (k0_off1 k (BitVec.ofNat 32 r.val)) S1x256x64.size inb).toLoadRect X6 (ix3 0 l x))
      = row (arg6.view.read (Elt Ideal) X6) ⟨256 * (3 * k.val + r.val) + l.val, by omega⟩ := fun r inb l => funext fun x =>
    load_block arg6.view X6 _ (e1 r) inb l x _ (by show 256 * (3 * k.val + r.val) + l.val = _; omega)
  refine congrArg₂ (· + ·) (congrArg₂ (· + ·) (congrArg (_ + ·) ?_) ?_) ?_
  · refine Finset.sum_congr rfl fun l _ => ?_
    exact congrArg₂ (· * ·) (hT 0 _ l) (congrArg₂ (dsw v7 v13 v16 v21 · · q) (hK 0 _ l) (hV 0 _ l))
  · refine Finset.sum_congr rfl fun l _ => ?_
    exact congrArg₂ (· * ·) (hT 1 _ l) (congrArg₂ (dsw v7 v13 v16 v21 · · q) (hK 1 _ l) (hV 1 _ l))
  · refine Finset.sum_congr rfl fun l _ => ?_
    exact congrArg₂ (· * ·) (hT 2 _ l) (congrArg₂ (dsw v7 v13 v16 v21 · · q) (hK 2 _ l) (hV 2 _ l))

theorem tripL12_at (j : Fin 8448) (d : Fin 64) :
    arg12.view.read (Elt Ideal) (arg12.view.writes (Elt Ideal) f12 (tripL_k0_t1 𝒱 c bd i arg2 harg2 arg3 harg3 arg4 harg4 arg5 harg5 arg6 harg6 arg7 harg7 arg8 harg8 arg9 harg9 arg10 harg10 arg11 harg11 arg12 harg12 arg13 harg13 v3 v7 v11 v13 v16 v21 X4 X5 X6 k acc f12 f13).1) (ix3 0 j d)
      = if 768 * k.val ≤ j.val ∧ j.val < 768 * (k.val + 1) then arg12.view.read (Elt Ideal) f12 (ix3 0 j d)
          + cdk v3 v7 v13 v16 v21 (row (arg4.view.read (Elt Ideal) X4) j) (row (arg6.view.read (Elt Ideal) X6) j) d
        else arg12.view.read (Elt Ideal) f12 (ix3 0 j d) := by
  have hk : k.val < 11 := lt_of_lt_of_eq k.isLt trips_eq
  unfold tripL_k0_t1 trip_k0_t1
  dsimp only
  simp only [trip_k0_t1.sl.r, trip_k0_t1.sl.r_1, trip_k0_t1.sl.r_2, trip_k0_t1.sl.r_3, trip_k0_t1.sl.r_4, trip_k0_t1.sl.r_5,
    trip_k0_t1.sl.r_6, trip_k0_t1.sl.r_7, trip_k0_t1.sl.v104, pay15_eq, pay5_eq, pay12_eq]
  have e1 := fun (r : Fin 3) => k0_off1_eq k r
  have key : ∀ (r : Fin 3) (inb) (l : Fin 256) (d : Fin 64),
      k0_pay26 (F := Ideal) v3 (k0_pay3 (k0_pay20 v7) (k0_pay22 v13) (k0_pay23 v13 v16) (k0_pay24 v21)
        (View.readAt (Elt Ideal) arg4.view (Rect.unit (s := S1x8448x64) (k0_off1 k (BitVec.ofNat 32 r.val)) S1x256x64.size inb).toLoadRect X4)
        (View.readAt (Elt Ideal) arg6.view (Rect.unit (s := S1x8448x64) (k0_off1 k (BitVec.ofNat 32 r.val)) S1x256x64.size inb).toLoadRect X6))
        (View.readAt (Elt Ideal) arg12.view (Rect.unit (s := S1x8448x64) (k0_off1 k (BitVec.ofNat 32 r.val)) S1x256x64.size inb).toLoadRect f12)
        (ix3 0 l d)
      = (fun (j : Fin 8448) (d : Fin 64) => arg12.view.read (Elt Ideal) f12 (ix3 0 j d)
          + cdk v3 v7 v13 v16 v21 (row (arg4.view.read (Elt Ideal) X4) j) (row (arg6.view.read (Elt Ideal) X6) j) d)
          ⟨768 * k.val + 256 * r.val + l.val, by omega⟩ d := fun r inb l d => by
    rw [pay26_at]
    refine congrArg₂ (· + ·) (load_block arg12.view f12 _ (e1 r) inb l d _ rfl)
      (congrArg₂ (cdk v3 v7 v13 v16 v21 · · d) ?_ ?_)
    · exact funext fun x => load_block arg4.view X4 _ (e1 r) inb l x _ rfl
    · exact funext fun x => load_block arg6.view X6 _ (e1 r) inb l x _ rfl
  exact store_blocks arg12.view f12 (768 * k.val) (by omega) (e1 0) (e1 1) (e1 2) _ _ _ _ _ _
    (fun (j : Fin 8448) (d : Fin 64) => arg12.view.read (Elt Ideal) f12 (ix3 0 j d)
          + cdk v3 v7 v13 v16 v21 (row (arg4.view.read (Elt Ideal) X4) j) (row (arg6.view.read (Elt Ideal) X6) j) d)
    (key 0 _) (key 1 _) (key 2 _) j d

theorem tripL13_at (j : Fin 8448) (d : Fin 64) :
    arg13.view.read (Elt Ideal) (arg13.view.writes (Elt Ideal) f13 (tripL_k0_t1 𝒱 c bd i arg2 harg2 arg3 harg3 arg4 harg4 arg5 harg5 arg6 harg6 arg7 harg7 arg8 harg8 arg9 harg9 arg10 harg10 arg11 harg11 arg12 harg12 arg13 harg13 v3 v7 v11 v13 v16 v21 X4 X5 X6 k acc f12 f13).2) (ix3 0 j d)
      = if 768 * k.val ≤ j.val ∧ j.val < 768 * (k.val + 1) then arg13.view.read (Elt Ideal) f13 (ix3 0 j d)
          + cdv v7 v11 v21 (row (arg4.view.read (Elt Ideal) X4) j) d
        else arg13.view.read (Elt Ideal) f13 (ix3 0 j d) := by
  have hk : k.val < 11 := lt_of_lt_of_eq k.isLt trips_eq
  unfold tripL_k0_t1 trip_k0_t1
  dsimp only
  simp only [trip_k0_t1.sl.r, trip_k0_t1.sl.r_1, trip_k0_t1.sl.r_2, trip_k0_t1.sl.r_3, trip_k0_t1.sl.r_4, trip_k0_t1.sl.r_5,
    trip_k0_t1.sl.r_6, trip_k0_t1.sl.r_7, trip_k0_t1.sl.v94, trip_k0_t1.sl.v137, trip_k0_t1.sl.v147, pay16_eq, pay9_eq]
  have e1 := fun (r : Fin 3) => k0_off1_eq k r
  have key : ∀ (r : Fin 3) (inb) (l : Fin 256) (d : Fin 64),
      k0_pay4 (F := Ideal) (k0_pay20 v7) (k0_pay21 v11) (k0_pay24 v21)
        (View.readAt (Elt Ideal) arg4.view (Rect.unit (s := S1x8448x64) (k0_off1 k (BitVec.ofNat 32 r.val)) S1x256x64.size inb).toLoadRect X4)
        (View.readAt (Elt Ideal) arg13.view (Rect.unit (s := S1x8448x64) (k0_off1 k (BitVec.ofNat 32 r.val)) S1x256x64.size inb).toLoadRect f13)
        (ix3 0 l d)
      = (fun (j : Fin 8448) (d : Fin 64) => arg13.view.read (Elt Ideal) f13 (ix3 0 j d)
          + cdv v7 v11 v21 (row (arg4.view.read (Elt Ideal) X4) j) d)
          ⟨768 * k.val + 256 * r.val + l.val, by omega⟩ d := fun r inb l d => by
    rw [pay4_at]
    refine congrArg₂ (· + ·) (load_block arg13.view f13 _ (e1 r) inb l d _ rfl) (congrArg (cdv v7 v11 v21 · d) ?_)
    exact funext fun x => load_block arg4.view X4 _ (e1 r) inb l x _ rfl
  exact store_blocks arg13.view f13 (768 * k.val) (by omega) (e1 0) (e1 1) (e1 2) _ _ _ _ _ _
    (fun (j : Fin 8448) (d : Fin 64) => arg13.view.read (Elt Ideal) f13 (ix3 0 j d)
          + cdv v7 v11 v21 (row (arg4.view.read (Elt Ideal) X4) j) d)
    (key 0 _) (key 1 _) (key 2 _) j d

/-- The key loop after `n` trips. -/
theorem loop_at (n : ℕ) (hn : n ≤ 11) :
    (∀ (d : Fin 64) (q : Fin 512), (st_k0_t1 𝒱 c bd i arg2 harg2 arg3 harg3 arg4 harg4 arg5 harg5 arg6 harg6 arg7 harg7 arg8 harg8 arg9 harg9 arg10 harg10 arg11 harg11 arg12 harg12 arg13 harg13 v3 v7 v11 v13 v16 v21 X4 X5 X6 f12 f13 acc n).1 (ix2 d q) = acc (ix2 d q)
      + ∑ t ∈ Finset.range (3 * n), cdqN v7 v13 v16 v21 (arg4.view.read (Elt Ideal) X4) (arg6.view.read (Elt Ideal) X6) (arg5.view.read (Elt Ideal) X5) d q t)
    ∧ (∀ (j : Fin 8448) (d : Fin 64),
      arg12.view.read (Elt Ideal) (arg12.view.writes (Elt Ideal) f12 (st_k0_t1 𝒱 c bd i arg2 harg2 arg3 harg3 arg4 harg4 arg5 harg5 arg6 harg6 arg7 harg7 arg8 harg8 arg9 harg9 arg10 harg10 arg11 harg11 arg12 harg12 arg13 harg13 v3 v7 v11 v13 v16 v21 X4 X5 X6 f12 f13 acc n).2.1) (ix3 0 j d)
      = if j.val < 768 * n then arg12.view.read (Elt Ideal) f12 (ix3 0 j d)
          + cdk v3 v7 v13 v16 v21 (row (arg4.view.read (Elt Ideal) X4) j) (row (arg6.view.read (Elt Ideal) X6) j) d
        else arg12.view.read (Elt Ideal) f12 (ix3 0 j d))
    ∧ (∀ (j : Fin 8448) (d : Fin 64),
      arg13.view.read (Elt Ideal) (arg13.view.writes (Elt Ideal) f13 (st_k0_t1 𝒱 c bd i arg2 harg2 arg3 harg3 arg4 harg4 arg5 harg5 arg6 harg6 arg7 harg7 arg8 harg8 arg9 harg9 arg10 harg10 arg11 harg11 arg12 harg12 arg13 harg13 v3 v7 v11 v13 v16 v21 X4 X5 X6 f12 f13 acc n).2.2) (ix3 0 j d)
      = if j.val < 768 * n then arg13.view.read (Elt Ideal) f13 (ix3 0 j d)
          + cdv v7 v11 v21 (row (arg4.view.read (Elt Ideal) X4) j) d
        else arg13.view.read (Elt Ideal) f13 (ix3 0 j d)) := by
  induction n with
  | zero =>
    refine ⟨fun d q => ?_, fun j d => ?_, fun j d => ?_⟩
    · show acc (ix2 d q) = _; rw [Nat.mul_zero, Finset.sum_range_zero, add_zero]
    · rw [if_neg (by omega)]; rfl
    · rw [if_neg (by omega)]; rfl
  | succ n ih =>
    obtain ⟨h1, h2, h3⟩ := ih (by omega)
    have e := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 v3 v7 v11 v13 v16 v21 X4 X5 X6 f12 f13 acc ⟨n, lt_of_lt_of_eq (by omega) trips_eq.symm⟩
    dsimp only at e
    rw [e]
    dsimp only
    refine ⟨fun d q => ?_, fun j d => ?_, fun j d => ?_⟩
    · rw [tripR_at, h1, show 3 * (n + 1) = 3 * n + 1 + 1 + 1 from rfl, Finset.sum_range_succ, Finset.sum_range_succ, Finset.sum_range_succ]
      simp only [add_assoc]
    · rw [View.writes_append, tripL12_at, h2]
      dsimp only
      split_ifs <;> first | rfl | omega
    · rw [View.writes_append, tripL13_at, h3]
      dsimp only
      split_ifs <;> first | rfl | omega

end Cert.KernelIdeal.Attn

end
-- ==== Proof.Attn.Cases.lean ====
/- What one grid point leaves in its three output blocks. -/
module

public import proofs.«01_k».proof.Proof.Gen.KernelIdeal.Frame
public import proofs.«01_k».proof.Proof.Attn.Trip

@[expose] public section

set_option maxRecDepth 16384

noncomputable section

namespace Cert.KernelIdeal.Attn

open Cert.KernelIdeal Cert.KernelIdeal.Gen Idealize.ShloMosaic Idealize.ShloMosaic.TcCoe Idealize.SL.Sem

/-- The read of a whole buffer gives its contents back. -/
theorem readAt_whole3 {κ : Kind} {sp : Space} {S : Shape} {e : EltTy} (v : View sig κ sp S e) (f : v.ty.Contents (Elt Ideal))
    {off : Fin S.rank → ℕ} (h : off = fun _ => 0) (inb : ∀ a, off a + S.size a ≤ S.size a) :
    v.readAt (Elt Ideal) (Rect.unit off S.size inb).toLoadRect f = v.read (Elt Ideal) f := by
  rw [View.readAt_eq_ld, View.ld_unit_zero h]

/-- One store of a whole buffer read back. -/
theorem read_filled {κ : Kind} {sp : Space} {S : Shape} {e : EltTy} (v : View sig κ sp S e) (f : v.ty.Contents (Elt Ideal))
    {off : Fin S.rank → ℕ} (h : off = fun _ => 0) (inb : ∀ a, off a + S.size a ≤ S.size a) (w : S.Idx → Elt Ideal e) (y : S.Idx) :
    v.read (Elt Ideal) (v.writes (Elt Ideal) f [⟨Rect.unit off S.size inb, w⟩]) y = w y :=
  View.read_writes_cons_unit_of_mem v f inb w [] y y h fun a => (Nat.zero_add _).symm

theorem hz3 : (![0, 0, 0] : Fin 3 → ℕ) = fun _ => 0 := by
  funext a; fin_cases a <;> rfl

theorem trips_11 : Scf.trips (0#32) (Scalar.addi 0#32 11#32) 1#32 = 11 := by decide +kernel

/-- What the tile leaves in its block of the gradient of q. -/
def cdqAll (v7 v13 : Vec Ideal S1x64x512 .bf16) (v16 : Vec Ideal S1x64x512 .f32) (v21 : Vec Ideal S1x1x512 .f32)
    (K V : Vec Ideal S1x8448x64 .bf16) (T : Vec Ideal S1x33x64x256 .bf16) (d : Fin 64) (q : Fin 512) : EReal :=
  (∑ n : Fin 33, cdq v7 v13 v16 v21 K V T n d q) * Ideal.ofBits FTy.f32 0x3E000000#32

theorem sum_cdqN (v7 v13 : Vec Ideal S1x64x512 .bf16) (v16 : Vec Ideal S1x64x512 .f32) (v21 : Vec Ideal S1x1x512 .f32)
    (K V : Vec Ideal S1x8448x64 .bf16) (T : Vec Ideal S1x33x64x256 .bf16) (d : Fin 64) (q : Fin 512) :
    ∑ t ∈ Finset.range (3 * 11), cdqN v7 v13 v16 v21 K V T d q t = ∑ n : Fin 33, cdq v7 v13 v16 v21 K V T n d q := by
  rw [Finset.sum_range]
  exact Finset.sum_congr rfl fun n _ => dif_pos n.isLt

variable (c : Dev nD) (i : grid0.Coords)
  (arg2 : Memref sig .tc .vmem S1x512x64 .bf16) (harg2 : arg2.IsWhole)
  (arg3 : Memref sig .tc .vmem S1x64x512 .bf16) (harg3 : arg3.IsWhole)
  (arg4 : Memref sig .tc .vmem S1x8448x64 .bf16) (harg4 : arg4.IsWhole)
  (arg5 : Memref sig .tc .vmem S1x33x64x256 .bf16) (harg5 : arg5.IsWhole)
  (arg6 : Memref sig .tc .vmem S1x8448x64 .bf16) (harg6 : arg6.IsWhole)
  (arg7 : Memref sig .tc .vmem S1x512x64 .bf16) (harg7 : arg7.IsWhole)
  (arg8 : Memref sig .tc .vmem S1x64x512 .bf16) (harg8 : arg8.IsWhole)
  (arg9 : Memref sig .tc .vmem S1x64x512 .f32) (harg9 : arg9.IsWhole)
  (arg10 : Memref sig .tc .vmem S1x1x512 .f32) (harg10 : arg10.IsWhole)
  (arg11 : Memref sig .tc .vmem S1x64x512 .f32) (harg11 : arg11.IsWhole)
  (arg12 : Memref sig .tc .vmem S1x8448x64 .f32) (harg12 : arg12.IsWhole)
  (arg13 : Memref sig .tc .vmem S1x8448x64 .f32) (harg13 : arg13.IsWhole)
  (x0 : Vec Ideal S1x512x64 .bf16) (x1 : Vec Ideal S1x64x512 .bf16) (x2 : Vec Ideal S1x8448x64 .bf16) (x3 : Vec Ideal S1x33x64x256 .bf16)
  (x4 : Vec Ideal S1x8448x64 .bf16) (x5 : Vec Ideal S1x512x64 .bf16) (x6 : Vec Ideal S1x64x512 .bf16) (x7 : Vec Ideal S1x64x512 .f32)
  (x8 : Vec Ideal S1x1x512 .f32) (xo10 xo11 : Vec Ideal S1x8448x64 .f32)

theorem outA9_at (hc0 : cond0_0 i) (d : Fin 64) (q : Fin 512) :
    out0_A_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix3 0 d q) = cdqAll x1 x6 x7 x8 x2 x4 x3 d q := by
  unfold out0_A_9
  rw [View.read_writes_eq_canon _ _ _ (cover0_A_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  rw [View.canon_unit_zero (S := S1x64x512) hz3]
  unfold kernelRun0_A.sl.r
  rw [pay28_at, trips_11, (loop_at _ _ _ _ _ _ _ _ _ _ _ _ _ _ _ _ _ _ _ _ _ _ _ _ _ _ _ _ _ _ _ _ _ _ _ _ _ _ _ _ 11 le_rfl).1, sum_cdqN]
  simp only [readAt_whole3 (S := S1x512x64) _ _ hz3, readAt_whole3 (S := S1x64x512) _ _ hz3, readAt_whole3 (S := S1x1x512) _ _ hz3,
    harg2.read_unread, harg3.read_unread, harg4.read_unread, harg5.read_unread, harg6.read_unread, harg7.read_unread, harg8.read_unread, harg9.read_unread, harg10.read_unread, harg11.read_unread, harg12.read_unread, harg13.read_unread, pay25_at, zero_add]
  rfl

theorem outA10_at (hc0 : cond0_0 i) (j : Fin 8448) (d : Fin 64) :
    out0_A_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix3 0 j d) = cdk x0 x1 x6 x7 x8 (row x2 j) (row x4 j) d := by
  unfold out0_A_10
  rw [View.read_writes_eq_canon _ _ _ (cover0_A_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8),
    ← View.read_writes_eq_canon arg12.view arg12.view.junk _ (cover0_A_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  rw [View.writes_append, trips_11, (loop_at _ _ _ _ _ _ _ _ _ _ _ _ _ _ _ _ _ _ _ _ _ _ _ _ _ _ _ _ _ _ _ _ _ _ _ _ _ _ _ _ 11 le_rfl).2.1, if_pos (by have := j.isLt; omega)]
  unfold kernelRun0_A.sl.H10_1
  rw [read_filled _ _ hz3, pay17_at, zero_add]
  simp only [readAt_whole3 (S := S1x512x64) _ _ hz3, readAt_whole3 (S := S1x64x512) _ _ hz3, readAt_whole3 (S := S1x1x512) _ _ hz3,
    harg2.read_unread, harg3.read_unread, harg4.read_unread, harg5.read_unread, harg6.read_unread, harg7.read_unread, harg8.read_unread, harg9.read_unread, harg10.read_unread, harg11.read_unread, harg12.read_unread, harg13.read_unread]

theorem outA11_at (hc0 : cond0_0 i) (j : Fin 8448) (d : Fin 64) :
    out0_A_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix3 0 j d) = cdv x1 x5 x8 (row x2 j) d := by
  unfold out0_A_11
  rw [View.read_writes_eq_canon _ _ _ (cover0_A_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8),
    ← View.read_writes_eq_canon arg13.view arg13.view.junk _ (cover0_A_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  rw [View.writes_append, trips_11, (loop_at _ _ _ _ _ _ _ _ _ _ _ _ _ _ _ _ _ _ _ _ _ _ _ _ _ _ _ _ _ _ _ _ _ _ _ _ _ _ _ _ 11 le_rfl).2.2, if_pos (by have := j.isLt; omega)]
  unfold kernelRun0_A.sl.H11_1
  rw [read_filled _ _ hz3, pay18_at, zero_add]
  simp only [readAt_whole3 (S := S1x512x64) _ _ hz3, readAt_whole3 (S := S1x64x512) _ _ hz3, readAt_whole3 (S := S1x1x512) _ _ hz3,
    harg2.read_unread, harg3.read_unread, harg4.read_unread, harg5.read_unread, harg6.read_unread, harg7.read_unread, harg8.read_unread, harg9.read_unread, harg10.read_unread, harg11.read_unread, harg12.read_unread, harg13.read_unread]

theorem outB9_at (hc0 : ¬cond0_0 i) (d : Fin 64) (q : Fin 512) :
    out0_B_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 (ix3 0 d q) = cdqAll x1 x6 x7 x8 x2 x4 x3 d q := by
  unfold out0_B_9
  rw [View.read_writes_eq_canon _ _ _ (cover0_B_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11)]
  unfold kernelRun0_B
  dsimp only
  rw [View.canon_unit_zero (S := S1x64x512) hz3]
  unfold kernelRun0_B.sl.r
  rw [pay28_at, trips_11, (loop_at _ _ _ _ _ _ _ _ _ _ _ _ _ _ _ _ _ _ _ _ _ _ _ _ _ _ _ _ _ _ _ _ _ _ _ _ _ _ _ _ 11 le_rfl).1, sum_cdqN]
  simp only [readAt_whole3 (S := S1x512x64) _ _ hz3, readAt_whole3 (S := S1x64x512) _ _ hz3, readAt_whole3 (S := S1x1x512) _ _ hz3,
    harg2.read_unread, harg3.read_unread, harg4.read_unread, harg5.read_unread, harg6.read_unread, harg7.read_unread, harg8.read_unread, harg9.read_unread, harg10.read_unread, harg11.read_unread, harg12.read_unread, harg13.read_unread, pay25_at, zero_add]
  rfl

theorem outB10_at (hc0 : ¬cond0_0 i) (j : Fin 8448) (d : Fin 64) :
    out0_B_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 (ix3 0 j d) = xo10 (ix3 0 j d) + cdk x0 x1 x6 x7 x8 (row x2 j) (row x4 j) d := by
  unfold out0_B_10
  unfold kernelRun0_B
  dsimp only
  rw [trips_11, (loop_at _ _ _ _ _ _ _ _ _ _ _ _ _ _ _ _ _ _ _ _ _ _ _ _ _ _ _ _ _ _ _ _ _ _ _ _ _ _ _ _ 11 le_rfl).2.1, if_pos (by have := j.isLt; omega)]
  simp only [readAt_whole3 (S := S1x512x64) _ _ hz3, readAt_whole3 (S := S1x64x512) _ _ hz3, readAt_whole3 (S := S1x1x512) _ _ hz3,
    harg2.read_unread, harg3.read_unread, harg4.read_unread, harg5.read_unread, harg6.read_unread, harg7.read_unread, harg8.read_unread, harg9.read_unread, harg10.read_unread, harg11.read_unread, harg12.read_unread, harg13.read_unread]

theorem outB11_at (hc0 : ¬cond0_0 i) (j : Fin 8448) (d : Fin 64) :
    out0_B_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 (ix3 0 j d) = xo11 (ix3 0 j d) + cdv x1 x5 x8 (row x2 j) d := by
  unfold out0_B_11
  unfold kernelRun0_B
  dsimp only
  rw [trips_11, (loop_at _ _ _ _ _ _ _ _ _ _ _ _ _ _ _ _ _ _ _ _ _ _ _ _ _ _ _ _ _ _ _ _ _ _ _ _ _ _ _ _ 11 le_rfl).2.2, if_pos (by have := j.isLt; omega)]
  simp only [readAt_whole3 (S := S1x512x64) _ _ hz3, readAt_whole3 (S := S1x64x512) _ _ hz3, readAt_whole3 (S := S1x1x512) _ _ hz3,
    harg2.read_unread, harg3.read_unread, harg4.read_unread, harg5.read_unread, harg6.read_unread, harg7.read_unread, harg8.read_unread, harg9.read_unread, harg10.read_unread, harg11.read_unread, harg12.read_unread, harg13.read_unread]

end Cert.KernelIdeal.Attn

end
-- ==== Proof.Attn.Real.lean ====
/- Softmax attention over the real numbers, and the few facts about extended reals both programs' values need. -/
module

public import Idealize.ShloMosaic.Lib.Pointwise

@[expose] public section

noncomputable section

namespace Cert.Attn

open Idealize.ShloMosaic

theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem fold_max_real {ι : Type*} (s : Finset ι) (hs : s.Nonempty) (f : ι → ℝ) :
    ∃ M : ℝ, s.fold max (⊥ : EReal) (fun i => (f i : EReal)) = (M : EReal) := by
  classical
  induction hs using Finset.Nonempty.cons_induction with
  | singleton a => exact ⟨f a, by simp⟩
  | cons a s ha hs ih =>
    obtain ⟨M, hM⟩ := ih
    exact ⟨max (f a) M, by rw [Finset.fold_cons, hM]; exact (EReal.coe_strictMono.monotone.map_max).symm⟩

theorem eighth_bf16 : Ideal.ofBits FTy.bf16 15872#16 = ((1 / 8 : ℝ) : EReal) := by
  simp [Ideal.ofBits, Ideal.ieee, -EReal.coe_mul]; norm_num
theorem eighth_f32 : Ideal.ofBits FTy.f32 0x3E000000#32 = ((1 / 8 : ℝ) : EReal) := by
  simp [Ideal.ofBits, Ideal.ieee, -EReal.coe_mul]; norm_num
theorem neg_inf_f32 : Ideal.ofBits FTy.f32 0xFF800000#32 = ⊥ := by
  simp [Ideal.ofBits, Ideal.ieee]
theorem inf_f32 : Ideal.ofBits FTy.f32 0x7F800000#32 = ⊤ := by
  simp [Ideal.ofBits, Ideal.ieee]

theorem div_coe' (x y : ℝ) (h : y ≠ 0) : Ideal.div (x : EReal) (y : EReal) = ((x / y : ℝ) : EReal) := by
  rw [Ideal.div_coe h, ← EReal.coe_mul, mul_one_div]

section

variable {n : ℕ} (q o : Fin 64 → ℝ) (K V : Fin n → Fin 64 → ℝ)

/-- The score of a query row against key `j`. -/
def sR (j : Fin n) : ℝ := (∑ d, q d * K j d) * (1 / 8)

/-- The softmax probability. -/
def pR (j : Fin n) : ℝ := Real.exp (sR q K j) / ∑ i, Real.exp (sR q K i)

/-- The attention's output. -/
def oR (d : Fin 64) : ℝ := ∑ j, pR q K j * V j d

/-- The gradient of the score before the scale. -/
def dsR (j : Fin n) : ℝ := pR q K j * (∑ d, o d * V j d - ∑ i, pR q K i * ∑ d, o d * V i d)

theorem sum_exp_pos [NeZero n] (f : Fin n → ℝ) : 0 < ∑ i, Real.exp (f i) :=
  Finset.sum_pos (fun i _ => Real.exp_pos _) ⟨0, Finset.mem_univ _⟩

/-- Subtracting a number from every score changes no probability. -/
theorem div_shift [NeZero n] (M : ℝ) (j : Fin n) :
    Real.exp (sR q K j - M) / ∑ i, Real.exp (sR q K i - M) = pR q K j := by
  have h := sum_exp_pos (sR q K)
  have e : ∀ i, Real.exp (sR q K i - M) = Real.exp (sR q K i) * Real.exp (-M) := fun i => by rw [← Real.exp_add, sub_eq_add_neg]
  simp only [e, ← Finset.sum_mul]
  rw [pR, mul_div_mul_right _ _ (Real.exp_pos _).ne']

/-- The probability from the saved log-sum-exp. -/
theorem exp_lse [NeZero n] (M : ℝ) (j : Fin n) :
    Real.exp (sR q K j - (M + Real.log (∑ i, Real.exp (sR q K i - M)))) = pR q K j := by
  rw [← div_shift q K M j, ← sub_sub, Real.exp_sub, Real.exp_log (sum_exp_pos _)]

/-- The saved output's product with the output's gradient is the mean of the probabilities' gradients. -/
theorem delta_eq : ∑ d, o d * oR q K V d = ∑ i, pR q K i * ∑ d, o d * V i d := by
  simp only [oR, Finset.mul_sum]
  rw [Finset.sum_comm]
  exact Finset.sum_congr rfl fun i _ => Finset.sum_congr rfl fun d _ => by ring

/-- The gradient of a softmax written by the quotient rule. -/
theorem ds_quot [NeZero n] (M : ℝ) (j : Fin n) (dp e : Fin n → ℝ) (l : ℝ) (hdp : ∀ i, dp i = ∑ d, o d * V i d)
    (he : ∀ i, e i = Real.exp (sR q K i - M)) (hl : l = ∑ i, e i) :
    (dp j / l + -∑ i, dp i * (1 / (l * l)) * e i) * e j = dsR q o K V j := by
  have hp : ∀ i, pR q K i = e i / l := fun i => by
    rw [← div_shift q K M i, hl, he]; simp only [he]
  have h0 : l ≠ 0 := by
    rw [hl]; simp only [he]; exact (sum_exp_pos _).ne'
  simp only [dsR, hp, ← hdp]
  have : ∑ i, dp i * (1 / (l * l)) * e i = (∑ i, e i / l * dp i) / l := by
    rw [Finset.sum_div]; exact Finset.sum_congr rfl fun i _ => by field_simp
  rw [this]; ring

end

end Cert.Attn

end
-- ==== Proof.Attn.Entry.lean ====
/- The arrays the kernel's windows read, as functions of the program's arguments. -/
module

public import proofs.«01_k».proof.Proof.Gen.KernelIdeal.Frame
public import proofs.«01_k».proof.Proof.Attn.Real
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Attn

open Cert.KernelIdeal Cert.KernelIdeal.Gen Cert.Attn Idealize.ShloMosaic Idealize.ShloMosaic.TcCoe Idealize.SL.Sem

section Stages

variable (Y0 : FVec Ideal S2x4x8192x64 .f32) (X1 X2 : FVec Ideal S2x8448x64 .f32) (S E : FVec Ideal S2x32768x8448 .f32)
  (M L : FVec Ideal S2x32768x1 .f32)

/-- The scores, the groups' rows in one axis. -/
def scores : FVec Ideal S2x32768x8448 .f32 :=
  mulf (Host.dotGeneral dot_S2x32768x64_S2x8448x64_S2x32768x8448_2_2_1_1_0_0 none
      (fun i => shapeCast S2x32768x64 Y0 shapeCasts_S2x4x8192x64_S2x32768x64 i) X1)
    (broadcastInDim S2x32768x8448 ![] bcast_S_S2x32768x8448 (constant S_ .f32 0x3E000000#32))

/-- The maximum of a row of scores. -/
def maxs : FVec Ideal S2x32768x1 .f32 :=
  broadcastInDim S2x32768x1 ![0, 1] bcast_S2x32768_S2x32768x1_0_1
    (Host.reduce FloatOps.maximumf S (constant S_ .f32 0xFF800000#32) reducesTo_S2x32768x8448_S2x32768_d2 h_S_)

/-- The exponentials, the row's maximum subtracted. -/
def exps : FVec Ideal S2x32768x8448 .f32 :=
  Host.exp (subf S (broadcastInDim S2x32768x8448 ![0, 1, 2] bcast_S2x32768x1_S2x32768x8448_0_1_2 M))

/-- Their sums along the keys. -/
def sums : FVec Ideal S2x32768x1 .f32 :=
  broadcastInDim S2x32768x1 ![0, 1] bcast_S2x32768_S2x32768x1_0_1
    (Host.reduceAdd E (constant S_ .f32 0x00000000#32) reducesTo_S2x32768x8448_S2x32768_d2 h_S_)

/-- The forward's output, transposed. -/
def outs : FVec Ideal S2x64x32768 .f32 :=
  transpose S2x64x32768 [0, 2, 1] (Host.dotGeneral dot_S2x32768x8448_S2x8448x64_S2x32768x64_2_1_1_2_0_0 none
    (Host.divf E (broadcastInDim S2x32768x8448 ![0, 1, 2] bcast_S2x32768x1_S2x32768x8448_0_1_2 L)) X2)
    transposes_S2x32768x64_S2x64x32768_0_2_1

/-- The saved log-sum-exp, transposed. -/
def lses : FVec Ideal S2x1x32768 .f32 :=
  transpose S2x1x32768 [0, 2, 1] (addf M (Host.log L)) transposes_S2x32768x1_S2x1x32768_0_2_1

theorem scores_at (g : Fin 2) (n : Fin 32768) (j : Fin 8448) : scores Y0 X1 (ix3 g n j) =
    (∑ x, Y0 (ix4 g ⟨n.val / 8192, by omega⟩ ⟨n.val % 8192, by omega⟩ x) * X1 (ix3 g j x)) *
      Ideal.ofBits FTy.f32 0x3E000000#32 := by
  pointwise [scores]

theorem maxs_at (g : Fin 2) (n : Fin 32768) : maxs S (ix3 g n 0) =
    Finset.univ.fold max (Ideal.ofBits FTy.f32 0xFF800000#32) (fun x => S (ix3 g n x)) := by
  pointwise [maxs]

theorem exps_at (g : Fin 2) (n : Fin 32768) (j : Fin 8448) :
    exps S M (ix3 g n j) = Ideal.exp (S (ix3 g n j) - M (ix3 g n 0)) := by
  pointwise [exps]

theorem sums_at (g : Fin 2) (n : Fin 32768) : sums E (ix3 g n 0) = ∑ x, E (ix3 g n x) := by
  pointwise [sums]

theorem outs_at (g : Fin 2) (n : Fin 32768) (d : Fin 64) : outs X2 E L (ix3 g d n) =
    ∑ x, Ideal.div (E (ix3 g n x)) (L (ix3 g n 0)) * X2 (ix3 g x d) := by
  pointwise [outs]

theorem lses_at (g : Fin 2) (n : Fin 32768) : lses M L (ix3 g 0 n) = M (ix3 g n 0) + Ideal.log (L (ix3 g n 0)) := by
  pointwise [lses]

variable {Y0 X1 X2} {x0 : Fin 2 → Fin 4 → Fin 8192 → Fin 64 → ℝ} {x1 x2 : Fin 2 → Fin 8448 → Fin 64 → ℝ}
  (h0 : ∀ g r s d, Y0 (ix4 g r s d) = (x0 g r s d : EReal)) (h1 : ∀ g j d, X1 (ix3 g j d) = (x1 g j d : EReal))
  (h2 : ∀ g j d, X2 (ix3 g j d) = (x2 g j d : EReal))

include h0 h1 in
theorem scores_real (g : Fin 2) (n : Fin 32768) (j : Fin 8448) : scores Y0 X1 (ix3 g n j) =
    (sR (x0 g ⟨n.val / 8192, by omega⟩ ⟨n.val % 8192, by omega⟩) (x1 g) j : EReal) := by
  rw [scores_at, eighth_f32]
  simp only [h0, h1, ← EReal.coe_mul, coe_sum]
  rfl

include h0 h1 in
theorem maxs_real (g : Fin 2) (n : Fin 32768) : ∃ a : ℝ, maxs (scores Y0 X1) (ix3 g n 0) = (a : EReal) ∧
    (∀ j, exps (scores Y0 X1) (maxs (scores Y0 X1)) (ix3 g n j) =
      (Real.exp (sR (x0 g ⟨n.val / 8192, by omega⟩ ⟨n.val % 8192, by omega⟩) (x1 g) j - a) : EReal)) := by
  obtain ⟨a, ha⟩ := fold_max_real Finset.univ Finset.univ_nonempty
    (sR (x0 g ⟨n.val / 8192, by omega⟩ ⟨n.val % 8192, by omega⟩) (x1 g))
  have e : maxs (scores Y0 X1) (ix3 g n 0) = (a : EReal) := by
    rw [maxs_at, neg_inf_f32]
    simp only [scores_real h0 h1]
    exact ha
  refine ⟨a, e, fun j => ?_⟩
  rw [exps_at, e, scores_real h0 h1, ← EReal.coe_sub, Ideal.exp_coe]

include h0 h1 h2 in
theorem outs_real (g : Fin 2) (n : Fin 32768) (d : Fin 64) :
    outs X2 (exps (scores Y0 X1) (maxs (scores Y0 X1))) (sums (exps (scores Y0 X1) (maxs (scores Y0 X1)))) (ix3 g d n) =
      (oR (x0 g ⟨n.val / 8192, by omega⟩ ⟨n.val % 8192, by omega⟩) (x1 g) (x2 g) d : EReal) := by
  obtain ⟨a, ha, he⟩ := maxs_real h0 h1 g n
  rw [outs_at, sums_at]
  simp only [he, h2]
  rw [coe_sum]
  simp only [div_coe' _ _ (sum_exp_pos _).ne', div_shift, ← EReal.coe_mul]
  rw [coe_sum]
  rfl

include h0 h1 in
theorem lses_real (g : Fin 2) (n : Fin 32768) : ∃ a : ℝ,
    lses (maxs (scores Y0 X1)) (sums (exps (scores Y0 X1) (maxs (scores Y0 X1)))) (ix3 g 0 n) =
      ((a + Real.log (∑ i, Real.exp (sR (x0 g ⟨n.val / 8192, by omega⟩ ⟨n.val % 8192, by omega⟩) (x1 g) i - a)) : ℝ) : EReal) := by
  obtain ⟨a, ha, he⟩ := maxs_real h0 h1 g n
  refine ⟨a, ?_⟩
  rw [lses_at, sums_at, ha]
  simp only [he]
  rw [coe_sum, Ideal.log_coe, if_neg (not_le.mpr (sum_exp_pos _)), EReal.coe_add]

end Stages

variable (m : (ℓ : Loc nD τ sig) → Buf (Elt Ideal) ℓ) (c : Dev nD)

theorem V19_at (g : Fin 2) (n : Fin 32768) (d : Fin 64) : V m c main_v19 (ix3 g n d) =
    m ((c : Thread nD τ).loc main_arg0) (ix4 g ⟨n.val / 8192, by omega⟩ ⟨n.val % 8192, by omega⟩ d) := by
  entry_read; pointwise

theorem V20_at (g : Fin 2) (j : Fin 8448) (d : Fin 64) :
    V m c main_v20 (ix3 g j d) = m ((c : Thread nD τ).loc main_arg1) (ix3 g j d) := by
  entry_read; pointwise

theorem V21_at (g : Fin 2) (j : Fin 8448) (d : Fin 64) :
    V m c main_v21 (ix3 g j d) = m ((c : Thread nD τ).loc main_arg2) (ix3 g j d) := by
  entry_read; pointwise

theorem V22_at (g : Fin 2) (n : Fin 32768) (d : Fin 64) : V m c main_v22 (ix3 g d n) =
    m ((c : Thread nD τ).loc main_arg0) (ix4 g ⟨n.val / 8192, by omega⟩ ⟨n.val % 8192, by omega⟩ d) := by
  entry_read; pointwise

theorem V23_at (g : Fin 2) (n : Fin 32768) (d : Fin 64) : V m c main_v23 (ix3 g n d) =
    m ((c : Thread nD τ).loc main_arg3) (ix4 g ⟨n.val / 8192, by omega⟩ ⟨n.val % 8192, by omega⟩ d) := by
  entry_read; pointwise

theorem V26_at (g : Fin 2) (n : Fin 32768) (d : Fin 64) : V m c main_v26 (ix3 g d n) =
    m ((c : Thread nD τ).loc main_arg3) (ix4 g ⟨n.val / 8192, by omega⟩ ⟨n.val % 8192, by omega⟩ d) := by
  entry_read; pointwise

theorem V25_at (g : Fin 2) (b : Fin 33) (d : Fin 64) (l : Fin 256) : V m c main_v25 (ix4 g b d l) =
    m ((c : Thread nD τ).loc main_arg1) (ix3 g ⟨256 * b.val + l.val, by omega⟩ d) := by
  entry_read; pointwise
  exact congrArg (fun a => m ((c : Thread nD τ).loc main_arg1) (ix3 g a d)) (Fin.ext (by simp [mul_comm]))

theorem V15_eq : V m c main_v15 = outs (m ((c : Thread nD τ).loc main_arg2))
    (exps (scores (m ((c : Thread nD τ).loc main_arg0)) (m ((c : Thread nD τ).loc main_arg1)))
      (maxs (scores (m ((c : Thread nD τ).loc main_arg0)) (m ((c : Thread nD τ).loc main_arg1)))))
    (sums (exps (scores (m ((c : Thread nD τ).loc main_arg0)) (m ((c : Thread nD τ).loc main_arg1)))
      (maxs (scores (m ((c : Thread nD τ).loc main_arg0)) (m ((c : Thread nD τ).loc main_arg1)))))) := by
  entry_read; rfl

theorem V18_eq : V m c main_v18 =
    lses (maxs (scores (m ((c : Thread nD τ).loc main_arg0)) (m ((c : Thread nD τ).loc main_arg1))))
    (sums (exps (scores (m ((c : Thread nD τ).loc main_arg0)) (m ((c : Thread nD τ).loc main_arg1)))
      (maxs (scores (m ((c : Thread nD τ).loc main_arg0)) (m ((c : Thread nD τ).loc main_arg1)))))) := by
  entry_read; rfl

end Cert.KernelIdeal.Attn

end
-- ==== Proof.Attn.Blocks.lean ====
/- The blocks the windows read, as parts of their arrays. -/
module

public import proofs.«01_k».proof.Proof.Gen.KernelIdeal.Value
public import proofs.«01_k».proof.Proof.Attn.Cases
public import proofs.«01_k».proof.Proof.Attn.Entry

@[expose] public section

set_option maxRecDepth 16384

noncomputable section

namespace Cert.KernelIdeal.Attn

open Cert.KernelIdeal Cert.KernelIdeal.Gen Cert.Attn Idealize.ShloMosaic Idealize.ShloMosaic.TcCoe Idealize.SL.Sem

theorem idx : ∀ t : Fin cfg0.N, win0_0.index t = ![t.val / 64, t.val % 64, 0] ∧ win0_1.index t = ![t.val / 64, 0, t.val % 64] ∧
    win0_2.index t = ![t.val / 64, 0, 0] ∧ win0_3.index t = ![t.val / 64, 0, 0, 0] ∧ win0_4.index t = ![t.val / 64, 0, 0] ∧
    win0_5.index t = ![t.val / 64, t.val % 64, 0] ∧ win0_6.index t = ![t.val / 64, 0, t.val % 64] ∧
    win0_7.index t = ![t.val / 64, 0, t.val % 64] ∧ win0_8.index t = ![t.val / 64, 0, t.val % 64] ∧
    win0_9.index t = ![t.val / 64, 0, t.val % 64] ∧ win0_10.index t = ![t.val / 64, 0, 0] ∧ win0_11.index t = ![t.val / 64, 0, 0] :=
  (by decide +kernel : ∀ t : Fin grid0.N, _)

theorem lt_N (t : Fin cfg0.N) : t.val < 128 := t.isLt

/-- The batch of a grid point. -/
abbrev gT (t : Fin cfg0.N) : Fin 2 := ⟨t.val / 64, by have := lt_N t; omega⟩

/-- The row of a lane of a grid point's tile. -/
abbrev nT (t : Fin cfg0.N) (q : Fin 512) : Fin 32768 := ⟨512 * (t.val % 64) + q.val, by omega⟩

variable (m : (ℓ : Loc nD τ sig) → Buf (Elt Ideal) ℓ) (c : Dev nD)

theorem blk0 (t : Fin cfg0.N) (q : Fin 512) (d : Fin 64) : (iblk m c 0 t : FVec Ideal S1x512x64 .bf16) (ix3 0 q d) =
    V m c main_v19 (ix3 (gT t) (nT t q) d) := by
  unfold iblk
  generalize V m c = W
  blk_point [idx t]

theorem blk1 (t : Fin cfg0.N) (q : Fin 512) (d : Fin 64) : (iblk m c 1 t : FVec Ideal S1x64x512 .bf16) (ix3 0 d q) =
    V m c main_v22 (ix3 (gT t) d (nT t q)) := by
  unfold iblk
  generalize V m c = W
  blk_point [idx t]

theorem blk2 (t : Fin cfg0.N) (j : Fin 8448) (d : Fin 64) : (iblk m c 2 t : FVec Ideal S1x8448x64 .bf16) (ix3 0 j d) =
    V m c main_v20 (ix3 (gT t) j d) := by
  unfold iblk
  generalize V m c = W
  blk_point [idx t]

theorem blk3 (t : Fin cfg0.N) (b : Fin 33) (d : Fin 64) (l : Fin 256) : (iblk m c 3 t : FVec Ideal S1x33x64x256 .bf16) (ix4 0 b d l) =
    V m c main_v25 (ix4 (gT t) b d l) := by
  unfold iblk
  generalize V m c = W
  blk_point [idx t]

theorem blk4 (t : Fin cfg0.N) (j : Fin 8448) (d : Fin 64) : (iblk m c 4 t : FVec Ideal S1x8448x64 .bf16) (ix3 0 j d) =
    V m c main_v21 (ix3 (gT t) j d) := by
  unfold iblk
  generalize V m c = W
  blk_point [idx t]

theorem blk5 (t : Fin cfg0.N) (q : Fin 512) (d : Fin 64) : (iblk m c 5 t : FVec Ideal S1x512x64 .bf16) (ix3 0 q d) =
    V m c main_v23 (ix3 (gT t) (nT t q) d) := by
  unfold iblk
  generalize V m c = W
  blk_point [idx t]

theorem blk6 (t : Fin cfg0.N) (q : Fin 512) (d : Fin 64) : (iblk m c 6 t : FVec Ideal S1x64x512 .bf16) (ix3 0 d q) =
    V m c main_v26 (ix3 (gT t) d (nT t q)) := by
  unfold iblk
  generalize V m c = W
  blk_point [idx t]

theorem blk7 (t : Fin cfg0.N) (q : Fin 512) (d : Fin 64) : (iblk m c 7 t : FVec Ideal S1x64x512 .f32) (ix3 0 d q) =
    V m c main_v15 (ix3 (gT t) d (nT t q)) := by
  unfold iblk
  generalize V m c = W
  blk_point [idx t]

theorem blk8_of (W : (b : Ref sig Kind.tc) → Buf (Elt Ideal) ((c.tc : Thread nD τ).loc b)) (t : Fin cfg0.N) (q : Fin 512) :
    View.read (Elt Ideal) ((cfg0.win 8).blk t).view (W (Pipeline.arrRef spec0 8)) (ix3 0 0 q) =
    W main_v18 (ix3 (gT t) 0 (nT t q)) := by
  blk_point [idx t]

theorem blk8 (t : Fin cfg0.N) (q : Fin 512) : (iblk m c 8 t : FVec Ideal S1x1x512 .f32) (ix3 0 0 q) =
    V m c main_v18 (ix3 (gT t) 0 (nT t q)) := blk8_of c (V m c) t q

end Cert.KernelIdeal.Attn

end
-- ==== Proof.Attn.Values.lean ====
/- One grid point of the kernel, over real arguments. -/
module

public import proofs.«01_k».proof.Proof.Attn.Blocks

@[expose] public section

set_option maxRecDepth 16384

noncomputable section

namespace Cert.KernelIdeal.Attn

open Cert.KernelIdeal Cert.KernelIdeal.Gen Cert.Attn Idealize.ShloMosaic Idealize.ShloMosaic.TcCoe Idealize.SL.Sem

variable (m : (ℓ : Loc nD τ sig) → Buf (Elt Ideal) ℓ) (c : Dev nD)

section Point

variable (v3 : Vec Ideal S1x512x64 .bf16) (v7 : Vec Ideal S1x64x512 .bf16) (v11 : Vec Ideal S1x512x64 .bf16)
  (v13 : Vec Ideal S1x64x512 .bf16) (v16 : Vec Ideal S1x64x512 .f32) (v21 : Vec Ideal S1x1x512 .f32)
  (kr vr : Fin 64 → EReal) (q : Fin 512) (j : Fin 8448)
  {qv ov : Fin 64 → ℝ} {K W : Fin 8448 → Fin 64 → ℝ}

theorem pw_real (h7 : ∀ x, v7 (ix3 0 x q) = (qv x : EReal))
    (h21 : ∃ a : ℝ, v21 (ix3 0 0 q) = ((a + Real.log (∑ i, Real.exp (sR qv K i - a)) : ℝ) : EReal))
    (hk : ∀ x, kr x = (K j x : EReal)) : pw v7 v21 kr q = (pR qv K j : EReal) := by
  obtain ⟨a, ha⟩ := h21
  unfold pw sc8
  rw [ha, eighth_bf16]
  simp only [h7, hk, ← EReal.coe_mul]
  rw [coe_sum, ← EReal.coe_sub, Ideal.exp_coe, ← exp_lse qv K a j, sR, Finset.sum_mul]
  refine congrArg (fun b : ℝ => ((Real.exp (b - (a + Real.log (∑ i, Real.exp (sR qv K i - a)))) : ℝ) : EReal)) ?_
  exact Finset.sum_congr rfl fun x _ => by ring

theorem dsw_real (h7 : ∀ x, v7 (ix3 0 x q) = (qv x : EReal))
    (h21 : ∃ a : ℝ, v21 (ix3 0 0 q) = ((a + Real.log (∑ i, Real.exp (sR qv K i - a)) : ℝ) : EReal))
    (h13 : ∀ x, v13 (ix3 0 x q) = (ov x : EReal)) (h16 : ∀ x, v16 (ix3 0 x q) = (oR qv K W x : EReal))
    (hk : ∀ x, kr x = (K j x : EReal)) (hv : ∀ x, vr x = (W j x : EReal)) :
    dsw v7 v13 v16 v21 kr vr q = (dsR qv ov K W j : EReal) := by
  unfold dsw
  rw [pw_real v7 v21 kr q j h7 h21 hk]
  simp only [h13, h16, hv, ← EReal.coe_mul]
  rw [coe_sum, coe_sum, ← EReal.coe_sub, ← EReal.coe_mul, dsR, delta_eq]
  refine congrArg (fun b : ℝ => ((pR qv K j * (b - _) : ℝ) : EReal)) ?_
  exact Finset.sum_congr rfl fun x _ => by ring

end Point

variable {x0 x3 : Fin 2 → Fin 4 → Fin 8192 → Fin 64 → ℝ} {x1 x2 : Fin 2 → Fin 8448 → Fin 64 → ℝ}
  (h0 : ∀ g r s d, m ((c : Thread nD τ).loc main_arg0) (ix4 g r s d) = (x0 g r s d : EReal))
  (h1 : ∀ g j d, m ((c : Thread nD τ).loc main_arg1) (ix3 g j d) = (x1 g j d : EReal))
  (h2 : ∀ g j d, m ((c : Thread nD τ).loc main_arg2) (ix3 g j d) = (x2 g j d : EReal))
  (h3 : ∀ g r s d, m ((c : Thread nD τ).loc main_arg3) (ix4 g r s d) = (x3 g r s d : EReal))

/-- The values of one row, the groups' rows in one axis. -/
abbrev flat (x : Fin 2 → Fin 4 → Fin 8192 → Fin 64 → ℝ) (g : Fin 2) (n : Fin 32768) : Fin 64 → ℝ :=
  x g ⟨n.val / 8192, by omega⟩ ⟨n.val % 8192, by omega⟩

include h0 h1 in
theorem pt_p (t : Fin cfg0.N) (q : Fin 512) (j : Fin 8448) :
    pw (iblk m c 1 t) (iblk m c 8 t) (row (iblk m c 2 t) j) q = (pR (flat x0 (gT t) (nT t q)) (x1 (gT t)) j : EReal) := by
  refine pw_real _ _ _ q j (fun x => ?_) ?_ (fun x => ?_)
  · exact (blk1 m c t q x).trans ((V22_at m c _ _ _).trans (h0 _ _ _ _))
  · obtain ⟨a, ha⟩ := lses_real h0 h1 (gT t) (nT t q)
    exact ⟨a, (blk8 m c t q).trans ((congrFun (V18_eq m c) _).trans ha)⟩
  · exact (blk2 m c t j x).trans ((V20_at m c _ _ _).trans (h1 _ _ _))

include h0 h1 h2 h3 in
theorem pt_ds (t : Fin cfg0.N) (q : Fin 512) (j : Fin 8448) :
    dsw (iblk m c 1 t) (iblk m c 6 t) (iblk m c 7 t) (iblk m c 8 t) (row (iblk m c 2 t) j) (row (iblk m c 4 t) j) q =
      (dsR (flat x0 (gT t) (nT t q)) (flat x3 (gT t) (nT t q)) (x1 (gT t)) (x2 (gT t)) j : EReal) := by
  refine dsw_real _ _ _ _ _ _ q j (fun x => ?_) ?_ (fun x => ?_) (fun x => ?_) (fun x => ?_) (fun x => ?_)
  · exact (blk1 m c t q x).trans ((V22_at m c _ _ _).trans (h0 _ _ _ _))
  · obtain ⟨a, ha⟩ := lses_real h0 h1 (gT t) (nT t q)
    exact ⟨a, (blk8 m c t q).trans ((congrFun (V18_eq m c) _).trans ha)⟩
  · exact (blk6 m c t q x).trans ((V26_at m c _ _ _).trans (h3 _ _ _ _))
  · exact (blk7 m c t q x).trans ((congrFun (V15_eq m c) _).trans (outs_real h0 h1 h2 _ _ _))
  · exact (blk2 m c t j x).trans ((V20_at m c _ _ _).trans (h1 _ _ _))
  · exact (blk4 m c t j x).trans ((V21_at m c _ _ _).trans (h2 _ _ _))

include h0 h1 h3 in
theorem pt_dv (t : Fin cfg0.N) (j : Fin 8448) (d : Fin 64) :
    cdv (iblk m c 1 t) (iblk m c 5 t) (iblk m c 8 t) (row (iblk m c 2 t) j) d =
      ((∑ q, pR (flat x0 (gT t) (nT t q)) (x1 (gT t)) j * flat x3 (gT t) (nT t q) d : ℝ) : EReal) := by
  rw [cdv, ← coe_sum]
  refine Finset.sum_congr rfl fun q _ => ?_
  rw [pt_p m c h0 h1 t q j, EReal.coe_mul]
  exact congrArg _ ((blk5 m c t q d).trans ((V23_at m c _ _ _).trans (h3 _ _ _ _)))

include h0 h1 h2 h3 in
theorem pt_dk (t : Fin cfg0.N) (j : Fin 8448) (d : Fin 64) :
    cdk (iblk m c 0 t) (iblk m c 1 t) (iblk m c 6 t) (iblk m c 7 t) (iblk m c 8 t) (row (iblk m c 2 t) j) (row (iblk m c 4 t) j) d =
      ((∑ q, dsR (flat x0 (gT t) (nT t q)) (flat x3 (gT t) (nT t q)) (x1 (gT t)) (x2 (gT t)) j *
        (flat x0 (gT t) (nT t q) d * (1 / 8)) : ℝ) : EReal) := by
  rw [cdk, ← coe_sum]
  refine Finset.sum_congr rfl fun q _ => ?_
  rw [pt_ds m c h0 h1 h2 h3 t q j, EReal.coe_mul, EReal.coe_mul, ← eighth_bf16]
  exact congrArg (fun a => _ * (a * sc8)) ((blk0 m c t q d).trans ((V19_at m c _ _ _).trans (h0 _ _ _ _)))

include h0 h1 h2 h3 in
theorem pt_dq (t : Fin cfg0.N) (d : Fin 64) (q : Fin 512) :
    cdqAll (iblk m c 1 t) (iblk m c 6 t) (iblk m c 7 t) (iblk m c 8 t) (iblk m c 2 t) (iblk m c 4 t) (iblk m c 3 t) d q =
      (((∑ j, x1 (gT t) j d * dsR (flat x0 (gT t) (nT t q)) (flat x3 (gT t) (nT t q)) (x1 (gT t)) (x2 (gT t)) j) *
        (1 / 8) : ℝ) : EReal) := by
  rw [cdqAll, eighth_f32, EReal.coe_mul]
  refine congrArg (· * _) ?_
  rw [← coe_sum]
  simp only [cdq]
  refine Fin.sum_mul_add_congr fun n l hl => ?_
  rw [EReal.coe_mul]
  have e : (⟨256 * n.val + l.val, by omega⟩ : Fin 8448) = ⟨n.val * 256 + l.val, hl⟩ := Fin.ext (by simp [mul_comm])
  rw [pt_ds m c h0 h1 h2 h3 t q, e]
  refine congrArg (· * _) ?_
  exact (blk3 m c t n d l).trans ((V25_at m c _ _ _ _).trans ((h1 _ _ _).trans (by rw [e])))

/-- One kind of sum over a grid's tiles and their lanes, over groups and rows. -/
theorem sum_tiles (F : Fin 32768 → ℝ) (G : Fin 64 → Fin 512 → ℝ) (hG : ∀ s q, G s q = F ⟨512 * s.val + q.val, by omega⟩) :
    ∑ s, ∑ q, G s q = ∑ n, F n := by
  refine Fin.sum_mul_add_congr fun s q hl => ?_
  rw [hG]; exact congrArg F (Fin.ext (by simp [mul_comm]))

end Cert.KernelIdeal.Attn

end
-- ==== Proof.Attn.Points.lean ====
/- What one grid point leaves in each output block. -/
module

public import proofs.«01_k».proof.Proof.Attn.Cases
public import proofs.«01_k».proof.Proof.Gen.KernelIdeal.Frame

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ) (c : Dev nD)

theorem outs9_zero (t : Fin cfg0.N) (h : t.val % 64 = 0) (d : Fin 64) (q : Fin 512) :
    ((outsAt0 m c t.val t.isLt).1 : FVec Ideal S1x64x512 .f32) (ix3 0 d q) =
      cdqAll (iblk m c 1 t) (iblk m c 6 t) (iblk m c 7 t) (iblk m c 8 t) (iblk m c 2 t) (iblk m c 4 t) (iblk m c 3 t) d q := by
  have e := outA9_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) ((hcond0_0 t).mpr h) d q
  rw [outsAt0_A m c t h]
  dsimp only
  exact e

theorem outs9_step (t : Fin cfg0.N) (h : ¬t.val % 64 = 0) (d : Fin 64) (q : Fin 512) :
    ((outsAt0 m c t.val t.isLt).1 : FVec Ideal S1x64x512 .f32) (ix3 0 d q) =
      cdqAll (iblk m c 1 t) (iblk m c 6 t) (iblk m c 7 t) (iblk m c 8 t) (iblk m c 2 t) (iblk m c 4 t) (iblk m c 3 t) d q := by
  have e := outB9_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2 (fun h' => h ((hcond0_0 t).mp h')) d q
  rw [outsAt0_B m c t h]
  dsimp only
  exact e

theorem outs9_at (t : Fin cfg0.N) (d : Fin 64) (q : Fin 512) :
    ((outsAt0 m c t.val t.isLt).1 : FVec Ideal S1x64x512 .f32) (ix3 0 d q) =
      cdqAll (iblk m c 1 t) (iblk m c 6 t) (iblk m c 7 t) (iblk m c 8 t) (iblk m c 2 t) (iblk m c 4 t) (iblk m c 3 t) d q := by
  by_cases h : t.val % 64 = 0
  · exact outs9_zero m c t h d q
  · exact outs9_step m c t h d q

theorem outs10_zero (t : Fin cfg0.N) (h : t.val % 64 = 0) (j : Fin 8448) (d : Fin 64) :
    ((outsAt0 m c t.val t.isLt).2.1 : FVec Ideal S1x8448x64 .f32) (ix3 0 j d) =
      cdk (iblk m c 0 t) (iblk m c 1 t) (iblk m c 6 t) (iblk m c 7 t) (iblk m c 8 t) (row (iblk m c 2 t) j) (row (iblk m c 4 t) j) d := by
  rw [outsAt0_A m c t h]
  exact outA10_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) ((hcond0_0 t).mpr h) j d

theorem outs10_step (t : Fin cfg0.N) (h : ¬t.val % 64 = 0) (j : Fin 8448) (d : Fin 64) :
    ((outsAt0 m c t.val t.isLt).2.1 : FVec Ideal S1x8448x64 .f32) (ix3 0 j d) =
      ((outsAt0 m c (t.val - 1) (Nat.lt_of_le_of_lt (Nat.sub_le _ _) t.isLt)).2.1 : FVec Ideal S1x8448x64 .f32) (ix3 0 j d) +
      cdk (iblk m c 0 t) (iblk m c 1 t) (iblk m c 6 t) (iblk m c 7 t) (iblk m c 8 t) (row (iblk m c 2 t) j) (row (iblk m c 4 t) j) d := by
  rw [outsAt0_B m c t h]
  exact outB10_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2 (fun h' => h ((hcond0_0 t).mp h')) j d

theorem outs11_zero (t : Fin cfg0.N) (h : t.val % 64 = 0) (j : Fin 8448) (d : Fin 64) :
    ((outsAt0 m c t.val t.isLt).2.2 : FVec Ideal S1x8448x64 .f32) (ix3 0 j d) =
      cdv (iblk m c 1 t) (iblk m c 5 t) (iblk m c 8 t) (row (iblk m c 2 t) j) d := by
  rw [outsAt0_A m c t h]
  exact outA11_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) ((hcond0_0 t).mpr h) j d

theorem outs11_step (t : Fin cfg0.N) (h : ¬t.val % 64 = 0) (j : Fin 8448) (d : Fin 64) :
    ((outsAt0 m c t.val t.isLt).2.2 : FVec Ideal S1x8448x64 .f32) (ix3 0 j d) =
      ((outsAt0 m c (t.val - 1) (Nat.lt_of_le_of_lt (Nat.sub_le _ _) t.isLt)).2.2 : FVec Ideal S1x8448x64 .f32) (ix3 0 j d) +
      cdv (iblk m c 1 t) (iblk m c 5 t) (iblk m c 8 t) (row (iblk m c 2 t) j) d := by
  rw [outsAt0_B m c t h]
  exact outB11_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2 (fun h' => h ((hcond0_0 t).mp h')) j d

end Cert.KernelIdeal.Attn

end
-- ==== Proof.Attn.Arrays.lean ====
/- The kernel's three result arrays, over real arguments. -/
module

public import proofs.«01_k».proof.Proof.Attn.Values
public import proofs.«01_k».proof.Proof.Attn.Points

@[expose] public section

set_option maxRecDepth 16384

noncomputable section

namespace Cert.KernelIdeal.Attn

open Cert.KernelIdeal Cert.KernelIdeal.Gen Cert.Attn Idealize.ShloMosaic Idealize.ShloMosaic.TcCoe Idealize.SL.Sem

variable (m : (ℓ : Loc nD τ sig) → Buf (Elt Ideal) ℓ) (c : Dev nD)
  (x0 x3 : Fin 2 → Fin 4 → Fin 8192 → Fin 64 → ℝ) (x1 x2 : Fin 2 → Fin 8448 → Fin 64 → ℝ)
  (h0 : ∀ g r s d, m ((c : Thread nD τ).loc main_arg0) (ix4 g r s d) = (x0 g r s d : EReal))
  (h1 : ∀ g j d, m ((c : Thread nD τ).loc main_arg1) (ix3 g j d) = (x1 g j d : EReal))
  (h2 : ∀ g j d, m ((c : Thread nD τ).loc main_arg2) (ix3 g j d) = (x2 g j d : EReal))
  (h3 : ∀ g r s d, m ((c : Thread nD τ).loc main_arg3) (ix4 g r s d) = (x3 g r s d : EReal))

/-- The gradient of q. -/
def gradQ : FVec Ideal S2x64x32768 .f32 := fun i =>
  (((∑ j, x1 (i 0) j (i 1) * dsR (flat x0 (i 0) (i 2)) (flat x3 (i 0) (i 2)) (x1 (i 0)) (x2 (i 0)) j) * (1 / 8) : ℝ) : EReal)

/-- The gradient of k. -/
def gradK : FVec Ideal S2x8448x64 .f32 := fun i =>
  ((∑ n, dsR (flat x0 (i 0) n) (flat x3 (i 0) n) (x1 (i 0)) (x2 (i 0)) (i 1) * (flat x0 (i 0) n (i 2) * (1 / 8)) : ℝ) : EReal)

/-- The gradient of v. -/
def gradV : FVec Ideal S2x8448x64 .f32 := fun i =>
  ((∑ n, pR (flat x0 (i 0) n) (x1 (i 0)) (i 1) * flat x3 (i 0) n (i 2) : ℝ) : EReal)

theorem idx_eq9 (y : S1x64x512.Idx) : y = ix3 0 (y 1) (y 2) := by
  funext a
  fin_cases a
  · exact Subsingleton.elim (α := Fin 1) _ _
  · rfl
  · rfl

theorem idx_eq (y : S1x8448x64.Idx) : y = ix3 0 (y 1) (y 2) := by
  funext a
  fin_cases a
  · exact Subsingleton.elim (α := Fin 1) _ _
  · rfl
  · rfl

include h0 h1 h2 h3 in
theorem arr9 : (dats m 0 c).arrAt 9 cfg0.N = gradQ x0 x3 x1 x2 := by
  refine (dats m 0 c).arrAt_eq_of_covers 9 _ (by decide +kernel) fun t _ y => ?_
  blk_simp
  rw [after0_9]
  have hy : (y : S1x64x512.Idx) = ix3 0 (y 1) (y 2) := idx_eq9 y
  refine ((congrArg ((outsAt0 m c t.val t.isLt).1 : FVec Ideal S1x64x512 .f32) hy).trans
    ((outs9_at m c t (y 1) (y 2)).trans (pt_dq m c h0 h1 h2 h3 t (y 1) (y 2)))).trans ?_
  show gradQ x0 x3 x1 x2 (ix3 (gT t) (y 1) (nT t (y 2))) = _
  generalize gradQ x0 x3 x1 x2 = G
  blk_ext [idx t]

/-- What a point adds to the gradient of k. -/
def term10 (t : Fin cfg0.N) (i : S1x8448x64.Idx) : EReal :=
  cdk (iblk m c 0 t) (iblk m c 1 t) (iblk m c 6 t) (iblk m c 7 t) (iblk m c 8 t) (row (iblk m c 2 t) (i 1)) (row (iblk m c 4 t) (i 1)) (i 2)

/-- One row's part of the gradient of k. -/
abbrev partK (g : Fin 2) (j : Fin 8448) (d : Fin 64) (n : Fin 32768) : ℝ :=
  dsR (flat x0 g n) (flat x3 g n) (x1 g) (x2 g) j * (flat x0 g n d * (1 / 8))

include h0 h1 h2 h3 in
theorem arr10 : (dats m 0 c).arrAt 10 cfg0.N = gradK x0 x3 x1 x2 := by
  refine (dats m 0 c).arrAt_eq_of_covers 10 _ (by decide +kernel) fun t hf y => ?_
  blk_simp
  rw [after0_10]
  have hr := (flush0_10 t).mp hf
  refine (Pipeline.eq_sum_fin_of_reset_step_apply_of_flush
    (fun n h => ((outsAt0 m c n h).2.1 : FVec Ideal S1x8448x64 .f32)) 64 (fun _ => 0) (term10 m c)
    (fun t h i => ?_) (fun t h i => ?_) t hr y).trans ?_
  · rw [idx_eq i, zero_add]; exact outs10_zero m c t h _ _
  · rw [idx_eq i]; exact outs10_step m c t h _ _
  · rw [zero_add]
    have hs : ∀ s : Fin 64, term10 m c ⟨64 * (t.val / 64) + s.val, Pipeline.run_point_lt_of_flush t hr s⟩ y =
        ((∑ q : Fin 512, partK x0 x3 x1 x2 (gT t) (y 1) (y 2) ⟨512 * s.val + q.val, by omega⟩ : ℝ) : EReal) := fun s => by
      unfold term10
      refine (pt_dk m c h0 h1 h2 h3 _ _ _).trans ?_
      have e1 : gT ⟨64 * (t.val / 64) + s.val, Pipeline.run_point_lt_of_flush t hr s⟩ = gT t := Fin.ext (by
        show (64 * (t.val / 64) + s.val) / 64 = t.val / 64; omega)
      have e2 : ∀ q, nT ⟨64 * (t.val / 64) + s.val, Pipeline.run_point_lt_of_flush t hr s⟩ q = ⟨512 * s.val + q.val, by omega⟩ :=
        fun q => Fin.ext (by show 512 * ((64 * (t.val / 64) + s.val) % 64) + q.val = 512 * s.val + q.val; omega)
      simp only [e1, e2]
    refine (Finset.sum_congr rfl fun s _ => hs s).trans ?_
    rw [coe_sum, sum_tiles (partK x0 x3 x1 x2 (gT t) (y 1) (y 2)) _ fun _ _ => rfl]
    show gradK x0 x3 x1 x2 (ix3 (gT t) (y 1) (y 2)) = _
    generalize gradK x0 x3 x1 x2 = G
    blk_ext [idx t]

/-- What a point adds to the gradient of v. -/
def term11 (t : Fin cfg0.N) (i : S1x8448x64.Idx) : EReal :=
  cdv (iblk m c 1 t) (iblk m c 5 t) (iblk m c 8 t) (row (iblk m c 2 t) (i 1)) (i 2)

/-- One row's part of the gradient of v. -/
abbrev partV (g : Fin 2) (j : Fin 8448) (d : Fin 64) (n : Fin 32768) : ℝ :=
  pR (flat x0 g n) (x1 g) j * flat x3 g n d

include h0 h1 h3 in
theorem arr11 : (dats m 0 c).arrAt 11 cfg0.N = gradV x0 x3 x1 := by
  refine (dats m 0 c).arrAt_eq_of_covers 11 _ (by decide +kernel) fun t hf y => ?_
  blk_simp
  rw [after0_11]
  have hr := (flush0_11 t).mp hf
  refine (Pipeline.eq_sum_fin_of_reset_step_apply_of_flush
    (fun n h => ((outsAt0 m c n h).2.2 : FVec Ideal S1x8448x64 .f32)) 64 (fun _ => 0) (term11 m c)
    (fun t h i => ?_) (fun t h i => ?_) t hr y).trans ?_
  · rw [idx_eq i, zero_add]; exact outs11_zero m c t h _ _
  · rw [idx_eq i]; exact outs11_step m c t h _ _
  · rw [zero_add]
    have hs : ∀ s : Fin 64, term11 m c ⟨64 * (t.val / 64) + s.val, Pipeline.run_point_lt_of_flush t hr s⟩ y =
        ((∑ q : Fin 512, partV x0 x3 x1 (gT t) (y 1) (y 2) ⟨512 * s.val + q.val, by omega⟩ : ℝ) : EReal) := fun s => by
      unfold term11
      refine (pt_dv m c h0 h1 h3 _ _ _).trans ?_
      have e1 : gT ⟨64 * (t.val / 64) + s.val, Pipeline.run_point_lt_of_flush t hr s⟩ = gT t := Fin.ext (by
        show (64 * (t.val / 64) + s.val) / 64 = t.val / 64; omega)
      have e2 : ∀ q, nT ⟨64 * (t.val / 64) + s.val, Pipeline.run_point_lt_of_flush t hr s⟩ q = ⟨512 * s.val + q.val, by omega⟩ :=
        fun q => Fin.ext (by show 512 * ((64 * (t.val / 64) + s.val) % 64) + q.val = 512 * s.val + q.val; omega)
      simp only [e1, e2]
    refine (Finset.sum_congr rfl fun s _ => hs s).trans ?_
    rw [coe_sum, sum_tiles (partV x0 x3 x1 (gT t) (y 1) (y 2)) _ fun _ _ => rfl]
    show gradV x0 x3 x1 (ix3 (gT t) (y 1) (y 2)) = _
    generalize gradV x0 x3 x1 = G
    blk_ext [idx t]

end Cert.KernelIdeal.Attn

end
-- ==== Proof.Attn.RefVal.lean ====
/- The reference's three gradients at an index, over real arguments. -/
module

public import proofs.«01_k».proof.Proof.Gen.ReferenceIdeal.Run
public import proofs.«01_k».proof.Proof.Attn.Real

@[expose] public section

set_option maxRecDepth 16384

noncomputable section

namespace Cert.ReferenceIdeal.Attn

open Cert.ReferenceIdeal Cert.ReferenceIdeal.Gen Cert.Attn Idealize.ShloMosaic Idealize.ShloMosaic.TcCoe Idealize.SL.Sem

variable (X0 X3 : FVec Ideal S2x4x8192x64 .f32) (X1 X2 : FVec Ideal S2x8448x64 .f32)
  (S E P DP DS : FVec Ideal S2x4x8192x8448 .f32) (L : FVec Ideal S2x4x8192x1 .f32) (M : FVec Ideal S2x4x8192 .f32)

/-- The scores. -/
def scores : FVec Ideal S2x4x8192x8448 .f32 :=
  mulf (Host.dotGeneral dot_S2x4x8192x64_S2x8448x64_S2x4x8192x8448_3_2_12_1_0_0 none X0 X1)
    (broadcastInDim S2x4x8192x8448 ![] bcast_S_S2x4x8192x8448 (constant S_ .f32 0x3E000000#32))

/-- The maximum of a row of scores. -/
def maxs : FVec Ideal S2x4x8192 .f32 :=
  Host.reduce FloatOps.maximumf S (constant S_ .f32 0xFF800000#32) reducesTo_S2x4x8192x8448_S2x4x8192_d3 h_S_

/-- Their exponentials, the row's maximum subtracted. -/
def exps : FVec Ideal S2x4x8192x8448 .f32 :=
  Host.exp (subf S (broadcastInDim S2x4x8192x8448 ![0, 1, 2, 3] bcast_S2x4x8192x1_S2x4x8192x8448_0_1_2_3
    (broadcastInDim S2x4x8192x1 ![0, 1, 2] bcast_S2x4x8192_S2x4x8192x1_0_1_2
      (maximumf (broadcastInDim S2x4x8192 ![] bcast_S_S2x4x8192 (constant S_ .f32 0xFF800000#32)) M))))

/-- Their sums along the keys. -/
def sums : FVec Ideal S2x4x8192x1 .f32 :=
  broadcastInDim S2x4x8192x1 ![0, 1, 2] bcast_S2x4x8192_S2x4x8192x1_0_1_2
    (Host.reduceAdd E (constant S_ .f32 0x00000000#32) reducesTo_S2x4x8192x8448_S2x4x8192_d3 h_S_)

/-- The probabilities. -/
def probs : FVec Ideal S2x4x8192x8448 .f32 :=
  Host.divf E (broadcastInDim S2x4x8192x8448 ![0, 1, 2, 3] bcast_S2x4x8192x1_S2x4x8192x8448_0_1_2_3 L)

/-- The probabilities' gradient. -/
def dprobs : FVec Ideal S2x4x8192x8448 .f32 :=
  Host.dotGeneral dot_S2x4x8192x64_S2x8448x64_S2x4x8192x8448_3_2_12_1_0_0 none X3 X2

/-- The scores' gradient, scaled. -/
def dscores : FVec Ideal S2x4x8192x8448 .f32 :=
  mulf (mulf (addf (Host.divf DP (broadcastInDim S2x4x8192x8448 ![0, 1, 2, 3] bcast_S2x4x8192x1_S2x4x8192x8448_0_1_2_3 L))
    (broadcastInDim S2x4x8192x8448 ![0, 1, 2] bcast_S2x4x8192_S2x4x8192x8448_0_1_2
      (Host.reduceAdd (Host.negf (shapeCast S2x4x8192x1 (Host.reduceAdd (mulf (mulf DP
        (broadcastInDim S2x4x8192x8448 ![0, 1, 2, 3] bcast_S2x4x8192x1_S2x4x8192x8448_0_1_2_3
          (Host.divf (broadcastInDim S2x4x8192x1 ![] bcast_S_S2x4x8192x1 (constant S_ .f32 0x3F800000#32)) (mulf L L)))) E)
        (constant S_ .f32 0x00000000#32) reducesTo_S2x4x8192x8448_S2x4x8192_d3 h_S_) shapeCasts_S2x4x8192_S2x4x8192x1))
        (constant S_ .f32 0x00000000#32) reducesTo_S2x4x8192x1_S2x4x8192_d3 h_S_))) E)
    (broadcastInDim S2x4x8192x8448 ![] bcast_S_S2x4x8192x8448 (constant S_ .f32 0x3E000000#32))

/-- The gradient of v. -/
def dvT : FVec Ideal S2x8448x64 .f32 :=
  transpose S2x8448x64 [0, 2, 1] (Host.dotGeneral dot_S2x4x8192x64_S2x4x8192x8448_S2x64x8448_12_12_3_3_0_0 none X3 P)
    transposes_S2x64x8448_S2x8448x64_0_2_1

/-- The gradient of k. -/
def dkT : FVec Ideal S2x8448x64 .f32 :=
  Host.dotGeneral dot_S2x4x8192x8448_S2x4x8192x64_S2x8448x64_12_12_3_3_0_0 none DS X0

/-- The gradient of q, transposed. -/
def dqT : FVec Ideal S2x64x32768 .f32 :=
  transpose S2x64x32768 [0, 2, 1] (shapeCast S2x32768x64
    (Host.dotGeneral dot_S2x4x8192x8448_S2x8448x64_S2x4x8192x64_3_1_12_2_0_0 none DS X1) shapeCasts_S2x4x8192x64_S2x32768x64)
    transposes_S2x32768x64_S2x64x32768_0_2_1

theorem maxs_at (g : Fin 2) (r : Fin 4) (s : Fin 8192) : maxs S (ix3 g r s) =
    Finset.univ.fold max (Ideal.ofBits FTy.f32 0xFF800000#32) (fun x => S (ix4 g r s x)) := by
  pointwise [maxs]

theorem exps_at (g : Fin 2) (r : Fin 4) (s : Fin 8192) (j : Fin 8448) : exps S M (ix4 g r s j) =
   Ideal.exp (S (ix4 g r s j) - max (Ideal.ofBits FTy.f32 0xFF800000#32) (M (ix3 g r s))) := by
  pointwise [exps]

theorem scores_at (g : Fin 2) (r : Fin 4) (s : Fin 8192) (j : Fin 8448) : scores X0 X1 (ix4 g r s j) =
    (∑ x, X0 (ix4 g r s x) * X1 (ix3 g j x)) * Ideal.ofBits FTy.f32 0x3E000000#32 := by
  pointwise [scores]

theorem sums_at (g : Fin 2) (r : Fin 4) (s : Fin 8192) : sums E (ix4 g r s 0) = ∑ x, E (ix4 g r s x) := by
  pointwise [sums]

theorem probs_at (g : Fin 2) (r : Fin 4) (s : Fin 8192) (j : Fin 8448) :
    probs E L (ix4 g r s j) = Ideal.div (E (ix4 g r s j)) (L (ix4 g r s 0)) := by
  pointwise [probs]

theorem dprobs_at (g : Fin 2) (r : Fin 4) (s : Fin 8192) (j : Fin 8448) :
    dprobs X3 X2 (ix4 g r s j) = ∑ x, X3 (ix4 g r s x) * X2 (ix3 g j x) := by
  pointwise [dprobs]

theorem dscores_at (g : Fin 2) (r : Fin 4) (s : Fin 8192) (j : Fin 8448) : dscores E DP L (ix4 g r s j) =
    (Ideal.div (DP (ix4 g r s j)) (L (ix4 g r s 0)) +
      ∑ _x : Fin 1, -∑ x, DP (ix4 g r s x) * Ideal.div 1 (L (ix4 g r s 0) * L (ix4 g r s 0)) * E (ix4 g r s x)) *
      E (ix4 g r s j) * Ideal.ofBits FTy.f32 0x3E000000#32 := by
  pointwise [dscores]

theorem dvT_at (g : Fin 2) (j : Fin 8448) (d : Fin 64) :
    dvT X3 P (ix3 g j d) = ∑ r, ∑ s, X3 (ix4 g r s d) * P (ix4 g r s j) := by
  pointwise [dvT]

theorem dkT_at (g : Fin 2) (j : Fin 8448) (d : Fin 64) :
    dkT X0 DS (ix3 g j d) = ∑ r, ∑ s, DS (ix4 g r s j) * X0 (ix4 g r s d) := by
  pointwise [dkT]

theorem dqT_at (g : Fin 2) (n : Fin 32768) (d : Fin 64) : dqT X1 DS (ix3 g d n) =
    ∑ x, DS (ix4 g ⟨n.val / 8192, by omega⟩ ⟨n.val % 8192, by omega⟩ x) * X1 (ix3 g x d) := by
  pointwise [dqT]

section

variable {X0 X3 X1 X2} {x0 x3 : Fin 2 → Fin 4 → Fin 8192 → Fin 64 → ℝ} {x1 x2 : Fin 2 → Fin 8448 → Fin 64 → ℝ}
  (h0 : ∀ g r s d, X0 (ix4 g r s d) = (x0 g r s d : EReal)) (h1 : ∀ g j d, X1 (ix3 g j d) = (x1 g j d : EReal))
  (h2 : ∀ g j d, X2 (ix3 g j d) = (x2 g j d : EReal)) (h3 : ∀ g r s d, X3 (ix4 g r s d) = (x3 g r s d : EReal))

include h0 h1 in
theorem scores_real (g : Fin 2) (r : Fin 4) (s : Fin 8192) (j : Fin 8448) :
    scores X0 X1 (ix4 g r s j) = (sR (x0 g r s) (x1 g) j : EReal) := by
  rw [scores_at, eighth_f32]
  simp only [h0, h1, ← EReal.coe_mul, coe_sum]
  rfl

include h0 h1 in
theorem exps_real (g : Fin 2) (r : Fin 4) (s : Fin 8192) : ∃ c : ℝ, ∀ j,
    exps (scores X0 X1) (maxs (scores X0 X1)) (ix4 g r s j) = (Real.exp (sR (x0 g r s) (x1 g) j - c) : EReal) := by
  obtain ⟨c, hc⟩ := fold_max_real Finset.univ Finset.univ_nonempty (sR (x0 g r s) (x1 g))
  refine ⟨c, fun j => ?_⟩
  rw [exps_at, maxs_at, neg_inf_f32]
  simp only [scores_real h0 h1]
  rw [hc, max_eq_right bot_le, ← EReal.coe_sub, Ideal.exp_coe]

include h2 h3 in
theorem dprobs_real (g : Fin 2) (r : Fin 4) (s : Fin 8192) (j : Fin 8448) :
    dprobs X3 X2 (ix4 g r s j) = ((∑ d, x3 g r s d * x2 g j d : ℝ) : EReal) := by
  rw [dprobs_at]
  simp only [h2, h3, ← EReal.coe_mul, coe_sum]

include h0 h1 in
theorem probs_real (g : Fin 2) (r : Fin 4) (s : Fin 8192) (j : Fin 8448) :
    probs (exps (scores X0 X1) (maxs (scores X0 X1))) (sums (exps (scores X0 X1) (maxs (scores X0 X1)))) (ix4 g r s j) =
      (pR (x0 g r s) (x1 g) j : EReal) := by
  obtain ⟨c, hc⟩ := exps_real h0 h1 g r s
  rw [probs_at, sums_at]
  simp only [hc]
  rw [coe_sum, div_coe' _ _ (sum_exp_pos _).ne', div_shift]

include h0 h1 h2 h3 in
theorem dscores_real (g : Fin 2) (r : Fin 4) (s : Fin 8192) (j : Fin 8448) :
    dscores (exps (scores X0 X1) (maxs (scores X0 X1))) (dprobs X3 X2) (sums (exps (scores X0 X1) (maxs (scores X0 X1))))
        (ix4 g r s j) =
      ((dsR (x0 g r s) (x3 g r s) (x1 g) (x2 g) j * (1 / 8) : ℝ) : EReal) := by
  obtain ⟨c, hc⟩ := exps_real h0 h1 g r s
  have hl := (sum_exp_pos fun i => sR (x0 g r s) (x1 g) i - c).ne'
  rw [dscores_at, sums_at, eighth_f32]
  simp only [hc, dprobs_real h2 h3]
  rw [coe_sum, ← EReal.coe_mul, ← EReal.coe_one, div_coe' _ _ hl, div_coe' _ _ (mul_ne_zero hl hl)]
  simp only [← EReal.coe_mul, coe_sum, ← EReal.coe_neg, ← EReal.coe_add]
  refine congrArg (fun a : ℝ => ((a * (1 / 8) : ℝ) : EReal)) ?_
  rw [Finset.sum_const, Finset.card_univ, Fintype.card_fin, one_smul]
  exact ds_quot _ _ _ _ c j (fun i => ∑ d, x3 g r s d * x2 g i d) (fun i => Real.exp (sR (x0 g r s) (x1 g) i - c)) _
    (fun _ => rfl) (fun _ => rfl) rfl

end

end Cert.ReferenceIdeal.Attn

end
-- ==== Proof.Attn.Ident.lean ====
/- The reference's three results are the same real gradients as the kernel's. -/
module

public import proofs.«01_k».proof.Proof.Attn.Arrays
public import proofs.«01_k».proof.Proof.Attn.RefVal

@[expose] public section

set_option maxRecDepth 16384

noncomputable section

namespace Cert.ReferenceIdeal.Attn

open Cert.ReferenceIdeal Cert.ReferenceIdeal.Gen Cert.Attn Idealize.ShloMosaic Idealize.ShloMosaic.TcCoe Idealize.SL.Sem
open Cert.KernelIdeal.Attn (gradQ gradK gradV flat)

variable {X0 X3 : FVec Ideal S2x4x8192x64 .f32} {X1 X2 : FVec Ideal S2x8448x64 .f32}
  (x0 x3 : Fin 2 → Fin 4 → Fin 8192 → Fin 64 → ℝ) (x1 x2 : Fin 2 → Fin 8448 → Fin 64 → ℝ)
  (h0 : ∀ g r s d, X0 (ix4 g r s d) = (x0 g r s d : EReal)) (h1 : ∀ g j d, X1 (ix3 g j d) = (x1 g j d : EReal))
  (h2 : ∀ g j d, X2 (ix3 g j d) = (x2 g j d : EReal)) (h3 : ∀ g r s d, X3 (ix4 g r s d) = (x3 g r s d : EReal))

theorem idxK (i : S2x8448x64.Idx) : i = ix3 (i 0) (i 1) (i 2) := by
  funext a; fin_cases a <;> rfl

theorem idxQ (i : S2x64x32768.Idx) : i = ix3 (i 0) (i 1) (i 2) := by
  funext a; fin_cases a <;> rfl

/-- A sum over groups and their rows is a sum over all rows. -/
theorem sum_rows (F : Fin 32768 → ℝ) (G : Fin 4 → Fin 8192 → ℝ)
    (hG : ∀ n : Fin 32768, F n = G ⟨n.val / 8192, by omega⟩ ⟨n.val % 8192, by omega⟩) : ∑ r, ∑ s, G r s = ∑ n, F n := by
  refine Fin.sum_mul_add_congr fun r s hl => ?_
  rw [hG]
  have e1 : (⟨(r.val * 8192 + s.val) / 8192, by omega⟩ : Fin 4) = r := Fin.ext (by show (r.val * 8192 + s.val) / 8192 = r.val; omega)
  have e2 : (⟨(r.val * 8192 + s.val) % 8192, by omega⟩ : Fin 8192) = s := Fin.ext (by show (r.val * 8192 + s.val) % 8192 = s.val; omega)
  rw [e1, e2]

include h0 h1 h2 h3 in
theorem dqT_eq : dqT X1 (dscores (exps (scores X0 X1) (maxs (scores X0 X1))) (dprobs X3 X2)
    (sums (exps (scores X0 X1) (maxs (scores X0 X1))))) = gradQ x0 x3 x1 x2 := by
  funext i
  obtain ⟨g, d, n, rfl⟩ : ∃ (g : Fin 2) (d : Fin 64) (n : Fin 32768), i = ix3 g d n := ⟨i 0, i 1, i 2, idxQ i⟩
  rw [dqT_at]
  show _ = (((∑ j, x1 g j d * dsR (flat x0 g n) (flat x3 g n) (x1 g) (x2 g) j) * (1 / 8) : ℝ) : EReal)
  simp only [dscores_real h0 h1 h2 h3, h1, ← EReal.coe_mul]
  rw [coe_sum, Finset.sum_mul]
  refine congrArg (fun a : ℝ => (a : EReal)) (Finset.sum_congr rfl fun j _ => ?_)
  ring

include h0 h1 h2 h3 in
theorem dkT_eq : dkT X0 (dscores (exps (scores X0 X1) (maxs (scores X0 X1))) (dprobs X3 X2)
    (sums (exps (scores X0 X1) (maxs (scores X0 X1))))) = gradK x0 x3 x1 x2 := by
  funext i
  obtain ⟨g, j, d, rfl⟩ : ∃ (g : Fin 2) (j : Fin 8448) (d : Fin 64), i = ix3 g j d := ⟨i 0, i 1, i 2, idxK i⟩
  rw [dkT_at]
  show _ = ((∑ n, dsR (flat x0 g n) (flat x3 g n) (x1 g) (x2 g) j * (flat x0 g n d * (1 / 8)) : ℝ) : EReal)
  simp only [dscores_real h0 h1 h2 h3, h0, ← EReal.coe_mul, coe_sum]
  refine congrArg (fun a : ℝ => (a : EReal)) (sum_rows _ _ fun n => ?_)
  ring

include h0 h1 h3 in
theorem dvT_eq : dvT X3 (probs (exps (scores X0 X1) (maxs (scores X0 X1))) (sums (exps (scores X0 X1) (maxs (scores X0 X1))))) =
    gradV x0 x3 x1 := by
  funext i
  obtain ⟨g, j, d, rfl⟩ : ∃ (g : Fin 2) (j : Fin 8448) (d : Fin 64), i = ix3 g j d := ⟨i 0, i 1, i 2, idxK i⟩
  rw [dvT_at]
  show _ = ((∑ n, pR (flat x0 g n) (x1 g) j * flat x3 g n d : ℝ) : EReal)
  simp only [probs_real h0 h1, h3, ← EReal.coe_mul, coe_sum]
  refine congrArg (fun a : ℝ => (a : EReal)) (sum_rows _ _ fun n => ?_)
  exact mul_comm _ _

variable (m : (ℓ : Loc nD τ sig) → Buf (Elt Ideal) ℓ) (c : Dev nD)

theorem res52 : Value.res_main_v52 m c = dqT (m ((c.tc : Thread nD τ).loc main_arg1))
    (dscores (exps (scores (m ((c.tc : Thread nD τ).loc main_arg0)) (m ((c.tc : Thread nD τ).loc main_arg1)))
      (maxs (scores (m ((c.tc : Thread nD τ).loc main_arg0)) (m ((c.tc : Thread nD τ).loc main_arg1)))))
      (dprobs (m ((c.tc : Thread nD τ).loc main_arg3)) (m ((c.tc : Thread nD τ).loc main_arg2)))
      (sums (exps (scores (m ((c.tc : Thread nD τ).loc main_arg0)) (m ((c.tc : Thread nD τ).loc main_arg1)))
        (maxs (scores (m ((c.tc : Thread nD τ).loc main_arg0)) (m ((c.tc : Thread nD τ).loc main_arg1))))))) := by
  unfold Value.res_main_v52; rfl

theorem res49 : Value.res_main_v49 m c = dkT (m ((c.tc : Thread nD τ).loc main_arg0))
    (dscores (exps (scores (m ((c.tc : Thread nD τ).loc main_arg0)) (m ((c.tc : Thread nD τ).loc main_arg1)))
      (maxs (scores (m ((c.tc : Thread nD τ).loc main_arg0)) (m ((c.tc : Thread nD τ).loc main_arg1)))))
      (dprobs (m ((c.tc : Thread nD τ).loc main_arg3)) (m ((c.tc : Thread nD τ).loc main_arg2)))
      (sums (exps (scores (m ((c.tc : Thread nD τ).loc main_arg0)) (m ((c.tc : Thread nD τ).loc main_arg1)))
        (maxs (scores (m ((c.tc : Thread nD τ).loc main_arg0)) (m ((c.tc : Thread nD τ).loc main_arg1))))))) := by
  unfold Value.res_main_v49; rfl

end Cert.ReferenceIdeal.Attn

end
-- ==== Proof.Ffn.Launch.lean ====
/- The launch of the four calls, the two results at the last boundary's contents. -/
module

public import proofs.«01_k».proof.Proof.Gen.Kernel2Ideal.Frame

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every execution ends with the two results at the contents of the last boundary and the arguments as launched. -/
theorem launch : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v6 (by decide)), h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.Kernel2Ideal.Ffn

end
-- ==== Proof.Ffn.Body.lean ====
/- What one grid point of each of the four calls leaves in its output blocks, read at an index. -/
module

public import proofs.«01_k».proof.Proof.Gen.Kernel2Ideal.Frame
public import Idealize.ShloMosaic.Lib.Pipeline.ValueKit

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

theorem hz2 : (![0, 0] : Fin 2 → ℕ) = fun _ => 0 := by
  funext a; fin_cases a <;> rfl

/-- `a · σ(a) · u`. -/
def gate (a u : EReal) : EReal := a * Ideal.logistic a * u

/-- The gradient of `a` from the gradient of the product. -/
def gateA (d a u : EReal) : EReal :=
  d * u * (Ideal.logistic a * (1 + a * (1 - Ideal.logistic a)))

/-- The gradient of `u`. -/
def gateU (d a : EReal) : EReal := d * (a * Ideal.logistic a)

theorem off3_zero (x : S1x384x1408.Idx) (o : ℕ) (r : Fin 384) (j : Fin 1408) (s : Fin 2)
    (h : ∀ a : Fin 3, ((ix3 s r j : S2x384x1408.Idx) a : ℕ) = (![o, 0, 0] : Fin 3 → ℕ) a + x a) : s.val = o ∧ x = ix3 0 r j := by
  have h0 : s.val = o + (x 0).val := h 0
  have h1 : r.val = 0 + (x 1).val := h 1
  have h2 : j.val = 0 + (x 2).val := h 2
  have hx : (x 0).val < 1 := (x 0).isLt
  refine ⟨by omega, ?_⟩
  funext a
  fin_cases a
  · exact Subsingleton.elim (α := Fin 1) _ _
  · exact Fin.ext (by show (x 1).val = r.val; omega)
  · exact Fin.ext (by show (x 2).val = j.val; omega)

/-- The two stores of a two-slab buffer, one slab each. -/
theorem canon_slab {e : EltTy} (p q : S1x384x1408.Idx → Elt Ideal e) (v : Elt Ideal e) (s : Fin 2) (r : Fin 384) (j : Fin 1408)
    (hc : ∃ pc ∈ ([⟨r0_3, p⟩, ⟨r0_2, q⟩] : List (View.Piece (Elt Ideal) S2x384x1408 e)), ix3 s r j ∈ pc.1.set)
    (h1 : s.val = 1 → p (ix3 0 r j) = v) (h0 : s.val = 0 → q (ix3 0 r j) = v) :
    View.canon ([⟨r0_3, p⟩, ⟨r0_2, q⟩] : List (View.Piece (Elt Ideal) S2x384x1408 e)) (ix3 s r j) = v := by
  refine View.canon_eq_of_allAt _ _ _ hc ?_
  refine View.allAt_cons_unit _ _ _ _ _ (fun x hx => ?_) (View.allAt_cons_unit _ _ _ _ _ (fun x hx => ?_) (View.allAt_nil _ _))
  · obtain ⟨hs, rfl⟩ := off3_zero x 1 r j s hx
    exact h1 hs
  · obtain ⟨hs, rfl⟩ := off3_zero x 0 r j s hx
    exact h0 hs

section Region0

variable (x0 : Vec Ideal S384x1024 .bf16) (x1 x2 : Vec Ideal S1024x1408 .bf16) (r : Fin 384) (j : Fin 1408)

theorem k0_pay2_at : k0_pay2 (F := Ideal) x0 x1 (ix2 r j) = ∑ k : Fin 1024, x0 (ix2 r k) * x1 (ix2 k j) := by
  pointwise [k0_pay2, k0_pay1]

theorem k0_pay3_at : k0_pay3 (F := Ideal) x0 x1 (ix2 r j) = ∑ k : Fin 1024, x0 (ix2 r k) * x1 (ix2 k j) := k0_pay2_at x0 x1 r j

theorem k0_pay6_at : k0_pay6 (F := Ideal) x0 x1 x2 (ix2 r j) =
    gate (∑ k : Fin 1024, x0 (ix2 r k) * x1 (ix2 k j)) (∑ k : Fin 1024, x0 (ix2 r k) * x2 (ix2 k j)) := by
  rw [← k0_pay2_at, ← k0_pay3_at]
  unfold k0_pay6 gate
  generalize k0_pay2 (F := Ideal) x0 x1 = p
  generalize k0_pay3 (F := Ideal) x0 x2 = q
  pointwise

theorem out0_3_at : out0_3 (F := Ideal) x0 x1 x2 (ix2 r j) =
    gate (∑ k : Fin 1024, x0 (ix2 r k) * x1 (ix2 k j)) (∑ k : Fin 1024, x0 (ix2 r k) * x2 (ix2 k j)) := by
  unfold out0_3
  rw [View.canon_unit_zero (S := S384x1408) hz2, View.ld_unit_zero (S := S384x1024) hz2, View.ld_unit_zero (S := S1024x1408) hz2,
    View.ld_unit_zero (S := S1024x1408) hz2, k0_pay6_at]

theorem out0_4_at (s : Fin 2) : out0_4 (F := Ideal) x0 x1 x2 (ix3 s r j) =
    ∑ k : Fin 1024, x0 (ix2 r k) * (if s.val = 0 then x1 else x2) (ix2 k j) := by
  unfold out0_4
  rw [View.ld_unit_zero (S := S384x1024) hz2, View.ld_unit_zero (S := S1024x1408) hz2, View.ld_unit_zero (S := S1024x1408) hz2]
  refine canon_slab _ _ _ s r j (cover0_4 _ _ _) (fun h => ?_) (fun h => ?_)
  · rw [if_neg (by omega), ← k0_pay3_at]
    unfold k0_pay5
    generalize k0_pay3 (F := Ideal) x0 x2 = p
    pointwise
  · rw [if_pos h, ← k0_pay2_at]
    unfold k0_pay4
    generalize k0_pay2 (F := Ideal) x0 x1 = p
    pointwise

end Region0

section Region1

variable (x0 : Vec Ideal S384x1024 .bf16) (x1 : Vec Ideal S1408x1024 .bf16) (r : Fin 384) (j : Fin 1408)

theorem k1_pay1_at : k1_pay1 (F := Ideal) x0 x1 (ix2 r j) = ∑ k : Fin 1024, x0 (ix2 r k) * x1 (ix2 j k) := by
  pointwise [k1_pay1]

theorem k1_pay4_at (v5 v7 : Vec Ideal S1x384x1408 .f32) : k1_pay4 (F := Ideal) x0 x1 v5 v7 (ix3 0 r j) =
    gateA (∑ k : Fin 1024, x0 (ix2 r k) * x1 (ix2 j k)) (v5 (ix3 0 r j)) (v7 (ix3 0 r j)) := by
  rw [← k1_pay1_at]
  unfold k1_pay4 k1_pay3 k1_pay2 gateA
  generalize k1_pay1 (F := Ideal) x0 x1 = p
  pointwise

theorem k1_pay5_at (v5 : Vec Ideal S1x384x1408 .f32) : k1_pay5 (F := Ideal) x0 x1 v5 (ix3 0 r j) =
    gateU (∑ k : Fin 1024, x0 (ix2 r k) * x1 (ix2 j k)) (v5 (ix3 0 r j)) := by
  rw [← k1_pay1_at]
  unfold k1_pay5 k1_pay3 k1_pay2 gateU
  generalize k1_pay1 (F := Ideal) x0 x1 = p
  pointwise

theorem ld_slab0 (x2 : Vec Ideal S2x384x1408 .f32) : View.ld x2 r1_2 (ix3 0 r j) = x2 (ix3 0 r j) :=
  View.ld_unit_apply_of _ _ _ _ _ (ix3 0 r j) fun a => by fin_cases a <;> exact (Nat.zero_add _).symm

theorem ld_slab1 (x2 : Vec Ideal S2x384x1408 .f32) : View.ld x2 r1_3 (ix3 0 r j) = x2 (ix3 1 r j) :=
  View.ld_unit_apply_of _ _ _ _ _ (ix3 1 r j) fun a => by fin_cases a <;> first | rfl | exact (Nat.zero_add _).symm

theorem out1_3_at (x2 : Vec Ideal S2x384x1408 .f32) (s : Fin 2) : out1_3 (F := Ideal) x0 x1 x2 (ix3 s r j) =
    if s.val = 0 then gateA (∑ k : Fin 1024, x0 (ix2 r k) * x1 (ix2 j k)) (x2 (ix3 0 r j)) (x2 (ix3 1 r j))
    else gateU (∑ k : Fin 1024, x0 (ix2 r k) * x1 (ix2 j k)) (x2 (ix3 0 r j)) := by
  unfold out1_3
  rw [View.ld_unit_zero (S := S384x1024) hz2, View.ld_unit_zero (S := S1408x1024) hz2]
  refine canon_slab _ _ _ s r j (cover1_3 _ _ _) (fun h => ?_) (fun h => ?_)
  · rw [if_neg (by omega)]
    refine (k1_pay5_at _ _ _ _ _).trans ?_
    rw [ld_slab0]
  · rw [if_pos h]
    refine (k1_pay4_at _ _ _ _ _ _).trans ?_
    rw [ld_slab0, ld_slab1]

end Region1

theorem out2_2_at (x0 : Vec Ideal S768x2816 .bf16) (x1 : Vec Ideal S2816x1024 .bf16) (r : Fin 768) (j : Fin 1024) :
    out2_2 (F := Ideal) x0 x1 (ix2 r j) = ∑ k : Fin 2816, x0 (ix2 r k) * x1 (ix2 k j) := by
  unfold out2_2
  rw [View.canon_unit_zero (S := S768x1024) hz2, View.ld_unit_zero (S := S768x2816) hz2, View.ld_unit_zero (S := S2816x1024) hz2]
  pointwise [k2_pay1]

section Region3

variable (x0 : Vec Ideal S2x384x2816 .bf16) (x1 : Vec Ideal S1024x5632 .bf16) (r : Fin 384) (i : Fin 1024)

theorem k3_pay1_at (v0 v5 v11 v17 : Vec Ideal S1x384x1408 .bf16) (v2 v7 v13 v19 : Vec Ideal S1024x1408 .bf16) :
    k3_pay1 (F := Ideal) v0 v2 v5 v7 v11 v13 v17 v19 (ix2 r i) =
      ((∑ k : Fin 1408, v0 (ix3 0 r k) * v2 (ix2 i k)) + (∑ k : Fin 1408, v5 (ix3 0 r k) * v7 (ix2 i k))
        + ∑ k : Fin 1408, v11 (ix3 0 r k) * v13 (ix2 i k)) + ∑ k : Fin 1408, v17 (ix3 0 r k) * v19 (ix2 i k) := by
  pointwise [k3_pay1]

/-- Chunk `o` of the columns of the gradient's slab `s` against its chunk of the weight's columns. -/
def chunk (o : Fin 2) (s : Fin 2) : EReal := ∑ k : Fin 1408,
  x0 (ix3 s r ⟨1408 * o.val + k.val, by omega⟩) * x1 (ix2 i ⟨2816 * s.val + (1408 * o.val + k.val), by omega⟩)

theorem ldx (o : ℕ) (s : Fin 2) (inb) (k : Fin 1408) (h : o + k.val < 2816) :
    View.ld x0 (Rect.unit (s := S2x384x2816) ![s.val, 0, o] S1x384x1408.size inb) (ix3 0 r k) = x0 (ix3 s r ⟨o + k.val, h⟩) :=
  View.ld_unit_apply_of _ _ _ _ _ (ix3 s r ⟨o + k.val, h⟩) fun a => by
    fin_cases a <;> first | rfl | exact (Nat.zero_add _).symm

theorem ldw (o : ℕ) (inb) (k : Fin 1408) (h : o + k.val < 5632) :
    View.ld x1 (Rect.unit (s := S1024x5632) ![0, o] S1024x1408.size inb) (ix2 i k) = x1 (ix2 i ⟨o + k.val, h⟩) :=
  View.ld_unit_apply_of _ _ _ _ _ (ix2 i ⟨o + k.val, h⟩) fun a => by
    fin_cases a <;> first | rfl | exact (Nat.zero_add _).symm

theorem out3_2_at : out3_2 (F := Ideal) x0 x1 (ix2 r i) =
    (chunk x0 x1 r i 0 0 + chunk x0 x1 r i 1 0 + chunk x0 x1 r i 0 1) + chunk x0 x1 r i 1 1 := by
  unfold out3_2
  rw [View.canon_unit_zero (S := S384x1024) hz2, k3_pay1_at]
  unfold chunk
  refine congrArg₂ (· + ·) (congrArg₂ (· + ·) (congrArg₂ (· + ·) ?_ ?_) ?_) ?_
  · exact Finset.sum_congr rfl fun k _ => congrArg₂ (· * ·) ((ldx x0 r 0 0 _ k (by omega)).trans (by congr 2)) ((ldw x1 i 0 _ k (by omega)).trans (by congr 2; exact Fin.ext (by simp)))
  · exact Finset.sum_congr rfl fun k _ => congrArg₂ (· * ·) ((ldx x0 r 1408 0 _ k (by omega)).trans (by congr 2)) ((ldw x1 i 1408 _ k (by omega)).trans (by congr 2; exact Fin.ext (by simp)))
  · exact Finset.sum_congr rfl fun k _ => congrArg₂ (· * ·) ((ldx x0 r 0 1 _ k (by omega)).trans (by congr 2)) ((ldw x1 i 2816 _ k (by omega)).trans (by congr 2; exact Fin.ext (by simp)))
  · exact Finset.sum_congr rfl fun k _ => congrArg₂ (· * ·) ((ldx x0 r 1408 1 _ k (by omega)).trans (by congr 2)) ((ldw x1 i 4224 _ k (by omega)).trans (by congr 2; exact Fin.ext (by simp; omega)))

end Region3

end Cert.Kernel2Ideal.Ffn

end
-- ==== Proof.Ffn.Arrays.lean ====
/- The array each of the four calls leaves, from the arrays it finds. -/
module

public import proofs.«01_k».proof.Proof.Ffn.Body

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

/-- An entry of a product of two matrices. -/
abbrev dotNN {M K N : ℕ} (x : (⟨2, ![M, K]⟩ : Shape).Idx → EReal) (w : (⟨2, ![K, N]⟩ : Shape).Idx → EReal) (r : Fin M) (j : Fin N) : EReal :=
  ∑ k : Fin K, x (ix2 r k) * w (ix2 k j)

/-- An entry of a product with the transpose of the second matrix. -/
abbrev dotNT {M K N : ℕ} (x : (⟨2, ![M, K]⟩ : Shape).Idx → EReal) (w : (⟨2, ![N, K]⟩ : Shape).Idx → EReal) (r : Fin M) (j : Fin N) : EReal :=
  ∑ k : Fin K, x (ix2 r k) * w (ix2 j k)

/-- Column `j` of half `s` of the input weight. -/
abbrev col (s : Fin 2) (j : Fin 2816) : Fin 5632 := ⟨2816 * s.val + j.val, by omega⟩

/-- The activation. -/
def actOf (h : Vec Ideal S8448x1024 .bf16) (w : Vec Ideal S1024x5632 .bf16) : Vec Ideal S8448x2816 .bf16 := fun i =>
  gate (dotNN h w (i 0) (col 0 (i 1))) (dotNN h w (i 0) (col 1 (i 1)))

/-- The two halves of the first product. -/
def auOf (h : Vec Ideal S8448x1024 .bf16) (w : Vec Ideal S1024x5632 .bf16) : Vec Ideal S2x8448x2816 .f32 := fun i =>
  dotNN h w (i 1) (col (i 0) (i 2))

/-- The gradient of the two halves. -/
def dauOf (dy : Vec Ideal S8448x1024 .bf16) (w : Vec Ideal S2816x1024 .bf16) (au : Vec Ideal S2x8448x2816 .f32) :
    Vec Ideal S2x8448x2816 .bf16 := fun i =>
  if (i 0).val = 0 then gateA (dotNT dy w (i 1) (i 2)) (au (ix3 0 (i 1) (i 2))) (au (ix3 1 (i 1) (i 2)))
  else gateU (dotNT dy w (i 1) (i 2)) (au (ix3 0 (i 1) (i 2)))

/-- The output. -/
def yOf (a : Vec Ideal S8448x2816 .bf16) (w : Vec Ideal S2816x1024 .bf16) : Vec Ideal S8448x1024 .f32 := fun i =>
  dotNN a w (i 0) (i 1)

/-- Half of a half of the columns against the weight's. -/
def chunkOf (d : Vec Ideal S2x8448x2816 .bf16) (w : Vec Ideal S1024x5632 .bf16) (o s : Fin 2) (r : Fin 8448) (j : Fin 1024) : EReal :=
  ∑ k : Fin 1408, d (ix3 s r ⟨1408 * o.val + k.val, by omega⟩) * w (ix2 j (col s ⟨1408 * o.val + k.val, by omega⟩))

/-- The gradient of the input. -/
def dhOf (d : Vec Ideal S2x8448x2816 .bf16) (w : Vec Ideal S1024x5632 .bf16) : Vec Ideal S8448x1024 .bf16 := fun i =>
  (chunkOf d w 0 0 (i 0) (i 1) + chunkOf d w 1 0 (i 0) (i 1) + chunkOf d w 0 1 (i 0) (i 1)) + chunkOf d w 1 1 (i 0) (i 1)

variable (V : (c : Dev nD) → (b : Ref sig .tc) → b.ty.Contents (Elt Ideal)) (c : Dev nD)

theorem idx2_eq {M N : ℕ} (y : (⟨2, ![M, N]⟩ : Shape).Idx) : y = ix2 (y 0) (y 1) := by
  funext a
  fin_cases a <;> rfl

theorem idx3_eq {L M N : ℕ} (y : (⟨3, ![L, M, N]⟩ : Shape).Idx) : y = ix3 (y 0) (y 1) (y 2) := by
  funext a
  fin_cases a <;> rfl

section Region0

theorem idx0 : ∀ t : Fin cfg0.N, win0_0.index t = ![t.val % 22, 0] ∧ win0_1.index t = ![0, t.val / 22] ∧
    win0_2.index t = ![0, t.val / 22 + 2] ∧ win0_3.index t = ![t.val % 22, t.val / 22] ∧
    win0_4.index t = ![0, t.val % 22, t.val / 22] :=
  (by decide +kernel : ∀ t : Fin grid0.N, _)

theorem lt_N0 (t : Fin cfg0.N) : t.val < 44 := t.isLt

/-- The row and the column of an entry of a grid point's block. -/
abbrev row0 (t : Fin cfg0.N) (r : Fin 384) : Fin 8448 := ⟨384 * (t.val % 22) + r.val, by omega⟩
abbrev col0 (t : Fin cfg0.N) (j : Fin 1408) : Fin 2816 := ⟨1408 * (t.val / 22) + j.val, by have := lt_N0 t; omega⟩

theorem blk0_0 (t : Fin cfg0.N) (r : Fin 384) (k : Fin 1024) : (iblk0 V c 0 t : Vec Ideal S384x1024 .bf16) (ix2 r k) =
    V c main_v0 (ix2 (row0 t r) k) := by
  unfold iblk0
  generalize V c = W
  blk_point [idx0 t]

theorem blk0_1 (t : Fin cfg0.N) (k : Fin 1024) (j : Fin 1408) : (iblk0 V c 1 t : Vec Ideal S1024x1408 .bf16) (ix2 k j) =
    V c main_v1 (ix2 k (col 0 (col0 t j))) := by
  unfold iblk0
  generalize V c = W
  blk_point [idx0 t]

theorem blk0_2 (t : Fin cfg0.N) (k : Fin 1024) (j : Fin 1408) : (iblk0 V c 2 t : Vec Ideal S1024x1408 .bf16) (ix2 k j) =
    V c main_v1 (ix2 k (col 1 (col0 t j))) := by
  unfold iblk0
  generalize V c = W
  blk_point [idx0 t]

theorem pt0_3 (t : Fin cfg0.N) (r : Fin 384) (j : Fin 1408) :
    out0_3 (F := Ideal) (iblk0 V c 0 t) (iblk0 V c 1 t) (iblk0 V c 2 t) (ix2 r j) =
      actOf (V c main_v0) (V c main_v1) (ix2 (row0 t r) (col0 t j)) := by
  refine (out0_3_at _ _ _ r j).trans ?_
  exact congrArg₂ gate (Finset.sum_congr rfl fun k _ => congrArg₂ (· * ·) (blk0_0 V c t r k) (blk0_1 V c t k j))
    (Finset.sum_congr rfl fun k _ => congrArg₂ (· * ·) (blk0_0 V c t r k) (blk0_2 V c t k j))

theorem pt0_4 (t : Fin cfg0.N) (s : Fin 2) (r : Fin 384) (j : Fin 1408) :
    out0_4 (F := Ideal) (iblk0 V c 0 t) (iblk0 V c 1 t) (iblk0 V c 2 t) (ix3 s r j) =
      auOf (V c main_v0) (V c main_v1) (ix3 s (row0 t r) (col0 t j)) := by
  refine (out0_4_at _ _ _ r j s).trans ?_
  refine Finset.sum_congr rfl fun k _ => congrArg₂ (· * ·) (blk0_0 V c t r k) ?_
  fin_cases s
  · exact blk0_1 V c t k j
  · exact blk0_2 V c t k j

theorem arr0_3 : (dat0 V c).arrAt 3 cfg0.N = actOf (V c main_v0) (V c main_v1) := by
  refine (dat0 V c).arrAt_eq_of_covers 3 _ (by decide +kernel) fun t _ y => ?_
  blk_simp
  rw [after0_3]
  have hy : (y : S384x1408.Idx) = ix2 (y 0) (y 1) := idx2_eq y
  refine ((congrArg (out0_3 (F := Ideal) (iblk0 V c 0 t) (iblk0 V c 1 t) (iblk0 V c 2 t)) hy).trans (pt0_3 V c t (y 0) (y 1))).trans ?_
  generalize actOf (V c main_v0) (V c main_v1) = G
  blk_ext [idx0 t]

theorem arr0_4 : (dat0 V c).arrAt 4 cfg0.N = auOf (V c main_v0) (V c main_v1) := by
  refine (dat0 V c).arrAt_eq_of_covers 4 _ (by decide +kernel) fun t _ y => ?_
  blk_simp
  rw [after0_4]
  have hy : (y : S2x384x1408.Idx) = ix3 (y 0) (y 1) (y 2) := idx3_eq y
  refine ((congrArg (out0_4 (F := Ideal) (iblk0 V c 0 t) (iblk0 V c 1 t) (iblk0 V c 2 t)) hy).trans (pt0_4 V c t (y 0) (y 1) (y 2))).trans ?_
  generalize auOf (V c main_v0) (V c main_v1) = G
  blk_ext [idx0 t]

end Region0

section Region1

theorem idx1 : ∀ t : Fin cfg1.N, win1_0.index t = ![t.val % 22, 0] ∧ win1_1.index t = ![t.val / 22, 0] ∧
    win1_2.index t = ![0, t.val % 22, t.val / 22] ∧ win1_3.index t = ![0, t.val % 22, t.val / 22] :=
  (by decide +kernel : ∀ t : Fin grid1.N, _)

theorem lt_N1 (t : Fin cfg1.N) : t.val < 44 := t.isLt

abbrev row1 (t : Fin cfg1.N) (r : Fin 384) : Fin 8448 := ⟨384 * (t.val % 22) + r.val, by omega⟩
abbrev col1 (t : Fin cfg1.N) (j : Fin 1408) : Fin 2816 := ⟨1408 * (t.val / 22) + j.val, by have := lt_N1 t; omega⟩

theorem blk1_0 (t : Fin cfg1.N) (r : Fin 384) (k : Fin 1024) : (iblk1 V c 0 t : Vec Ideal S384x1024 .bf16) (ix2 r k) =
    V c main_v3 (ix2 (row1 t r) k) := by
  unfold iblk1
  generalize V c = W
  blk_point [idx1 t]

theorem blk1_1 (t : Fin cfg1.N) (j : Fin 1408) (k : Fin 1024) : (iblk1 V c 1 t : Vec Ideal S1408x1024 .bf16) (ix2 j k) =
    V c main_v2 (ix2 (col1 t j) k) := by
  unfold iblk1
  generalize V c = W
  blk_point [idx1 t]

theorem blk1_2 (t : Fin cfg1.N) (s : Fin 2) (r : Fin 384) (j : Fin 1408) : (iblk1 V c 2 t : Vec Ideal S2x384x1408 .f32) (ix3 s r j) =
    V c main_v4_1 (ix3 s (row1 t r) (col1 t j)) := by
  unfold iblk1
  generalize V c = W
  blk_point [idx1 t]

theorem dau_step (x0 : Vec Ideal S384x1024 .bf16) (x1 : Vec Ideal S1408x1024 .bf16) (x2 : Vec Ideal S2x384x1408 .f32)
    (dy : Vec Ideal S8448x1024 .bf16) (w : Vec Ideal S2816x1024 .bf16) (au : Vec Ideal S2x8448x2816 .f32)
    (s : Fin 2) (r : Fin 384) (j : Fin 1408) (R : Fin 8448) (J : Fin 2816)
    (h0 : ∀ k, x0 (ix2 r k) = dy (ix2 R k)) (h1 : ∀ k, x1 (ix2 j k) = w (ix2 J k)) (h2 : ∀ s, x2 (ix3 s r j) = au (ix3 s R J)) :
    out1_3 (F := Ideal) x0 x1 x2 (ix3 s r j) = dauOf dy w au (ix3 s R J) := by
  refine (out1_3_at x0 x1 r j x2 s).trans ?_
  rw [h2, h2, Finset.sum_congr rfl fun k _ => congrArg₂ (· * ·) (h0 k) (h1 k)]
  rfl

theorem pt1_3 (t : Fin cfg1.N) (s : Fin 2) (r : Fin 384) (j : Fin 1408) :
    out1_3 (F := Ideal) (iblk1 V c 0 t) (iblk1 V c 1 t) (iblk1 V c 2 t) (ix3 s r j) =
      dauOf (V c main_v3) (V c main_v2) (V c main_v4_1) (ix3 s (row1 t r) (col1 t j)) :=
  dau_step _ _ _ _ _ _ s r j _ _ (blk1_0 V c t r) (blk1_1 V c t j) fun s => blk1_2 V c t s r j

theorem arr1_3 : (dat1 V c).arrAt 3 cfg1.N = dauOf (V c main_v3) (V c main_v2) (V c main_v4_1) := by
  refine (dat1 V c).arrAt_eq_of_covers 3 _ (by decide +kernel) fun t _ y => ?_
  blk_simp
  rw [after1_3]
  have hy : (y : S2x384x1408.Idx) = ix3 (y 0) (y 1) (y 2) := idx3_eq y
  refine ((congrArg (out1_3 (F := Ideal) (iblk1 V c 0 t) (iblk1 V c 1 t) (iblk1 V c 2 t)) hy).trans (pt1_3 V c t (y 0) (y 1) (y 2))).trans ?_
  generalize dauOf (V c main_v3) (V c main_v2) (V c main_v4_1) = G
  blk_ext [idx1 t]

end Region1

section Region2

theorem idx2 : ∀ t : Fin cfg2.N, win2_0.index t = ![t.val, 0] ∧ win2_1.index t = ![0, 0] ∧ win2_2.index t = ![t.val, 0] :=
  (by decide +kernel : ∀ t : Fin grid2.N, _)

theorem lt_N2 (t : Fin cfg2.N) : t.val < 11 := t.isLt

abbrev row2 (t : Fin cfg2.N) (r : Fin 768) : Fin 8448 := ⟨768 * t.val + r.val, by have := lt_N2 t; omega⟩

theorem blk2_0 (t : Fin cfg2.N) (r : Fin 768) (k : Fin 2816) : (iblk2 V c 0 t : Vec Ideal S768x2816 .bf16) (ix2 r k) =
    V c main_v4_0 (ix2 (row2 t r) k) := by
  unfold iblk2
  generalize V c = W
  blk_point [idx2 t]

theorem blk2_1 (t : Fin cfg2.N) (k : Fin 2816) (j : Fin 1024) : (iblk2 V c 1 t : Vec Ideal S2816x1024 .bf16) (ix2 k j) =
    V c main_v2 (ix2 k j) := by
  unfold iblk2
  generalize V c = W
  blk_point [idx2 t]

theorem pt2_2 (t : Fin cfg2.N) (r : Fin 768) (j : Fin 1024) :
    out2_2 (F := Ideal) (iblk2 V c 0 t) (iblk2 V c 1 t) (ix2 r j) = yOf (V c main_v4_0) (V c main_v2) (ix2 (row2 t r) j) :=
  (out2_2_at _ _ r j).trans (Finset.sum_congr rfl fun k _ => congrArg₂ (· * ·) (blk2_0 V c t r k) (blk2_1 V c t k j))

theorem arr2_2 : (dat2 V c).arrAt 2 cfg2.N = yOf (V c main_v4_0) (V c main_v2) := by
  refine (dat2 V c).arrAt_eq_of_covers 2 _ (by decide +kernel) fun t _ y => ?_
  blk_simp
  rw [after2_2]
  have hy : (y : S768x1024.Idx) = ix2 (y 0) (y 1) := idx2_eq y
  refine ((congrArg (out2_2 (F := Ideal) (iblk2 V c 0 t) (iblk2 V c 1 t)) hy).trans (pt2_2 V c t (y 0) (y 1))).trans ?_
  generalize yOf (V c main_v4_0) (V c main_v2) = G
  blk_ext [idx2 t]

end Region2

section Region3

theorem idx3 : ∀ t : Fin cfg3.N, win3_0.index t = ![0, t.val, 0] ∧ win3_1.index t = ![0, 0] ∧ win3_2.index t = ![t.val, 0] :=
  (by decide +kernel : ∀ t : Fin grid3.N, _)

theorem lt_N3 (t : Fin cfg3.N) : t.val < 22 := t.isLt

abbrev row3 (t : Fin cfg3.N) (r : Fin 384) : Fin 8448 := ⟨384 * t.val + r.val, by have := lt_N3 t; omega⟩

theorem blk3_0 (t : Fin cfg3.N) (s : Fin 2) (r : Fin 384) (k : Fin 2816) : (iblk3 V c 0 t : Vec Ideal S2x384x2816 .bf16) (ix3 s r k) =
    V c main_v5 (ix3 s (row3 t r) k) := by
  unfold iblk3
  generalize V c = W
  blk_point [idx3 t]

theorem blk3_1 (t : Fin cfg3.N) (i : Fin 1024) (k : Fin 5632) : (iblk3 V c 1 t : Vec Ideal S1024x5632 .bf16) (ix2 i k) =
    V c main_v1 (ix2 i k) := by
  unfold iblk3
  generalize V c = W
  blk_point [idx3 t]

theorem chunk_eq (t : Fin cfg3.N) (o s : Fin 2) (r : Fin 384) (i : Fin 1024) :
    chunk (iblk3 V c 0 t) (iblk3 V c 1 t) r i o s = chunkOf (V c main_v5) (V c main_v1) o s (row3 t r) i :=
  Finset.sum_congr rfl fun k _ => congrArg₂ (· * ·) (blk3_0 V c t s r _) (blk3_1 V c t i _)

theorem pt3_2 (t : Fin cfg3.N) (r : Fin 384) (i : Fin 1024) :
    out3_2 (F := Ideal) (iblk3 V c 0 t) (iblk3 V c 1 t) (ix2 r i) = dhOf (V c main_v5) (V c main_v1) (ix2 (row3 t r) i) := by
  refine (out3_2_at _ _ r i).trans ?_
  rw [chunk_eq, chunk_eq, chunk_eq, chunk_eq]
  rfl

theorem arr3_2 : (dat3 V c).arrAt 2 cfg3.N = dhOf (V c main_v5) (V c main_v1) := by
  refine (dat3 V c).arrAt_eq_of_covers 2 _ (by decide +kernel) fun t _ y => ?_
  blk_simp
  rw [after3_2]
  have hy : (y : S384x1024.Idx) = ix2 (y 0) (y 1) := idx2_eq y
  refine ((congrArg (out3_2 (F := Ideal) (iblk3 V c 0 t) (iblk3 V c 1 t)) hy).trans (pt3_2 V c t (y 0) (y 1))).trans ?_
  generalize dhOf (V c main_v5) (V c main_v1) = G
  blk_ext [idx3 t]

end Region3

end Cert.Kernel2Ideal.Ffn

end
-- ==== Proof.Ffn.Run.lean ====
/- The run of the four calls, and the two results as functions of the arguments. -/
module

public import proofs.«01_k».proof.Proof.Ffn.Arrays

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable (m : (ℓ : Loc nD τ sig) → Buf (Elt Ideal) ℓ) (ρ : Dev nD → PrngReg) (c : Dev nD)

theorem V1_v0 : V1 m ρ c main_v0 = m ((c : Thread nD τ).loc main_arg0) := by
  unfold V1 W1 hostOps0
  after_results_simp
  rfl

theorem V1_v1 : V1 m ρ c main_v1 = m ((c : Thread nD τ).loc main_arg1) := by
  unfold V1 W1 hostOps0
  after_results_simp
  rfl

theorem V1_v2 : V1 m ρ c main_v2 = m ((c : Thread nD τ).loc main_arg2) := by
  unfold V1 W1 hostOps0
  after_results_simp
  rfl

theorem V1_v3 : V1 m ρ c main_v3 = m ((c : Thread nD τ).loc main_arg3) := by
  unfold V1 W1 hostOps0
  after_results_simp
  rfl

theorem V2_keep (r : Ref sig .tc) (h : ∀ w : Fin cfg0.W, Pipeline.arrRef spec0 w = r → (cfg0.win w).isOut = false) :
    V2 m ρ c r = V1 m ρ c r := W2_of m ρ c r h
theorem V3_keep (r : Ref sig .tc) (h : ∀ w : Fin cfg1.W, Pipeline.arrRef spec1 w = r → (cfg1.win w).isOut = false) :
    V3 m ρ c r = V2 m ρ c r := W3_of m ρ c r h
theorem V4_keep (r : Ref sig .tc) (h : ∀ w : Fin cfg2.W, Pipeline.arrRef spec2 w = r → (cfg2.win w).isOut = false) :
    V4 m ρ c r = V3 m ρ c r := W4_of m ρ c r h

theorem act_eq : V3 m ρ c main_v4_0 = actOf (m ((c : Thread nD τ).loc main_arg0)) (m ((c : Thread nD τ).loc main_arg1)) := by
  refine (V3_keep m ρ c main_v4_0 (by decide)).trans ((W2_arr m ρ c 3).trans ((arr0_3 (V1 m ρ) c).trans ?_))
  rw [V1_v0, V1_v1]

theorem au_eq : V2 m ρ c main_v4_1 = auOf (m ((c : Thread nD τ).loc main_arg0)) (m ((c : Thread nD τ).loc main_arg1)) := by
  refine (W2_arr m ρ c 4).trans ((arr0_4 (V1 m ρ) c).trans ?_)
  rw [V1_v0, V1_v1]

theorem dau_eq : V4 m ρ c main_v5 = dauOf (m ((c : Thread nD τ).loc main_arg3)) (m ((c : Thread nD τ).loc main_arg2))
    (auOf (m ((c : Thread nD τ).loc main_arg0)) (m ((c : Thread nD τ).loc main_arg1))) := by
  refine (V4_keep m ρ c main_v5 (by decide)).trans ((W3_arr m ρ c 3).trans ((arr1_3 (V2 m ρ) c).trans ?_))
  rw [au_eq, V2_keep m ρ c main_v3 (by decide), V2_keep m ρ c main_v2 (by decide), V1_v3, V1_v2]

/-- The output. -/
def yAll (X0 : Vec Ideal S8448x1024 .bf16) (X1 : Vec Ideal S1024x5632 .bf16) (X2 : Vec Ideal S2816x1024 .bf16) :
    Vec Ideal S8448x1024 .f32 := yOf (actOf X0 X1) X2

/-- The gradient of the input. -/
def dhAll (X0 : Vec Ideal S8448x1024 .bf16) (X1 : Vec Ideal S1024x5632 .bf16) (X2 : Vec Ideal S2816x1024 .bf16)
    (X3 : Vec Ideal S8448x1024 .bf16) : Vec Ideal S8448x1024 .bf16 := dhOf (dauOf X3 X2 (auOf X0 X1)) X1

theorem y_eq : W5 m ρ c (Proc.devRef .tc main_v6) = yAll (m ((c : Thread nD τ).loc main_arg0)) (m ((c : Thread nD τ).loc main_arg1))
    (m ((c : Thread nD τ).loc main_arg2)) := by
  refine (W5_of m ρ c main_v6 (by decide)).trans ((W4_arr m ρ c 2).trans ((arr2_2 (V3 m ρ) c).trans ?_))
  rw [act_eq, V3_keep m ρ c main_v2 (by decide), V2_keep m ρ c main_v2 (by decide), V1_v2]
  rfl

theorem dh_eq : W5 m ρ c (Proc.devRef .tc main_v7) = dhAll (m ((c : Thread nD τ).loc main_arg0)) (m ((c : Thread nD τ).loc main_arg1))
    (m ((c : Thread nD τ).loc main_arg2)) (m ((c : Thread nD τ).loc main_arg3)) := by
  refine (W5_arr m ρ c 2).trans ((arr3_2 (V4 m ρ) c).trans ?_)
  rw [dau_eq, V4_keep m ρ c main_v1 (by decide), V3_keep m ρ c main_v1 (by decide), V2_keep m ρ c main_v1 (by decide), V1_v1]
  rfl

end Cert.Kernel2Ideal.Ffn

end
-- ==== Proof.Ffn.Ident.lean ====
/- The reference's output and gradient of the input at an index, and that they are the kernel's on real arguments. -/
module

public import proofs.«01_k».proof.Proof.Gen.Reference2Ideal.Run
public import proofs.«01_k».proof.Proof.Attn.Real
public import proofs.«01_k».proof.Proof.Ffn.Run

@[expose] public section

set_option maxRecDepth 16384

noncomputable section

namespace Cert.Reference2Ideal.Ffn

open Cert.Reference2Ideal Cert.Reference2Ideal.Gen Cert.Attn Idealize.ShloMosaic Idealize.ShloMosaic.TcCoe Idealize.SL.Sem
open Cert.Kernel2Ideal.Ffn (dotNN dotNT col gate gateA gateU actOf auOf dauOf yOf dhOf chunkOf yAll dhAll idx2_eq)

variable (X0 X3 : FVec Ideal S8448x1024 .f32) (X1 : FVec Ideal S1024x5632 .f32) (X2 : FVec Ideal S2816x1024 .f32)
  (P : FVec Ideal S8448x5632 .f32) (A U S D DA DU : FVec Ideal S8448x2816 .f32)

/-- The first product. -/
def prod : FVec Ideal S8448x5632 .f32 := Host.dotGeneral dot_S8448x1024_S1024x5632_S8448x5632_1_0_0_1_n_n none X0 X1

/-- Its halves. -/
def left : FVec Ideal S8448x2816 .f32 := extractStridedSlice S8448x2816 ![0, 0] P slices_S8448x5632_S8448x2816_0_0
def right : FVec Ideal S8448x2816 .f32 := extractStridedSlice S8448x2816 ![0, 2816] P slices_S8448x5632_S8448x2816_0_2816

/-- All ones. -/
def ones : FVec Ideal S8448x2816 .f32 := broadcastInDim S8448x2816 ![] bcast_S_S8448x2816 (constant S_ .f32 0x3F800000#32)

/-- The logistic function of the left half. -/
def sgm : FVec Ideal S8448x2816 .f32 := Host.divf ones (addf ones (Host.exp (Host.negf A)))

/-- The output. -/
def outT : FVec Ideal S8448x1024 .f32 :=
  Host.dotGeneral dot_S8448x2816_S2816x1024_S8448x1024_1_0_0_1_n_n none (mulf (mulf A S) U) X2

/-- The gradient of the activation. -/
def dact : FVec Ideal S8448x2816 .f32 := Host.dotGeneral dot_S8448x1024_S2816x1024_S8448x2816_1_1_0_0_n_n none X3 X2

/-- The gradients of the halves. -/
def dleft : FVec Ideal S8448x2816 .f32 := addf (mulf (mulf D U) S) (mulf (mulf A (mulf D U)) (mulf S (subf ones S)))
def dright : FVec Ideal S8448x2816 .f32 := mulf (mulf A S) D

/-- The gradient of the first product, and of the input. -/
def dprod : FVec Ideal S8448x5632 .f32 :=
  concatenate S8448x5632 1 [⟨S8448x2816, DA⟩, ⟨S8448x2816, DU⟩] concatenates_S8448x2816_S8448x2816_S8448x5632_d1
def dinT : FVec Ideal S8448x1024 .bf16 :=
  truncf .bf16 (Host.dotGeneral dot_S8448x5632_S1024x5632_S8448x1024_1_1_0_0_n_n none P X1) bitsLt_bf16_f32

theorem prod_at (r : Fin 8448) (j : Fin 5632) : prod X0 X1 (ix2 r j) = dotNN X0 X1 r j := by
  pointwise [prod]

theorem left_at (r : Fin 8448) (j : Fin 2816) : left P (ix2 r j) = P (ix2 r (col 0 j)) := by
  unfold left; pointwise; congr 2; exact Fin.ext (by simp)

theorem right_at (r : Fin 8448) (j : Fin 2816) : right P (ix2 r j) = P (ix2 r (col 1 j)) := by
  unfold right; pointwise; try (congr 2 <;> exact Fin.ext (by simp))

theorem ones_at (i : S8448x2816.Idx) : ones i = 1 := by
  pointwise [ones]

theorem sgm_at (r : Fin 8448) (j : Fin 2816) : sgm A (ix2 r j) = Ideal.logistic (A (ix2 r j)) := by
  unfold sgm
  pointwise [ones]
  rfl

theorem outT_at (r : Fin 8448) (j : Fin 1024) : outT X2 A U S (ix2 r j) =
    ∑ k : Fin 2816, A (ix2 r k) * S (ix2 r k) * U (ix2 r k) * X2 (ix2 k j) := by
  pointwise [outT]

theorem dact_at (r : Fin 8448) (j : Fin 2816) : dact X3 X2 (ix2 r j) = dotNT X3 X2 r j := by
  pointwise [dact]

theorem dleft_at (r : Fin 8448) (j : Fin 2816) : dleft A U S D (ix2 r j) =
    D (ix2 r j) * U (ix2 r j) * S (ix2 r j) + A (ix2 r j) * (D (ix2 r j) * U (ix2 r j)) * (S (ix2 r j) * (1 - S (ix2 r j))) := by
  pointwise [dleft, ones]

theorem dright_at (r : Fin 8448) (j : Fin 2816) : dright A S D (ix2 r j) = A (ix2 r j) * S (ix2 r j) * D (ix2 r j) := by
  pointwise [dright]

theorem dprod_left (r : Fin 8448) (j : Fin 2816) : dprod DA DU (ix2 r (col 0 j)) = DA (ix2 r j) :=
  concatenate_pair_apply_left (1 : Fin S8448x5632.rank) DA DU concatenates_S8448x2816_S8448x2816_S8448x5632_d1 (ix2 r (col 0 j)) rfl (ix2 r j)
    fun b => by fin_cases b <;> first | rfl | exact (Nat.zero_add _).symm

theorem dprod_right (r : Fin 8448) (j : Fin 2816) : dprod DA DU (ix2 r (col 1 j)) = DU (ix2 r j) :=
  concatenate_pair_apply_right (1 : Fin S8448x5632.rank) DA DU concatenates_S8448x2816_S8448x2816_S8448x5632_d1 (ix2 r (col 1 j)) rfl rfl (ix2 r j)
    (fun b hb => by
      fin_cases b
      · rfl
      · exact absurd rfl hb)
    (Nat.add_comm j.val 2816)

theorem dinT_at (r : Fin 8448) (j : Fin 1024) : dinT X1 P (ix2 r j) = ∑ k : Fin 5632, P (ix2 r k) * X1 (ix2 j k) := by
  pointwise [dinT]

/-- A sum over the columns, half by half of each half. -/
theorem sum_cols (f : Fin 5632 → EReal) : ∑ k, f k =
    ((∑ k : Fin 1408, f (col 0 ⟨1408 * (0 : Fin 2).val + k.val, by omega⟩)) + (∑ k : Fin 1408, f (col 0 ⟨1408 * (1 : Fin 2).val + k.val, by omega⟩))
      + ∑ k : Fin 1408, f (col 1 ⟨1408 * (0 : Fin 2).val + k.val, by omega⟩)) + ∑ k : Fin 1408, f (col 1 ⟨1408 * (1 : Fin 2).val + k.val, by omega⟩) := by
  refine (Fin.sum_univ_add (a := 2816) (b := 2816) f).trans ?_
  rw [Fin.sum_univ_add (a := 1408) (b := 1408) fun k : Fin 2816 => f (Fin.castAdd 2816 k),
    Fin.sum_univ_add (a := 1408) (b := 1408) fun k : Fin 2816 => f (Fin.natAdd 2816 k), ← add_assoc]
  refine congrArg₂ (· + ·) (congrArg₂ (· + ·) (congrArg₂ (· + ·) ?_ ?_) ?_) ?_ <;>
    exact Finset.sum_congr rfl fun k _ => congrArg f (Fin.ext (by simp <;> omega))

theorem out_eq : outT X2 (left (prod X0 X1)) (right (prod X0 X1)) (sgm (left (prod X0 X1))) = yAll X0 X1 X2 := by
  funext i
  obtain ⟨r, j, rfl⟩ : ∃ (r : Fin 8448) (j : Fin 1024), i = ix2 r j := ⟨i 0, i 1, idx2_eq i⟩
  rw [outT_at]
  show _ = ∑ k : Fin 2816, actOf X0 X1 (ix2 r k) * X2 (ix2 k j)
  refine Finset.sum_congr rfl fun k _ => ?_
  rw [sgm_at, left_at, right_at, prod_at, prod_at]
  rfl

/-- The two ways to write the gradient of the left half agree on real numbers. -/
theorem gateA_real (d a u : ℝ) : (d : EReal) * u * Ideal.logistic a + a * (d * u) * (Ideal.logistic a * (1 - Ideal.logistic a)) =
    gateA d a u := by
  unfold gateA
  rw [Ideal.logistic_coe]
  generalize (1 + Real.exp (-a))⁻¹ = s
  simp only [← EReal.coe_one, ← EReal.coe_mul, ← EReal.coe_sub, ← EReal.coe_add]
  exact congrArg (fun x : ℝ => (x : EReal)) (by ring)

section

variable {X0 X3 X1 X2} {x0 x3 : Fin 8448 → Fin 1024 → ℝ} {x1 : Fin 1024 → Fin 5632 → ℝ} {x2 : Fin 2816 → Fin 1024 → ℝ}
  (h0 : ∀ r k, X0 (ix2 r k) = (x0 r k : EReal)) (h1 : ∀ k j, X1 (ix2 k j) = (x1 k j : EReal))
  (h2 : ∀ j k, X2 (ix2 j k) = (x2 j k : EReal)) (h3 : ∀ r k, X3 (ix2 r k) = (x3 r k : EReal))

include h0 h1 in
theorem dotNN_real (r : Fin 8448) (j : Fin 5632) : dotNN X0 X1 r j = ((∑ k, x0 r k * x1 k j : ℝ) : EReal) := by
  simp only [dotNN, h0, h1, ← EReal.coe_mul, coe_sum]

include h2 h3 in
theorem dotNT_real (r : Fin 8448) (j : Fin 2816) : dotNT X3 X2 r j = ((∑ k, x3 r k * x2 j k : ℝ) : EReal) := by
  simp only [dotNT, h2, h3, ← EReal.coe_mul, coe_sum]

include h0 h1 h2 h3 in
theorem dleft_eq (r : Fin 8448) (j : Fin 2816) :
    dleft (left (prod X0 X1)) (right (prod X0 X1)) (sgm (left (prod X0 X1))) (dact X3 X2) (ix2 r j) =
      dauOf X3 X2 (auOf X0 X1) (ix3 0 r j) := by
  rw [dleft_at, sgm_at, left_at, right_at, prod_at, prod_at, dact_at, dotNT_real h2 h3, dotNN_real h0 h1, dotNN_real h0 h1, gateA_real,
    ← dotNT_real h2 h3, ← dotNN_real h0 h1, ← dotNN_real h0 h1]
  rfl

theorem dright_eq (r : Fin 8448) (j : Fin 2816) :
    dright (left (prod X0 X1)) (sgm (left (prod X0 X1))) (dact X3 X2) (ix2 r j) = dauOf X3 X2 (auOf X0 X1) (ix3 1 r j) := by
  rw [dright_at, sgm_at, left_at, prod_at, dact_at, mul_comm]
  rfl

include h0 h1 h2 h3 in
theorem din_eq : dinT X1 (dprod (dleft (left (prod X0 X1)) (right (prod X0 X1)) (sgm (left (prod X0 X1))) (dact X3 X2))
    (dright (left (prod X0 X1)) (sgm (left (prod X0 X1))) (dact X3 X2))) = dhAll X0 X1 X2 X3 := by
  funext i
  obtain ⟨r, j, rfl⟩ : ∃ (r : Fin 8448) (j : Fin 1024), i = ix2 r j := ⟨i 0, i 1, idx2_eq i⟩
  rw [dinT_at, sum_cols]
  simp only [dprod_left, dprod_right, dleft_eq h0 h1 h2 h3, dright_eq]
  rfl

end

variable (m : (ℓ : Loc nD τ sig) → Buf (Elt Ideal) ℓ) (ρ : Dev nD → PrngReg)

/-- The reference's run, its two results named. -/
theorem run : θ_run defs (onTc (τ := τ) (main (F := Ideal))) ⟨m, fun _ => 0, ρ⟩ fun r => ∀ c : Dev nD,
    (∀ X0 X1 X2 X3, m ((c.tc : Thread nD τ).loc main_arg0) = X0 → m ((c.tc : Thread nD τ).loc main_arg1) = X1 →
      m ((c.tc : Thread nD τ).loc main_arg2) = X2 → m ((c.tc : Thread nD τ).loc main_arg3) = X3 →
      r.2.mem ((c.tc : Thread nD τ).loc main_v5) =
        outT X2 (left (prod X0 X1)) (right (prod X0 X1)) (sgm (left (prod X0 X1)))
      ∧ r.2.mem ((c.tc : Thread nD τ).loc main_v16) =
        dinT X1 (dprod (dleft (left (prod X0 X1)) (right (prod X0 X1)) (sgm (left (prod X0 X1))) (dact X3 X2))
          (dright (left (prod X0 X1)) (sgm (left (prod X0 X1))) (dact X3 X2))))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run _ _ _).mono (fun r h c => ?_) (Value.run m ρ)
  obtain ⟨r1, r2, r3⟩ := h c
  refine ⟨?_, r3⟩
  rintro _ _ _ _ rfl rfl rfl rfl
  exact ⟨r1, r2⟩

end Cert.Reference2Ideal.Ffn

end
-- ==== Proof.Mm.Common.lean ====
/- Facts that the products' calls share: a whole buffer read back, and a sum over the blocks of a contracted axis. -/
module

public import Idealize.ShloMosaic.Lib.Pipeline.ValueKit
public import Idealize.ShloMosaic.Lib.Pipeline.Value
public import Idealize.ShloMosaic.Lib.Pointwise
public import Idealize.ShloMosaic.Lib.ValueIdx

@[expose] public section

noncomputable section

namespace Cert.Mm

open Idealize.ShloMosaic

theorem hz2 : (![0, 0] : Fin 2 → ℕ) = fun _ => 0 := by
  funext a; fin_cases a <;> rfl

theorem hz3 : (![0, 0, 0] : Fin 3 → ℕ) = fun _ => 0 := by
  funext a; fin_cases a <;> rfl

/-- The one matrix of a stack of one. -/
abbrev lead {M N : ℕ} (w : (⟨3, ![1, M, N]⟩ : Shape).Idx → EReal) : (⟨2, ![M, N]⟩ : Shape).Idx → EReal := fun i => w (ix3 0 (i 0) (i 1))

theorem idx2_eq {M N : ℕ} (y : (⟨2, ![M, N]⟩ : Shape).Idx) : y = ix2 (y 0) (y 1) := by
  funext a
  fin_cases a <;> rfl

/-- A whole buffer's contents, read back whole. -/
theorem read_back {sig : RefSig} {κ : Kind} {sp : Space} {S : Shape} {e : EltTy} (a : Memref sig κ sp S e) (h : a.IsWhole)
    (x : S.Idx → Elt Ideal e) {off : Fin S.rank → ℕ} (ho : off = fun _ => 0) (inb : ∀ a, off a + S.size a ≤ S.size a) :
    a.view.readAt (Elt Ideal) (Rect.unit off S.size inb).toLoadRect (h.unread x) = x := by
  rw [View.readAt_eq_ld, View.ld_unit_zero ho, h.read_unread]

/-- An entry of the product of two matrices. -/
abbrev dotNN {M K N : ℕ} (x : (⟨2, ![M, K]⟩ : Shape).Idx → EReal) (w : (⟨2, ![K, N]⟩ : Shape).Idx → EReal) (r : Fin M) (j : Fin N) : EReal :=
  ∑ k : Fin K, x (ix2 r k) * w (ix2 k j)

/-- An entry of the product of the first matrix's transpose with the second. -/
abbrev dotTN {M K N : ℕ} (x : (⟨2, ![K, M]⟩ : Shape).Idx → EReal) (w : (⟨2, ![K, N]⟩ : Shape).Idx → EReal) (r : Fin M) (j : Fin N) : EReal :=
  ∑ k : Fin K, x (ix2 k r) * w (ix2 k j)

/-- An entry of the product of the first matrix with the second's transpose. -/
abbrev dotNT {M K N : ℕ} (x : (⟨2, ![M, K]⟩ : Shape).Idx → EReal) (w : (⟨2, ![N, K]⟩ : Shape).Idx → EReal) (r : Fin M) (j : Fin N) : EReal :=
  ∑ k : Fin K, x (ix2 r k) * w (ix2 j k)

/-- The whole product of a transpose. -/
def prodTN {M K N : ℕ} (x : (⟨2, ![K, M]⟩ : Shape).Idx → EReal) (w : (⟨2, ![K, N]⟩ : Shape).Idx → EReal) :
    (⟨2, ![M, N]⟩ : Shape).Idx → EReal := fun i => dotTN x w (i 0) (i 1)

/-- The whole product with a transpose. -/
def prodNT {M K N : ℕ} (x : (⟨2, ![M, K]⟩ : Shape).Idx → EReal) (w : (⟨2, ![N, K]⟩ : Shape).Idx → EReal) :
    (⟨2, ![M, N]⟩ : Shape).Idx → EReal := fun i => dotNT x w (i 0) (i 1)

/-- The whole product. -/
def prodNN {M K N : ℕ} (x : (⟨2, ![M, K]⟩ : Shape).Idx → EReal) (w : (⟨2, ![K, N]⟩ : Shape).Idx → EReal) :
    (⟨2, ![M, N]⟩ : Shape).Idx → EReal := fun i => dotNN x w (i 0) (i 1)

/-- An accumulator that a run of `J` points sets at its first point and adds to at the others: at the last point it is
    the sum of the run's terms, and the sum over the whole contracted axis, if each point's term is the sum over its part of it. -/
theorem acc_total {N J n L : ℕ} [NeZero J] {ι : Type} (f : (n : ℕ) → n < N → ι → EReal) (term : Fin N → ι → EReal)
    (h0 : ∀ t : Fin N, t.val % J = 0 → ∀ i, f t.val t.isLt i = term t i)
    (hs : ∀ t : Fin N, ¬t.val % J = 0 → ∀ i,
      f t.val t.isLt i = f (t.val - 1) (Nat.lt_of_le_of_lt (Nat.sub_le _ _) t.isLt) i + term t i)
    (t : Fin N) (hr : t.val % J = J - 1) (i : ι) (g : Fin L → EReal) (hL : L = J * n)
    (hg : ∀ (u : Fin N), u.val / J = t.val / J → term u i = ∑ k : Fin n, g ⟨u.val % J * n + k.val, by
      have h1 : u.val % J + 1 ≤ J := Nat.mod_lt _ (NeZero.pos J)
      have h2 := Nat.mul_le_mul_right n h1
      rw [Nat.succ_mul] at h2
      omega⟩) :
    f t.val t.isLt i = ∑ l : Fin L, g l := by
  refine (Pipeline.eq_sum_fin_of_reset_step_apply_of_flush f J (fun _ => 0) term
    (fun t h i => (h0 t h i).trans (zero_add _).symm) hs t hr i).trans ((zero_add _).trans ?_)
  have hJ := NeZero.pos J
  refine (Finset.sum_congr rfl fun s _ => hg _ ?_).trans (Fin.sum_mul_add_congr (fun s k hl => ?_) hL)
  · show (J * (t.val / J) + s.val) / J = _
    rw [Nat.mul_add_div hJ, Nat.div_eq_of_lt s.isLt, add_zero]
  · refine congrArg g (Fin.ext ?_)
    show (J * (t.val / J) + s.val) % J * n + k.val = _
    rw [Nat.mul_add_mod, Nat.mod_eq_of_lt s.isLt]

end Cert.Mm

end
-- ==== Proof.Mm.InDw.lean ====
/- The gradient of the input projection's weight. -/
module

public import proofs.«01_k».proof.Proof.Gen.Kernel3Ideal.Value
public import proofs.«01_k».proof.Proof.Mm.Common

@[expose] public section

set_option maxRecDepth 16384

noncomputable section

namespace Cert.Kernel3Ideal.Mm

open Cert.Kernel3Ideal Cert.Kernel3Ideal.Gen Cert.Mm Idealize.ShloMosaic Idealize.ShloMosaic.TcCoe Idealize.SL.Sem

section Body

variable (c : Dev nD) (i : grid0.Coords) (a3 : Memref sig .tc .vmem S1408x512 .bf16) (h3 : a3.IsWhole)
  (a4 : Memref sig .tc .vmem S1408x2176 .bf16) (h4 : a4.IsWhole) (a5 : Memref sig .tc .vmem S512x2176 .bf16) (h5 : a5.IsWhole)
  (a6 : Memref sig .tc .vmem S512x2176 .f32) (h6 : a6.IsWhole)
  (x : Vec Ideal S1408x512 .bf16) (w : Vec Ideal S1408x2176 .bf16) (s : Vec Ideal S512x2176 .f32)

theorem part_at (r : Fin 512) (j : Fin 2176) : k0_pay1 (F := Ideal) x w (ix2 r j) = dotTN x w r j := by
  pointwise [k0_pay1]

theorem first_at (y : S512x2176.Idx) : k0_pay2 (F := Ideal) x w y = dotTN x w (y 0) (y 1) := by
  refine Eq.trans ?_ ((congrArg (k0_pay1 (F := Ideal) x w) (idx2_eq y)).trans (part_at x w (y 0) (y 1)))
  unfold k0_pay2
  generalize k0_pay1 (F := Ideal) x w = p
  pointwise

theorem next_at (y : S512x2176.Idx) : k0_pay3 (F := Ideal) x w s y = s y + dotTN x w (y 0) (y 1) := by
  refine Eq.trans ?_ (congrArg (s y + ·) ((congrArg (k0_pay1 (F := Ideal) x w) (idx2_eq y)).trans (part_at x w (y 0) (y 1))))
  unfold k0_pay3
  generalize k0_pay1 (F := Ideal) x w = p
  pointwise

theorem soutA (e0 : cond0_0 i) (e1 : ¬cond0_1 i) (e2 : ¬cond0_2 i) :
    sout0_A_0 c i a3 h3 a4 h4 a5 h5 a6 h6 e0 e1 e2 x w = k0_pay2 x w := by
  unfold sout0_A_0
  rw [View.read_writes_eq_canon _ _ _ (scover0_A_0 c i a3 h3 a4 h4 a5 h5 a6 h6 e0 e1 e2 x w)]
  unfold kernelRun0_A
  dsimp only
  rw [View.canon_unit_zero hz2]
  exact congrArg₂ k0_pay2 (read_back a3 h3 x hz2 _) (read_back a4 h4 w hz2 _)

theorem soutB (e0 : ¬cond0_0 i) (e1 : cond0_1 i) (e2 : ¬cond0_2 i) :
    sout0_B_0 c i a3 h3 a4 h4 a5 h5 a6 h6 e0 e1 e2 x w s = k0_pay3 x w s := by
  unfold sout0_B_0
  rw [View.read_writes_eq_canon _ _ _ (scover0_B_0 c i a3 h3 a4 h4 a5 h5 a6 h6 e0 e1 e2 x w s)]
  unfold kernelRun0_B
  dsimp only
  rw [View.canon_unit_zero hz2]
  exact congr (congrArg₂ k0_pay3 (read_back a3 h3 x hz2 _) (read_back a4 h4 w hz2 _)) (read_back a6 h6 s hz2 _)

theorem soutC (e0 : ¬cond0_0 i) (e1 : cond0_1 i) (e2 : cond0_2 i) :
    sout0_C_0 c i a3 h3 a4 h4 a5 h5 a6 h6 e0 e1 e2 x w s = k0_pay3 x w s := by
  unfold sout0_C_0
  rw [View.read_writes_eq_canon _ _ _ (scover0_C_0 c i a3 h3 a4 h4 a5 h5 a6 h6 e0 e1 e2 x w s)]
  unfold kernelRun0_C
  dsimp only
  delta kernelRun0_C.sl.HS0_1
  rw [View.canon_unit_zero hz2]
  exact congr (congrArg₂ k0_pay3 (read_back a3 h3 x hz2 _) (read_back a4 h4 w hz2 _)) (read_back a6 h6 s hz2 _)

theorem outC (e0 : ¬cond0_0 i) (e1 : cond0_1 i) (e2 : cond0_2 i) :
    out0_C_2 c i a3 h3 a4 h4 a5 h5 a6 h6 e0 e1 e2 x w s = k0_pay4 (k0_pay3 x w s) := by
  unfold out0_C_2
  rw [View.read_writes_eq_canon _ _ _ (cover0_C_2 c i a3 h3 a4 h4 a5 h5 a6 h6 e0 e1 e2 x w s)]
  unfold kernelRun0_C
  dsimp only
  rw [View.canon_unit_zero hz2]
  delta kernelRun0_C.sl.v14 kernelRun0_C.sl.HS0_1
  rw [View.readCov_unit_zero a6.view hz2]
  exact congrArg k0_pay4 <| congr (congrArg₂ k0_pay3 (read_back a3 h3 x hz2 _) (read_back a4 h4 w hz2 _)) (read_back a6 h6 s hz2 _)

end Body

variable (m : (ℓ : Loc nD τ sig) → Buf (Elt Ideal) ℓ) (c : Dev nD)

theorem idx : ∀ t : Fin cfg0.N, win0_0.index t = ![t.val % 6, t.val / 12] ∧ win0_1.index t = ![t.val % 6, t.val / 6 % 2] ∧
    win0_2.index t = ![t.val / 12, t.val / 6 % 2] :=
  (by decide +kernel : ∀ t : Fin grid0.N, _)

theorem lt_N (t : Fin cfg0.N) : t.val < 24 := t.isLt

theorem blk0 (t : Fin cfg0.N) (k : Fin 1408) (r : Fin 512) (R : Fin 1024) (hR : R.val = 512 * (t.val / 12) + r.val) :
    (iblk m c 0 t : Vec Ideal S1408x512 .bf16) (ix2 k r) = V m c main_v0 (ix2 ⟨t.val % 6 * 1408 + k.val, by omega⟩ R) := by
  rw [show R = ⟨512 * (t.val / 12) + r.val, by have := lt_N t; omega⟩ from Fin.ext hR]
  unfold iblk
  generalize V m c = W
  blk_point [idx t]

theorem blk1 (t : Fin cfg0.N) (k : Fin 1408) (j : Fin 2176) (J : Fin 4352) (hJ : J.val = 2176 * (t.val / 6 % 2) + j.val) :
    (iblk m c 1 t : Vec Ideal S1408x2176 .bf16) (ix2 k j) = V m c main_v1 (ix2 ⟨t.val % 6 * 1408 + k.val, by omega⟩ J) := by
  rw [show J = ⟨2176 * (t.val / 6 % 2) + j.val, by omega⟩ from Fin.ext hJ]
  unfold iblk
  generalize V m c = W
  blk_point [idx t]

/-- The two operands, as the call finds them. -/
abbrev X : S8448x1024.Idx → EReal := V m c main_v0
abbrev Y : S8448x4352.Idx → EReal := V m c main_v1

/-- What a point adds to its block. -/
def term (t : Fin cfg0.N) (y : S512x2176.Idx) : EReal :=
  dotTN (iblk m c 0 t : Vec Ideal S1408x512 .bf16) (iblk m c 1 t : Vec Ideal S1408x2176 .bf16) (y 0) (y 1)

/-- The scratch after a point. -/
abbrev scr (n : ℕ) (h : n < cfg0.N) : S512x2176.Idx → EReal := (outsAt0 m c n h).2

theorem scr_first (t : Fin cfg0.N) (h : t.val % 6 = 0) (y : S512x2176.Idx) : scr m c t.val t.isLt y = term m c t y := by
  unfold scr
  rw [outsAt0_A m c t h (by omega) (by omega)]
  dsimp only
  rw [soutA]
  exact first_at _ _ y

theorem scr_next (t : Fin cfg0.N) (h : ¬t.val % 6 = 0) (y : S512x2176.Idx) : scr m c t.val t.isLt y =
    scr m c (t.val - 1) (Nat.lt_of_le_of_lt (Nat.sub_le _ _) t.isLt) y + term m c t y := by
  unfold scr
  by_cases h2 : t.val % 6 = 5
  · rw [outsAt0_C m c t h (by omega) h2]
    dsimp only
    rw [soutC]
    exact next_at _ _ _ y
  · rw [outsAt0_B m c t h (by omega) h2]
    dsimp only
    rw [soutB]
    exact next_at _ _ _ y

theorem out_last (t : Fin cfg0.N) (h : t.val % 6 = 5) : ((outsAt0 m c t.val t.isLt).1 : S512x2176.Idx → EReal) = scr m c t.val t.isLt := by
  unfold scr
  rw [outsAt0_C m c t (by omega) (by omega) h]
  dsimp only
  rw [soutC, outC]
  funext y
  pointwise [k0_pay4]

/-- One product of an entry's sum. -/
def lane (R : Fin 1024) (J : Fin 4352) (l : Fin 8448) : EReal := X m c (ix2 l R) * Y m c (ix2 l J)

theorem point_eq (u : Fin cfg0.N) (r : Fin 512) (j : Fin 2176) (R : Fin 1024) (J : Fin 4352)
    (hR : R.val = 512 * (u.val / 12) + r.val) (hJ : J.val = 2176 * (u.val / 6 % 2) + j.val) :
    term m c u (ix2 r j) = ∑ k : Fin 1408, lane m c R J ⟨u.val % 6 * 1408 + k.val, by omega⟩ :=
  Finset.sum_congr rfl fun k _ => congrArg₂ (fun a b : EReal => a * b) (blk0 m c u k r R hR) (blk1 m c u k j J hJ)

theorem last_at (t : Fin cfg0.N) (hr : t.val % 6 = 6 - 1) (r : Fin 512) (j : Fin 2176) (R : Fin 1024) (J : Fin 4352)
    (hR : R.val = 512 * (t.val / 12) + r.val) (hJ : J.val = 2176 * (t.val / 6 % 2) + j.val) :
    (outsAt0 m c t.val t.isLt).1 (ix2 r j) = prodTN (X m c) (Y m c) (ix2 R J) :=
  (congrFun (out_last m c t hr) _).trans (acc_total (scr m c) (term m c) (scr_first m c) (scr_next m c) t hr (ix2 r j) (lane m c R J) rfl
    fun u hu => point_eq m c u r j R J (by rw [hR]; omega) (by rw [hJ]; omega))

/-- The array that the call leaves. -/
theorem arr : (dats m 0 c).arrAt 2 cfg0.N = prodTN (X m c) (Y m c) := by
  refine (dats m 0 c).arrAt_eq_of_covers 2 _ (by decide +kernel) fun t hf y => ?_
  blk_simp
  rw [after0_2]
  have hN := lt_N t
  have h0 : (y 0).val < 512 := (y 0).isLt
  have h1 : (y 1).val < 2176 := (y 1).isLt
  refine (congrArg (outsAt0 m c t.val t.isLt).1 (idx2_eq (y : S512x2176.Idx))).trans ((last_at m c t ((flush0_2 t).mp hf) (y 0) (y 1)
    ⟨512 * (t.val / 12) + (y 0).val, by omega⟩ ⟨2176 * (t.val / 6 % 2) + (y 1).val, by omega⟩ rfl rfl).trans ?_)
  generalize prodTN (X m c) (Y m c) = G
  blk_ext [idx t]

end Cert.Kernel3Ideal.Mm

end
-- ==== Proof.Mm.InDx.lean ====
/- The gradient of the input projection's input. -/
module

public import proofs.«01_k».proof.Proof.Gen.Kernel4Ideal.Value
public import proofs.«01_k».proof.Proof.Mm.Common

@[expose] public section

set_option maxRecDepth 16384

noncomputable section

namespace Cert.Kernel4Ideal.Mm

open Cert.Kernel4Ideal Cert.Kernel4Ideal.Gen Cert.Mm Idealize.ShloMosaic Idealize.ShloMosaic.TcCoe Idealize.SL.Sem

section Body

variable (c : Dev nD) (i : grid0.Coords) (a3 : Memref sig .tc .vmem S768x2176 .bf16) (h3 : a3.IsWhole)
  (a4 : Memref sig .tc .vmem S1024x2176 .bf16) (h4 : a4.IsWhole) (a5 : Memref sig .tc .vmem S768x1024 .bf16) (h5 : a5.IsWhole)
  (a6 : Memref sig .tc .vmem S768x1024 .f32) (h6 : a6.IsWhole)
  (x : Vec Ideal S768x2176 .bf16) (w : Vec Ideal S1024x2176 .bf16) (s : Vec Ideal S768x1024 .f32)

theorem part_at (r : Fin 768) (j : Fin 1024) : k0_pay1 (F := Ideal) x w (ix2 r j) = dotNT x w r j := by
  pointwise [k0_pay1]

theorem first_at (y : S768x1024.Idx) : k0_pay2 (F := Ideal) x w y = dotNT x w (y 0) (y 1) := by
  refine Eq.trans ?_ ((congrArg (k0_pay1 (F := Ideal) x w) (idx2_eq y)).trans (part_at x w (y 0) (y 1)))
  unfold k0_pay2
  generalize k0_pay1 (F := Ideal) x w = p
  pointwise

theorem next_at (y : S768x1024.Idx) : k0_pay3 (F := Ideal) x w s y = s y + dotNT x w (y 0) (y 1) := by
  refine Eq.trans ?_ (congrArg (s y + ·) ((congrArg (k0_pay1 (F := Ideal) x w) (idx2_eq y)).trans (part_at x w (y 0) (y 1))))
  unfold k0_pay3
  generalize k0_pay1 (F := Ideal) x w = p
  pointwise

theorem soutA (e0 : cond0_0 i) (e1 : ¬cond0_1 i) (e2 : ¬cond0_2 i) :
    sout0_A_0 c i a3 h3 a4 h4 a5 h5 a6 h6 e0 e1 e2 x w = k0_pay2 x w := by
  unfold sout0_A_0
  rw [View.read_writes_eq_canon _ _ _ (scover0_A_0 c i a3 h3 a4 h4 a5 h5 a6 h6 e0 e1 e2 x w)]
  unfold kernelRun0_A
  dsimp only
  rw [View.canon_unit_zero hz2]
  exact congrArg₂ k0_pay2 (read_back a3 h3 x hz2 _) (read_back a4 h4 w hz2 _)

theorem soutB (e0 : ¬cond0_0 i) (e1 : cond0_1 i) (e2 : cond0_2 i) :
    sout0_B_0 c i a3 h3 a4 h4 a5 h5 a6 h6 e0 e1 e2 x w s = k0_pay3 x w s := by
  unfold sout0_B_0
  rw [View.read_writes_eq_canon _ _ _ (scover0_B_0 c i a3 h3 a4 h4 a5 h5 a6 h6 e0 e1 e2 x w s)]
  unfold kernelRun0_B
  dsimp only
  delta kernelRun0_B.sl.HS0_1
  rw [View.canon_unit_zero hz2]
  exact congr (congrArg₂ k0_pay3 (read_back a3 h3 x hz2 _) (read_back a4 h4 w hz2 _)) (read_back a6 h6 s hz2 _)

theorem outB (e0 : ¬cond0_0 i) (e1 : cond0_1 i) (e2 : cond0_2 i) :
    out0_B_2 c i a3 h3 a4 h4 a5 h5 a6 h6 e0 e1 e2 x w s = k0_pay4 (k0_pay3 x w s) := by
  unfold out0_B_2
  rw [View.read_writes_eq_canon _ _ _ (cover0_B_2 c i a3 h3 a4 h4 a5 h5 a6 h6 e0 e1 e2 x w s)]
  unfold kernelRun0_B
  dsimp only
  rw [View.canon_unit_zero hz2]
  delta kernelRun0_B.sl.v14 kernelRun0_B.sl.HS0_1
  rw [View.readCov_unit_zero a6.view hz2]
  exact congrArg k0_pay4 <| congr (congrArg₂ k0_pay3 (read_back a3 h3 x hz2 _) (read_back a4 h4 w hz2 _)) (read_back a6 h6 s hz2 _)

end Body

variable (m : (ℓ : Loc nD τ sig) → Buf (Elt Ideal) ℓ) (c : Dev nD)

theorem idx : ∀ t : Fin cfg0.N, win0_0.index t = ![t.val / 2, t.val % 2] ∧ win0_1.index t = ![0, t.val % 2] ∧
    win0_2.index t = ![t.val / 2, 0] :=
  (by decide +kernel : ∀ t : Fin grid0.N, _)

theorem lt_N (t : Fin cfg0.N) : t.val < 22 := t.isLt

theorem blk0 (t : Fin cfg0.N) (r : Fin 768) (k : Fin 2176) (R : Fin 8448) (hR : R.val = 768 * (t.val / 2) + r.val) :
    (iblk m c 0 t : Vec Ideal S768x2176 .bf16) (ix2 r k) = V m c main_v0 (ix2 R ⟨t.val % 2 * 2176 + k.val, by omega⟩) := by
  rw [show R = ⟨768 * (t.val / 2) + r.val, by have := lt_N t; omega⟩ from Fin.ext hR]
  unfold iblk
  generalize V m c = W
  blk_point [idx t]

theorem blk1 (t : Fin cfg0.N) (j : Fin 1024) (k : Fin 2176) :
    (iblk m c 1 t : Vec Ideal S1024x2176 .bf16) (ix2 j k) = V m c main_v1 (ix2 j ⟨t.val % 2 * 2176 + k.val, by omega⟩) := by
  unfold iblk
  generalize V m c = W
  blk_point [idx t]

/-- The two operands, as the call finds them. -/
abbrev X : S8448x4352.Idx → EReal := V m c main_v0
abbrev Y : S1024x4352.Idx → EReal := V m c main_v1

/-- What a point adds to its block. -/
def term (t : Fin cfg0.N) (y : S768x1024.Idx) : EReal :=
  dotNT (iblk m c 0 t : Vec Ideal S768x2176 .bf16) (iblk m c 1 t : Vec Ideal S1024x2176 .bf16) (y 0) (y 1)

/-- The scratch after a point. -/
abbrev scr (n : ℕ) (h : n < cfg0.N) : S768x1024.Idx → EReal := (outsAt0 m c n h).2

theorem scr_first (t : Fin cfg0.N) (h : t.val % 2 = 0) (y : S768x1024.Idx) : scr m c t.val t.isLt y = term m c t y := by
  unfold scr
  rw [outsAt0_A m c t h (by omega) (by omega)]
  dsimp only
  rw [soutA]
  exact first_at _ _ y

theorem scr_next (t : Fin cfg0.N) (h : ¬t.val % 2 = 0) (y : S768x1024.Idx) : scr m c t.val t.isLt y =
    scr m c (t.val - 1) (Nat.lt_of_le_of_lt (Nat.sub_le _ _) t.isLt) y + term m c t y := by
  unfold scr
  rw [outsAt0_B m c t h (by omega) (by omega)]
  dsimp only
  rw [soutB]
  exact next_at _ _ _ y

theorem out_last (t : Fin cfg0.N) (h : t.val % 2 = 1) : ((outsAt0 m c t.val t.isLt).1 : S768x1024.Idx → EReal) = scr m c t.val t.isLt := by
  unfold scr
  rw [outsAt0_B m c t (by omega) h h]
  dsimp only
  rw [soutB, outB]
  funext y
  pointwise [k0_pay4]

/-- One product of an entry's sum. -/
def lane (R : Fin 8448) (j : Fin 1024) (l : Fin 4352) : EReal := X m c (ix2 R l) * Y m c (ix2 j l)

theorem point_eq (u : Fin cfg0.N) (r : Fin 768) (j : Fin 1024) (R : Fin 8448) (hR : R.val = 768 * (u.val / 2) + r.val) :
    term m c u (ix2 r j) = ∑ k : Fin 2176, lane m c R j ⟨u.val % 2 * 2176 + k.val, by omega⟩ :=
  Finset.sum_congr rfl fun k _ => congrArg₂ (fun a b : EReal => a * b) (blk0 m c u r k R hR) (blk1 m c u j k)

theorem last_at (t : Fin cfg0.N) (hr : t.val % 2 = 2 - 1) (r : Fin 768) (j : Fin 1024) (R : Fin 8448)
    (hR : R.val = 768 * (t.val / 2) + r.val) : (outsAt0 m c t.val t.isLt).1 (ix2 r j) = prodNT (X m c) (Y m c) (ix2 R j) :=
  (congrFun (out_last m c t hr) _).trans (acc_total (scr m c) (term m c) (scr_first m c) (scr_next m c) t hr (ix2 r j) (lane m c R j) rfl
    fun u hu => point_eq m c u r j R (by rw [hR]; omega))

/-- The array that the call leaves. -/
theorem arr : (dats m 0 c).arrAt 2 cfg0.N = prodNT (X m c) (Y m c) := by
  refine (dats m 0 c).arrAt_eq_of_covers 2 _ (by decide +kernel) fun t hf y => ?_
  blk_simp
  rw [after0_2]
  have hN := lt_N t
  have h0 : (y 0).val < 768 := (y 0).isLt
  refine (congrArg (outsAt0 m c t.val t.isLt).1 (idx2_eq (y : S768x1024.Idx))).trans ((last_at m c t ((flush0_2 t).mp hf) (y 0) (y 1)
    ⟨768 * (t.val / 2) + (y 0).val, by omega⟩ rfl).trans ?_)
  generalize prodNT (X m c) (Y m c) = G
  blk_ext [idx t]

end Cert.Kernel4Ideal.Mm

end
-- ==== Proof.Mm.InFwd.lean ====
/- The input projection. -/
module

public import proofs.«01_k».proof.Proof.Gen.Kernel8Ideal.Value
public import proofs.«01_k».proof.Proof.Mm.Common

@[expose] public section

set_option maxRecDepth 16384

noncomputable section

namespace Cert.Kernel8Ideal.Mm

open Cert.Kernel8Ideal Cert.Kernel8Ideal.Gen Cert.Mm Idealize.ShloMosaic Idealize.ShloMosaic.TcCoe Idealize.SL.Sem

variable (m : (ℓ : Loc nD τ sig) → Buf (Elt Ideal) ℓ) (c : Dev nD)

theorem out_at (x : Vec Ideal S256x1024 .bf16) (w : Vec Ideal S1024x2176 .bf16) (r : Fin 256) (j : Fin 2176) :
    out0_2 (F := Ideal) x w (ix2 r j) = dotNN x w r j := by
  unfold out0_2
  rw [View.canon_unit_zero hz2, View.ld_unit_zero hz2, View.ld_unit_zero hz2]
  pointwise [k0_pay1]

theorem idx : ∀ t : Fin cfg0.N, win0_0.index t = ![t.val % 33, 0] ∧ win0_1.index t = ![0, t.val / 33] ∧
    win0_2.index t = ![t.val % 33, t.val / 33] :=
  (by decide +kernel : ∀ t : Fin grid0.N, _)

theorem lt_N (t : Fin cfg0.N) : t.val < 66 := t.isLt

theorem blk0 (t : Fin cfg0.N) (r : Fin 256) (k : Fin 1024) :
    (iblk m c 0 t : Vec Ideal S256x1024 .bf16) (ix2 r k) = V m c main_v0 (ix2 ⟨256 * (t.val % 33) + r.val, by omega⟩ k) := by
  unfold iblk
  generalize V m c = W
  blk_point [idx t]

theorem blk1 (t : Fin cfg0.N) (k : Fin 1024) (j : Fin 2176) :
    (iblk m c 1 t : Vec Ideal S1024x2176 .bf16) (ix2 k j) =
      V m c main_v1 (ix2 k ⟨2176 * (t.val / 33) + j.val, by have := lt_N t; omega⟩) := by
  unfold iblk
  generalize V m c = W
  blk_point [idx t]

/-- The two operands, as the call finds them. -/
abbrev X : S8448x1024.Idx → EReal := V m c main_v0
abbrev Y : S1024x4352.Idx → EReal := V m c main_v1

theorem pt (t : Fin cfg0.N) (r : Fin 256) (j : Fin 2176) : out0_2 (F := Ideal) (iblk m c 0 t) (iblk m c 1 t) (ix2 r j) =
    prodNN (X m c) (Y m c) (ix2 ⟨256 * (t.val % 33) + r.val, by omega⟩ ⟨2176 * (t.val / 33) + j.val, by have := lt_N t; omega⟩) :=
  (out_at _ _ r j).trans (Finset.sum_congr rfl fun k _ => congrArg₂ (fun a b : EReal => a * b) (blk0 m c t r k) (blk1 m c t k j))

/-- The array that the call leaves. -/
theorem arr : (dats m 0 c).arrAt 2 cfg0.N = prodNN (X m c) (Y m c) := by
  refine (dats m 0 c).arrAt_eq_of_covers 2 _ (by decide +kernel) fun t _ y => ?_
  blk_simp
  rw [after0_2]
  refine (congrArg (out0_2 (F := Ideal) (iblk m c 0 t) (iblk m c 1 t)) (idx2_eq (y : S256x2176.Idx))).trans ((pt m c t (y 0) (y 1)).trans ?_)
  generalize prodNN (X m c) (Y m c) = G
  blk_ext [idx t]

end Cert.Kernel8Ideal.Mm

end
-- ==== Proof.Mm.InIdent.lean ====
/- The input projection and its gradients: what the calls leave, as functions of the arguments, and that the reference's are the same. -/
module

public import proofs.«01_k».proof.Proof.Gen.Reference3Ideal.Run
public import proofs.«01_k».proof.Proof.Gen.Reference4Ideal.Run
public import proofs.«01_k».proof.Proof.Gen.Reference8Ideal.Run
public import proofs.«01_k».proof.Proof.Mm.InDw
public import proofs.«01_k».proof.Proof.Mm.InDx
public import proofs.«01_k».proof.Proof.Mm.InFwd

@[expose] public section

set_option maxRecDepth 16384

noncomputable section

namespace Cert.Mm

open Idealize.ShloMosaic Idealize.ShloMosaic.TcCoe Idealize.SL.Sem

section Weight

open Cert.Kernel3Ideal Cert.Kernel3Ideal.Gen

variable (m : (ℓ : Loc nD τ sig) → Buf (Elt Ideal) ℓ) (c : Dev nD)

theorem x_3 : V m c main_v0 = m ((c : Thread nD τ).loc main_arg0) := by
  entry_read; rfl

theorem dy_3 : V m c main_v1 = m ((c : Thread nD τ).loc main_arg2) := by
  entry_read; rfl

theorem arr_3 : (dats m 0 c).arrAt 2 cfg0.N = prodTN (M := 1024) (N := 4352) (K := 8448) (m ((c : Thread nD τ).loc main_arg0))
    (m ((c : Thread nD τ).loc main_arg2)) :=
  (Cert.Kernel3Ideal.Mm.arr m c).trans (congrArg₂ prodTN (x_3 m c) (dy_3 m c))

open Cert.Reference3Ideal.Gen in
theorem ref_3 (x : FVec Ideal Cert.Reference3Ideal.S8448x1024 .f32) (dy : FVec Ideal Cert.Reference3Ideal.S8448x4352 .f32) :
    truncf .bf16 (transpose Cert.Reference3Ideal.S1024x4352 [1, 0]
      (Host.dotGeneral Cert.Reference3Ideal.dot_S8448x4352_S8448x1024_S4352x1024_0_0_1_1_n_n none dy x)
      Cert.Reference3Ideal.Gen.transposes_S4352x1024_S1024x4352_1_0) Cert.Reference3Ideal.Gen.bitsLt_bf16_f32 = prodTN x dy := by
  funext i
  obtain ⟨r, j, rfl⟩ : ∃ (r : Fin 1024) (j : Fin 4352), i = ix2 r j := ⟨i 0, i 1, idx2_eq i⟩
  refine Eq.trans (b := ∑ l : Fin 8448, dy (ix2 l j) * x (ix2 l r)) (by pointwise) (Finset.sum_congr rfl fun l _ => mul_comm _ _)

end Weight

section Input

open Cert.Kernel4Ideal Cert.Kernel4Ideal.Gen

variable (m : (ℓ : Loc nD τ sig) → Buf (Elt Ideal) ℓ) (c : Dev nD)

theorem dy_4 : V m c main_v0 = m ((c : Thread nD τ).loc main_arg2) := by
  entry_read; rfl

theorem w_4 : V m c main_v1 = m ((c : Thread nD τ).loc main_arg1) := by
  entry_read; rfl

theorem arr_4 : (dats m 0 c).arrAt 2 cfg0.N = prodNT (M := 8448) (N := 1024) (K := 4352) (m ((c : Thread nD τ).loc main_arg2))
    (m ((c : Thread nD τ).loc main_arg1)) :=
  (Cert.Kernel4Ideal.Mm.arr m c).trans (congrArg₂ prodNT (dy_4 m c) (w_4 m c))

theorem ref_4 (dy : FVec Ideal Cert.Reference4Ideal.S8448x4352 .f32) (w : FVec Ideal Cert.Reference4Ideal.S1024x4352 .f32) :
    truncf .bf16 (Host.dotGeneral Cert.Reference4Ideal.dot_S8448x4352_S1024x4352_S8448x1024_1_1_0_0_n_n none dy w)
      Cert.Reference4Ideal.Gen.bitsLt_bf16_f32 = prodNT dy w := by
  funext i
  obtain ⟨r, j, rfl⟩ : ∃ (r : Fin 8448) (j : Fin 1024), i = ix2 r j := ⟨i 0, i 1, idx2_eq i⟩
  refine Eq.trans (b := ∑ l : Fin 4352, dy (ix2 r l) * w (ix2 j l)) (by pointwise) rfl

end Input

section Forward

open Cert.Kernel8Ideal Cert.Kernel8Ideal.Gen

variable (m : (ℓ : Loc nD τ sig) → Buf (Elt Ideal) ℓ) (c : Dev nD)

theorem x_8 : V m c main_v0 = m ((c : Thread nD τ).loc main_arg0) := by
  entry_read; rfl

theorem w_8 : V m c main_v1 = m ((c : Thread nD τ).loc main_arg1) := by
  entry_read; rfl

theorem arr_8 : (dats m 0 c).arrAt 2 cfg0.N = prodNN (M := 8448) (N := 4352) (K := 1024) (m ((c : Thread nD τ).loc main_arg0))
    (m ((c : Thread nD τ).loc main_arg1)) :=
  (Cert.Kernel8Ideal.Mm.arr m c).trans (congrArg₂ prodNN (x_8 m c) (w_8 m c))

theorem ref_8 (x : FVec Ideal Cert.Reference8Ideal.S8448x1024 .f32) (w : FVec Ideal Cert.Reference8Ideal.S1024x4352 .f32) :
    Host.dotGeneral Cert.Reference8Ideal.dot_S8448x1024_S1024x4352_S8448x4352_1_0_0_1_n_n none x w = prodNN x w := by
  funext i
  obtain ⟨r, j, rfl⟩ : ∃ (r : Fin 8448) (j : Fin 4352), i = ix2 r j := ⟨i 0, i 1, idx2_eq i⟩
  refine Eq.trans (b := ∑ l : Fin 1024, x (ix2 r l) * w (ix2 l j)) (by pointwise) rfl

end Forward

end Cert.Mm

end
-- ==== Proof.Merge.Arrays.lean ====
/- The array that each of the six calls of the branch merge leaves, from the arrays it finds. -/
module

public import proofs.«01_k».proof.Proof.Gen.Kernel9Ideal.Frame
public import proofs.«01_k».proof.Proof.Mm.Common

@[expose] public section

set_option maxRecDepth 16384

noncomputable section

namespace Cert.Kernel9Ideal.Merge

open Cert.Kernel9Ideal Cert.Kernel9Ideal.Gen Cert.Mm Idealize.ShloMosaic Idealize.ShloMosaic.TcCoe Idealize.SL.Sem

variable (V : (c : Dev nD) → (b : Ref sig .tc) → b.ty.Contents (Elt Ideal)) (c : Dev nD)

/-- The row of an entry of a grid point's block. -/
abbrev row (t : ℕ) (h : t < 11) (r : Fin 768) : Fin 8448 := ⟨768 * t + r.val, by omega⟩

section Region0

theorem out0_at (x : Vec Ideal S768x512 .bf16) (w : Vec Ideal S512x1024 .bf16) (r : Fin 768) (j : Fin 1024) :
    out0_2 (F := Ideal) x w (ix2 r j) = dotNN x w r j := by
  unfold out0_2
  rw [View.canon_unit_zero hz2, View.ld_unit_zero hz2, View.ld_unit_zero hz2]
  pointwise [k0_pay1]

theorem idx0 : ∀ t : Fin cfg0.N, win0_0.index t = ![t.val, 0] ∧ win0_1.index t = ![0, 0] ∧ win0_2.index t = ![t.val, 0] :=
  (by decide +kernel : ∀ t : Fin grid0.N, _)

theorem blk0_0 (t : Fin cfg0.N) (r : Fin 768) (k : Fin 512) :
    (iblk0 V c 0 t : Vec Ideal S768x512 .bf16) (ix2 r k) = V c main_v3 (ix2 (row t.val t.isLt r) k) := by
  unfold iblk0
  generalize V c = W
  blk_point [idx0 t]

theorem blk0_1 (t : Fin cfg0.N) (i : Fin 512) (j : Fin 1024) :
    (iblk0 V c 1 t : Vec Ideal S512x1024 .bf16) (ix2 i j) = V c main_v0 (ix2 i j) := by
  unfold iblk0
  generalize V c = W
  blk_point [idx0 t]

theorem pt0 (t : Fin cfg0.N) (r : Fin 768) (j : Fin 1024) : out0_2 (F := Ideal) (iblk0 V c 0 t) (iblk0 V c 1 t) (ix2 r j) =
    prodNN (M := 8448) (N := 1024) (K := 512) (V c main_v3) (V c main_v0) (ix2 (row t.val t.isLt r) j) :=
  (out0_at _ _ r j).trans (Finset.sum_congr rfl fun k _ => congrArg₂ (fun a b : EReal => a * b) (blk0_0 V c t r k) (blk0_1 V c t k j))

theorem arr0 : (dat0 V c).arrAt 2 cfg0.N = prodNN (M := 8448) (N := 1024) (K := 512) (V c main_v3) (V c main_v0) := by
  refine (dat0 V c).arrAt_eq_of_covers 2 _ (by decide +kernel) fun t _ y => ?_
  blk_simp
  rw [after0_2]
  refine (congrArg (out0_2 (F := Ideal) (iblk0 V c 0 t) (iblk0 V c 1 t)) (idx2_eq (y : S768x1024.Idx))).trans ((pt0 V c t (y 0) (y 1)).trans ?_)
  generalize prodNN (M := 8448) (N := 1024) (K := 512) (V c main_v3) (V c main_v0) = G
  blk_ext [idx0 t]

end Region0

section Region1

theorem out1_at (x : Vec Ideal S768x512 .bf16) (w : Vec Ideal S512x1024 .bf16) (r : Fin 768) (j : Fin 1024) :
    out1_2 (F := Ideal) x w (ix2 r j) = dotNN x w r j := by
  unfold out1_2
  rw [View.canon_unit_zero hz2, View.ld_unit_zero hz2, View.ld_unit_zero hz2]
  pointwise [k1_pay1]

theorem idx1 : ∀ t : Fin cfg1.N, win1_0.index t = ![t.val, 0] ∧ win1_1.index t = ![0, 0] ∧ win1_2.index t = ![t.val, 0] :=
  (by decide +kernel : ∀ t : Fin grid1.N, _)

theorem blk1_0 (t : Fin cfg1.N) (r : Fin 768) (k : Fin 512) :
    (iblk1 V c 0 t : Vec Ideal S768x512 .bf16) (ix2 r k) = V c main_v5 (ix2 (row t.val t.isLt r) k) := by
  unfold iblk1
  generalize V c = W
  blk_point [idx1 t]

theorem blk1_1 (t : Fin cfg1.N) (i : Fin 512) (j : Fin 1024) :
    (iblk1 V c 1 t : Vec Ideal S512x1024 .bf16) (ix2 i j) = V c main_v1 (ix2 i j) := by
  unfold iblk1
  generalize V c = W
  blk_point [idx1 t]

theorem pt1 (t : Fin cfg1.N) (r : Fin 768) (j : Fin 1024) : out1_2 (F := Ideal) (iblk1 V c 0 t) (iblk1 V c 1 t) (ix2 r j) =
    prodNN (M := 8448) (N := 1024) (K := 512) (V c main_v5) (V c main_v1) (ix2 (row t.val t.isLt r) j) :=
  (out1_at _ _ r j).trans (Finset.sum_congr rfl fun k _ => congrArg₂ (fun a b : EReal => a * b) (blk1_0 V c t r k) (blk1_1 V c t k j))

theorem arr1 : (dat1 V c).arrAt 2 cfg1.N = prodNN (M := 8448) (N := 1024) (K := 512) (V c main_v5) (V c main_v1) := by
  refine (dat1 V c).arrAt_eq_of_covers 2 _ (by decide +kernel) fun t _ y => ?_
  blk_simp
  rw [after1_2]
  refine (congrArg (out1_2 (F := Ideal) (iblk1 V c 0 t) (iblk1 V c 1 t)) (idx2_eq (y : S768x1024.Idx))).trans ((pt1 V c t (y 0) (y 1)).trans ?_)
  generalize prodNN (M := 8448) (N := 1024) (K := 512) (V c main_v5) (V c main_v1) = G
  blk_ext [idx1 t]

end Region1

section Region2

theorem out2_at (x : Vec Ideal S768x1024 .bf16) (w : Vec Ideal S1024x1024 .bf16) (r : Fin 768) (j : Fin 1024) :
    out2_2 (F := Ideal) x w (ix2 r j) = dotNN x w r j := by
  unfold out2_2
  rw [View.canon_unit_zero hz2, View.ld_unit_zero hz2, View.ld_unit_zero hz2]
  pointwise [k2_pay1]

theorem idx2 : ∀ t : Fin cfg2.N, win2_0.index t = ![t.val, 0] ∧ win2_1.index t = ![0, 0] ∧ win2_2.index t = ![t.val, 0] :=
  (by decide +kernel : ∀ t : Fin grid2.N, _)

theorem blk2_0 (t : Fin cfg2.N) (r : Fin 768) (k : Fin 1024) :
    (iblk2 V c 0 t : Vec Ideal S768x1024 .bf16) (ix2 r k) = V c main_v28 (ix2 (row t.val t.isLt r) k) := by
  unfold iblk2
  generalize V c = W
  blk_point [idx2 t]

theorem blk2_1 (t : Fin cfg2.N) (i : Fin 1024) (j : Fin 1024) :
    (iblk2 V c 1 t : Vec Ideal S1024x1024 .bf16) (ix2 i j) = V c main_v2 (ix2 i j) := by
  unfold iblk2
  generalize V c = W
  blk_point [idx2 t]

theorem pt2 (t : Fin cfg2.N) (r : Fin 768) (j : Fin 1024) : out2_2 (F := Ideal) (iblk2 V c 0 t) (iblk2 V c 1 t) (ix2 r j) =
    prodNN (M := 8448) (N := 1024) (K := 1024) (V c main_v28) (V c main_v2) (ix2 (row t.val t.isLt r) j) :=
  (out2_at _ _ r j).trans (Finset.sum_congr rfl fun k _ => congrArg₂ (fun a b : EReal => a * b) (blk2_0 V c t r k) (blk2_1 V c t k j))

theorem arr2 : (dat2 V c).arrAt 2 cfg2.N = prodNN (M := 8448) (N := 1024) (K := 1024) (V c main_v28) (V c main_v2) := by
  refine (dat2 V c).arrAt_eq_of_covers 2 _ (by decide +kernel) fun t _ y => ?_
  blk_simp
  rw [after2_2]
  refine (congrArg (out2_2 (F := Ideal) (iblk2 V c 0 t) (iblk2 V c 1 t)) (idx2_eq (y : S768x1024.Idx))).trans ((pt2 V c t (y 0) (y 1)).trans ?_)
  generalize prodNN (M := 8448) (N := 1024) (K := 1024) (V c main_v28) (V c main_v2) = G
  blk_ext [idx2 t]

end Region2

section Region3

theorem out3_at (x : Vec Ideal S768x1024 .bf16) (w : Vec Ideal S1024x1024 .bf16) (r : Fin 768) (j : Fin 1024) :
    out3_2 (F := Ideal) x w (ix2 r j) = dotNT x w r j := by
  unfold out3_2
  rw [View.canon_unit_zero hz2, View.ld_unit_zero hz2, View.ld_unit_zero hz2]
  pointwise [k3_pay1]

theorem idx3 : ∀ t : Fin cfg3.N, win3_0.index t = ![t.val, 0] ∧ win3_1.index t = ![0, 0] ∧ win3_2.index t = ![t.val, 0] :=
  (by decide +kernel : ∀ t : Fin grid3.N, _)

theorem blk3_0 (t : Fin cfg3.N) (r : Fin 768) (k : Fin 1024) :
    (iblk3 V c 0 t : Vec Ideal S768x1024 .bf16) (ix2 r k) = V c main_v30 (ix2 (row t.val t.isLt r) k) := by
  unfold iblk3
  generalize V c = W
  blk_point [idx3 t]

theorem blk3_1 (t : Fin cfg3.N) (i : Fin 1024) (j : Fin 1024) :
    (iblk3 V c 1 t : Vec Ideal S1024x1024 .bf16) (ix2 i j) = V c main_v2 (ix2 i j) := by
  unfold iblk3
  generalize V c = W
  blk_point [idx3 t]

theorem pt3 (t : Fin cfg3.N) (r : Fin 768) (j : Fin 1024) : out3_2 (F := Ideal) (iblk3 V c 0 t) (iblk3 V c 1 t) (ix2 r j) =
    prodNT (M := 8448) (N := 1024) (K := 1024) (V c main_v30) (V c main_v2) (ix2 (row t.val t.isLt r) j) :=
  (out3_at _ _ r j).trans (Finset.sum_congr rfl fun k _ => congrArg₂ (fun a b : EReal => a * b) (blk3_0 V c t r k) (blk3_1 V c t j k))

theorem arr3 : (dat3 V c).arrAt 2 cfg3.N = prodNT (M := 8448) (N := 1024) (K := 1024) (V c main_v30) (V c main_v2) := by
  refine (dat3 V c).arrAt_eq_of_covers 2 _ (by decide +kernel) fun t _ y => ?_
  blk_simp
  rw [after3_2]
  refine (congrArg (out3_2 (F := Ideal) (iblk3 V c 0 t) (iblk3 V c 1 t)) (idx2_eq (y : S768x1024.Idx))).trans ((pt3 V c t (y 0) (y 1)).trans ?_)
  generalize prodNT (M := 8448) (N := 1024) (K := 1024) (V c main_v30) (V c main_v2) = G
  blk_ext [idx3 t]

end Region3

section Region4

theorem out4_at (x : Vec Ideal S768x1024 .bf16) (w : Vec Ideal S512x1024 .bf16) (r : Fin 768) (j : Fin 512) :
    out4_2 (F := Ideal) x w (ix2 r j) = dotNT x w r j := by
  unfold out4_2
  rw [View.canon_unit_zero hz2, View.ld_unit_zero hz2, View.ld_unit_zero hz2]
  pointwise [k4_pay1]

theorem idx4 : ∀ t : Fin cfg4.N, win4_0.index t = ![t.val, 0] ∧ win4_1.index t = ![0, 0] ∧ win4_2.index t = ![t.val, 0] :=
  (by decide +kernel : ∀ t : Fin grid4.N, _)

theorem blk4_0 (t : Fin cfg4.N) (r : Fin 768) (k : Fin 1024) :
    (iblk4 V c 0 t : Vec Ideal S768x1024 .bf16) (ix2 r k) = V c main_v39 (ix2 (row t.val t.isLt r) k) := by
  unfold iblk4
  generalize V c = W
  blk_point [idx4 t]

theorem blk4_1 (t : Fin cfg4.N) (i : Fin 512) (j : Fin 1024) :
    (iblk4 V c 1 t : Vec Ideal S512x1024 .bf16) (ix2 i j) = V c main_v0 (ix2 i j) := by
  unfold iblk4
  generalize V c = W
  blk_point [idx4 t]

theorem pt4 (t : Fin cfg4.N) (r : Fin 768) (j : Fin 512) : out4_2 (F := Ideal) (iblk4 V c 0 t) (iblk4 V c 1 t) (ix2 r j) =
    prodNT (M := 8448) (N := 512) (K := 1024) (V c main_v39) (V c main_v0) (ix2 (row t.val t.isLt r) j) :=
  (out4_at _ _ r j).trans (Finset.sum_congr rfl fun k _ => congrArg₂ (fun a b : EReal => a * b) (blk4_0 V c t r k) (blk4_1 V c t j k))

theorem arr4 : (dat4 V c).arrAt 2 cfg4.N = prodNT (M := 8448) (N := 512) (K := 1024) (V c main_v39) (V c main_v0) := by
  refine (dat4 V c).arrAt_eq_of_covers 2 _ (by decide +kernel) fun t _ y => ?_
  blk_simp
  rw [after4_2]
  refine (congrArg (out4_2 (F := Ideal) (iblk4 V c 0 t) (iblk4 V c 1 t)) (idx2_eq (y : S768x512.Idx))).trans ((pt4 V c t (y 0) (y 1)).trans ?_)
  generalize prodNT (M := 8448) (N := 512) (K := 1024) (V c main_v39) (V c main_v0) = G
  blk_ext [idx4 t]

end Region4

section Region5

theorem out5_at (x : Vec Ideal S768x1024 .bf16) (w : Vec Ideal S512x1024 .bf16) (r : Fin 768) (j : Fin 512) :
    out5_2 (F := Ideal) x w (ix2 r j) = dotNT x w r j := by
  unfold out5_2
  rw [View.canon_unit_zero hz2, View.ld_unit_zero hz2, View.ld_unit_zero hz2]
  pointwise [k5_pay1]

theorem idx5 : ∀ t : Fin cfg5.N, win5_0.index t = ![t.val, 0] ∧ win5_1.index t = ![0, 0] ∧ win5_2.index t = ![t.val, 0] :=
  (by decide +kernel : ∀ t : Fin grid5.N, _)

theorem blk5_0 (t : Fin cfg5.N) (r : Fin 768) (k : Fin 1024) :
    (iblk5 V c 0 t : Vec Ideal S768x1024 .bf16) (ix2 r k) = V c main_v41 (ix2 (row t.val t.isLt r) k) := by
  unfold iblk5
  generalize V c = W
  blk_point [idx5 t]

theorem blk5_1 (t : Fin cfg5.N) (i : Fin 512) (j : Fin 1024) :
    (iblk5 V c 1 t : Vec Ideal S512x1024 .bf16) (ix2 i j) = V c main_v1 (ix2 i j) := by
  unfold iblk5
  generalize V c = W
  blk_point [idx5 t]

theorem pt5 (t : Fin cfg5.N) (r : Fin 768) (j : Fin 512) : out5_2 (F := Ideal) (iblk5 V c 0 t) (iblk5 V c 1 t) (ix2 r j) =
    prodNT (M := 8448) (N := 512) (K := 1024) (V c main_v41) (V c main_v1) (ix2 (row t.val t.isLt r) j) :=
  (out5_at _ _ r j).trans (Finset.sum_congr rfl fun k _ => congrArg₂ (fun a b : EReal => a * b) (blk5_0 V c t r k) (blk5_1 V c t j k))

theorem arr5 : (dat5 V c).arrAt 2 cfg5.N = prodNT (M := 8448) (N := 512) (K := 1024) (V c main_v41) (V c main_v1) := by
  refine (dat5 V c).arrAt_eq_of_covers 2 _ (by decide +kernel) fun t _ y => ?_
  blk_simp
  rw [after5_2]
  refine (congrArg (out5_2 (F := Ideal) (iblk5 V c 0 t) (iblk5 V c 1 t)) (idx2_eq (y : S768x512.Idx))).trans ((pt5 V c t (y 0) (y 1)).trans ?_)
  generalize prodNT (M := 8448) (N := 512) (K := 1024) (V c main_v41) (V c main_v1) = G
  blk_ext [idx5 t]

end Region5

end Cert.Kernel9Ideal.Merge

end
-- ==== Proof.Merge.Run.lean ====
/- The run of the six calls of the branch merge, and the five results as functions of the arguments. -/
module

public import proofs.«01_k».proof.Proof.Merge.Arrays

@[expose] public section

set_option maxRecDepth 16384

noncomputable section

namespace Cert.Kernel9Ideal.Merge

open Cert.Kernel9Ideal Cert.Kernel9Ideal.Gen Cert.Mm Idealize.ShloMosaic Idealize.ShloMosaic.TcCoe Idealize.SL.Sem

variable (g z d : FVec Ideal S8448x1024 .f32) (ya yb : FVec Ideal S8448x512 .f32) (ga gb dy : FVec Ideal S8448x1024 .f32)
  (wa wb : FVec Ideal S512x1024 .f32) (wo : FVec Ideal S1024x1024 .f32)

/-- All ones, and the logistic function. -/
def ones : FVec Ideal S8448x1024 .f32 := broadcastInDim S8448x1024 ![] bcast_S_S8448x1024 (constant S_ .f32 0x3F800000#32)
def sgm : FVec Ideal S8448x1024 .f32 := Host.divf ones (addf ones (Host.exp (Host.negf g)))

/-- A branch behind its gate, and the gradient of the gate. -/
def gated : FVec Ideal S8448x1024 .f32 := mulf (sgm g) z
def dgate : FVec Ideal S8448x1024 .f32 := mulf (mulf d z) (mulf (sgm g) (subf ones (sgm g)))

/-- The gated branches' sum. -/
def merged : FVec Ideal S8448x1024 .f32 := addf (gated ga (prodNN ya wa)) (gated gb (prodNN yb wb))

/-- The results. -/
def yOf : S8448x1024.Idx → EReal := prodNN (merged ya yb ga gb wa wb) wo
def dyOf (wa : FVec Ideal S512x1024 .f32) : S8448x512.Idx → EReal := prodNT (gated ga (prodNT dy wo)) wa
def dgOf : S8448x1024.Idx → EReal := dgate ga (prodNN ya wa) (prodNT dy wo)

variable (m : (ℓ : Loc nD τ sig) → Buf (Elt Ideal) ℓ) (ρ : Dev nD → PrngReg) (c : Dev nD)

section Entry

theorem V1_v0 : V1 m ρ c main_v0 = m ((c : Thread nD τ).loc main_arg4) := by
  unfold V1 W1 hostOps0
  after_results_simp
  rfl

theorem V1_v1 : V1 m ρ c main_v1 = m ((c : Thread nD τ).loc main_arg5) := by
  unfold V1 W1 hostOps0
  after_results_simp
  rfl

theorem V1_v2 : V1 m ρ c main_v2 = m ((c : Thread nD τ).loc main_arg6) := by
  unfold V1 W1 hostOps0
  after_results_simp
  rfl

theorem V1_v3 : V1 m ρ c main_v3 = m ((c : Thread nD τ).loc main_arg0) := by
  unfold V1 W1 hostOps0
  after_results_simp
  rfl

/-- What a stretch of host operations and the call after it both leave alone. -/
theorem W3_keep (r : Ref sig .tc) (h : r ∉ hostOps1_W) (h' : ∀ w : Fin cfg0.W, Pipeline.arrRef spec0 w = r → (cfg0.win w).isOut = false) :
    W3 m ρ c (Proc.devRef .tc r) = W1 m ρ c (Proc.devRef .tc r) := (W3_of m ρ c r h).trans (W2_of m ρ c r h')
theorem W5_keep (r : Ref sig .tc) (h : r ∉ hostOps2_W) (h' : ∀ w : Fin cfg1.W, Pipeline.arrRef spec1 w = r → (cfg1.win w).isOut = false) :
    W5 m ρ c (Proc.devRef .tc r) = W3 m ρ c (Proc.devRef .tc r) := (W5_of m ρ c r h).trans (W4_of m ρ c r h')
theorem W7_keep (r : Ref sig .tc) (h : r ∉ hostOps3_W) (h' : ∀ w : Fin cfg2.W, Pipeline.arrRef spec2 w = r → (cfg2.win w).isOut = false) :
    W7 m ρ c (Proc.devRef .tc r) = W5 m ρ c (Proc.devRef .tc r) := (W7_of m ρ c r h).trans (W6_of m ρ c r h')
theorem W9_keep (r : Ref sig .tc) (h : r ∉ hostOps4_W) (h' : ∀ w : Fin cfg3.W, Pipeline.arrRef spec3 w = r → (cfg3.win w).isOut = false) :
    W9 m ρ c (Proc.devRef .tc r) = W7 m ρ c (Proc.devRef .tc r) := (W9_of m ρ c r h).trans (W8_of m ρ c r h')
theorem W11_keep (r : Ref sig .tc) (h : r ∉ hostOps5_W) (h' : ∀ w : Fin cfg4.W, Pipeline.arrRef spec4 w = r → (cfg4.win w).isOut = false) :
    W11 m ρ c (Proc.devRef .tc r) = W9 m ρ c (Proc.devRef .tc r) := (W11_of m ρ c r h).trans (W10_of m ρ c r h')

end Entry

theorem V3_v1 : V3 m ρ c main_v1 = m ((c : Thread nD τ).loc main_arg5) :=
  (W3_keep m ρ c main_v1 (by decide) (by decide)).trans (V1_v1 m ρ c)

theorem V5_v2 : V5 m ρ c main_v2 = m ((c : Thread nD τ).loc main_arg6) :=
  (W5_keep m ρ c main_v2 (by decide) (by decide)).trans ((W3_keep m ρ c main_v2 (by decide) (by decide)).trans (V1_v2 m ρ c))

theorem V7_v2 : V7 m ρ c main_v2 = m ((c : Thread nD τ).loc main_arg6) :=
  (W7_keep m ρ c main_v2 (by decide) (by decide)).trans ((W5_keep m ρ c main_v2 (by decide) (by decide)).trans ((W3_keep m ρ c main_v2 (by decide) (by decide)).trans (V1_v2 m ρ c)))

theorem V9_v0 : V9 m ρ c main_v0 = m ((c : Thread nD τ).loc main_arg4) :=
  (W9_keep m ρ c main_v0 (by decide) (by decide)).trans ((W7_keep m ρ c main_v0 (by decide) (by decide)).trans ((W5_keep m ρ c main_v0 (by decide) (by decide)).trans ((W3_keep m ρ c main_v0 (by decide) (by decide)).trans (V1_v0 m ρ c))))

theorem V11_v1 : V11 m ρ c main_v1 = m ((c : Thread nD τ).loc main_arg5) :=
  (W11_keep m ρ c main_v1 (by decide) (by decide)).trans ((W9_keep m ρ c main_v1 (by decide) (by decide)).trans ((W7_keep m ρ c main_v1 (by decide) (by decide)).trans ((W5_keep m ρ c main_v1 (by decide) (by decide)).trans ((W3_keep m ρ c main_v1 (by decide) (by decide)).trans (V1_v1 m ρ c)))))

theorem za_eq : W2 m ρ c (Proc.devRef .tc main_v4) = prodNN (M := 8448) (N := 1024) (K := 512) (m ((c : Thread nD τ).loc main_arg0)) (m ((c : Thread nD τ).loc main_arg4)) :=
  (W2_arr m ρ c 2).trans ((arr0 (V1 m ρ) c).trans (congrArg₂ prodNN (V1_v3 m ρ c) (V1_v0 m ρ c)))

theorem V3_v5 : V3 m ρ c main_v5 = m ((c : Thread nD τ).loc main_arg1) := by
  unfold V3 W3 hostOps1
  after_results_simp
  exact W2_args m ρ c main_arg1 (by decide)

theorem zb_eq : W4 m ρ c (Proc.devRef .tc main_v6) = prodNN (M := 8448) (N := 1024) (K := 512) (m ((c : Thread nD τ).loc main_arg1)) (m ((c : Thread nD τ).loc main_arg5)) :=
  (W4_arr m ρ c 2).trans ((arr1 (V3 m ρ) c).trans (congrArg₂ prodNN (V3_v5 m ρ c) (V3_v1 m ρ c)))

theorem za_eq4 : W4 m ρ c (Proc.devRef .tc main_v4) = prodNN (M := 8448) (N := 1024) (K := 512) (m ((c : Thread nD τ).loc main_arg0)) (m ((c : Thread nD τ).loc main_arg4)) :=
  (W4_of m ρ c main_v4 (by decide)).trans ((W3_of m ρ c main_v4 (by decide)).trans (za_eq m ρ c))

theorem merged_eq : V5 m ρ c main_v28 = merged (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) := by
  unfold V5 W5 hostOps2
  after_results_simp
  rw [za_eq4, zb_eq, W4_args m ρ c main_arg2 (by decide), W4_args m ρ c main_arg3 (by decide)]
  rfl

theorem y_eq : W12 m ρ c (Proc.devRef .tc main_v29) = yOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) :=
  (W12_of m ρ c main_v29 (by decide)).trans ((W11_keep m ρ c main_v29 (by decide) (by decide)).trans
    ((W9_keep m ρ c main_v29 (by decide) (by decide)).trans ((W7_of m ρ c main_v29 (by decide)).trans ((W6_arr m ρ c 2).trans
      ((arr2 (V5 m ρ) c).trans (congrArg₂ prodNN (merged_eq m ρ c) (V5_v2 m ρ c)))))))

theorem V7_v30 : V7 m ρ c main_v30 = m ((c : Thread nD τ).loc main_arg7) := by
  unfold V7 W7 hostOps3
  after_results_simp
  exact W6_args m ρ c main_arg7 (by decide)

theorem dm_eq : W8 m ρ c (Proc.devRef .tc main_v31) = prodNT (M := 8448) (N := 1024) (K := 1024) (m ((c : Thread nD τ).loc main_arg7)) (m ((c : Thread nD τ).loc main_arg6)) :=
  (W8_arr m ρ c 2).trans ((arr3 (V7 m ρ) c).trans (congrArg₂ prodNT (V7_v30 m ρ c) (V7_v2 m ρ c)))

theorem W8_keep (r : Ref sig .tc) (h2 : ∀ w : Fin cfg3.W, Pipeline.arrRef spec3 w = r → (cfg3.win w).isOut = false)
    (h1 : r ∉ hostOps3_W) (h0 : ∀ w : Fin cfg2.W, Pipeline.arrRef spec2 w = r → (cfg2.win w).isOut = false) :
    W8 m ρ c (Proc.devRef .tc r) = W5 m ρ c (Proc.devRef .tc r) := (W8_of m ρ c r h2).trans (W7_keep m ρ c r h1 h0)

theorem W8_v12 : W8 m ρ c (Proc.devRef .tc main_v12) = sgm (m ((c : Thread nD τ).loc main_arg2)) := by
  refine (W8_keep m ρ c main_v12 (by decide) (by decide) (by decide)).trans ?_
  unfold W5 hostOps2
  after_results_simp
  rw [W4_args m ρ c main_arg2 (by decide)]
  rfl

theorem W8_v22 : W8 m ρ c (Proc.devRef .tc main_v22) = sgm (m ((c : Thread nD τ).loc main_arg3)) := by
  refine (W8_keep m ρ c main_v22 (by decide) (by decide) (by decide)).trans ?_
  unfold W5 hostOps2
  after_results_simp
  rw [W4_args m ρ c main_arg3 (by decide)]
  rfl

theorem W8_v15 : W8 m ρ c (Proc.devRef .tc main_v15) = mulf (sgm (m ((c : Thread nD τ).loc main_arg2))) (subf ones (sgm (m ((c : Thread nD τ).loc main_arg2)))) := by
  refine (W8_keep m ρ c main_v15 (by decide) (by decide) (by decide)).trans ?_
  unfold W5 hostOps2
  after_results_simp
  rw [W4_args m ρ c main_arg2 (by decide)]
  rfl

theorem W8_v25 : W8 m ρ c (Proc.devRef .tc main_v25) = mulf (sgm (m ((c : Thread nD τ).loc main_arg3))) (subf ones (sgm (m ((c : Thread nD τ).loc main_arg3)))) := by
  refine (W8_keep m ρ c main_v25 (by decide) (by decide) (by decide)).trans ?_
  unfold W5 hostOps2
  after_results_simp
  rw [W4_args m ρ c main_arg3 (by decide)]
  rfl

theorem W8_v4 : W8 m ρ c (Proc.devRef .tc main_v4) = prodNN (M := 8448) (N := 1024) (K := 512) (m ((c : Thread nD τ).loc main_arg0)) (m ((c : Thread nD τ).loc main_arg4)) :=
  (W8_keep m ρ c main_v4 (by decide) (by decide) (by decide)).trans ((W5_of m ρ c main_v4 (by decide)).trans (za_eq4 m ρ c))

theorem W8_v6 : W8 m ρ c (Proc.devRef .tc main_v6) = prodNN (M := 8448) (N := 1024) (K := 512) (m ((c : Thread nD τ).loc main_arg1)) (m ((c : Thread nD τ).loc main_arg5)) :=
  (W8_keep m ρ c main_v6 (by decide) (by decide) (by decide)).trans ((W5_of m ρ c main_v6 (by decide)).trans (zb_eq m ρ c))

theorem dza_eq : V9 m ρ c main_v39 = gated (m ((c : Thread nD τ).loc main_arg2)) (prodNT (M := 8448) (N := 1024) (K := 1024) (m ((c : Thread nD τ).loc main_arg7))
    (m ((c : Thread nD τ).loc main_arg6))) := by
  unfold V9 W9 hostOps4
  after_results_simp
  rw [W8_v12, dm_eq]
  rfl

theorem dzb_eq : W9 m ρ c (Proc.devRef .tc main_v33) = gated (m ((c : Thread nD τ).loc main_arg3)) (prodNT (M := 8448) (N := 1024) (K := 1024)
    (m ((c : Thread nD τ).loc main_arg7)) (m ((c : Thread nD τ).loc main_arg6))) := by
  unfold W9 hostOps4
  after_results_simp
  rw [W8_v22, dm_eq]
  rfl

theorem dga_eq : W12 m ρ c (Proc.devRef .tc main_v38) = dgOf (m ((c : Thread nD τ).loc main_arg0)) (m ((c : Thread nD τ).loc main_arg2)) (m ((c : Thread nD τ).loc main_arg7))
    (m ((c : Thread nD τ).loc main_arg4)) (m ((c : Thread nD τ).loc main_arg6)) := by
  refine (W12_of m ρ c main_v38 (by decide)).trans ((W11_keep m ρ c main_v38 (by decide) (by decide)).trans ?_)
  unfold W9 hostOps4
  after_results_simp
  rw [W8_v15, dm_eq, W8_v4]
  rfl

theorem dgb_eq : W12 m ρ c (Proc.devRef .tc main_v35) = dgOf (m ((c : Thread nD τ).loc main_arg1)) (m ((c : Thread nD τ).loc main_arg3)) (m ((c : Thread nD τ).loc main_arg7))
    (m ((c : Thread nD τ).loc main_arg5)) (m ((c : Thread nD τ).loc main_arg6)) := by
  refine (W12_of m ρ c main_v35 (by decide)).trans ((W11_keep m ρ c main_v35 (by decide) (by decide)).trans ?_)
  unfold W9 hostOps4
  after_results_simp
  rw [W8_v25, dm_eq, W8_v6]
  rfl

theorem dya_eq : W12 m ρ c (Proc.devRef .tc main_v40) = dyOf (m ((c : Thread nD τ).loc main_arg2)) (m ((c : Thread nD τ).loc main_arg7)) (m ((c : Thread nD τ).loc main_arg6))
    (m ((c : Thread nD τ).loc main_arg4)) :=
  (W12_of m ρ c main_v40 (by decide)).trans ((W11_of m ρ c main_v40 (by decide)).trans ((W10_arr m ρ c 2).trans
    ((arr4 (V9 m ρ) c).trans (congrArg₂ prodNT (dza_eq m ρ c) (V9_v0 m ρ c)))))

theorem V11_v41 : V11 m ρ c main_v41 = gated (m ((c : Thread nD τ).loc main_arg3)) (prodNT (M := 8448) (N := 1024) (K := 1024)
    (m ((c : Thread nD τ).loc main_arg7)) (m ((c : Thread nD τ).loc main_arg6))) := by
  unfold V11 W11 hostOps5
  after_results_simp
  rw [W10_of m ρ c main_v33 (by decide), dzb_eq]
  rfl

theorem dyb_eq : W12 m ρ c (Proc.devRef .tc main_v42) = dyOf (m ((c : Thread nD τ).loc main_arg3)) (m ((c : Thread nD τ).loc main_arg7)) (m ((c : Thread nD τ).loc main_arg6))
    (m ((c : Thread nD τ).loc main_arg5)) :=
  (W12_arr m ρ c 2).trans ((arr5 (V11 m ρ) c).trans (congrArg₂ prodNT (V11_v41 m ρ c) (V11_v1 m ρ c)))

end Cert.Kernel9Ideal.Merge

end
-- ==== Proof.Merge.Launch.lean ====
/- The launch of the six calls of the branch merge, the five results at the last boundary's contents. -/
module

public import proofs.«01_k».proof.Proof.Gen.Kernel9Ideal.Frame

@[expose] public section

set_option maxRecDepth 16384

noncomputable section

namespace Cert.Kernel9Ideal.Merge

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every execution ends with the five results at the contents of the last boundary and the arguments as launched. -/
theorem launch : θ_run defs (onTc (τ := τ) (main (F := F))) ⟨m, fun _ => 0, ρ⟩ (fun r => ∀ c : Dev nD,
      r.2.mem ((c.tc : Thread nD τ).loc main_v29) = W12 m ρ c (Proc.devRef .tc main_v29)
      ∧ r.2.mem ((c.tc : Thread nD τ).loc main_v40) = W12 m ρ c (Proc.devRef .tc main_v40)
      ∧ r.2.mem ((c.tc : Thread nD τ).loc main_v42) = W12 m ρ c (Proc.devRef .tc main_v42)
      ∧ r.2.mem ((c.tc : Thread nD τ).loc main_v38) = W12 m ρ c (Proc.devRef .tc main_v38)
      ∧ r.2.mem ((c.tc : Thread nD τ).loc main_v35) = W12 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => fun c =>
      ⟨h c _ (mem_uc main_v29 (by decide)), h c _ (mem_uc main_v40 (by decide)), h c _ (mem_uc main_v42 (by decide)), h c _ (mem_uc main_v38 (by decide)), h c _ (mem_uc main_v35 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.Kernel9Ideal.Merge

end
-- ==== Proof.Merge.Ident.lean ====
/- The reference's results of the branch merge are the kernel's. -/
module

public import proofs.«01_k».proof.Proof.Gen.Reference9Ideal.Run
public import proofs.«01_k».proof.Proof.Merge.Run
public import proofs.«01_k».proof.Proof.Merge.Launch

@[expose] public section

set_option maxRecDepth 16384

noncomputable section

namespace Cert.Kernel9Ideal.Merge

open Cert.Reference9Ideal Cert.Reference9Ideal.Gen Cert.Mm Idealize.ShloMosaic Idealize.ShloMosaic.TcCoe Idealize.SL.Sem

theorem branch_eq (x : FVec Ideal S8448x512 .f32) (w : FVec Ideal S512x1024 .f32) :
    Host.dotGeneral dot_S8448x512_S512x1024_S8448x1024_1_0_0_1_n_n none x w = prodNN x w := by
  funext i
  obtain ⟨r, j, rfl⟩ : ∃ (r : Fin 8448) (j : Fin 1024), i = ix2 r j := ⟨i 0, i 1, idx2_eq i⟩
  refine Eq.trans (b := ∑ l : Fin 512, x (ix2 r l) * w (ix2 l j)) (by pointwise) rfl

theorem last_eq (x : FVec Ideal S8448x1024 .f32) (w : FVec Ideal S1024x1024 .f32) :
    Host.dotGeneral dot_S8448x1024_S1024x1024_S8448x1024_1_0_0_1_n_n none x w = prodNN x w := by
  funext i
  obtain ⟨r, j, rfl⟩ : ∃ (r : Fin 8448) (j : Fin 1024), i = ix2 r j := ⟨i 0, i 1, idx2_eq i⟩
  refine Eq.trans (b := ∑ l : Fin 1024, x (ix2 r l) * w (ix2 l j)) (by pointwise) rfl

theorem back_eq (x : FVec Ideal S8448x1024 .f32) (w : FVec Ideal S1024x1024 .f32) :
    Host.dotGeneral dot_S8448x1024_S1024x1024_S8448x1024_1_1_0_0_n_n none x w = prodNT x w := by
  funext i
  obtain ⟨r, j, rfl⟩ : ∃ (r : Fin 8448) (j : Fin 1024), i = ix2 r j := ⟨i 0, i 1, idx2_eq i⟩
  refine Eq.trans (b := ∑ l : Fin 1024, x (ix2 r l) * w (ix2 j l)) (by pointwise) rfl

theorem branch_back_eq (x : FVec Ideal S8448x1024 .f32) (w : FVec Ideal S512x1024 .f32) :
    truncf .bf16 (Host.dotGeneral dot_S8448x1024_S512x1024_S8448x512_1_1_0_0_n_n none x w) bitsLt_bf16_f32 = prodNT x w := by
  funext i
  obtain ⟨r, j, rfl⟩ : ∃ (r : Fin 8448) (j : Fin 512), i = ix2 r j := ⟨i 0, i 1, idx2_eq i⟩
  refine Eq.trans (b := ∑ l : Fin 1024, x (ix2 r l) * w (ix2 j l)) (by pointwise) rfl

end Cert.Kernel9Ideal.Merge

end
-- ==== Proof.Mm.OutDw.lean ====
/- The gradient of the output projection's weight. -/
module

public import proofs.«01_k».proof.Proof.Gen.Kernel10Ideal.Value
public import proofs.«01_k».proof.Proof.Mm.Common

@[expose] public section

set_option maxRecDepth 16384

noncomputable section

namespace Cert.Kernel10Ideal.Mm

open Cert.Kernel10Ideal Cert.Kernel10Ideal.Gen Cert.Mm Idealize.ShloMosaic Idealize.ShloMosaic.TcCoe Idealize.SL.Sem

section Body

variable (c : Dev nD) (i : grid0.Coords) (a3 : Memref sig .tc .vmem S2816x512 .bf16) (h3 : a3.IsWhole)
  (a4 : Memref sig .tc .vmem S2816x1024 .bf16) (h4 : a4.IsWhole) (a5 : Memref sig .tc .vmem S512x1024 .bf16) (h5 : a5.IsWhole)
  (a6 : Memref sig .tc .vmem S512x1024 .f32) (h6 : a6.IsWhole)
  (x : Vec Ideal S2816x512 .bf16) (w : Vec Ideal S2816x1024 .bf16) (s : Vec Ideal S512x1024 .f32)

theorem part_at (r : Fin 512) (j : Fin 1024) : k0_pay1 (F := Ideal) x w (ix2 r j) = dotTN x w r j := by
  pointwise [k0_pay1]

theorem first_at (y : S512x1024.Idx) : k0_pay2 (F := Ideal) x w y = dotTN x w (y 0) (y 1) := by
  refine Eq.trans ?_ ((congrArg (k0_pay1 (F := Ideal) x w) (idx2_eq y)).trans (part_at x w (y 0) (y 1)))
  unfold k0_pay2
  generalize k0_pay1 (F := Ideal) x w = p
  pointwise

theorem next_at (y : S512x1024.Idx) : k0_pay3 (F := Ideal) x w s y = s y + dotTN x w (y 0) (y 1) := by
  refine Eq.trans ?_ (congrArg (s y + ·) ((congrArg (k0_pay1 (F := Ideal) x w) (idx2_eq y)).trans (part_at x w (y 0) (y 1))))
  unfold k0_pay3
  generalize k0_pay1 (F := Ideal) x w = p
  pointwise

theorem soutA (e0 : cond0_0 i) (e1 : ¬cond0_1 i) (e2 : ¬cond0_2 i) :
    sout0_A_0 c i a3 h3 a4 h4 a5 h5 a6 h6 e0 e1 e2 x w = k0_pay2 x w := by
  unfold sout0_A_0
  rw [View.read_writes_eq_canon _ _ _ (scover0_A_0 c i a3 h3 a4 h4 a5 h5 a6 h6 e0 e1 e2 x w)]
  unfold kernelRun0_A
  dsimp only
  rw [View.canon_unit_zero hz2]
  exact congrArg₂ k0_pay2 (read_back a3 h3 x hz2 _) (read_back a4 h4 w hz2 _)

theorem soutB (e0 : ¬cond0_0 i) (e1 : cond0_1 i) (e2 : ¬cond0_2 i) :
    sout0_B_0 c i a3 h3 a4 h4 a5 h5 a6 h6 e0 e1 e2 x w s = k0_pay3 x w s := by
  unfold sout0_B_0
  rw [View.read_writes_eq_canon _ _ _ (scover0_B_0 c i a3 h3 a4 h4 a5 h5 a6 h6 e0 e1 e2 x w s)]
  unfold kernelRun0_B
  dsimp only
  rw [View.canon_unit_zero hz2]
  exact congr (congrArg₂ k0_pay3 (read_back a3 h3 x hz2 _) (read_back a4 h4 w hz2 _)) (read_back a6 h6 s hz2 _)

theorem soutC (e0 : ¬cond0_0 i) (e1 : cond0_1 i) (e2 : cond0_2 i) :
    sout0_C_0 c i a3 h3 a4 h4 a5 h5 a6 h6 e0 e1 e2 x w s = k0_pay3 x w s := by
  unfold sout0_C_0
  rw [View.read_writes_eq_canon _ _ _ (scover0_C_0 c i a3 h3 a4 h4 a5 h5 a6 h6 e0 e1 e2 x w s)]
  unfold kernelRun0_C
  dsimp only
  delta kernelRun0_C.sl.HS0_1
  rw [View.canon_unit_zero hz2]
  exact congr (congrArg₂ k0_pay3 (read_back a3 h3 x hz2 _) (read_back a4 h4 w hz2 _)) (read_back a6 h6 s hz2 _)

theorem outC (e0 : ¬cond0_0 i) (e1 : cond0_1 i) (e2 : cond0_2 i) :
    out0_C_2 c i a3 h3 a4 h4 a5 h5 a6 h6 e0 e1 e2 x w s = k0_pay4 (k0_pay3 x w s) := by
  unfold out0_C_2
  rw [View.read_writes_eq_canon _ _ _ (cover0_C_2 c i a3 h3 a4 h4 a5 h5 a6 h6 e0 e1 e2 x w s)]
  unfold kernelRun0_C
  dsimp only
  rw [View.canon_unit_zero hz2]
  delta kernelRun0_C.sl.v14 kernelRun0_C.sl.HS0_1
  rw [View.readCov_unit_zero a6.view hz2]
  exact congrArg k0_pay4 <| congr (congrArg₂ k0_pay3 (read_back a3 h3 x hz2 _) (read_back a4 h4 w hz2 _)) (read_back a6 h6 s hz2 _)

end Body

variable (m : (ℓ : Loc nD τ sig) → Buf (Elt Ideal) ℓ) (c : Dev nD)

theorem idx : ∀ t : Fin cfg0.N, win0_0.index t = ![t.val % 3, t.val / 3] ∧ win0_1.index t = ![t.val % 3, 0] ∧
    win0_2.index t = ![t.val / 3, 0] :=
  (by decide +kernel : ∀ t : Fin grid0.N, _)

theorem lt_N (t : Fin cfg0.N) : t.val < 6 := t.isLt

theorem blk0 (t : Fin cfg0.N) (k : Fin 2816) (r : Fin 512) (R : Fin 1024) (hR : R.val = 512 * (t.val / 3) + r.val) :
    (iblk m c 0 t : Vec Ideal S2816x512 .bf16) (ix2 k r) = V m c main_v0 (ix2 ⟨t.val % 3 * 2816 + k.val, by omega⟩ R) := by
  rw [show R = ⟨512 * (t.val / 3) + r.val, by have := lt_N t; omega⟩ from Fin.ext hR]
  unfold iblk
  generalize V m c = W
  blk_point [idx t]

theorem blk1 (t : Fin cfg0.N) (k : Fin 2816) (j : Fin 1024) :
    (iblk m c 1 t : Vec Ideal S2816x1024 .bf16) (ix2 k j) = V m c main_v1 (ix2 ⟨t.val % 3 * 2816 + k.val, by omega⟩ j) := by
  unfold iblk
  generalize V m c = W
  blk_point [idx t]

/-- The two operands, as the call finds them. -/
abbrev X : S8448x1024.Idx → EReal := V m c main_v0
abbrev Y : S8448x1024.Idx → EReal := V m c main_v1

/-- What a point adds to its block. -/
def term (t : Fin cfg0.N) (y : S512x1024.Idx) : EReal :=
  dotTN (iblk m c 0 t : Vec Ideal S2816x512 .bf16) (iblk m c 1 t : Vec Ideal S2816x1024 .bf16) (y 0) (y 1)

/-- The scratch after a point. -/
abbrev scr (n : ℕ) (h : n < cfg0.N) : S512x1024.Idx → EReal := (outsAt0 m c n h).2

theorem scr_first (t : Fin cfg0.N) (h : t.val % 3 = 0) (y : S512x1024.Idx) : scr m c t.val t.isLt y = term m c t y := by
  unfold scr
  rw [outsAt0_A m c t h (by omega) (by omega)]
  dsimp only
  rw [soutA]
  exact first_at _ _ y

theorem scr_next (t : Fin cfg0.N) (h : ¬t.val % 3 = 0) (y : S512x1024.Idx) : scr m c t.val t.isLt y =
    scr m c (t.val - 1) (Nat.lt_of_le_of_lt (Nat.sub_le _ _) t.isLt) y + term m c t y := by
  unfold scr
  by_cases h2 : t.val % 3 = 2
  · rw [outsAt0_C m c t h (by omega) h2]
    dsimp only
    rw [soutC]
    exact next_at _ _ _ y
  · rw [outsAt0_B m c t h (by omega) h2]
    dsimp only
    rw [soutB]
    exact next_at _ _ _ y

theorem out_last (t : Fin cfg0.N) (h : t.val % 3 = 2) : ((outsAt0 m c t.val t.isLt).1 : S512x1024.Idx → EReal) = scr m c t.val t.isLt := by
  unfold scr
  rw [outsAt0_C m c t (by omega) (by omega) h]
  dsimp only
  rw [soutC, outC]
  funext y
  pointwise [k0_pay4]

/-- One product of an entry's sum. -/
def lane (R : Fin 1024) (J : Fin 1024) (l : Fin 8448) : EReal := X m c (ix2 l R) * Y m c (ix2 l J)

theorem point_eq (u : Fin cfg0.N) (r : Fin 512) (j : Fin 1024) (R : Fin 1024)
    (hR : R.val = 512 * (u.val / 3) + r.val) :
    term m c u (ix2 r j) = ∑ k : Fin 2816, lane m c R j ⟨u.val % 3 * 2816 + k.val, by omega⟩ :=
  Finset.sum_congr rfl fun k _ => congrArg₂ (fun a b : EReal => a * b) (blk0 m c u k r R hR) (blk1 m c u k j)

theorem last_at (t : Fin cfg0.N) (hr : t.val % 3 = 3 - 1) (r : Fin 512) (j : Fin 1024) (R : Fin 1024)
    (hR : R.val = 512 * (t.val / 3) + r.val) :
    (outsAt0 m c t.val t.isLt).1 (ix2 r j) = prodTN (X m c) (Y m c) (ix2 R j) :=
  (congrFun (out_last m c t hr) _).trans (acc_total (scr m c) (term m c) (scr_first m c) (scr_next m c) t hr (ix2 r j) (lane m c R j) rfl
    fun u hu => point_eq m c u r j R (by rw [hR]; omega))

/-- The array that the call leaves. -/
theorem arr : (dats m 0 c).arrAt 2 cfg0.N = prodTN (X m c) (Y m c) := by
  refine (dats m 0 c).arrAt_eq_of_covers 2 _ (by decide +kernel) fun t hf y => ?_
  blk_simp
  rw [after0_2]
  have hN := lt_N t
  have h0 : (y 0).val < 512 := (y 0).isLt
  refine (congrArg (outsAt0 m c t.val t.isLt).1 (idx2_eq (y : S512x1024.Idx))).trans ((last_at m c t ((flush0_2 t).mp hf) (y 0) (y 1)
    ⟨512 * (t.val / 3) + (y 0).val, by omega⟩ rfl).trans ?_)
  generalize prodTN (X m c) (Y m c) = G
  blk_ext [idx t]

end Cert.Kernel10Ideal.Mm

end
-- ==== Proof.Mm.BranchDw.lean ====
/- The gradient of a branch projection's weight. -/
module

public import proofs.«01_k».proof.Proof.Gen.Kernel11Ideal.Value
public import proofs.«01_k».proof.Proof.Mm.Common

@[expose] public section

set_option maxRecDepth 16384

noncomputable section

namespace Cert.Kernel11Ideal.Mm

open Cert.Kernel11Ideal Cert.Kernel11Ideal.Gen Cert.Mm Idealize.ShloMosaic Idealize.ShloMosaic.TcCoe Idealize.SL.Sem

section Body

variable (c : Dev nD) (i : grid0.Coords) (a3 : Memref sig .tc .vmem S2816x512 .bf16) (h3 : a3.IsWhole)
  (a4 : Memref sig .tc .vmem S2816x1024 .bf16) (h4 : a4.IsWhole) (a5 : Memref sig .tc .vmem S512x1024 .bf16) (h5 : a5.IsWhole)
  (a6 : Memref sig .tc .vmem S512x1024 .f32) (h6 : a6.IsWhole)
  (x : Vec Ideal S2816x512 .bf16) (w : Vec Ideal S2816x1024 .bf16) (s : Vec Ideal S512x1024 .f32)

theorem part_at (r : Fin 512) (j : Fin 1024) : k0_pay1 (F := Ideal) x w (ix2 r j) = dotTN x w r j := by
  pointwise [k0_pay1]

theorem first_at (y : S512x1024.Idx) : k0_pay2 (F := Ideal) x w y = dotTN x w (y 0) (y 1) := by
  refine Eq.trans ?_ ((congrArg (k0_pay1 (F := Ideal) x w) (idx2_eq y)).trans (part_at x w (y 0) (y 1)))
  unfold k0_pay2
  generalize k0_pay1 (F := Ideal) x w = p
  pointwise

theorem next_at (y : S512x1024.Idx) : k0_pay3 (F := Ideal) x w s y = s y + dotTN x w (y 0) (y 1) := by
  refine Eq.trans ?_ (congrArg (s y + ·) ((congrArg (k0_pay1 (F := Ideal) x w) (idx2_eq y)).trans (part_at x w (y 0) (y 1))))
  unfold k0_pay3
  generalize k0_pay1 (F := Ideal) x w = p
  pointwise

theorem soutA (e0 : cond0_0 i) (e1 : ¬cond0_1 i) (e2 : ¬cond0_2 i) :
    sout0_A_0 c i a3 h3 a4 h4 a5 h5 a6 h6 e0 e1 e2 x w = k0_pay2 x w := by
  unfold sout0_A_0
  rw [View.read_writes_eq_canon _ _ _ (scover0_A_0 c i a3 h3 a4 h4 a5 h5 a6 h6 e0 e1 e2 x w)]
  unfold kernelRun0_A
  dsimp only
  rw [View.canon_unit_zero hz2]
  exact congrArg₂ k0_pay2 (read_back a3 h3 x hz2 _) (read_back a4 h4 w hz2 _)

theorem soutB (e0 : ¬cond0_0 i) (e1 : cond0_1 i) (e2 : ¬cond0_2 i) :
    sout0_B_0 c i a3 h3 a4 h4 a5 h5 a6 h6 e0 e1 e2 x w s = k0_pay3 x w s := by
  unfold sout0_B_0
  rw [View.read_writes_eq_canon _ _ _ (scover0_B_0 c i a3 h3 a4 h4 a5 h5 a6 h6 e0 e1 e2 x w s)]
  unfold kernelRun0_B
  dsimp only
  rw [View.canon_unit_zero hz2]
  exact congr (congrArg₂ k0_pay3 (read_back a3 h3 x hz2 _) (read_back a4 h4 w hz2 _)) (read_back a6 h6 s hz2 _)

theorem soutC (e0 : ¬cond0_0 i) (e1 : cond0_1 i) (e2 : cond0_2 i) :
    sout0_C_0 c i a3 h3 a4 h4 a5 h5 a6 h6 e0 e1 e2 x w s = k0_pay3 x w s := by
  unfold sout0_C_0
  rw [View.read_writes_eq_canon _ _ _ (scover0_C_0 c i a3 h3 a4 h4 a5 h5 a6 h6 e0 e1 e2 x w s)]
  unfold kernelRun0_C
  dsimp only
  delta kernelRun0_C.sl.HS0_1
  rw [View.canon_unit_zero hz2]
  exact congr (congrArg₂ k0_pay3 (read_back a3 h3 x hz2 _) (read_back a4 h4 w hz2 _)) (read_back a6 h6 s hz2 _)

theorem outC (e0 : ¬cond0_0 i) (e1 : cond0_1 i) (e2 : cond0_2 i) :
    out0_C_2 c i a3 h3 a4 h4 a5 h5 a6 h6 e0 e1 e2 x w s = k0_pay4 (k0_pay3 x w s) := by
  unfold out0_C_2
  rw [View.read_writes_eq_canon _ _ _ (cover0_C_2 c i a3 h3 a4 h4 a5 h5 a6 h6 e0 e1 e2 x w s)]
  unfold kernelRun0_C
  dsimp only
  rw [View.canon_unit_zero hz2]
  delta kernelRun0_C.sl.v14 kernelRun0_C.sl.HS0_1
  rw [View.readCov_unit_zero a6.view hz2]
  exact congrArg k0_pay4 <| congr (congrArg₂ k0_pay3 (read_back a3 h3 x hz2 _) (read_back a4 h4 w hz2 _)) (read_back a6 h6 s hz2 _)

end Body

variable (m : (ℓ : Loc nD τ sig) → Buf (Elt Ideal) ℓ) (c : Dev nD)

theorem idx : ∀ t : Fin cfg0.N, win0_0.index t = ![t.val % 3, t.val / 3] ∧ win0_1.index t = ![t.val % 3, 0] ∧
    win0_2.index t = ![t.val / 3, 0] :=
  (by decide +kernel : ∀ t : Fin grid0.N, _)

theorem lt_N (t : Fin cfg0.N) : t.val < 3 := t.isLt

theorem blk0 (t : Fin cfg0.N) (k : Fin 2816) (r : Fin 512) (R : Fin 512) (hR : R.val = 512 * (t.val / 3) + r.val) :
    (iblk m c 0 t : Vec Ideal S2816x512 .bf16) (ix2 k r) = V m c main_v0 (ix2 ⟨t.val % 3 * 2816 + k.val, by omega⟩ R) := by
  rw [show R = ⟨512 * (t.val / 3) + r.val, by have := lt_N t; omega⟩ from Fin.ext hR]
  unfold iblk
  generalize V m c = W
  blk_point [idx t]

theorem blk1 (t : Fin cfg0.N) (k : Fin 2816) (j : Fin 1024) :
    (iblk m c 1 t : Vec Ideal S2816x1024 .bf16) (ix2 k j) = V m c main_v1 (ix2 ⟨t.val % 3 * 2816 + k.val, by omega⟩ j) := by
  unfold iblk
  generalize V m c = W
  blk_point [idx t]

/-- The two operands, as the call finds them. -/
abbrev X : S8448x512.Idx → EReal := V m c main_v0
abbrev Y : S8448x1024.Idx → EReal := V m c main_v1

/-- What a point adds to its block. -/
def term (t : Fin cfg0.N) (y : S512x1024.Idx) : EReal :=
  dotTN (iblk m c 0 t : Vec Ideal S2816x512 .bf16) (iblk m c 1 t : Vec Ideal S2816x1024 .bf16) (y 0) (y 1)

/-- The scratch after a point. -/
abbrev scr (n : ℕ) (h : n < cfg0.N) : S512x1024.Idx → EReal := (outsAt0 m c n h).2

theorem scr_first (t : Fin cfg0.N) (h : t.val % 3 = 0) (y : S512x1024.Idx) : scr m c t.val t.isLt y = term m c t y := by
  have hN := lt_N t
  unfold scr
  rw [outsAt0_A m c t h (by omega) (by omega)]
  dsimp only
  rw [soutA]
  exact first_at _ _ y

theorem scr_next (t : Fin cfg0.N) (h : ¬t.val % 3 = 0) (y : S512x1024.Idx) : scr m c t.val t.isLt y =
    scr m c (t.val - 1) (Nat.lt_of_le_of_lt (Nat.sub_le _ _) t.isLt) y + term m c t y := by
  have hN := lt_N t
  unfold scr
  by_cases h2 : t.val % 3 = 2
  · rw [outsAt0_C m c t h (by omega) h2]
    dsimp only
    rw [soutC]
    exact next_at _ _ _ y
  · rw [outsAt0_B m c t h (by omega) h2]
    dsimp only
    rw [soutB]
    exact next_at _ _ _ y

theorem out_last (t : Fin cfg0.N) (h : t.val % 3 = 2) : ((outsAt0 m c t.val t.isLt).1 : S512x1024.Idx → EReal) = scr m c t.val t.isLt := by
  unfold scr
  rw [outsAt0_C m c t (by omega) (by omega) h]
  dsimp only
  rw [soutC, outC]
  funext y
  pointwise [k0_pay4]

/-- One product of an entry's sum. -/
def lane (R : Fin 512) (J : Fin 1024) (l : Fin 8448) : EReal := X m c (ix2 l R) * Y m c (ix2 l J)

theorem point_eq (u : Fin cfg0.N) (r : Fin 512) (j : Fin 1024) (R : Fin 512)
    (hR : R.val = 512 * (u.val / 3) + r.val) :
    term m c u (ix2 r j) = ∑ k : Fin 2816, lane m c R j ⟨u.val % 3 * 2816 + k.val, by omega⟩ :=
  Finset.sum_congr rfl fun k _ => congrArg₂ (fun a b : EReal => a * b) (blk0 m c u k r R hR) (blk1 m c u k j)

theorem last_at (t : Fin cfg0.N) (hr : t.val % 3 = 3 - 1) (r : Fin 512) (j : Fin 1024) (R : Fin 512)
    (hR : R.val = 512 * (t.val / 3) + r.val) :
    (outsAt0 m c t.val t.isLt).1 (ix2 r j) = prodTN (X m c) (Y m c) (ix2 R j) :=
  (congrFun (out_last m c t hr) _).trans (acc_total (scr m c) (term m c) (scr_first m c) (scr_next m c) t hr (ix2 r j) (lane m c R j) rfl
    fun u hu => point_eq m c u r j R (by rw [hR]; omega))

/-- The array that the call leaves. -/
theorem arr : (dats m 0 c).arrAt 2 cfg0.N = prodTN (X m c) (Y m c) := by
  refine (dats m 0 c).arrAt_eq_of_covers 2 _ (by decide +kernel) fun t hf y => ?_
  blk_simp
  rw [after0_2]
  have hN := lt_N t
  have h0 : (y 0).val < 512 := (y 0).isLt
  refine (congrArg (outsAt0 m c t.val t.isLt).1 (idx2_eq (y : S512x1024.Idx))).trans ((last_at m c t ((flush0_2 t).mp hf) (y 0) (y 1)
    ⟨512 * (t.val / 3) + (y 0).val, by omega⟩ rfl).trans ?_)
  generalize prodTN (X m c) (Y m c) = G
  blk_ext [idx t]

end Cert.Kernel11Ideal.Mm

end
-- ==== Proof.Mm.BranchIdent.lean ====
/- The weight gradients of the branch merge: what the calls leave, as functions of the arguments, and that the reference's are the same. -/
module

public import proofs.«01_k».proof.Proof.Gen.Reference10Ideal.Run
public import proofs.«01_k».proof.Proof.Gen.Reference11Ideal.Run
public import proofs.«01_k».proof.Proof.Mm.OutDw
public import proofs.«01_k».proof.Proof.Mm.BranchDw

@[expose] public section

set_option maxRecDepth 16384

noncomputable section

namespace Cert.Mm

open Idealize.ShloMosaic Idealize.ShloMosaic.TcCoe Idealize.SL.Sem

section Out

open Cert.Kernel10Ideal Cert.Kernel10Ideal.Gen

variable (m : (ℓ : Loc nD τ sig) → Buf (Elt Ideal) ℓ) (c : Dev nD)

theorem x_10 : V m c main_v0 = m ((c : Thread nD τ).loc main_arg0) := by
  entry_read; rfl

theorem dy_10 : V m c main_v1 = m ((c : Thread nD τ).loc main_arg2) := by
  entry_read; rfl

theorem arr_10 : (dats m 0 c).arrAt 2 cfg0.N = prodTN (M := 1024) (N := 1024) (K := 8448) (m ((c : Thread nD τ).loc main_arg0))
    (m ((c : Thread nD τ).loc main_arg2)) :=
  (Cert.Kernel10Ideal.Mm.arr m c).trans (congrArg₂ prodTN (x_10 m c) (dy_10 m c))

open Cert.Reference10Ideal.Gen in
theorem ref_10 (x : FVec Ideal Cert.Reference10Ideal.S8448x1024 .f32) (dy : FVec Ideal Cert.Reference10Ideal.S8448x1024 .f32) :
    truncf .bf16 (transpose Cert.Reference10Ideal.S1024x1024 [1, 0]
      (Host.dotGeneral Cert.Reference10Ideal.dot_S8448x1024_S8448x1024_S1024x1024_0_0_1_1_n_n none dy x)
      Cert.Reference10Ideal.Gen.transposes_S1024x1024_S1024x1024_1_0) Cert.Reference10Ideal.Gen.bitsLt_bf16_f32 = prodTN x dy := by
  funext i
  obtain ⟨r, j, rfl⟩ : ∃ (r : Fin 1024) (j : Fin 1024), i = ix2 r j := ⟨i 0, i 1, idx2_eq i⟩
  refine Eq.trans (b := ∑ l : Fin 8448, dy (ix2 l j) * x (ix2 l r)) (by pointwise) (Finset.sum_congr rfl fun l _ => mul_comm _ _)

end Out

section Branch

open Cert.Kernel11Ideal Cert.Kernel11Ideal.Gen

variable (m : (ℓ : Loc nD τ sig) → Buf (Elt Ideal) ℓ) (c : Dev nD)

theorem x_11 : V m c main_v0 = m ((c : Thread nD τ).loc main_arg0) := by
  entry_read; rfl

theorem dy_11 : V m c main_v1 = m ((c : Thread nD τ).loc main_arg2) := by
  entry_read; rfl

theorem arr_11 : (dats m 0 c).arrAt 2 cfg0.N = prodTN (M := 512) (N := 1024) (K := 8448) (m ((c : Thread nD τ).loc main_arg0))
    (m ((c : Thread nD τ).loc main_arg2)) :=
  (Cert.Kernel11Ideal.Mm.arr m c).trans (congrArg₂ prodTN (x_11 m c) (dy_11 m c))

open Cert.Reference11Ideal.Gen in
theorem ref_11 (x : FVec Ideal Cert.Reference11Ideal.S8448x512 .f32) (dy : FVec Ideal Cert.Reference11Ideal.S8448x1024 .f32) :
    truncf .bf16 (transpose Cert.Reference11Ideal.S512x1024 [1, 0]
      (Host.dotGeneral Cert.Reference11Ideal.dot_S8448x1024_S8448x512_S1024x512_0_0_1_1_n_n none dy x)
      Cert.Reference11Ideal.Gen.transposes_S1024x512_S512x1024_1_0) Cert.Reference11Ideal.Gen.bitsLt_bf16_f32 = prodTN x dy := by
  funext i
  obtain ⟨r, j, rfl⟩ : ∃ (r : Fin 512) (j : Fin 1024), i = ix2 r j := ⟨i 0, i 1, idx2_eq i⟩
  refine Eq.trans (b := ∑ l : Fin 8448, dy (ix2 l j) * x (ix2 l r)) (by pointwise) (Finset.sum_congr rfl fun l _ => mul_comm _ _)

end Branch

end Cert.Mm

end
-- ==== Proof.Mm.FfnLeft.lean ====
/- The gradient of the first FFN weight's left half. -/
module

public import proofs.«01_k».proof.Proof.Gen.Kernel5Ideal.Value
public import proofs.«01_k».proof.Proof.Mm.Common

@[expose] public section

set_option maxRecDepth 16384

noncomputable section

namespace Cert.Kernel5Ideal.Mm

open Cert.Kernel5Ideal Cert.Kernel5Ideal.Gen Cert.Mm Idealize.ShloMosaic Idealize.ShloMosaic.TcCoe Idealize.SL.Sem

section Body

variable (c : Dev nD) (i : grid0.Coords) (a3 : Memref sig .tc .vmem S1408x512 .bf16) (h3 : a3.IsWhole)
  (a4 : Memref sig .tc .vmem S1x1408x1408 .bf16) (h4 : a4.IsWhole) (a5 : Memref sig .tc .vmem S512x1408 .bf16) (h5 : a5.IsWhole)
  (a6 : Memref sig .tc .vmem S512x1408 .f32) (h6 : a6.IsWhole)
  (x : Vec Ideal S1408x512 .bf16) (w : Vec Ideal S1x1408x1408 .bf16) (s : Vec Ideal S512x1408 .f32)

theorem part_at (r : Fin 512) (j : Fin 1408) : k0_pay1 (F := Ideal) x w (ix2 r j) = dotTN x (lead w) r j := by
  pointwise [k0_pay1]
  rfl

theorem first_at (y : S512x1408.Idx) : k0_pay2 (F := Ideal) x w y = dotTN x (lead w) (y 0) (y 1) := by
  refine Eq.trans ?_ ((congrArg (k0_pay1 (F := Ideal) x w) (idx2_eq y)).trans (part_at x w (y 0) (y 1)))
  unfold k0_pay2
  generalize k0_pay1 (F := Ideal) x w = p
  pointwise

theorem next_at (y : S512x1408.Idx) : k0_pay3 (F := Ideal) x w s y = s y + dotTN x (lead w) (y 0) (y 1) := by
  refine Eq.trans ?_ (congrArg (s y + ·) ((congrArg (k0_pay1 (F := Ideal) x w) (idx2_eq y)).trans (part_at x w (y 0) (y 1))))
  unfold k0_pay3
  generalize k0_pay1 (F := Ideal) x w = p
  pointwise

theorem soutA (e0 : cond0_0 i) (e1 : ¬cond0_1 i) (e2 : ¬cond0_2 i) :
    sout0_A_0 c i a3 h3 a4 h4 a5 h5 a6 h6 e0 e1 e2 x w = k0_pay2 x w := by
  unfold sout0_A_0
  rw [View.read_writes_eq_canon _ _ _ (scover0_A_0 c i a3 h3 a4 h4 a5 h5 a6 h6 e0 e1 e2 x w)]
  unfold kernelRun0_A
  dsimp only
  rw [View.canon_unit_zero hz2]
  exact congrArg₂ k0_pay2 (read_back a3 h3 x hz2 _) (read_back a4 h4 w hz3 _)

theorem soutB (e0 : ¬cond0_0 i) (e1 : cond0_1 i) (e2 : ¬cond0_2 i) :
    sout0_B_0 c i a3 h3 a4 h4 a5 h5 a6 h6 e0 e1 e2 x w s = k0_pay3 x w s := by
  unfold sout0_B_0
  rw [View.read_writes_eq_canon _ _ _ (scover0_B_0 c i a3 h3 a4 h4 a5 h5 a6 h6 e0 e1 e2 x w s)]
  unfold kernelRun0_B
  dsimp only
  rw [View.canon_unit_zero hz2]
  exact congr (congrArg₂ k0_pay3 (read_back a3 h3 x hz2 _) (read_back a4 h4 w hz3 _)) (read_back a6 h6 s hz2 _)

theorem soutC (e0 : ¬cond0_0 i) (e1 : cond0_1 i) (e2 : cond0_2 i) :
    sout0_C_0 c i a3 h3 a4 h4 a5 h5 a6 h6 e0 e1 e2 x w s = k0_pay3 x w s := by
  unfold sout0_C_0
  rw [View.read_writes_eq_canon _ _ _ (scover0_C_0 c i a3 h3 a4 h4 a5 h5 a6 h6 e0 e1 e2 x w s)]
  unfold kernelRun0_C
  dsimp only
  delta kernelRun0_C.sl.HS0_1
  rw [View.canon_unit_zero hz2]
  exact congr (congrArg₂ k0_pay3 (read_back a3 h3 x hz2 _) (read_back a4 h4 w hz3 _)) (read_back a6 h6 s hz2 _)

theorem outC (e0 : ¬cond0_0 i) (e1 : cond0_1 i) (e2 : cond0_2 i) :
    out0_C_2 c i a3 h3 a4 h4 a5 h5 a6 h6 e0 e1 e2 x w s = k0_pay4 (k0_pay3 x w s) := by
  unfold out0_C_2
  rw [View.read_writes_eq_canon _ _ _ (cover0_C_2 c i a3 h3 a4 h4 a5 h5 a6 h6 e0 e1 e2 x w s)]
  unfold kernelRun0_C
  dsimp only
  rw [View.canon_unit_zero hz2]
  delta kernelRun0_C.sl.v14 kernelRun0_C.sl.HS0_1
  rw [View.readCov_unit_zero a6.view hz2]
  exact congrArg k0_pay4 <| congr (congrArg₂ k0_pay3 (read_back a3 h3 x hz2 _) (read_back a4 h4 w hz3 _)) (read_back a6 h6 s hz2 _)

end Body

variable (m : (ℓ : Loc nD τ sig) → Buf (Elt Ideal) ℓ) (c : Dev nD)

theorem idx : ∀ t : Fin cfg0.N, win0_0.index t = ![t.val % 6, t.val / 12] ∧ win0_1.index t = ![0, t.val % 6, t.val / 6 % 2] ∧
    win0_2.index t = ![t.val / 12, t.val / 6 % 2] :=
  (by decide +kernel : ∀ t : Fin grid0.N, _)

theorem lt_N (t : Fin cfg0.N) : t.val < 24 := t.isLt

theorem blk0 (t : Fin cfg0.N) (k : Fin 1408) (r : Fin 512) (R : Fin 1024) (hR : R.val = 512 * (t.val / 12) + r.val) :
    (iblk m c 0 t : Vec Ideal S1408x512 .bf16) (ix2 k r) = V m c main_v15 (ix2 ⟨t.val % 6 * 1408 + k.val, by omega⟩ R) := by
  rw [show R = ⟨512 * (t.val / 12) + r.val, by have := lt_N t; omega⟩ from Fin.ext hR]
  unfold iblk
  generalize V m c = W
  blk_point [idx t]

theorem blk1 (t : Fin cfg0.N) (k : Fin 1408) (j : Fin 1408) (J : Fin 2816) (hJ : J.val = 1408 * (t.val / 6 % 2) + j.val) :
    (iblk m c 1 t : Vec Ideal S1x1408x1408 .bf16) (ix3 0 k j) = V m c main_v14 (ix3 0 ⟨t.val % 6 * 1408 + k.val, by omega⟩ J) := by
  rw [show J = ⟨1408 * (t.val / 6 % 2) + j.val, by omega⟩ from Fin.ext hJ]
  unfold iblk
  generalize V m c = W
  blk_point [idx t]

/-- The two operands, as the call finds them. -/
abbrev X : S8448x1024.Idx → EReal := V m c main_v15
abbrev Y : S8448x2816.Idx → EReal := fun i => V m c main_v14 (ix3 0 (i 0) (i 1))

/-- What a point adds to its block. -/
def term (t : Fin cfg0.N) (y : S512x1408.Idx) : EReal :=
  dotTN (iblk m c 0 t : Vec Ideal S1408x512 .bf16) (lead (iblk m c 1 t : Vec Ideal S1x1408x1408 .bf16)) (y 0) (y 1)

/-- The scratch after a point. -/
abbrev scr (n : ℕ) (h : n < cfg0.N) : S512x1408.Idx → EReal := (outsAt0 m c n h).2

theorem scr_first (t : Fin cfg0.N) (h : t.val % 6 = 0) (y : S512x1408.Idx) : scr m c t.val t.isLt y = term m c t y := by
  unfold scr
  rw [outsAt0_A m c t h (by omega) (by omega)]
  dsimp only
  rw [soutA]
  exact first_at _ _ y

theorem scr_next (t : Fin cfg0.N) (h : ¬t.val % 6 = 0) (y : S512x1408.Idx) : scr m c t.val t.isLt y =
    scr m c (t.val - 1) (Nat.lt_of_le_of_lt (Nat.sub_le _ _) t.isLt) y + term m c t y := by
  unfold scr
  by_cases h2 : t.val % 6 = 5
  · rw [outsAt0_C m c t h (by omega) h2]
    dsimp only
    rw [soutC]
    exact next_at _ _ _ y
  · rw [outsAt0_B m c t h (by omega) h2]
    dsimp only
    rw [soutB]
    exact next_at _ _ _ y

theorem out_last (t : Fin cfg0.N) (h : t.val % 6 = 5) : ((outsAt0 m c t.val t.isLt).1 : S512x1408.Idx → EReal) = scr m c t.val t.isLt := by
  unfold scr
  rw [outsAt0_C m c t (by omega) (by omega) h]
  dsimp only
  rw [soutC, outC]
  funext y
  pointwise [k0_pay4]

/-- One product of an entry's sum. -/
def lane (R : Fin 1024) (J : Fin 2816) (l : Fin 8448) : EReal := X m c (ix2 l R) * Y m c (ix2 l J)

theorem point_eq (u : Fin cfg0.N) (r : Fin 512) (j : Fin 1408) (R : Fin 1024) (J : Fin 2816)
    (hR : R.val = 512 * (u.val / 12) + r.val) (hJ : J.val = 1408 * (u.val / 6 % 2) + j.val) :
    term m c u (ix2 r j) = ∑ k : Fin 1408, lane m c R J ⟨u.val % 6 * 1408 + k.val, by omega⟩ :=
  Finset.sum_congr rfl fun k _ => congrArg₂ (fun a b : EReal => a * b) (blk0 m c u k r R hR) (blk1 m c u k j J hJ)

theorem last_at (t : Fin cfg0.N) (hr : t.val % 6 = 6 - 1) (r : Fin 512) (j : Fin 1408) (R : Fin 1024) (J : Fin 2816)
    (hR : R.val = 512 * (t.val / 12) + r.val) (hJ : J.val = 1408 * (t.val / 6 % 2) + j.val) :
    (outsAt0 m c t.val t.isLt).1 (ix2 r j) = prodTN (X m c) (Y m c) (ix2 R J) :=
  (congrFun (out_last m c t hr) _).trans (acc_total (scr m c) (term m c) (scr_first m c) (scr_next m c) t hr (ix2 r j) (lane m c R J) rfl
    fun u hu => point_eq m c u r j R J (by rw [hR]; omega) (by rw [hJ]; omega))

/-- The array that the call leaves. -/
theorem arr : (dats m 0 c).arrAt 2 cfg0.N = prodTN (X m c) (Y m c) := by
  refine (dats m 0 c).arrAt_eq_of_covers 2 _ (by decide +kernel) fun t hf y => ?_
  blk_simp
  rw [after0_2]
  have hN := lt_N t
  have h0 : (y 0).val < 512 := (y 0).isLt
  have h1 : (y 1).val < 1408 := (y 1).isLt
  refine (congrArg (outsAt0 m c t.val t.isLt).1 (idx2_eq (y : S512x1408.Idx))).trans ((last_at m c t ((flush0_2 t).mp hf) (y 0) (y 1)
    ⟨512 * (t.val / 12) + (y 0).val, by omega⟩ ⟨1408 * (t.val / 6 % 2) + (y 1).val, by omega⟩ rfl rfl).trans ?_)
  generalize prodTN (X m c) (Y m c) = G
  blk_ext [idx t]

end Cert.Kernel5Ideal.Mm

end
-- ==== Proof.Mm.FfnRight.lean ====
/- The gradient of the first FFN weight's right half. -/
module

public import proofs.«01_k».proof.Proof.Gen.Kernel6Ideal.Value
public import proofs.«01_k».proof.Proof.Mm.Common

@[expose] public section

set_option maxRecDepth 16384

noncomputable section

namespace Cert.Kernel6Ideal.Mm

open Cert.Kernel6Ideal Cert.Kernel6Ideal.Gen Cert.Mm Idealize.ShloMosaic Idealize.ShloMosaic.TcCoe Idealize.SL.Sem

section Body

variable (c : Dev nD) (i : grid0.Coords) (a3 : Memref sig .tc .vmem S1408x512 .bf16) (h3 : a3.IsWhole)
  (a4 : Memref sig .tc .vmem S1x1408x1408 .bf16) (h4 : a4.IsWhole) (a5 : Memref sig .tc .vmem S512x1408 .bf16) (h5 : a5.IsWhole)
  (a6 : Memref sig .tc .vmem S512x1408 .f32) (h6 : a6.IsWhole)
  (x : Vec Ideal S1408x512 .bf16) (w : Vec Ideal S1x1408x1408 .bf16) (s : Vec Ideal S512x1408 .f32)

theorem part_at (r : Fin 512) (j : Fin 1408) : k0_pay1 (F := Ideal) x w (ix2 r j) = dotTN x (lead w) r j := by
  pointwise [k0_pay1]
  rfl

theorem first_at (y : S512x1408.Idx) : k0_pay2 (F := Ideal) x w y = dotTN x (lead w) (y 0) (y 1) := by
  refine Eq.trans ?_ ((congrArg (k0_pay1 (F := Ideal) x w) (idx2_eq y)).trans (part_at x w (y 0) (y 1)))
  unfold k0_pay2
  generalize k0_pay1 (F := Ideal) x w = p
  pointwise

theorem next_at (y : S512x1408.Idx) : k0_pay3 (F := Ideal) x w s y = s y + dotTN x (lead w) (y 0) (y 1) := by
  refine Eq.trans ?_ (congrArg (s y + ·) ((congrArg (k0_pay1 (F := Ideal) x w) (idx2_eq y)).trans (part_at x w (y 0) (y 1))))
  unfold k0_pay3
  generalize k0_pay1 (F := Ideal) x w = p
  pointwise

theorem soutA (e0 : cond0_0 i) (e1 : ¬cond0_1 i) (e2 : ¬cond0_2 i) :
    sout0_A_0 c i a3 h3 a4 h4 a5 h5 a6 h6 e0 e1 e2 x w = k0_pay2 x w := by
  unfold sout0_A_0
  rw [View.read_writes_eq_canon _ _ _ (scover0_A_0 c i a3 h3 a4 h4 a5 h5 a6 h6 e0 e1 e2 x w)]
  unfold kernelRun0_A
  dsimp only
  rw [View.canon_unit_zero hz2]
  exact congrArg₂ k0_pay2 (read_back a3 h3 x hz2 _) (read_back a4 h4 w hz3 _)

theorem soutB (e0 : ¬cond0_0 i) (e1 : cond0_1 i) (e2 : ¬cond0_2 i) :
    sout0_B_0 c i a3 h3 a4 h4 a5 h5 a6 h6 e0 e1 e2 x w s = k0_pay3 x w s := by
  unfold sout0_B_0
  rw [View.read_writes_eq_canon _ _ _ (scover0_B_0 c i a3 h3 a4 h4 a5 h5 a6 h6 e0 e1 e2 x w s)]
  unfold kernelRun0_B
  dsimp only
  rw [View.canon_unit_zero hz2]
  exact congr (congrArg₂ k0_pay3 (read_back a3 h3 x hz2 _) (read_back a4 h4 w hz3 _)) (read_back a6 h6 s hz2 _)

theorem soutC (e0 : ¬cond0_0 i) (e1 : cond0_1 i) (e2 : cond0_2 i) :
    sout0_C_0 c i a3 h3 a4 h4 a5 h5 a6 h6 e0 e1 e2 x w s = k0_pay3 x w s := by
  unfold sout0_C_0
  rw [View.read_writes_eq_canon _ _ _ (scover0_C_0 c i a3 h3 a4 h4 a5 h5 a6 h6 e0 e1 e2 x w s)]
  unfold kernelRun0_C
  dsimp only
  delta kernelRun0_C.sl.HS0_1
  rw [View.canon_unit_zero hz2]
  exact congr (congrArg₂ k0_pay3 (read_back a3 h3 x hz2 _) (read_back a4 h4 w hz3 _)) (read_back a6 h6 s hz2 _)

theorem outC (e0 : ¬cond0_0 i) (e1 : cond0_1 i) (e2 : cond0_2 i) :
    out0_C_2 c i a3 h3 a4 h4 a5 h5 a6 h6 e0 e1 e2 x w s = k0_pay4 (k0_pay3 x w s) := by
  unfold out0_C_2
  rw [View.read_writes_eq_canon _ _ _ (cover0_C_2 c i a3 h3 a4 h4 a5 h5 a6 h6 e0 e1 e2 x w s)]
  unfold kernelRun0_C
  dsimp only
  rw [View.canon_unit_zero hz2]
  delta kernelRun0_C.sl.v14 kernelRun0_C.sl.HS0_1
  rw [View.readCov_unit_zero a6.view hz2]
  exact congrArg k0_pay4 <| congr (congrArg₂ k0_pay3 (read_back a3 h3 x hz2 _) (read_back a4 h4 w hz3 _)) (read_back a6 h6 s hz2 _)

end Body

variable (m : (ℓ : Loc nD τ sig) → Buf (Elt Ideal) ℓ) (c : Dev nD)

theorem idx : ∀ t : Fin cfg0.N, win0_0.index t = ![t.val % 6, t.val / 12] ∧ win0_1.index t = ![1, t.val % 6, t.val / 6 % 2] ∧
    win0_2.index t = ![t.val / 12, t.val / 6 % 2] :=
  (by decide +kernel : ∀ t : Fin grid0.N, _)

theorem lt_N (t : Fin cfg0.N) : t.val < 24 := t.isLt

theorem blk0 (t : Fin cfg0.N) (k : Fin 1408) (r : Fin 512) (R : Fin 1024) (hR : R.val = 512 * (t.val / 12) + r.val) :
    (iblk m c 0 t : Vec Ideal S1408x512 .bf16) (ix2 k r) = V m c main_v15 (ix2 ⟨t.val % 6 * 1408 + k.val, by omega⟩ R) := by
  rw [show R = ⟨512 * (t.val / 12) + r.val, by have := lt_N t; omega⟩ from Fin.ext hR]
  unfold iblk
  generalize V m c = W
  blk_point [idx t]

theorem blk1 (t : Fin cfg0.N) (k : Fin 1408) (j : Fin 1408) (J : Fin 2816) (hJ : J.val = 1408 * (t.val / 6 % 2) + j.val) :
    (iblk m c 1 t : Vec Ideal S1x1408x1408 .bf16) (ix3 0 k j) = V m c main_v14 (ix3 1 ⟨t.val % 6 * 1408 + k.val, by omega⟩ J) := by
  rw [show J = ⟨1408 * (t.val / 6 % 2) + j.val, by omega⟩ from Fin.ext hJ]
  unfold iblk
  generalize V m c = W
  blk_point [idx t]

/-- The two operands, as the call finds them. -/
abbrev X : S8448x1024.Idx → EReal := V m c main_v15
abbrev Y : S8448x2816.Idx → EReal := fun i => V m c main_v14 (ix3 1 (i 0) (i 1))

/-- What a point adds to its block. -/
def term (t : Fin cfg0.N) (y : S512x1408.Idx) : EReal :=
  dotTN (iblk m c 0 t : Vec Ideal S1408x512 .bf16) (lead (iblk m c 1 t : Vec Ideal S1x1408x1408 .bf16)) (y 0) (y 1)

/-- The scratch after a point. -/
abbrev scr (n : ℕ) (h : n < cfg0.N) : S512x1408.Idx → EReal := (outsAt0 m c n h).2

theorem scr_first (t : Fin cfg0.N) (h : t.val % 6 = 0) (y : S512x1408.Idx) : scr m c t.val t.isLt y = term m c t y := by
  unfold scr
  rw [outsAt0_A m c t h (by omega) (by omega)]
  dsimp only
  rw [soutA]
  exact first_at _ _ y

theorem scr_next (t : Fin cfg0.N) (h : ¬t.val % 6 = 0) (y : S512x1408.Idx) : scr m c t.val t.isLt y =
    scr m c (t.val - 1) (Nat.lt_of_le_of_lt (Nat.sub_le _ _) t.isLt) y + term m c t y := by
  unfold scr
  by_cases h2 : t.val % 6 = 5
  · rw [outsAt0_C m c t h (by omega) h2]
    dsimp only
    rw [soutC]
    exact next_at _ _ _ y
  · rw [outsAt0_B m c t h (by omega) h2]
    dsimp only
    rw [soutB]
    exact next_at _ _ _ y

theorem out_last (t : Fin cfg0.N) (h : t.val % 6 = 5) : ((outsAt0 m c t.val t.isLt).1 : S512x1408.Idx → EReal) = scr m c t.val t.isLt := by
  unfold scr
  rw [outsAt0_C m c t (by omega) (by omega) h]
  dsimp only
  rw [soutC, outC]
  funext y
  pointwise [k0_pay4]

/-- One product of an entry's sum. -/
def lane (R : Fin 1024) (J : Fin 2816) (l : Fin 8448) : EReal := X m c (ix2 l R) * Y m c (ix2 l J)

theorem point_eq (u : Fin cfg0.N) (r : Fin 512) (j : Fin 1408) (R : Fin 1024) (J : Fin 2816)
    (hR : R.val = 512 * (u.val / 12) + r.val) (hJ : J.val = 1408 * (u.val / 6 % 2) + j.val) :
    term m c u (ix2 r j) = ∑ k : Fin 1408, lane m c R J ⟨u.val % 6 * 1408 + k.val, by omega⟩ :=
  Finset.sum_congr rfl fun k _ => congrArg₂ (fun a b : EReal => a * b) (blk0 m c u k r R hR) (blk1 m c u k j J hJ)

theorem last_at (t : Fin cfg0.N) (hr : t.val % 6 = 6 - 1) (r : Fin 512) (j : Fin 1408) (R : Fin 1024) (J : Fin 2816)
    (hR : R.val = 512 * (t.val / 12) + r.val) (hJ : J.val = 1408 * (t.val / 6 % 2) + j.val) :
    (outsAt0 m c t.val t.isLt).1 (ix2 r j) = prodTN (X m c) (Y m c) (ix2 R J) :=
  (congrFun (out_last m c t hr) _).trans (acc_total (scr m c) (term m c) (scr_first m c) (scr_next m c) t hr (ix2 r j) (lane m c R J) rfl
    fun u hu => point_eq m c u r j R J (by rw [hR]; omega) (by rw [hJ]; omega))

/-- The array that the call leaves. -/
theorem arr : (dats m 0 c).arrAt 2 cfg0.N = prodTN (X m c) (Y m c) := by
  refine (dats m 0 c).arrAt_eq_of_covers 2 _ (by decide +kernel) fun t hf y => ?_
  blk_simp
  rw [after0_2]
  have hN := lt_N t
  have h0 : (y 0).val < 512 := (y 0).isLt
  have h1 : (y 1).val < 1408 := (y 1).isLt
  refine (congrArg (outsAt0 m c t.val t.isLt).1 (idx2_eq (y : S512x1408.Idx))).trans ((last_at m c t ((flush0_2 t).mp hf) (y 0) (y 1)
    ⟨512 * (t.val / 12) + (y 0).val, by omega⟩ ⟨1408 * (t.val / 6 % 2) + (y 1).val, by omega⟩ rfl rfl).trans ?_)
  generalize prodTN (X m c) (Y m c) = G
  blk_ext [idx t]

end Cert.Kernel6Ideal.Mm

end
-- ==== Proof.Mm.FfnOut.lean ====
/- The gradient of the second FFN weight. -/
module

public import proofs.«01_k».proof.Proof.Gen.Kernel7Ideal.Value
public import proofs.«01_k».proof.Proof.Mm.Common

@[expose] public section

set_option maxRecDepth 16384

noncomputable section

namespace Cert.Kernel7Ideal.Mm

open Cert.Kernel7Ideal Cert.Kernel7Ideal.Gen Cert.Mm Idealize.ShloMosaic Idealize.ShloMosaic.TcCoe Idealize.SL.Sem

section Body

variable (c : Dev nD) (i : grid0.Coords) (a3 : Memref sig .tc .vmem S2816x256 .bf16) (h3 : a3.IsWhole)
  (a4 : Memref sig .tc .vmem S2816x1024 .bf16) (h4 : a4.IsWhole) (a5 : Memref sig .tc .vmem S256x1024 .bf16) (h5 : a5.IsWhole)
  (a6 : Memref sig .tc .vmem S256x1024 .f32) (h6 : a6.IsWhole)
  (x : Vec Ideal S2816x256 .bf16) (w : Vec Ideal S2816x1024 .bf16) (s : Vec Ideal S256x1024 .f32)

theorem part_at (r : Fin 256) (j : Fin 1024) : k0_pay1 (F := Ideal) x w (ix2 r j) = dotTN x w r j := by
  pointwise [k0_pay1]

theorem first_at (y : S256x1024.Idx) : k0_pay2 (F := Ideal) x w y = dotTN x w (y 0) (y 1) := by
  refine Eq.trans ?_ ((congrArg (k0_pay1 (F := Ideal) x w) (idx2_eq y)).trans (part_at x w (y 0) (y 1)))
  unfold k0_pay2
  generalize k0_pay1 (F := Ideal) x w = p
  pointwise

theorem next_at (y : S256x1024.Idx) : k0_pay3 (F := Ideal) x w s y = s y + dotTN x w (y 0) (y 1) := by
  refine Eq.trans ?_ (congrArg (s y + ·) ((congrArg (k0_pay1 (F := Ideal) x w) (idx2_eq y)).trans (part_at x w (y 0) (y 1))))
  unfold k0_pay3
  generalize k0_pay1 (F := Ideal) x w = p
  pointwise

theorem soutA (e0 : cond0_0 i) (e1 : ¬cond0_1 i) (e2 : ¬cond0_2 i) :
    sout0_A_0 c i a3 h3 a4 h4 a5 h5 a6 h6 e0 e1 e2 x w = k0_pay2 x w := by
  unfold sout0_A_0
  rw [View.read_writes_eq_canon _ _ _ (scover0_A_0 c i a3 h3 a4 h4 a5 h5 a6 h6 e0 e1 e2 x w)]
  unfold kernelRun0_A
  dsimp only
  rw [View.canon_unit_zero hz2]
  exact congrArg₂ k0_pay2 (read_back a3 h3 x hz2 _) (read_back a4 h4 w hz2 _)

theorem soutB (e0 : ¬cond0_0 i) (e1 : cond0_1 i) (e2 : ¬cond0_2 i) :
    sout0_B_0 c i a3 h3 a4 h4 a5 h5 a6 h6 e0 e1 e2 x w s = k0_pay3 x w s := by
  unfold sout0_B_0
  rw [View.read_writes_eq_canon _ _ _ (scover0_B_0 c i a3 h3 a4 h4 a5 h5 a6 h6 e0 e1 e2 x w s)]
  unfold kernelRun0_B
  dsimp only
  rw [View.canon_unit_zero hz2]
  exact congr (congrArg₂ k0_pay3 (read_back a3 h3 x hz2 _) (read_back a4 h4 w hz2 _)) (read_back a6 h6 s hz2 _)

theorem soutC (e0 : ¬cond0_0 i) (e1 : cond0_1 i) (e2 : cond0_2 i) :
    sout0_C_0 c i a3 h3 a4 h4 a5 h5 a6 h6 e0 e1 e2 x w s = k0_pay3 x w s := by
  unfold sout0_C_0
  rw [View.read_writes_eq_canon _ _ _ (scover0_C_0 c i a3 h3 a4 h4 a5 h5 a6 h6 e0 e1 e2 x w s)]
  unfold kernelRun0_C
  dsimp only
  delta kernelRun0_C.sl.HS0_1
  rw [View.canon_unit_zero hz2]
  exact congr (congrArg₂ k0_pay3 (read_back a3 h3 x hz2 _) (read_back a4 h4 w hz2 _)) (read_back a6 h6 s hz2 _)

theorem outC (e0 : ¬cond0_0 i) (e1 : cond0_1 i) (e2 : cond0_2 i) :
    out0_C_2 c i a3 h3 a4 h4 a5 h5 a6 h6 e0 e1 e2 x w s = k0_pay4 (k0_pay3 x w s) := by
  unfold out0_C_2
  rw [View.read_writes_eq_canon _ _ _ (cover0_C_2 c i a3 h3 a4 h4 a5 h5 a6 h6 e0 e1 e2 x w s)]
  unfold kernelRun0_C
  dsimp only
  rw [View.canon_unit_zero hz2]
  delta kernelRun0_C.sl.v14 kernelRun0_C.sl.HS0_1
  rw [View.readCov_unit_zero a6.view hz2]
  exact congrArg k0_pay4 <| congr (congrArg₂ k0_pay3 (read_back a3 h3 x hz2 _) (read_back a4 h4 w hz2 _)) (read_back a6 h6 s hz2 _)

end Body

variable (m : (ℓ : Loc nD τ sig) → Buf (Elt Ideal) ℓ) (c : Dev nD)

theorem idx : ∀ t : Fin cfg0.N, win0_0.index t = ![t.val % 3, t.val / 3] ∧ win0_1.index t = ![t.val % 3, 0] ∧
    win0_2.index t = ![t.val / 3, 0] :=
  (by decide +kernel : ∀ t : Fin grid0.N, _)

theorem lt_N (t : Fin cfg0.N) : t.val < 33 := t.isLt

theorem blk0 (t : Fin cfg0.N) (k : Fin 2816) (r : Fin 256) (R : Fin 2816) (hR : R.val = 256 * (t.val / 3) + r.val) :
    (iblk m c 0 t : Vec Ideal S2816x256 .bf16) (ix2 k r) = V m c main_v5 (ix2 ⟨t.val % 3 * 2816 + k.val, by omega⟩ R) := by
  rw [show R = ⟨256 * (t.val / 3) + r.val, by have := lt_N t; omega⟩ from Fin.ext hR]
  unfold iblk
  generalize V m c = W
  blk_point [idx t]

theorem blk1 (t : Fin cfg0.N) (k : Fin 2816) (j : Fin 1024) :
    (iblk m c 1 t : Vec Ideal S2816x1024 .bf16) (ix2 k j) = V m c main_v15 (ix2 ⟨t.val % 3 * 2816 + k.val, by omega⟩ j) := by
  unfold iblk
  generalize V m c = W
  blk_point [idx t]

/-- The two operands, as the call finds them. -/
abbrev X : S8448x2816.Idx → EReal := V m c main_v5
abbrev Y : S8448x1024.Idx → EReal := V m c main_v15

/-- What a point adds to its block. -/
def term (t : Fin cfg0.N) (y : S256x1024.Idx) : EReal :=
  dotTN (iblk m c 0 t : Vec Ideal S2816x256 .bf16) (iblk m c 1 t : Vec Ideal S2816x1024 .bf16) (y 0) (y 1)

/-- The scratch after a point. -/
abbrev scr (n : ℕ) (h : n < cfg0.N) : S256x1024.Idx → EReal := (outsAt0 m c n h).2

theorem scr_first (t : Fin cfg0.N) (h : t.val % 3 = 0) (y : S256x1024.Idx) : scr m c t.val t.isLt y = term m c t y := by
  unfold scr
  rw [outsAt0_A m c t h (by omega) (by omega)]
  dsimp only
  rw [soutA]
  exact first_at _ _ y

theorem scr_next (t : Fin cfg0.N) (h : ¬t.val % 3 = 0) (y : S256x1024.Idx) : scr m c t.val t.isLt y =
    scr m c (t.val - 1) (Nat.lt_of_le_of_lt (Nat.sub_le _ _) t.isLt) y + term m c t y := by
  unfold scr
  by_cases h2 : t.val % 3 = 2
  · rw [outsAt0_C m c t h (by omega) h2]
    dsimp only
    rw [soutC]
    exact next_at _ _ _ y
  · rw [outsAt0_B m c t h (by omega) h2]
    dsimp only
    rw [soutB]
    exact next_at _ _ _ y

theorem out_last (t : Fin cfg0.N) (h : t.val % 3 = 2) : ((outsAt0 m c t.val t.isLt).1 : S256x1024.Idx → EReal) = scr m c t.val t.isLt := by
  unfold scr
  rw [outsAt0_C m c t (by omega) (by omega) h]
  dsimp only
  rw [soutC, outC]
  funext y
  pointwise [k0_pay4]

/-- One product of an entry's sum. -/
def lane (R : Fin 2816) (J : Fin 1024) (l : Fin 8448) : EReal := X m c (ix2 l R) * Y m c (ix2 l J)

theorem point_eq (u : Fin cfg0.N) (r : Fin 256) (j : Fin 1024) (R : Fin 2816)
    (hR : R.val = 256 * (u.val / 3) + r.val) :
    term m c u (ix2 r j) = ∑ k : Fin 2816, lane m c R j ⟨u.val % 3 * 2816 + k.val, by omega⟩ :=
  Finset.sum_congr rfl fun k _ => congrArg₂ (fun a b : EReal => a * b) (blk0 m c u k r R hR) (blk1 m c u k j)

theorem last_at (t : Fin cfg0.N) (hr : t.val % 3 = 3 - 1) (r : Fin 256) (j : Fin 1024) (R : Fin 2816)
    (hR : R.val = 256 * (t.val / 3) + r.val) :
    (outsAt0 m c t.val t.isLt).1 (ix2 r j) = prodTN (X m c) (Y m c) (ix2 R j) :=
  (congrFun (out_last m c t hr) _).trans (acc_total (scr m c) (term m c) (scr_first m c) (scr_next m c) t hr (ix2 r j) (lane m c R j) rfl
    fun u hu => point_eq m c u r j R (by rw [hR]; omega))

/-- The array that the call leaves. -/
theorem arr : (dats m 0 c).arrAt 2 cfg0.N = prodTN (X m c) (Y m c) := by
  refine (dats m 0 c).arrAt_eq_of_covers 2 _ (by decide +kernel) fun t hf y => ?_
  blk_simp
  rw [after0_2]
  have hN := lt_N t
  have h0 : (y 0).val < 256 := (y 0).isLt
  refine (congrArg (outsAt0 m c t.val t.isLt).1 (idx2_eq (y : S256x1024.Idx))).trans ((last_at m c t ((flush0_2 t).mp hf) (y 0) (y 1)
    ⟨256 * (t.val / 3) + (y 0).val, by omega⟩ rfl).trans ?_)
  generalize prodTN (X m c) (Y m c) = G
  blk_ext [idx t]

end Cert.Kernel7Ideal.Mm

end
-- ==== Proof.Mm.FfnIdent.lean ====
/- The FFN's weight gradients: what the calls leave, as functions of the arguments, and that the reference's are the same. -/
module

public import proofs.«01_k».proof.Proof.Gen.Reference5Ideal.Run
public import proofs.«01_k».proof.Proof.Gen.Reference6Ideal.Run
public import proofs.«01_k».proof.Proof.Gen.Reference7Ideal.Run
public import proofs.«01_k».proof.Proof.Ffn.Ident
public import proofs.«01_k».proof.Proof.Mm.FfnLeft
public import proofs.«01_k».proof.Proof.Mm.FfnRight
public import proofs.«01_k».proof.Proof.Mm.FfnOut

@[expose] public section

set_option maxRecDepth 16384

noncomputable section

namespace Cert.Mm

open Cert.Reference2Ideal.Ffn Idealize.ShloMosaic Idealize.ShloMosaic.TcCoe Idealize.SL.Sem
open Cert.Kernel2Ideal.Ffn (col)

section Stages

open Cert.Kernel5Ideal Cert.Kernel5Ideal.Gen

variable (X0 X3 : FVec Ideal S8448x1024 .f32) (X1 : FVec Ideal S1024x5632 .f32) (X2 : FVec Ideal S2816x1024 .f32)
  (D DA DU : FVec Ideal S8448x2816 .f32)

/-- The activation. -/
def acts : FVec Ideal S8448x2816 .f32 := mulf (mulf (left (prod X0 X1)) (sgm (left (prod X0 X1)))) (right (prod X0 X1))

/-- The gradients of the first product's halves, from that of the activation. -/
def sideL : FVec Ideal S8448x2816 .f32 := dleft (left (prod X0 X1)) (right (prod X0 X1)) (sgm (left (prod X0 X1))) D
def sideR : FVec Ideal S8448x2816 .f32 := dright (left (prod X0 X1)) (sgm (left (prod X0 X1))) D

/-- The gradient of the activation, written with a transpose. -/
def dactT : FVec Ideal S8448x2816 .f32 := Host.dotGeneral dot_S8448x1024_S1024x2816_S8448x2816_1_0_0_1_n_n none X3
  (transpose S1024x2816 [1, 0] X2 transposes_S2816x1024_S1024x2816_1_0)

/-- Two matrices stacked. -/
def stack : FVec Ideal S2x8448x2816 .bf16 := truncf .bf16 (concatenate S2x8448x2816 0
  [⟨S1x8448x2816, broadcastInDim S1x8448x2816 ![1, 2] bcast_S8448x2816_S1x8448x2816_1_2 DA⟩,
    ⟨S1x8448x2816, broadcastInDim S1x8448x2816 ![1, 2] bcast_S8448x2816_S1x8448x2816_1_2 DU⟩]
  concatenates_S1x8448x2816_S1x8448x2816_S2x8448x2816_d0) bitsLt_bf16_f32

theorem dactT_eq : dactT X3 X2 = dact X3 X2 := by
  funext i
  rw [idx2_eq i]
  exact Eq.trans (by pointwise [dactT]) (dact_at X3 X2 (i 0) (i 1)).symm

theorem stack_left : (fun i : S8448x2816.Idx => stack DA DU (ix3 0 (i 0) (i 1))) = DA := by
  funext i
  obtain ⟨r, j, rfl⟩ : ∃ (r : Fin 8448) (j : Fin 2816), i = ix2 r j := ⟨i 0, i 1, idx2_eq i⟩
  unfold stack
  pointwise

theorem stack_right : (fun i : S8448x2816.Idx => stack DA DU (ix3 1 (i 0) (i 1))) = DU := by
  funext i
  obtain ⟨r, j, rfl⟩ : ∃ (r : Fin 8448) (j : Fin 2816), i = ix2 r j := ⟨i 0, i 1, idx2_eq i⟩
  unfold stack
  pointwise

/-- What the calls leave. -/
abbrev dLeftOf : S1024x2816.Idx → EReal := prodTN X0 (sideL X0 X1 (dact X3 X2))
abbrev dRightOf : S1024x2816.Idx → EReal := prodTN X0 (sideR X0 X1 (dact X3 X2))
abbrev dOutOf : S2816x1024.Idx → EReal := prodTN (acts X0 X1) X3

end Stages

section Left

open Cert.Kernel5Ideal Cert.Kernel5Ideal.Gen

variable (m : (ℓ : Loc nD τ sig) → Buf (Elt Ideal) ℓ) (c : Dev nD)

theorem dau_5 : V m c main_v14 = stack
    (sideL (m ((c : Thread nD τ).loc main_arg0)) (m ((c : Thread nD τ).loc main_arg1))
      (dactT (m ((c : Thread nD τ).loc main_arg3)) (m ((c : Thread nD τ).loc main_arg2))))
    (sideR (m ((c : Thread nD τ).loc main_arg0)) (m ((c : Thread nD τ).loc main_arg1))
      (dactT (m ((c : Thread nD τ).loc main_arg3)) (m ((c : Thread nD τ).loc main_arg2)))) := by
  entry_read; rfl

theorem h_5 : V m c main_v15 = m ((c : Thread nD τ).loc main_arg0) := by
  entry_read; rfl

theorem arr_5 : (dats m 0 c).arrAt 2 cfg0.N = dLeftOf (m ((c : Thread nD τ).loc main_arg0)) (m ((c : Thread nD τ).loc main_arg3))
    (m ((c : Thread nD τ).loc main_arg1)) (m ((c : Thread nD τ).loc main_arg2)) := by
  refine (Cert.Kernel5Ideal.Mm.arr m c).trans (congrArg₂ prodTN (h_5 m c) ?_)
  unfold Cert.Kernel5Ideal.Mm.Y
  rw [dau_5, stack_left, dactT_eq]

end Left

section Right

open Cert.Kernel6Ideal Cert.Kernel6Ideal.Gen

variable (m : (ℓ : Loc nD τ sig) → Buf (Elt Ideal) ℓ) (c : Dev nD)

theorem dau_6 : V m c main_v14 = stack
    (sideL (m ((c : Thread nD τ).loc main_arg0)) (m ((c : Thread nD τ).loc main_arg1))
      (dactT (m ((c : Thread nD τ).loc main_arg3)) (m ((c : Thread nD τ).loc main_arg2))))
    (sideR (m ((c : Thread nD τ).loc main_arg0)) (m ((c : Thread nD τ).loc main_arg1))
      (dactT (m ((c : Thread nD τ).loc main_arg3)) (m ((c : Thread nD τ).loc main_arg2)))) := by
  entry_read; rfl

theorem h_6 : V m c main_v15 = m ((c : Thread nD τ).loc main_arg0) := by
  entry_read; rfl

theorem arr_6 : (dats m 0 c).arrAt 2 cfg0.N = dRightOf (m ((c : Thread nD τ).loc main_arg0)) (m ((c : Thread nD τ).loc main_arg3))
    (m ((c : Thread nD τ).loc main_arg1)) (m ((c : Thread nD τ).loc main_arg2)) := by
  refine (Cert.Kernel6Ideal.Mm.arr m c).trans (congrArg₂ prodTN (h_6 m c) ?_)
  unfold Cert.Kernel6Ideal.Mm.Y
  rw [dau_6, stack_right, dactT_eq]

end Right

section Out

open Cert.Kernel7Ideal Cert.Kernel7Ideal.Gen

variable (m : (ℓ : Loc nD τ sig) → Buf (Elt Ideal) ℓ) (c : Dev nD)

theorem act_7 : V m c main_v5 = acts (m ((c : Thread nD τ).loc main_arg0)) (m ((c : Thread nD τ).loc main_arg1)) := by
  entry_read; rfl

theorem dy_7 : V m c main_v15 = m ((c : Thread nD τ).loc main_arg3) := by
  entry_read; rfl

theorem arr_7 : (dats m 0 c).arrAt 2 cfg0.N = dOutOf (m ((c : Thread nD τ).loc main_arg0)) (m ((c : Thread nD τ).loc main_arg3))
    (m ((c : Thread nD τ).loc main_arg1)) :=
  (Cert.Kernel7Ideal.Mm.arr m c).trans (congrArg₂ prodTN (act_7 m c) (dy_7 m c))

end Out

section Reference

open Cert.Reference5Ideal Cert.Reference5Ideal.Gen

variable (X0 X3 : FVec Ideal S8448x1024 .f32) (A DA DU : FVec Ideal S8448x2816 .f32)

/-- The reference's gradient of the first weight, and of the second. -/
def dwIn : FVec Ideal S1024x5632 .f32 := transpose S1024x5632 [1, 0]
  (Host.dotGeneral dot_S8448x5632_S8448x1024_S5632x1024_0_0_1_1_n_n none (dprod DA DU) X0) transposes_S5632x1024_S1024x5632_1_0
def dwOut : FVec Ideal Cert.Reference7Ideal.S2816x1024 .f32 := transpose Cert.Reference7Ideal.S2816x1024 [1, 0]
  (Host.dotGeneral Cert.Reference7Ideal.dot_S8448x1024_S8448x2816_S1024x2816_0_0_1_1_n_n none X3 A)
  Cert.Reference7Ideal.Gen.transposes_S1024x2816_S2816x1024_1_0

theorem dwIn_at (i : Fin 1024) (j : Fin 5632) : dwIn X0 DA DU (ix2 i j) = ∑ l : Fin 8448, dprod DA DU (ix2 l j) * X0 (ix2 l i) := by
  pointwise [dwIn]

theorem dwIn_left : truncf .bf16 (extractStridedSlice S1024x2816 ![0, 0] (dwIn X0 DA DU) slices_S1024x5632_S1024x2816_0_0)
    bitsLt_bf16_f32 = prodTN X0 DA := by
  funext i
  obtain ⟨r, j, rfl⟩ : ∃ (r : Fin 1024) (j : Fin 2816), i = ix2 r j := ⟨i 0, i 1, idx2_eq i⟩
  refine Eq.trans (b := dwIn X0 DA DU (ix2 r (col 0 j))) ?_ ((dwIn_at X0 DA DU r _).trans (Finset.sum_congr rfl fun l _ => ?_))
  · generalize dwIn X0 DA DU = W
    pointwise; try (congr 2 <;> exact Fin.ext (by simp))
  · rw [dprod_left, mul_comm]
    rfl

theorem dwIn_right : truncf .bf16 (extractStridedSlice S1024x2816 ![0, 2816] (dwIn X0 DA DU)
    Cert.Reference6Ideal.Gen.slices_S1024x5632_S1024x2816_0_2816) Cert.Reference6Ideal.Gen.bitsLt_bf16_f32 = prodTN X0 DU := by
  funext i
  obtain ⟨r, j, rfl⟩ : ∃ (r : Fin 1024) (j : Fin 2816), i = ix2 r j := ⟨i 0, i 1, idx2_eq i⟩
  refine Eq.trans (b := dwIn X0 DA DU (ix2 r (col 1 j))) ?_ ((dwIn_at X0 DA DU r _).trans (Finset.sum_congr rfl fun l _ => ?_))
  · generalize dwIn X0 DA DU = W
    pointwise; try (congr 2 <;> exact Fin.ext (by simp))
  · rw [dprod_right, mul_comm]
    rfl

theorem dwOut_eq : truncf .bf16 (dwOut X3 A) Cert.Reference7Ideal.Gen.bitsLt_bf16_f32 = prodTN A X3 := by
  funext i
  obtain ⟨r, j, rfl⟩ : ∃ (r : Fin 2816) (j : Fin 1024), i = ix2 r j := ⟨i 0, i 1, idx2_eq i⟩
  refine Eq.trans (b := ∑ l : Fin 8448, X3 (ix2 l j) * A (ix2 l r)) (by pointwise [dwOut]) (Finset.sum_congr rfl fun l _ => mul_comm _ _)

end Reference

end Cert.Mm

end
-- ==== Proof.Norm.Common.lean ====
/- A row's normalization and its gradient on the extended reals. -/
module

public import proofs.«01_k».proof.Proof.Attn.Real
public import proofs.«01_k».proof.Proof.Mm.Common

@[expose] public section

noncomputable section

namespace Cert.Norm

open Idealize.ShloMosaic

theorem ofBits_1024 : Ideal.ofBits FTy.f32 0x44800000#32 = ((1024 : ℝ) : EReal) := by
  simp [Ideal.ofBits, Ideal.ieee, -EReal.coe_mul]; norm_num

theorem ofBits_neg_half : Ideal.ofBits FTy.f32 0xBF000000#32 = ((-(1 / 2) : ℝ) : EReal) := by
  simp [Ideal.ofBits, Ideal.ieee, -EReal.coe_mul]; norm_num

/-- The bound that a mean square is moved by is a positive real. -/
theorem ofBits_eps : ∃ e : ℝ, 0 < e ∧ Ideal.ofBits FTy.f32 0x358637BD#32 = (e : EReal) := by
  refine ⟨_, ?_, by simp [Ideal.ofBits, Ideal.ieee, -EReal.coe_mul]; rfl⟩
  positivity

variable {N : ℕ}

/-- A row's mean square, moved away from zero, and the reciprocal of its root. -/
def msq (x : Fin N → EReal) : EReal := Ideal.div (∑ k, x k * x k) (Ideal.ofBits FTy.f32 0x44800000#32) + Ideal.ofBits FTy.f32 0x358637BD#32
def irms (x : Fin N → EReal) : EReal := Ideal.rsqrt (msq x)

/-- The gradient of a row, `d` that of the row divided by its root mean square: as the kernel has it, and by the rules of differentiation. -/
def dxK (x d : Fin N → EReal) (j : Fin N) : EReal :=
  irms x * (d j - x j * irms x * Ideal.div (∑ k, d k * (x k * irms x)) (Ideal.ofBits FTy.f32 0x44800000#32))
def slope (x d : Fin N → EReal) : EReal :=
  Ideal.div ((∑ k, x k * d k) * (Ideal.ofBits FTy.f32 0xBF000000#32 * Ideal.div (irms x) (msq x))) (Ideal.ofBits FTy.f32 0x44800000#32)
def dxR (x d : Fin N → EReal) (j : Fin N) : EReal := d j * irms x + x j * slope x d + slope x d * x j

theorem div_1024 (a : EReal) : Ideal.div a (Ideal.ofBits FTy.f32 0x44800000#32) = a * ((1 / 1024 : ℝ) : EReal) := by
  rw [ofBits_1024, Ideal.div_coe (by norm_num)]

theorem mul_self_nonneg' (a : EReal) : 0 ≤ a * a := by
  rcases le_total 0 a with h | h
  · exact mul_nonneg h h
  · have := mul_nonneg (EReal.neg_nonneg.mpr h) (EReal.neg_nonneg.mpr h)
    rwa [neg_mul_neg] at this

/-- A row with an infinite entry has an infinite mean square, so the reciprocal of its root is zero. -/
theorem msq_top (x : Fin N → EReal) (k : Fin N) (h : x k = ⊤ ∨ x k = ⊥) : msq x = ⊤ := by
  have hs : ∑ k, x k * x k = ⊤ := by
    refine top_le_iff.mp (le_trans ?_ (Finset.single_le_sum (f := fun k => x k * x k) (fun i _ => mul_self_nonneg' (x i)) (Finset.mem_univ k)))
    rcases h with h | h <;> simp [h]
  obtain ⟨e, -, he⟩ := ofBits_eps
  rw [msq, div_1024, hs, he, EReal.top_mul_coe_of_pos (by norm_num)]
  simp

/-- A row of reals has a positive real one. -/
theorem msq_real (x : Fin N → EReal) (v : Fin N → ℝ) (h : ∀ k, x k = (v k : EReal)) :
    ∃ y : ℝ, 0 < y ∧ msq x = (y : EReal) := by
  obtain ⟨e, he0, he⟩ := ofBits_eps
  refine ⟨(∑ k, v k * v k) * (1 / 1024) + e, ?_, ?_⟩
  · have : 0 ≤ ∑ k, v k * v k := Finset.sum_nonneg fun k _ => mul_self_nonneg (v k)
    positivity
  · rw [msq, div_1024, he]
    simp only [h]
    rw [EReal.coe_add, EReal.coe_mul, ← Cert.Attn.coe_sum]
    simp only [EReal.coe_mul]

/-- A nonnegative real factor of a sum. -/
theorem mul_sum_real (c : ℝ) (hc : 0 ≤ c) {ι : Type} (s : Finset ι) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha, ← ih,
      EReal.left_distrib_of_nonneg_of_ne_top (by exact_mod_cast hc) (EReal.coe_ne_top c)]

theorem add_self (a : EReal) : a + a = ((2 : ℝ) : EReal) * a := by
  rw [show ((2 : ℝ) : EReal) = ((1 : ℝ) : EReal) + ((1 : ℝ) : EReal) by rw [← EReal.coe_add]; norm_num,
    EReal.right_distrib_of_nonneg (by simp) (by simp)]
  simp

/-- A whole array's entries are grouped in two: the rows of the latent tokens and those of the context tokens. -/
abbrev Rows : Type := (⟨2, ![8448, 1024]⟩ : Shape).Idx → EReal
abbrev Two : Type := (⟨2, ![2, 1024]⟩ : Shape).Idx → EReal
abbrev Gain : Type := (⟨1, ![1024]⟩ : Shape).Idx → EReal
def grp (r : Fin 8448) : Fin 2 := if 8192 ≤ r.val then 1 else 0

/-- The normalized rows, scaled and shifted. -/
def normed (x : Rows) (g : Gain) (sh sc : Two) : Rows := fun i =>
  x i * irms (fun k => x (ix2 (i 0) k)) * g (ix1 (i 1)) * (1 + sc (ix2 (grp (i 0)) (i 1))) + sh (ix2 (grp (i 0)) (i 1))

/-- The gradients: of the rows, of the gain, and of the shift and the scale, which a group of rows shares. -/
def lin (sc : Two) (g : Gain) (dy : Rows) (r : Fin 8448) (k : Fin 1024) : EReal := dy (ix2 r k) * (1 + sc (ix2 (grp r) k)) * g (ix1 k)
def gradX (x : Rows) (g : Gain) (sc : Two) (dy : Rows) : Rows := fun i => dxK (fun k => x (ix2 (i 0) k)) (lin sc g dy (i 0)) (i 1)
def unit (x : Rows) (r : Fin 8448) (k : Fin 1024) : EReal := x (ix2 r k) * irms (fun k => x (ix2 r k))
def gradG (x : Rows) (sc : Two) (dy : Rows) : (⟨2, ![1, 1024]⟩ : Shape).Idx → EReal := fun i =>
  ∑ r : Fin 8448, dy (ix2 r (i 1)) * (1 + sc (ix2 (grp r) (i 1))) * unit x r (i 1)
def grouped (s : Fin 2) (f : Fin 8448 → EReal) : EReal := ∑ r : Fin 8448, if grp r = s then f r else 0
def gradShift (dy : Rows) : Two := fun i => grouped (i 0) fun r => dy (ix2 r (i 1))
def gradScale (x : Rows) (g : Gain) (dy : Rows) : Two := fun i => grouped (i 0) fun r => dy (ix2 r (i 1)) * (unit x r (i 1) * g (ix1 (i 1)))

/-- A row of the first group, and of the second. -/
def lo (r : Fin 8192) : Fin 8448 := ⟨r.val, by omega⟩
def hi (r : Fin 256) : Fin 8448 := ⟨8192 + r.val, by omega⟩
theorem grp_lo (r : Fin 8192) : grp (lo r) = 0 := if_neg (by have := r.isLt; simp only [lo]; omega)
theorem grp_hi (r : Fin 256) : grp (hi r) = 1 := if_pos (by simp only [hi]; omega)

theorem sum_groups (f : Fin 8448 → EReal) : ∑ r, f r = (∑ r, f (lo r)) + ∑ r, f (hi r) :=
  (Fin.sum_univ_add (a := 8192) (b := 256) f)

theorem grouped_lo (f : Fin 8448 → EReal) : grouped 0 f = ∑ r, f (lo r) := by
  rw [grouped, sum_groups]
  simp [grp_lo, grp_hi]

theorem grouped_hi (f : Fin 8448 → EReal) : grouped 1 f = ∑ r, f (hi r) := by
  rw [grouped, sum_groups]
  simp [grp_lo, grp_hi]

/-- Two arrays, one below the other. -/
theorem stack_eq {M N K W : ℕ} (hK : K = M + N) {α : Type} (A : (⟨2, ![M, W]⟩ : Shape).Idx → α) (B : (⟨2, ![N, W]⟩ : Shape).Idx → α)
    (h : Shape.Concatenates [(⟨2, ![M, W]⟩ : Shape), ⟨2, ![N, W]⟩] ⟨2, ![K, W]⟩ 0) (G : (⟨2, ![K, W]⟩ : Shape).Idx → α)
    (hA : ∀ r j, A (ix2 r j) = G (ix2 ⟨r.val, by omega⟩ j)) (hB : ∀ r j, B (ix2 r j) = G (ix2 ⟨M + r.val, by omega⟩ j)) :
    concatenate ⟨2, ![K, W]⟩ 0 [⟨_, A⟩, ⟨_, B⟩] h = G := by
  funext i
  obtain ⟨r, j, rfl⟩ : ∃ (r : Fin K) (j : Fin W), i = ix2 r j := ⟨i 0, i 1, Cert.Mm.idx2_eq i⟩
  by_cases hr : r.val < M
  · exact (concatenate_pair_apply_left (0 : Fin 2) A B h (ix2 r j) rfl (ix2 ⟨r.val, hr⟩ j) fun b => by fin_cases b <;> rfl).trans (hA _ j)
  · refine (concatenate_pair_apply_right (0 : Fin 2) A B h (ix2 r j) rfl rfl (ix2 ⟨r.val - M, by omega⟩ j) (fun b hb => ?_) ?_).trans ((hB _ j).trans ?_)
    · fin_cases b
      · exact absurd rfl hb
      · rfl
    · show r.val - M + M = r.val
      omega
    · congr 2
      exact Fin.ext (by simp only; omega)

/-- Whether a tile of 256 rows lies in the second group. -/
theorem late (n : Fin 33) : Scalar.cmpi .sge (BitVec.ofNat 32 n.val) 32#32 = if 32 ≤ n.val then 1#1 else 0#1 := by
  revert n; decide +kernel

theorem select_late {α : Type} (n : Fin 33) (w : Fin 2 → α) (r : Fin 256) (R : Fin 8448) (hR : R.val = n.val * 256 + r.val) :
    Scalar.select (Scalar.cmpi .sge (BitVec.ofNat 32 n.val) 32#32) (w 1) (w 0) = w (grp R) := by
  rw [late, grp]
  by_cases h : 32 ≤ n.val
  · rw [if_pos h, if_pos (by omega)]; rfl
  · rw [if_neg h, if_neg (by omega)]; rfl

/-- The two gradients of a row are the same. -/
theorem dx_eq (x d : Fin N → EReal) (j : Fin N) : dxK x d j = dxR x d j := by
  by_cases hx : ∃ k, x k = ⊤ ∨ x k = ⊥
  · obtain ⟨k, hk⟩ := hx
    have hm := msq_top x k hk
    have hi : irms x = 0 := by rw [irms, hm]; rfl
    have ht : slope x d = 0 := by
      rw [slope, div_1024, hi, hm]
      simp [Ideal.div]
    simp [dxK, dxR, hi, ht]
  · have hr : ∀ k, ∃ v : ℝ, x k = (v : EReal) := fun k => by
      induction h : x k with
      | bot => exact absurd ⟨k, .inr h⟩ hx
      | top => exact absurd ⟨k, .inl h⟩ hx
      | coe v => exact ⟨v, rfl⟩
    choose v hv using hr
    obtain ⟨y, hy, hm⟩ := msq_real x v hv
    have hq : 0 < Real.sqrt y := Real.sqrt_pos.mpr hy
    have hi : irms x = (((Real.sqrt y)⁻¹ : ℝ) : EReal) := by
      rw [irms, hm, Ideal.rsqrt_coe, if_neg hy.le.not_gt, if_neg hy.ne']
    obtain ⟨r, hr⟩ : ∃ r, r = (Real.sqrt y)⁻¹ := ⟨_, rfl⟩
    have hr0 : 0 < r := by rw [hr]; positivity
    have hry : r / y = r * r * r := by
      have : r * r * y = 1 := by
        rw [hr]; field_simp; exact (Real.sq_sqrt hy.le).symm
      field_simp
      linear_combination -this
    rw [← hr] at hi
    obtain ⟨S, hS⟩ : ∃ S, S = ∑ k, x k * d k := ⟨_, rfl⟩
    have h1 : ∑ k, d k * (x k * (r : EReal)) = (r : EReal) * S := by
      rw [hS, mul_sum_real r hr0.le]
      exact Finset.sum_congr rfl fun k _ => by rw [← mul_assoc, mul_comm, mul_comm (d k)]
    rw [dxK, dxR, slope, hi, div_1024, div_1024, h1, hm, ofBits_neg_half, Ideal.div_coe hy.ne', ← hS, ← EReal.coe_mul, ← EReal.coe_mul,
      mul_one_div, hry, sub_eq_add_neg, EReal.left_distrib_of_nonneg_of_ne_top (by exact_mod_cast hr0.le) (EReal.coe_ne_top r),
      mul_comm (d j), add_assoc]
    congr 1
    rw [mul_comm _ (x j), add_self, hv j]
    rw [show (r : EReal) * -((v j : EReal) * (r : EReal) * ((r : EReal) * S * ((1 / 1024 : ℝ) : EReal))) =
      ((-(v j * (r * r * r) * (1 / 1024)) : ℝ) : EReal) * S by
        simp only [EReal.coe_neg, EReal.coe_mul, mul_neg, neg_mul]; congr 1; ac_rfl,
      show ((2 : ℝ) : EReal) * ((v j : EReal) * (S * ((-(1 / 2) * (r * r * r) : ℝ) : EReal) * ((1 / 1024 : ℝ) : EReal))) =
        (((2 : ℝ) * v j * (-(1 / 2) * (r * r * r)) * (1 / 1024) : ℝ) : EReal) * S by simp only [EReal.coe_mul]; ac_rfl]
    congr 2
    ring

end Cert.Norm

end
-- ==== Proof.Norm.Body.lean ====
/- The gradient of the norm with modulation: what the call's body computes from the blocks. -/
module

public import proofs.«01_k».proof.Proof.Gen.Kernel12Ideal.Value
public import proofs.«01_k».proof.Proof.Norm.Common

@[expose] public section

set_option maxRecDepth 16384

noncomputable section

namespace Cert.Kernel12Ideal.Norm

open Cert.Kernel12Ideal Cert.Kernel12Ideal.Gen Cert.Mm Cert.Norm Idealize.ShloMosaic Idealize.ShloMosaic.TcCoe Idealize.SL.Sem

section Payloads

variable (v0 : BitVec 1) (i : grid0.Coords) (x : Vec Ideal S256x1024 .f32) (g a b : Vec Ideal S1x1024 .f32) (w : Vec Ideal S2x1024 .f32)
  (d : Vec Ideal S256x1024 .bf16)

theorem inv_at (r : Fin 256) : k0_pay10 (F := Ideal) x (ix2 r 0) = irms fun k => x (ix2 r k) := by
  unfold irms msq
  pointwise [k0_pay10]

theorem unit_at (r : Fin 256) (j : Fin 1024) : k0_pay11 (F := Ideal) x (ix2 r j) = x (ix2 r j) * irms fun k => x (ix2 r k) := by
  rw [← inv_at]
  unfold k0_pay11
  generalize k0_pay10 (F := Ideal) x = p
  pointwise

theorem scaled_at (r : Fin 256) (j : Fin 1024) : k0_pay2 (F := Ideal) v0 (k0_pay8 d) a b (ix2 r j) =
    d (ix2 r j) * (1 + Scalar.select v0 (a (ix2 0 j)) (b (ix2 0 j))) := by
  pointwise [k0_pay2, k0_pay8]

theorem pay4_at (r : Fin 256) (j : Fin 1024) :
    k0_pay4 (F := Ideal) v0 (k0_pay8 d) (k0_pay9 g) (k0_pay10 x) (k0_pay11 x) a b (ix2 r j) =
      dxK (fun k => x (ix2 r k)) (fun k => d (ix2 r k) * (1 + Scalar.select v0 (a (ix2 0 k)) (b (ix2 0 k))) * g (ix2 0 k)) j := by
  unfold dxK
  simp only [← scaled_at v0 a b d, ← unit_at x]
  rw [← inv_at x]
  unfold k0_pay4
  generalize k0_pay2 (F := Ideal) v0 (k0_pay8 d) a b = p
  generalize k0_pay11 (F := Ideal) x = q
  generalize k0_pay10 (F := Ideal) x = s
  pointwise [k0_pay9]

theorem pay3_at (s : Vec Ideal S1x1024 .f32) (j : Fin 1024) :
    k0_pay3 (F := Ideal) v0 (k0_pay8 d) (k0_pay11 x) a b s (ix2 0 j) = s (ix2 0 j) +
      ∑ r : Fin 256, d (ix2 r j) * (1 + Scalar.select v0 (a (ix2 0 j)) (b (ix2 0 j))) * (x (ix2 r j) * irms fun k => x (ix2 r k)) := by
  simp only [← scaled_at v0 a b d, ← unit_at x]
  unfold k0_pay3
  generalize k0_pay2 (F := Ideal) v0 (k0_pay8 d) a b = p
  generalize k0_pay11 (F := Ideal) x = q
  pointwise

theorem pay14_at (s : Vec Ideal S2x1024 .f32) (q : Fin 2) (j : Fin 1024) :
    k0_pay14 (F := Ideal) i d s (ix2 q j) = s (ix2 q j) + k0_pay13 (F := Ideal) i (ix2 q 0) * ∑ r : Fin 256, d (ix2 r j) := by
  unfold k0_pay14
  generalize k0_pay13 (F := Ideal) i = p
  pointwise [k0_pay8]

theorem pay1_at (s : Vec Ideal S2x1024 .f32) (q : Fin 2) (j : Fin 1024) :
    k0_pay1 (F := Ideal) (k0_pay8 d) (k0_pay12 x g) (k0_pay13 (F := Ideal) i) s (ix2 q j) = s (ix2 q j) + k0_pay13 (F := Ideal) i (ix2 q 0) *
      ∑ r : Fin 256, d (ix2 r j) * (x (ix2 r j) * (irms fun k => x (ix2 r k)) * g (ix2 0 j)) := by
  simp only [← unit_at x]
  unfold k0_pay1 k0_pay12
  generalize k0_pay13 (F := Ideal) i = p
  generalize k0_pay11 (F := Ideal) x = u
  pointwise [k0_pay8, k0_pay9]

theorem hot_bits : ∀ (n : Fin 33) (q : Fin 2), BitVec.setWidth 32 (IntOp.cmpi .eq (BitVec.ofNat 32 q.val)
    (Scalar.extui (Scalar.cmpi .sge (BitVec.ofNat 32 n.val) 32#32) : BitVec 32)) =
      if q.val = (if 32 ≤ n.val then 1 else 0) then 1#32 else 0#32 := by
  decide +kernel

theorem hot_at (q : Fin 2) : k0_pay13 (F := Ideal) i (ix2 q 0) = if q.val = (if 32 ≤ (i 0).val then 1 else 0) then 1 else 0 := by
  pointwise [k0_pay13]
  rw [hot_bits (i 0) q]
  split_ifs
  all_goals
    show (((_ : ℤ) : ℝ) : EReal) = _
    norm_num

end Payloads

section Cases

variable (c : Dev nD) (i : grid0.Coords) (a1 : Memref sig .tc .vmem S256x1024 .f32) (h1 : a1.IsWhole)
  (a2 : Memref sig .tc .vmem S1x1024 .f32) (h2 : a2.IsWhole) (a3 : Memref sig .tc .vmem S2x1024 .f32) (h3 : a3.IsWhole)
  (a4 : Memref sig .tc .vmem S256x1024 .bf16) (h4 : a4.IsWhole) (a5 : Memref sig .tc .vmem S256x1024 .f32) (h5 : a5.IsWhole)
  (a6 : Memref sig .tc .vmem S1x1024 .f32) (h6 : a6.IsWhole) (a7 : Memref sig .tc .vmem S2x1024 .f32) (h7 : a7.IsWhole)
  (a8 : Memref sig .tc .vmem S2x1024 .f32) (h8 : a8.IsWhole)
  (x : Vec Ideal S256x1024 .f32) (g : Vec Ideal S1x1024 .f32) (w : Vec Ideal S2x1024 .f32) (d : Vec Ideal S256x1024 .bf16)
  (s5 : Vec Ideal S1x1024 .f32) (s6 s7 : Vec Ideal S2x1024 .f32)

/-- The two rows of the scale, and whether the second is the one. -/
abbrev second : Vec Ideal S1x1024 .f32 := fun k => w (ix2 1 (k 1))
abbrev first : Vec Ideal S1x1024 .f32 := fun k => w (ix2 0 (k 1))
abbrev which : BitVec 1 := Scalar.cmpi .sge (BitVec.ofNat 32 (i 0).val) 32#32

theorem read_second : a3.view.readAt (Elt Ideal) (Rect.unit ![1, 0] ![1, 1024] inb_S2x1024_S1x1024_1_0).toLoadRect (h3.unread w) = second w := by
  rw [View.readAt_eq_ld, h3.read_unread]
  funext k
  refine View.ld_unit_apply_of _ _ _ _ _ (ix2 1 (k 1)) fun a => ?_
  have h0 : (k 0).val < 1 := (k 0).isLt
  fin_cases a
  · show 1 = 1 + (k 0).val
    omega
  · exact (Nat.zero_add _).symm

theorem read_first : a3.view.readAt (Elt Ideal) (Rect.unit ![0, 0] ![1, 1024] inb_S2x1024_S1x1024_0_0).toLoadRect (h3.unread w) = first w := by
  rw [View.readAt_eq_ld, h3.read_unread]
  funext k
  refine View.ld_unit_apply_of _ _ _ _ _ (ix2 0 (k 1)) fun a => ?_
  have h0 : (k 0).val < 1 := (k 0).isLt
  fin_cases a
  · show 0 = 0 + (k 0).val
    omega
  · exact (Nat.zero_add _).symm

theorem dA : kernelRun0_A.sl.r c a4 h4 d = k0_pay8 (F := Ideal) d := congrArg (k0_pay8 (F := Ideal)) (read_back a4 h4 d hz2 _)
theorem gA : kernelRun0_A.sl.r_1 c a2 h2 g = k0_pay9 (F := Ideal) g := congrArg (k0_pay9 (F := Ideal)) (read_back a2 h2 g hz2 _)
theorem sA : kernelRun0_A.sl.r_2 c a1 h1 x = k0_pay10 (F := Ideal) x := congrArg (k0_pay10 (F := Ideal)) (read_back a1 h1 x hz2 _)
theorem uA : kernelRun0_A.sl.r_3 c a1 h1 x = k0_pay11 (F := Ideal) x := congrArg (k0_pay11 (F := Ideal)) (read_back a1 h1 x hz2 _)
theorem pA : kernelRun0_A.sl.r_4 c a1 h1 a2 h2 x g = k0_pay12 (F := Ideal) x g :=
  congrArg₂ (k0_pay12 (F := Ideal)) (read_back a1 h1 x hz2 _) (read_back a2 h2 g hz2 _)

theorem dB : kernelRun0_B.sl.r c a4 h4 d = k0_pay8 (F := Ideal) d := congrArg (k0_pay8 (F := Ideal)) (read_back a4 h4 d hz2 _)
theorem gB : kernelRun0_B.sl.r_1 c a2 h2 g = k0_pay9 (F := Ideal) g := congrArg (k0_pay9 (F := Ideal)) (read_back a2 h2 g hz2 _)
theorem sB : kernelRun0_B.sl.r_2 c a1 h1 x = k0_pay10 (F := Ideal) x := congrArg (k0_pay10 (F := Ideal)) (read_back a1 h1 x hz2 _)
theorem uB : kernelRun0_B.sl.r_3 c a1 h1 x = k0_pay11 (F := Ideal) x := congrArg (k0_pay11 (F := Ideal)) (read_back a1 h1 x hz2 _)
theorem pB : kernelRun0_B.sl.r_4 c a1 h1 a2 h2 x g = k0_pay12 (F := Ideal) x g :=
  congrArg₂ (k0_pay12 (F := Ideal)) (read_back a1 h1 x hz2 _) (read_back a2 h2 g hz2 _)

theorem outA4 (e : cond0_0 i) : out0_A_4 c i a1 h1 a2 h2 a3 h3 a4 h4 a5 h5 a6 h6 a7 h7 a8 h8 e x g w d =
    k0_pay4 (F := Ideal) (which i) (k0_pay8 d) (k0_pay9 g) (k0_pay10 x) (k0_pay11 x) (second w) (first w) := by
  unfold out0_A_4
  rw [View.read_writes_eq_canon _ _ _ (cover0_A_4 c i a1 h1 a2 h2 a3 h3 a4 h4 a5 h5 a6 h6 a7 h7 a8 h8 e x g w d)]
  unfold kernelRun0_A
  dsimp only
  rw [View.canon_unit_zero hz2]
  rw [dA, gA, sA, uA, read_second a3 h3 w, read_first a3 h3 w]
  rfl

theorem outA5 (e : cond0_0 i) : out0_A_5 c i a1 h1 a2 h2 a3 h3 a4 h4 a5 h5 a6 h6 a7 h7 a8 h8 e x g w d =
    k0_pay3 (F := Ideal) (which i) (k0_pay8 d) (k0_pay11 x) (second w) (first w) (k0_pay5 (F := Ideal)) := by
  unfold out0_A_5
  rw [View.read_writes_eq_canon _ _ _ (cover0_A_5 c i a1 h1 a2 h2 a3 h3 a4 h4 a5 h5 a6 h6 a7 h7 a8 h8 e x g w d)]
  unfold kernelRun0_A
  dsimp only
  rw [View.canon_cons_unit_zero hz2]
  rw [dA, uA, read_second a3 h3 w, read_first a3 h3 w]
  delta kernelRun0_A.sl.v54 kernelRun0_A.sl.H5_1
  rw [View.readCov_unit_zero a6.view hz2]
  rfl

theorem outA6 (e : cond0_0 i) : out0_A_6 c i a1 h1 a2 h2 a3 h3 a4 h4 a5 h5 a6 h6 a7 h7 a8 h8 e x g w d =
    k0_pay14 (F := Ideal) i d (k0_pay6 (F := Ideal)) := by
  unfold out0_A_6
  rw [View.read_writes_eq_canon _ _ _ (cover0_A_6 c i a1 h1 a2 h2 a3 h3 a4 h4 a5 h5 a6 h6 a7 h7 a8 h8 e x g w d)]
  unfold kernelRun0_A
  dsimp only
  rw [View.canon_cons_unit_zero hz2]
  rw [read_back a4 h4 d hz2]
  delta kernelRun0_A.sl.v28 kernelRun0_A.sl.H6_1
  rw [View.readCov_unit_zero a7.view hz2]

theorem outA7 (e : cond0_0 i) : out0_A_7 c i a1 h1 a2 h2 a3 h3 a4 h4 a5 h5 a6 h6 a7 h7 a8 h8 e x g w d =
    k0_pay1 (F := Ideal) (k0_pay8 d) (k0_pay12 x g) (k0_pay13 i) (k0_pay7 (F := Ideal)) := by
  unfold out0_A_7
  rw [View.read_writes_eq_canon _ _ _ (cover0_A_7 c i a1 h1 a2 h2 a3 h3 a4 h4 a5 h5 a6 h6 a7 h7 a8 h8 e x g w d)]
  unfold kernelRun0_A
  dsimp only
  rw [View.canon_cons_unit_zero hz2]
  rw [dA, pA]
  delta kernelRun0_A.sl.v37 kernelRun0_A.sl.H7_1
  rw [View.readCov_unit_zero a8.view hz2]

theorem outB4 (e : ¬cond0_0 i) : out0_B_4 c i a1 h1 a2 h2 a3 h3 a4 h4 a5 h5 a6 h6 a7 h7 a8 h8 e x g w d s5 s6 s7 =
    k0_pay4 (F := Ideal) (which i) (k0_pay8 d) (k0_pay9 g) (k0_pay10 x) (k0_pay11 x) (second w) (first w) := by
  unfold out0_B_4
  rw [View.read_writes_eq_canon _ _ _ (cover0_B_4 c i a1 h1 a2 h2 a3 h3 a4 h4 a5 h5 a6 h6 a7 h7 a8 h8 e x g w d s5 s6 s7)]
  unfold kernelRun0_B
  dsimp only
  rw [View.canon_unit_zero hz2]
  rw [dB, gB, sB, uB, read_second a3 h3 w, read_first a3 h3 w]
  rfl

theorem outB5 (e : ¬cond0_0 i) : out0_B_5 c i a1 h1 a2 h2 a3 h3 a4 h4 a5 h5 a6 h6 a7 h7 a8 h8 e x g w d s5 s6 s7 =
    k0_pay3 (F := Ideal) (which i) (k0_pay8 d) (k0_pay11 x) (second w) (first w) s5 := by
  unfold out0_B_5
  rw [View.read_writes_eq_canon _ _ _ (cover0_B_5 c i a1 h1 a2 h2 a3 h3 a4 h4 a5 h5 a6 h6 a7 h7 a8 h8 e x g w d s5 s6 s7)]
  unfold kernelRun0_B
  dsimp only
  rw [View.canon_unit_zero hz2]
  rw [dB, uB, read_second a3 h3 w, read_first a3 h3 w]
  rw [read_back a6 h6 s5 hz2]
  rfl

theorem outB6 (e : ¬cond0_0 i) : out0_B_6 c i a1 h1 a2 h2 a3 h3 a4 h4 a5 h5 a6 h6 a7 h7 a8 h8 e x g w d s5 s6 s7 =
    k0_pay14 (F := Ideal) i d s6 := by
  unfold out0_B_6
  rw [View.read_writes_eq_canon _ _ _ (cover0_B_6 c i a1 h1 a2 h2 a3 h3 a4 h4 a5 h5 a6 h6 a7 h7 a8 h8 e x g w d s5 s6 s7)]
  unfold kernelRun0_B
  dsimp only
  rw [View.canon_unit_zero hz2]
  rw [read_back a4 h4 d hz2]
  rw [read_back a7 h7 s6 hz2]

theorem outB7 (e : ¬cond0_0 i) : out0_B_7 c i a1 h1 a2 h2 a3 h3 a4 h4 a5 h5 a6 h6 a7 h7 a8 h8 e x g w d s5 s6 s7 =
    k0_pay1 (F := Ideal) (k0_pay8 d) (k0_pay12 x g) (k0_pay13 i) s7 := by
  unfold out0_B_7
  rw [View.read_writes_eq_canon _ _ _ (cover0_B_7 c i a1 h1 a2 h2 a3 h3 a4 h4 a5 h5 a6 h6 a7 h7 a8 h8 e x g w d s5 s6 s7)]
  unfold kernelRun0_B
  dsimp only
  rw [View.canon_unit_zero hz2]
  rw [dB, pB]
  rw [show kernelRun0_B.sl.r_5 c a8 h8 s7 = s7 from read_back a8 h8 s7 hz2 _]

end Cases

end Cert.Kernel12Ideal.Norm

end
-- ==== Proof.Norm.Bwd.lean ====
/- The gradient of the norm with modulation: the four arrays that the call leaves. -/
module

public import proofs.«01_k».proof.Proof.Norm.Body

@[expose] public section

set_option maxRecDepth 16384

noncomputable section

namespace Cert.Kernel12Ideal.Norm

open Cert.Kernel12Ideal Cert.Kernel12Ideal.Gen Cert.Mm Cert.Norm Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧
    win0_3.index t = ![t.val, 0] ∧ win0_4.index t = ![t.val, 0] ∧ win0_5.index t = ![0, 0] ∧ win0_6.index t = ![0, 0] ∧
    win0_7.index t = ![0, 0] :=
  (by decide +kernel : ∀ t : Fin grid0.N, _)

theorem coord : ∀ t : Fin cfg0.N, (grid0.coords t 0).val = t.val :=
  (by decide +kernel : ∀ t : Fin grid0.N, _)

theorem lt_N (t : Fin cfg0.N) : t.val < 33 := t.isLt

/-- The arguments, and a point's blocks of them. -/
abbrev X : Rows := m ((c : Thread nD τ).loc main_arg0)
abbrev G : Gain := m ((c : Thread nD τ).loc main_arg1)
abbrev SC : Two := m ((c : Thread nD τ).loc main_arg3)
abbrev DY : Rows := m ((c : Thread nD τ).loc main_arg4)
abbrev bx (t : Fin cfg0.N) : Vec Ideal S256x1024 .f32 := iblk m c 0 t
abbrev bg (t : Fin cfg0.N) : Vec Ideal S1x1024 .f32 := iblk m c 1 t
abbrev bw (t : Fin cfg0.N) : Vec Ideal S2x1024 .f32 := iblk m c 2 t
abbrev bd (t : Fin cfg0.N) : Vec Ideal S256x1024 .bf16 := iblk m c 3 t

theorem gain (k : Fin 1024) : V m c main_v0 (ix2 0 k) = G m c (ix1 k) := by
  rw [show V m c main_v0 = _ by entry_read; rfl]
  pointwise

theorem cast_dy : (V m c main_v1 : S8448x1024.Idx → EReal) = DY m c := by
  rw [show V m c main_v1 = _ by entry_read; rfl]
  rfl

theorem blk0 (t : Fin cfg0.N) (r : Fin 256) (k : Fin 1024) (R : Fin 8448) (hR : R.val = t.val * 256 + r.val) :
    bx m c t (ix2 r k) = X m c (ix2 R k) := by
  rw [X, ← V_main_arg0 m c, show R = ⟨t.val * 256 + r.val, by have := lt_N t; omega⟩ from Fin.ext hR]
  unfold bx iblk
  generalize V m c = W
  blk_point [idx t]

theorem blk1 (t : Fin cfg0.N) (k : Fin 1024) : bg m c t (ix2 0 k) = G m c (ix1 k) := by
  rw [← gain]
  unfold bg iblk
  generalize V m c = W
  blk_point [idx t]

theorem blk2 (t : Fin cfg0.N) (s : Fin 2) (k : Fin 1024) : bw m c t (ix2 s k) = SC m c (ix2 s k) := by
  rw [SC, ← V_main_arg3 m c]
  unfold bw iblk
  generalize V m c = W
  blk_point [idx t]

theorem blk3 (t : Fin cfg0.N) (r : Fin 256) (k : Fin 1024) (R : Fin 8448) (hR : R.val = t.val * 256 + r.val) :
    bd m c t (ix2 r k) = DY m c (ix2 R k) := by
  rw [← cast_dy, show R = ⟨t.val * 256 + r.val, by have := lt_N t; omega⟩ from Fin.ext hR]
  unfold bd iblk
  generalize V m c = W
  blk_point [idx t]

theorem row (t : Fin cfg0.N) (r : Fin 256) (R : Fin 8448) (hR : R.val = t.val * 256 + r.val) :
    (fun k => bx m c t (ix2 r k)) = fun k => X m c (ix2 R k) :=
  funext fun k => blk0 m c t r k R hR

/-- The scale of a row. -/
theorem scale (t : Fin cfg0.N) (r : Fin 256) (k : Fin 1024) (R : Fin 8448) (hR : R.val = t.val * 256 + r.val) :
    Scalar.select (which (grid0.coords t)) (second (bw m c t) (ix2 0 k)) (first (bw m c t) (ix2 0 k)) = SC m c (ix2 (grp R) k) :=
  (select_late (grid0.coords t 0) (fun s => bw m c t (ix2 s k)) r R (by rw [coord, hR])).trans (blk2 m c t _ k)

section Rows

theorem left4 (t : Fin cfg0.N) : (outsAt0 m c t.val t.isLt).1 = k0_pay4 (F := Ideal) (which (grid0.coords t)) (k0_pay8 (bd m c t))
    (k0_pay9 (bg m c t)) (k0_pay10 (bx m c t)) (k0_pay11 (bx m c t)) (second (bw m c t)) (first (bw m c t)) := by
  by_cases h : t.val % 33 = 0
  · rw [outsAt0_A m c t h]
    dsimp only
    rw [outA4]
  · rw [outsAt0_B m c t h]
    dsimp only
    rw [outB4]

theorem left4_at (t : Fin cfg0.N) (r : Fin 256) (j : Fin 1024) (R : Fin 8448) (hR : R.val = t.val * 256 + r.val) :
    (outsAt0 m c t.val t.isLt).1 (ix2 r j) = gradX (X m c) (G m c) (SC m c) (DY m c) (ix2 R j) := by
  rw [left4, pay4_at, row m c t r R hR, show (fun k => bd m c t (ix2 r k) * (1 + Scalar.select (which (grid0.coords t))
    (second (bw m c t) (ix2 0 k)) (first (bw m c t) (ix2 0 k))) * bg m c t (ix2 0 k)) = lin (SC m c) (G m c) (DY m c) R from
      funext fun k => by rw [blk3 m c t r k R hR, scale m c t r k R hR, blk1]; rfl]
  rfl

/-- The gradient of the rows. -/
theorem arr4 : (dats m 0 c).arrAt 4 cfg0.N = gradX (X m c) (G m c) (SC m c) (DY m c) := by
  refine (dats m 0 c).arrAt_eq_of_covers 4 _ (by decide +kernel) fun t hf y => ?_
  blk_simp
  rw [after0_4]
  have hN := lt_N t
  have h0 : (y 0).val < 256 := (y 0).isLt
  refine (congrArg (outsAt0 m c t.val t.isLt).1 (idx2_eq (y : S256x1024.Idx))).trans ((left4_at m c t (y 0) (y 1)
    ⟨t.val * 256 + (y 0).val, by omega⟩ rfl).trans ?_)
  generalize gradX _ _ _ _ = A
  blk_ext [idx t]

end Rows

section Gain

def term5 (t : Fin cfg0.N) (j : Fin 1024) : EReal := ∑ r : Fin 256, bd m c t (ix2 r j) * (1 + Scalar.select (which (grid0.coords t))
  (second (bw m c t) (ix2 0 j)) (first (bw m c t) (ix2 0 j))) * (bx m c t (ix2 r j) * irms fun k => bx m c t (ix2 r k))

abbrev acc5 (n : ℕ) (h : n < cfg0.N) (j : Fin 1024) : EReal := (outsAt0 m c n h).2.1 (ix2 0 j)

theorem first5 (t : Fin cfg0.N) (h : t.val % 33 = 0) (j : Fin 1024) : acc5 m c t.val t.isLt j = term5 m c t j := by
  unfold acc5
  rw [outsAt0_A m c t h]
  dsimp only
  rw [outA5, pay3_at, show k0_pay5 (F := Ideal) (ix2 0 j) = 0 by pointwise [k0_pay5], zero_add]
  rfl

theorem next5 (t : Fin cfg0.N) (h : ¬t.val % 33 = 0) (j : Fin 1024) : acc5 m c t.val t.isLt j =
    acc5 m c (t.val - 1) (Nat.lt_of_le_of_lt (Nat.sub_le _ _) t.isLt) j + term5 m c t j := by
  unfold acc5
  rw [outsAt0_B m c t h]
  dsimp only
  rw [outB5, pay3_at]
  rfl

def lane5 (j : Fin 1024) (l : Fin 8448) : EReal := DY m c (ix2 l j) * (1 + SC m c (ix2 (grp l) j)) * unit (X m c) l j

theorem point5 (t : Fin cfg0.N) (j : Fin 1024) (R : Fin 256 → Fin 8448) (hR : ∀ r, (R r).val = t.val * 256 + r.val) :
    term5 m c t j = ∑ r : Fin 256, lane5 m c j (R r) :=
  Finset.sum_congr rfl fun r _ => by
    rw [blk3 m c t r j _ (hR r), scale m c t r j _ (hR r), blk0 m c t r j _ (hR r), row m c t r _ (hR r)]
    rfl

theorem last5 (t : Fin cfg0.N) (hr : t.val % 33 = 33 - 1) (j : Fin 1024) :
    (outsAt0 m c t.val t.isLt).2.1 (ix2 0 j) = gradG (X m c) (SC m c) (DY m c) (ix2 0 j) :=
  acc_total (acc5 m c) (term5 m c) (first5 m c) (next5 m c) t hr j (lane5 m c j) rfl
    fun u hu => point5 m c u j _ fun r => by have := lt_N u; simp only; omega

/-- The gradient of the gain. -/
theorem arr5 : (dats m 0 c).arrAt 5 cfg0.N = gradG (X m c) (SC m c) (DY m c) := by
  refine (dats m 0 c).arrAt_eq_of_covers 5 _ (by decide +kernel) fun t hf y => ?_
  blk_simp
  rw [after0_5]
  refine (congrArg (outsAt0 m c t.val t.isLt).2.1 ((idx2_eq (y : S1x1024.Idx)).trans
    (congrArg (fun r : Fin 1 => ix2 r (y 1)) (Subsingleton.elim _ 0)))).trans ((last5 m c t ((flush0_5 t).mp hf) (y 1)).trans ?_)
  have h0 : (y 0).val < 1 := (y 0).isLt
  have e0 : (y 0).val = 0 := by omega
  generalize gradG _ _ _ = A
  blk_ext [idx t]

end Gain

section Groups

/-- The rows of a tile lie in one group. -/
theorem hot_sum (t : Fin cfg0.N) (q : Fin 2) (f : Fin 256 → EReal) (R : Fin 256 → Fin 8448) (hR : ∀ r, (R r).val = t.val * 256 + r.val) :
    k0_pay13 (F := Ideal) (grid0.coords t) (ix2 q 0) * ∑ r, f r = ∑ r, if grp (R r) = q then f r else 0 := by
  have hg : ∀ r, (grp (R r)).val = if 32 ≤ t.val then 1 else 0 := fun r => by
    rw [grp, hR]
    by_cases h : 32 ≤ t.val
    · rw [if_pos h, if_pos (by omega)]; rfl
    · rw [if_neg h, if_neg (by omega)]; rfl
  rw [hot_at, coord]
  by_cases h : q.val = if 32 ≤ t.val then 1 else 0
  · rw [if_pos h, one_mul]
    exact Finset.sum_congr rfl fun r _ => (if_pos (Fin.ext ((hg r).trans h.symm))).symm
  · rw [if_neg h, zero_mul]
    exact (Finset.sum_eq_zero fun r _ => if_neg fun e => h (by rw [← e, hg])).symm

variable (q : Fin 2)

def term6 (t : Fin cfg0.N) (j : Fin 1024) : EReal := k0_pay13 (F := Ideal) (grid0.coords t) (ix2 q 0) * ∑ r : Fin 256, bd m c t (ix2 r j)

abbrev acc6 (n : ℕ) (h : n < cfg0.N) (j : Fin 1024) : EReal := (outsAt0 m c n h).2.2.1 (ix2 q j)

theorem first6 (t : Fin cfg0.N) (h : t.val % 33 = 0) (j : Fin 1024) : acc6 m c q t.val t.isLt j = term6 m c q t j := by
  unfold acc6
  rw [outsAt0_A m c t h]
  dsimp only
  rw [outA6, pay14_at, show k0_pay6 (F := Ideal) (ix2 q j) = 0 by pointwise [k0_pay6], zero_add]
  rfl

theorem next6 (t : Fin cfg0.N) (h : ¬t.val % 33 = 0) (j : Fin 1024) : acc6 m c q t.val t.isLt j =
    acc6 m c q (t.val - 1) (Nat.lt_of_le_of_lt (Nat.sub_le _ _) t.isLt) j + term6 m c q t j := by
  unfold acc6
  rw [outsAt0_B m c t h]
  dsimp only
  rw [outB6, pay14_at]
  rfl

def lane6 (j : Fin 1024) (l : Fin 8448) : EReal := if grp l = q then DY m c (ix2 l j) else 0

theorem point6 (t : Fin cfg0.N) (j : Fin 1024) (R : Fin 256 → Fin 8448) (hR : ∀ r, (R r).val = t.val * 256 + r.val) :
    term6 m c q t j = ∑ r : Fin 256, lane6 m c q j (R r) :=
  (hot_sum t q _ R hR).trans (Finset.sum_congr rfl fun r _ => by
    rw [blk3 m c t r j _ (hR r)]
    rfl)

theorem last6 (t : Fin cfg0.N) (hr : t.val % 33 = 33 - 1) (j : Fin 1024) :
    (outsAt0 m c t.val t.isLt).2.2.1 (ix2 q j) = gradShift (DY m c) (ix2 q j) :=
  acc_total (acc6 m c q) (term6 m c q) (first6 m c q) (next6 m c q) t hr j (lane6 m c q j) rfl
    fun u hu => point6 m c q u j _ fun r => by have := lt_N u; simp only; omega

/-- The gradient of the shift. -/
theorem arr6 : (dats m 0 c).arrAt 6 cfg0.N = gradShift (DY m c) := by
  refine (dats m 0 c).arrAt_eq_of_covers 6 _ (by decide +kernel) fun t hf y => ?_
  blk_simp
  rw [after0_6]
  refine (congrArg (outsAt0 m c t.val t.isLt).2.2.1 (idx2_eq (y : S2x1024.Idx))).trans ((last6 m c (y 0) t ((flush0_6 t).mp hf) (y 1)).trans ?_)
  generalize gradShift _ = A
  blk_ext [idx t]

def term7 (t : Fin cfg0.N) (j : Fin 1024) : EReal := k0_pay13 (F := Ideal) (grid0.coords t) (ix2 q 0) * ∑ r : Fin 256, bd m c t (ix2 r j) * (bx m c t (ix2 r j) * (irms fun k => bx m c t (ix2 r k)) * bg m c t (ix2 0 j))

abbrev acc7 (n : ℕ) (h : n < cfg0.N) (j : Fin 1024) : EReal := (outsAt0 m c n h).2.2.2 (ix2 q j)

theorem first7 (t : Fin cfg0.N) (h : t.val % 33 = 0) (j : Fin 1024) : acc7 m c q t.val t.isLt j = term7 m c q t j := by
  unfold acc7
  rw [outsAt0_A m c t h]
  dsimp only
  rw [outA7, pay1_at, show k0_pay7 (F := Ideal) (ix2 q j) = 0 by pointwise [k0_pay7], zero_add]
  rfl

theorem next7 (t : Fin cfg0.N) (h : ¬t.val % 33 = 0) (j : Fin 1024) : acc7 m c q t.val t.isLt j =
    acc7 m c q (t.val - 1) (Nat.lt_of_le_of_lt (Nat.sub_le _ _) t.isLt) j + term7 m c q t j := by
  unfold acc7
  rw [outsAt0_B m c t h]
  dsimp only
  rw [outB7, pay1_at]
  rfl

def lane7 (j : Fin 1024) (l : Fin 8448) : EReal := if grp l = q then DY m c (ix2 l j) * (unit (X m c) l j * G m c (ix1 j)) else 0

theorem point7 (t : Fin cfg0.N) (j : Fin 1024) (R : Fin 256 → Fin 8448) (hR : ∀ r, (R r).val = t.val * 256 + r.val) :
    term7 m c q t j = ∑ r : Fin 256, lane7 m c q j (R r) :=
  (hot_sum t q _ R hR).trans (Finset.sum_congr rfl fun r _ => by
    rw [blk3 m c t r j _ (hR r), blk0 m c t r j _ (hR r), row m c t r _ (hR r), blk1]
    rfl)

theorem last7 (t : Fin cfg0.N) (hr : t.val % 33 = 33 - 1) (j : Fin 1024) :
    (outsAt0 m c t.val t.isLt).2.2.2 (ix2 q j) = gradScale (X m c) (G m c) (DY m c) (ix2 q j) :=
  acc_total (acc7 m c q) (term7 m c q) (first7 m c q) (next7 m c q) t hr j (lane7 m c q j) rfl
    fun u hu => point7 m c q u j _ fun r => by have := lt_N u; simp only; omega

/-- The gradient of the scale. -/
theorem arr7 : (dats m 0 c).arrAt 7 cfg0.N = gradScale (X m c) (G m c) (DY m c) := by
  refine (dats m 0 c).arrAt_eq_of_covers 7 _ (by decide +kernel) fun t hf y => ?_
  blk_simp
  rw [after0_7]
  refine (congrArg (outsAt0 m c t.val t.isLt).2.2.2 (idx2_eq (y : S2x1024.Idx))).trans ((last7 m c (y 0) t ((flush0_7 t).mp hf) (y 1)).trans ?_)
  generalize gradScale _ _ _ = A
  blk_ext [idx t]

end Groups

end Cert.Kernel12Ideal.Norm

end
-- ==== Proof.Norm.Fwd.lean ====
/- The norm with modulation: the array that the call leaves. -/
module

public import proofs.«01_k».proof.Proof.Gen.Kernel13Ideal.Value
public import proofs.«01_k».proof.Proof.Norm.Common

@[expose] public section

set_option maxRecDepth 16384

noncomputable section

namespace Cert.Kernel13Ideal.Norm

open Cert.Kernel13Ideal Cert.Kernel13Ideal.Gen Cert.Mm Cert.Norm Idealize.ShloMosaic Idealize.ShloMosaic.TcCoe Idealize.SL.Sem

theorem pay_at (i : grid0.Coords) (x : Vec Ideal S256x1024 .f32) (g a b p q : Vec Ideal S1x1024 .f32) (r : Fin 256) (j : Fin 1024) :
    k0_pay1 (F := Ideal) i x g a b p q (ix2 r j) = x (ix2 r j) * irms (fun k => x (ix2 r k)) * g (ix2 0 j) *
        (1 + Scalar.select (Scalar.cmpi .sge (BitVec.ofNat 32 (i 0).val) 32#32) (a (ix2 0 j)) (b (ix2 0 j))) +
      Scalar.select (Scalar.cmpi .sge (BitVec.ofNat 32 (i 0).val) 32#32) (p (ix2 0 j)) (q (ix2 0 j)) := by
  unfold irms msq
  pointwise [k0_pay1]

theorem ld_second (w : Vec Ideal S2x1024 .f32) (j : Fin 1024) : View.ld w r0_2 (ix2 0 j) = w (ix2 1 j) :=
  View.ld_unit_apply_of _ _ _ _ _ (ix2 1 j) fun a => by fin_cases a <;> first | rfl | exact (Nat.zero_add _).symm

theorem ld_first (w : Vec Ideal S2x1024 .f32) (j : Fin 1024) : View.ld w r0_3 (ix2 0 j) = w (ix2 0 j) :=
  View.ld_unit_apply_of _ _ _ _ _ (ix2 0 j) fun a => by fin_cases a <;> first | rfl | exact (Nat.zero_add _).symm

theorem out_at (i : grid0.Coords) (x : Vec Ideal S256x1024 .f32) (g : Vec Ideal S1x1024 .f32) (sh sc : Vec Ideal S2x1024 .f32)
    (r : Fin 256) (j : Fin 1024) (R : Fin 8448) (hR : R.val = (i 0).val * 256 + r.val) :
    out0_4 (F := Ideal) i x g sh sc (ix2 r j) = x (ix2 r j) * irms (fun k => x (ix2 r k)) * g (ix2 0 j) * (1 + sc (ix2 (grp R) j)) +
      sh (ix2 (grp R) j) := by
  unfold out0_4
  rw [View.canon_unit_zero (S := S256x1024) hz2, View.ld_unit_zero (S := S256x1024) hz2, View.ld_unit_zero (S := S1x1024) hz2, pay_at,
    ld_second, ld_first, ld_second, ld_first, select_late (i 0) (fun s => sc (ix2 s j)) r R hR, select_late (i 0) (fun s => sh (ix2 s j)) r R hR]

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧
    win0_3.index t = ![0, 0] ∧ win0_4.index t = ![t.val, 0] :=
  (by decide +kernel : ∀ t : Fin grid0.N, _)

theorem coord : ∀ t : Fin cfg0.N, (grid0.coords t 0).val = t.val :=
  (by decide +kernel : ∀ t : Fin grid0.N, _)

theorem lt_N (t : Fin cfg0.N) : t.val < 33 := t.isLt

theorem blk0 (t : Fin cfg0.N) (r : Fin 256) (k : Fin 1024) (R : Fin 8448) (hR : R.val = t.val * 256 + r.val) :
    (iblk m c 0 t : Vec Ideal S256x1024 .f32) (ix2 r k) = V m c main_arg0 (ix2 R k) := by
  rw [show R = ⟨t.val * 256 + r.val, by have := lt_N t; omega⟩ from Fin.ext hR]
  unfold iblk
  generalize V m c = W
  blk_point [idx t]

theorem blk1 (t : Fin cfg0.N) (k : Fin 1024) : (iblk m c 1 t : Vec Ideal S1x1024 .f32) (ix2 0 k) = V m c main_v0 (ix2 0 k) := by
  unfold iblk
  generalize V m c = W
  blk_point [idx t]

theorem blk2 (t : Fin cfg0.N) (s : Fin 2) (k : Fin 1024) :
    (iblk m c 2 t : Vec Ideal S2x1024 .f32) (ix2 s k) = V m c main_arg2 (ix2 s k) := by
  unfold iblk
  generalize V m c = W
  blk_point [idx t]

theorem blk3 (t : Fin cfg0.N) (s : Fin 2) (k : Fin 1024) :
    (iblk m c 3 t : Vec Ideal S2x1024 .f32) (ix2 s k) = V m c main_arg3 (ix2 s k) := by
  unfold iblk
  generalize V m c = W
  blk_point [idx t]

theorem gain (k : Fin 1024) : V m c main_v0 (ix2 0 k) = m ((c : Thread nD τ).loc main_arg1) (ix1 k) := by
  rw [show V m c main_v0 = _ by entry_read; rfl]
  pointwise

/-- What a point leaves in its block. -/
theorem point_at (t : Fin cfg0.N) (r : Fin 256) (j : Fin 1024) (R : Fin 8448) (hR : R.val = t.val * 256 + r.val) :
    out0_4 (F := Ideal) (grid0.coords t) (iblk m c 0 t) (iblk m c 1 t) (iblk m c 2 t) (iblk m c 3 t) (ix2 r j) =
      normed (m ((c : Thread nD τ).loc main_arg0)) (m ((c : Thread nD τ).loc main_arg1))
        (m ((c : Thread nD τ).loc main_arg2)) (m ((c : Thread nD τ).loc main_arg3)) (ix2 R j) := by
  refine (out_at _ _ _ _ _ r j R (by rw [coord, hR])).trans ?_
  rw [show (fun k => (iblk m c 0 t : Vec Ideal S256x1024 .f32) (ix2 r k)) = fun k => V m c main_arg0 (ix2 R k) from
    funext fun k => blk0 m c t r k R hR, blk0 m c t r j R hR, blk1, blk2, blk3, gain, V_main_arg0, V_main_arg2, V_main_arg3]
  rfl

/-- The array that the call leaves. -/
theorem arr : (dats m 0 c).arrAt 4 cfg0.N = normed (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4]
  have hN := lt_N t
  have h0 : (y 0).val < 256 := (y 0).isLt
  have hR : t.val * 256 + (y 0).val < 8448 := by omega
  refine (congrArg (out0_4 (F := Ideal) (grid0.coords t) _ _ _ _) (idx2_eq (y : S256x1024.Idx))).trans ((point_at m c t (y 0) (y 1)
    ⟨t.val * 256 + (y 0).val, hR⟩ rfl).trans ?_)
  generalize normed _ _ _ _ = G
  blk_ext [idx t]

end Cert.Kernel13Ideal.Norm

end
-- ==== Proof.Norm.Host.lean ====
/- The reference's operations on the rows of either group, and what they are at an entry. -/
module

public import proofs.«01_k».proof.Proof.Gen.Reference12Ideal.Run
public import proofs.«01_k».proof.Proof.Norm.Common

@[expose] public section

set_option maxRecDepth 16384

noncomputable section

namespace Cert.Norm

open Cert.Reference12Ideal Cert.Reference12Ideal.Gen Cert.Mm Idealize.ShloMosaic Idealize.ShloMosaic.TcCoe

variable (x dy : FVec Ideal S8448x1024 .f32) (g : FVec Ideal S1024 .f32) (w : FVec Ideal S2x1024 .f32)

/-- A row of the shift or the scale. -/
def row0 : FVec Ideal S1024 .f32 := shapeCast _ (extractStridedSlice S1x1024 ![0, 0] w slices_S2x1024_S1x1024_0_0) shapeCasts_S1x1024_S1024
def row1 : FVec Ideal S1024 .f32 := shapeCast _ (extractStridedSlice S1x1024 ![1, 0] w slices_S2x1024_S1x1024_1_0) shapeCasts_S1x1024_S1024
/-- A column's sum, brought to one row. -/
def onerow : FVec Ideal S1x1024 .f32 := broadcastInDim S1x1024 ![1] bcast_S1024_S1x1024_1 g
def onePlus : FVec Ideal S1024 .f32 := addf (broadcastInDim S1024 ![] bcast_S_S1024 (constant S_ .f32 0x3F800000#32)) g

theorem row0_at (j : Fin 1024) : row0 w (ix1 j) = w (ix2 0 j) := by pointwise [row0]
theorem row1_at (j : Fin 1024) : row1 w (ix1 j) = w (ix2 1 j) := by pointwise [row1]
theorem onerow_at (j : Fin 1024) : onerow g (ix2 0 j) = g (ix1 j) := by pointwise [onerow]
theorem onePlus_at (j : Fin 1024) : onePlus g (ix1 j) = 1 + g (ix1 j) := by pointwise [onePlus]

section
variable (X D A : FVec Ideal S8192x1024 .f32)

def partL : FVec Ideal S8192x1024 .f32 := extractStridedSlice S8192x1024 ![0, 0] x slices_S8448x1024_S8192x1024_0_0
def msL : FVec Ideal S8192x1 .f32 := addf (Host.divf (broadcastInDim S8192x1 ![0] bcast_S8192_S8192x1_0 (Host.reduceAdd (mulf X X)
  (constant S_ .f32 0x00000000#32) reducesTo_S8192x1024_S8192_d1 h_S_)) (broadcastInDim S8192x1 ![] bcast_S_S8192x1 (constant S_ .f32 0x44800000#32)))
  (broadcastInDim S8192x1 ![] bcast_S_S8192x1 (constant S_ .f32 0x358637BD#32))
def invL : FVec Ideal S8192x1024 .f32 := broadcastInDim S8192x1024 ![0, 1] bcast_S8192x1_S8192x1024_0_1 (Host.rsqrt (msL X))
def wideL : FVec Ideal S8192x1024 .f32 := broadcastInDim S8192x1024 ![0, 1] bcast_S1x1024_S8192x1024_0_1 (onerow g)
def slopeL : FVec Ideal S8192x1024 .f32 := broadcastInDim S8192x1024 ![0] bcast_S8192_S8192x1024_0 (Host.reduceAdd (Host.divf (mulf
  (shapeCast _ (Host.reduceAdd (mulf X D) (constant S_ .f32 0x00000000#32) reducesTo_S8192x1024_S8192_d1 h_S_) shapeCasts_S8192_S8192x1)
  (mulf (broadcastInDim S8192x1 ![] bcast_S_S8192x1 (constant S_ .f32 0xBF000000#32)) (Host.divf (Host.rsqrt (msL X)) (msL X))))
  (broadcastInDim S8192x1 ![] bcast_S_S8192x1 (constant S_ .f32 0x44800000#32))) (constant S_ .f32 0x00000000#32) reducesTo_S8192x1_S8192_d1 h_S_)
def colsL : FVec Ideal S1024 .f32 := Host.reduceAdd (shapeCast _ (Host.reduceAdd A (constant S_ .f32 0x00000000#32)
  reducesTo_S8192x1024_S1024_d0 h_S_) shapeCasts_S1024_S1x1024) (constant S_ .f32 0x00000000#32) reducesTo_S1x1024_S1024_d0 h_S_

theorem partL_at (r : Fin 8192) (j : Fin 1024) : partL x (ix2 r j) = x (ix2 (lo r) j) := by
  unfold partL lo; pointwise
theorem msL_at (r : Fin 8192) : msL X (ix2 r 0) = msq (fun k => X (ix2 r k)) := by
  unfold msq; pointwise [msL]
theorem invL_at (r : Fin 8192) (j : Fin 1024) : invL X (ix2 r j) = irms (fun k => X (ix2 r k)) := by
  unfold irms
  rw [← msL_at]
  unfold invL
  generalize msL X = M
  pointwise
theorem wideL_at (r : Fin 8192) (j : Fin 1024) : wideL g (ix2 r j) = g (ix1 j) := by
  pointwise [wideL, onerow]
theorem slopeL_at (r : Fin 8192) (j : Fin 1024) : slopeL X D (ix2 r j) = slope (fun k => X (ix2 r k)) (fun k => D (ix2 r k)) := by
  unfold slope irms
  rw [← msL_at]
  unfold slopeL
  generalize msL X = M
  pointwise
  exact Fin.sum_univ_one _
theorem colsL_at (j : Fin 1024) : colsL A (ix1 j) = ∑ r : Fin 8192, A (ix2 r j) := by
  pointwise [colsL]
  exact Fin.sum_univ_one _
end

section
variable (X D A : FVec Ideal S256x1024 .f32)

def partC : FVec Ideal S256x1024 .f32 := extractStridedSlice S256x1024 ![8192, 0] x slices_S8448x1024_S256x1024_8192_0
def msC : FVec Ideal S256x1 .f32 := addf (Host.divf (broadcastInDim S256x1 ![0] bcast_S256_S256x1_0 (Host.reduceAdd (mulf X X)
  (constant S_ .f32 0x00000000#32) reducesTo_S256x1024_S256_d1 h_S_)) (broadcastInDim S256x1 ![] bcast_S_S256x1 (constant S_ .f32 0x44800000#32)))
  (broadcastInDim S256x1 ![] bcast_S_S256x1 (constant S_ .f32 0x358637BD#32))
def invC : FVec Ideal S256x1024 .f32 := broadcastInDim S256x1024 ![0, 1] bcast_S256x1_S256x1024_0_1 (Host.rsqrt (msC X))
def wideC : FVec Ideal S256x1024 .f32 := broadcastInDim S256x1024 ![0, 1] bcast_S1x1024_S256x1024_0_1 (onerow g)
def slopeC : FVec Ideal S256x1024 .f32 := broadcastInDim S256x1024 ![0] bcast_S256_S256x1024_0 (Host.reduceAdd (Host.divf (mulf
  (shapeCast _ (Host.reduceAdd (mulf X D) (constant S_ .f32 0x00000000#32) reducesTo_S256x1024_S256_d1 h_S_) shapeCasts_S256_S256x1)
  (mulf (broadcastInDim S256x1 ![] bcast_S_S256x1 (constant S_ .f32 0xBF000000#32)) (Host.divf (Host.rsqrt (msC X)) (msC X))))
  (broadcastInDim S256x1 ![] bcast_S_S256x1 (constant S_ .f32 0x44800000#32))) (constant S_ .f32 0x00000000#32) reducesTo_S256x1_S256_d1 h_S_)
def colsC : FVec Ideal S1024 .f32 := Host.reduceAdd (shapeCast _ (Host.reduceAdd A (constant S_ .f32 0x00000000#32)
  reducesTo_S256x1024_S1024_d0 h_S_) shapeCasts_S1024_S1x1024) (constant S_ .f32 0x00000000#32) reducesTo_S1x1024_S1024_d0 h_S_

theorem partC_at (r : Fin 256) (j : Fin 1024) : partC x (ix2 r j) = x (ix2 (hi r) j) := by
  unfold partC hi; pointwise
theorem msC_at (r : Fin 256) : msC X (ix2 r 0) = msq (fun k => X (ix2 r k)) := by
  unfold msq; pointwise [msC]
theorem invC_at (r : Fin 256) (j : Fin 1024) : invC X (ix2 r j) = irms (fun k => X (ix2 r k)) := by
  unfold irms
  rw [← msC_at]
  unfold invC
  generalize msC X = M
  pointwise
theorem wideC_at (r : Fin 256) (j : Fin 1024) : wideC g (ix2 r j) = g (ix1 j) := by
  pointwise [wideC, onerow]
theorem slopeC_at (r : Fin 256) (j : Fin 1024) : slopeC X D (ix2 r j) = slope (fun k => X (ix2 r k)) (fun k => D (ix2 r k)) := by
  unfold slope irms
  rw [← msC_at]
  unfold slopeC
  generalize msC X = M
  pointwise
  exact Fin.sum_univ_one _
theorem colsC_at (j : Fin 1024) : colsC A (ix1 j) = ∑ r : Fin 256, A (ix2 r j) := by
  pointwise [colsC]
  exact Fin.sum_univ_one _
end

variable (sh sc : FVec Ideal S2x1024 .f32)

theorem ix2_zero {M N : ℕ} (r : Fin M) (j : Fin N) : (ix2 r j) 0 = r := rfl
theorem ix2_one {M N : ℕ} (r : Fin M) (j : Fin N) : (ix2 r j) 1 = j := rfl

/-- The normalized rows of a group, and the gradients. -/
def fwdL : FVec Ideal S8192x1024 .f32 := addf (mulf (mulf (mulf (partL x) (invL (partL x))) (wideL g)) (wideL (onePlus (row0 sc)))) (wideL (row0 sh))
def linL : FVec Ideal S8192x1024 .f32 := mulf (mulf (partL dy) (wideL (onePlus (row0 sc)))) (wideL g)
def dxL : FVec Ideal S8192x1024 .f32 := addf (addf (mulf (linL dy g sc) (invL (partL x))) (mulf (partL x) (slopeL (partL x) (linL dy g sc))))
  (mulf (slopeL (partL x) (linL dy g sc)) (partL x))
def dgL : FVec Ideal S1024 .f32 := colsL (mulf (mulf (partL x) (invL (partL x))) (mulf (partL dy) (wideL (onePlus (row0 sc)))))
def dscL : FVec Ideal S1024 .f32 := colsL (mulf (mulf (mulf (partL x) (invL (partL x))) (wideL g)) (partL dy))

theorem partL_row (r : Fin 8192) : (fun k => partL x (ix2 r k)) = fun k => x (ix2 (lo r) k) := funext fun k => partL_at x r k

theorem fwdL_at (r : Fin 8192) (j : Fin 1024) : fwdL x g sh sc (ix2 r j) = normed x g sh sc (ix2 (lo r) j) := by
  refine Eq.trans (b := partL x (ix2 r j) * invL (partL x) (ix2 r j) * wideL g (ix2 r j) * wideL (onePlus (row0 sc)) (ix2 r j)
    + wideL (row0 sh) (ix2 r j)) rfl ?_
  rw [partL_at, invL_at, partL_row, wideL_at, wideL_at, wideL_at, onePlus_at, row0_at, row0_at, normed]
  simp only [ix2_zero, ix2_one, grp_lo]

theorem linL_at (r : Fin 8192) (j : Fin 1024) : linL dy g sc (ix2 r j) = lin sc g dy (lo r) j := by
  refine Eq.trans (b := partL dy (ix2 r j) * wideL (onePlus (row0 sc)) (ix2 r j) * wideL g (ix2 r j)) rfl ?_
  rw [partL_at, wideL_at, wideL_at, onePlus_at, row0_at, lin, grp_lo]

theorem dxL_at (r : Fin 8192) (j : Fin 1024) : dxL x dy g sc (ix2 r j) = gradX x g sc dy (ix2 (lo r) j) := by
  refine Eq.trans (b := linL dy g sc (ix2 r j) * invL (partL x) (ix2 r j) + partL x (ix2 r j) * slopeL (partL x) (linL dy g sc) (ix2 r j)
    + slopeL (partL x) (linL dy g sc) (ix2 r j) * partL x (ix2 r j)) rfl ?_
  rw [slopeL_at, invL_at, partL_row, show (fun k => linL dy g sc (ix2 r k)) = lin sc g dy (lo r) from funext fun k => linL_at dy g sc r k,
    linL_at, partL_at]
  exact (dx_eq (fun k => x (ix2 (lo r) k)) (lin sc g dy (lo r)) j).symm

theorem dgL_at (j : Fin 1024) : dgL x dy sc (ix1 j) = ∑ r : Fin 8192, dy (ix2 (lo r) j) * (1 + sc (ix2 (grp (lo r)) j)) * unit x (lo r) j := by
  refine (colsL_at _ j).trans (Finset.sum_congr rfl fun r _ => ?_)
  refine Eq.trans (b := partL x (ix2 r j) * invL (partL x) (ix2 r j) * (partL dy (ix2 r j) * wideL (onePlus (row0 sc)) (ix2 r j))) rfl ?_
  rw [partL_at, partL_at, invL_at, partL_row, wideL_at, onePlus_at, row0_at, grp_lo]
  exact mul_comm _ _

theorem dscL_at (j : Fin 1024) : dscL x dy g (ix1 j) = ∑ r : Fin 8192, dy (ix2 (lo r) j) * (unit x (lo r) j * g (ix1 j)) := by
  refine (colsL_at _ j).trans (Finset.sum_congr rfl fun r _ => ?_)
  refine Eq.trans (b := partL x (ix2 r j) * invL (partL x) (ix2 r j) * wideL g (ix2 r j) * partL dy (ix2 r j)) rfl ?_
  rw [partL_at, partL_at, invL_at, partL_row, wideL_at]
  exact mul_comm _ _

theorem dshL_at (j : Fin 1024) : colsL (partL dy) (ix1 j) = ∑ r : Fin 8192, dy (ix2 (lo r) j) :=
  (colsL_at _ j).trans (Finset.sum_congr rfl fun r _ => partL_at dy r j)

/-- The normalized rows of a group, and the gradients. -/
def fwdC : FVec Ideal S256x1024 .f32 := addf (mulf (mulf (mulf (partC x) (invC (partC x))) (wideC g)) (wideC (onePlus (row1 sc)))) (wideC (row1 sh))
def linC : FVec Ideal S256x1024 .f32 := mulf (mulf (partC dy) (wideC (onePlus (row1 sc)))) (wideC g)
def dxC : FVec Ideal S256x1024 .f32 := addf (addf (mulf (linC dy g sc) (invC (partC x))) (mulf (partC x) (slopeC (partC x) (linC dy g sc))))
  (mulf (slopeC (partC x) (linC dy g sc)) (partC x))
def dgC : FVec Ideal S1024 .f32 := colsC (mulf (mulf (partC x) (invC (partC x))) (mulf (partC dy) (wideC (onePlus (row1 sc)))))
def dscC : FVec Ideal S1024 .f32 := colsC (mulf (mulf (mulf (partC x) (invC (partC x))) (wideC g)) (partC dy))

theorem partC_row (r : Fin 256) : (fun k => partC x (ix2 r k)) = fun k => x (ix2 (hi r) k) := funext fun k => partC_at x r k

theorem fwdC_at (r : Fin 256) (j : Fin 1024) : fwdC x g sh sc (ix2 r j) = normed x g sh sc (ix2 (hi r) j) := by
  refine Eq.trans (b := partC x (ix2 r j) * invC (partC x) (ix2 r j) * wideC g (ix2 r j) * wideC (onePlus (row1 sc)) (ix2 r j)
    + wideC (row1 sh) (ix2 r j)) rfl ?_
  rw [partC_at, invC_at, partC_row, wideC_at, wideC_at, wideC_at, onePlus_at, row1_at, row1_at, normed]
  simp only [ix2_zero, ix2_one, grp_hi]

theorem linC_at (r : Fin 256) (j : Fin 1024) : linC dy g sc (ix2 r j) = lin sc g dy (hi r) j := by
  refine Eq.trans (b := partC dy (ix2 r j) * wideC (onePlus (row1 sc)) (ix2 r j) * wideC g (ix2 r j)) rfl ?_
  rw [partC_at, wideC_at, wideC_at, onePlus_at, row1_at, lin, grp_hi]

theorem dxC_at (r : Fin 256) (j : Fin 1024) : dxC x dy g sc (ix2 r j) = gradX x g sc dy (ix2 (hi r) j) := by
  refine Eq.trans (b := linC dy g sc (ix2 r j) * invC (partC x) (ix2 r j) + partC x (ix2 r j) * slopeC (partC x) (linC dy g sc) (ix2 r j)
    + slopeC (partC x) (linC dy g sc) (ix2 r j) * partC x (ix2 r j)) rfl ?_
  rw [slopeC_at, invC_at, partC_row, show (fun k => linC dy g sc (ix2 r k)) = lin sc g dy (hi r) from funext fun k => linC_at dy g sc r k,
    linC_at, partC_at]
  exact (dx_eq (fun k => x (ix2 (hi r) k)) (lin sc g dy (hi r)) j).symm

theorem dgC_at (j : Fin 1024) : dgC x dy sc (ix1 j) = ∑ r : Fin 256, dy (ix2 (hi r) j) * (1 + sc (ix2 (grp (hi r)) j)) * unit x (hi r) j := by
  refine (colsC_at _ j).trans (Finset.sum_congr rfl fun r _ => ?_)
  refine Eq.trans (b := partC x (ix2 r j) * invC (partC x) (ix2 r j) * (partC dy (ix2 r j) * wideC (onePlus (row1 sc)) (ix2 r j))) rfl ?_
  rw [partC_at, partC_at, invC_at, partC_row, wideC_at, onePlus_at, row1_at, grp_hi]
  exact mul_comm _ _

theorem dscC_at (j : Fin 1024) : dscC x dy g (ix1 j) = ∑ r : Fin 256, dy (ix2 (hi r) j) * (unit x (hi r) j * g (ix1 j)) := by
  refine (colsC_at _ j).trans (Finset.sum_congr rfl fun r _ => ?_)
  refine Eq.trans (b := partC x (ix2 r j) * invC (partC x) (ix2 r j) * wideC g (ix2 r j) * partC dy (ix2 r j)) rfl ?_
  rw [partC_at, partC_at, invC_at, partC_row, wideC_at]
  exact mul_comm _ _

theorem dshC_at (j : Fin 1024) : colsC (partC dy) (ix1 j) = ∑ r : Fin 256, dy (ix2 (hi r) j) :=
  (colsC_at _ j).trans (Finset.sum_congr rfl fun r _ => partC_at dy r j)

/-- The whole results. -/
theorem fwd_eq (h) : truncf (F := Ideal) .bf16 (concatenate S8448x1024 0 [⟨S8192x1024, fwdL x g sh sc⟩, ⟨S256x1024, fwdC x g sh sc⟩]
    concatenates_S8192x1024_S256x1024_S8448x1024_d0) h = normed x g sh sc :=
  stack_eq (M := 8192) (N := 256) (K := 8448) (W := 1024) rfl _ _ concatenates_S8192x1024_S256x1024_S8448x1024_d0 _ (fwdL_at x g sh sc) (fwdC_at x g sh sc)

theorem dx_whole : concatenate S8448x1024 0 [⟨S8192x1024, dxL x dy g sc⟩, ⟨S256x1024, dxC x dy g sc⟩]
    concatenates_S8192x1024_S256x1024_S8448x1024_d0 = gradX x g sc dy :=
  stack_eq (M := 8192) (N := 256) (K := 8448) (W := 1024) rfl _ _ concatenates_S8192x1024_S256x1024_S8448x1024_d0 _ (dxL_at x dy g sc) (dxC_at x dy g sc)

theorem dg_whole : onerow (addf (dgL x dy sc) (dgC x dy sc)) = gradG x sc dy := by
  funext i
  obtain ⟨r, j, rfl⟩ : ∃ (r : Fin 1) (j : Fin 1024), i = ix2 r j := ⟨i 0, i 1, idx2_eq i⟩
  rw [show r = 0 from Subsingleton.elim _ _, onerow_at]
  refine Eq.trans (b := dgL x dy sc (ix1 j) + dgC x dy sc (ix1 j)) rfl ?_
  rw [dgL_at, dgC_at]
  exact (sum_groups fun r => dy (ix2 r j) * (1 + sc (ix2 (grp r) j)) * unit x r j).symm

theorem dsh_whole : concatenate S2x1024 0 [⟨S1x1024, onerow (colsL (partL dy))⟩, ⟨S1x1024, onerow (colsC (partC dy))⟩]
    concatenates_S1x1024_S1x1024_S2x1024_d0 = gradShift dy :=
  stack_eq (M := 1) (N := 1) (K := 2) (W := 1024) rfl _ _ concatenates_S1x1024_S1x1024_S2x1024_d0 _
    (fun r j => by rw [show r = 0 from Subsingleton.elim _ _, onerow_at, dshL_at]; exact (grouped_lo fun r => dy (ix2 r j)).symm)
    (fun r j => by rw [show r = 0 from Subsingleton.elim _ _, onerow_at, dshC_at]; exact (grouped_hi fun r => dy (ix2 r j)).symm)

theorem dsc_whole : concatenate S2x1024 0 [⟨S1x1024, onerow (dscL x dy g)⟩, ⟨S1x1024, onerow (dscC x dy g)⟩]
    concatenates_S1x1024_S1x1024_S2x1024_d0 = gradScale x g dy :=
  stack_eq (M := 1) (N := 1) (K := 2) (W := 1024) rfl _ _ concatenates_S1x1024_S1x1024_S2x1024_d0 _
    (fun r j => by rw [show r = 0 from Subsingleton.elim _ _, onerow_at, dscL_at]; exact (grouped_lo fun r => dy (ix2 r j) * (unit x r j * g (ix1 j))).symm)
    (fun r j => by rw [show r = 0 from Subsingleton.elim _ _, onerow_at, dscC_at]; exact (grouped_hi fun r => dy (ix2 r j) * (unit x r j * g (ix1 j))).symm)

end Cert.Norm

end
-- ==== Proof.Opt.Common.lean ====
/- The optimiser's step, entry by entry. -/
module

public import proofs.«01_k».proof.Proof.Mm.Common

@[expose] public section

noncomputable section

namespace Cert.Opt

open Idealize.ShloMosaic

/-- The constant that a word stands for. -/
abbrev lit (w : BitVec 32) : EReal := Scalar.ofBits (F := Ideal) .f32 w

/-- The first moment's new value. -/
def stepM (g m : EReal) : EReal := lit 0x3F666666#32 * m + lit 0x3DCCCCCD#32 * g

/-- The second moment's. -/
def stepV (g v : EReal) : EReal := lit 0x3F7FBE77#32 * v + lit 0x3A83126F#32 * (g * g)

/-- The weight's change. -/
def stepW (g w m v : EReal) : EReal := lit 0xBA83126F#32 *
  (Ideal.div (Ideal.div (stepM g m) (lit 0x3F26BD02#32)) (Ideal.sqrt (Ideal.div (stepV g v) (lit 0x3C231ACC#32)) + lit 0x322BCC77#32) +
    lit 0x3C23D70A#32 * w)

variable {S : Shape}

def newM (g m : FVec Ideal S .f32) : FVec Ideal S .f32 := fun i => stepM (g i) (m i)
def newV (g v : FVec Ideal S .f32) : FVec Ideal S .f32 := fun i => stepV (g i) (v i)
def delta (g w m v : FVec Ideal S .f32) : FVec Ideal S .f32 := fun i => stepW (g i) (w i) (m i) (v i)

/- The operations that the call's body makes of two blocks are these steps. -/
section Body

variable (hc : S.ShapeCasts S) (g m v : FVec Ideal S .f32)

theorem body_m : addf (mulf (broadcast S (Scalar.ofBits (F := Ideal) .f32 0x3F666666#32)) (shapeCast S m hc))
    (mulf (broadcast S (Scalar.ofBits (F := Ideal) .f32 0x3DCCCCCD#32)) (shapeCast S g hc)) = newM g m := by
  rw [shapeCast_self, shapeCast_self]
  rfl

theorem body_v : addf (mulf (broadcast S (Scalar.ofBits (F := Ideal) .f32 0x3F7FBE77#32)) (shapeCast S v hc))
    (mulf (broadcast S (Scalar.ofBits (F := Ideal) .f32 0x3A83126F#32)) (mulf (shapeCast S g hc) (shapeCast S g hc))) = newV g v := by
  rw [shapeCast_self, shapeCast_self]
  rfl

end Body

theorem stepM_congr {g g' m m' : EReal} (hg : g = g') (hm : m = m') : stepM g m = stepM g' m' := by rw [hg, hm]
theorem stepV_congr {g g' v v' : EReal} (hg : g = g') (hv : v = v') : stepV g v = stepV g' v' := by rw [hg, hv]
theorem stepW_congr {g g' w w' m m' v v' : EReal} (hg : g = g') (hw : w = w') (hm : m = m') (hv : v = v') :
    stepW g w m v = stepW g' w' m' v' := by rw [hg, hw, hm, hv]

end Cert.Opt

end
-- ==== Proof.Opt.Mod.lean ====
/- The optimiser's call for the modulation's weight: the arrays that it leaves. -/
module

public import proofs.«01_k».proof.Proof.Gen.Kernel14Ideal.Value
public import proofs.«01_k».proof.Proof.Gen.Reference14Ideal.Run
public import proofs.«01_k».proof.Defs
public import proofs.«01_k».proof.Proof.Opt.Common

@[expose] public section

set_option maxRecDepth 16384

noncomputable section

namespace Cert.Kernel14Ideal.Opt

open Cert.Kernel14Ideal Cert.Kernel14Ideal.Gen Cert.Mm Cert.Opt Idealize.ShloMosaic Idealize.ShloMosaic.TcCoe Idealize.SL.Sem

theorem pay_m (g m : Vec Ideal S256x768 .f32) : k0_pay2 (F := Ideal) g m = newM g m := body_m _ g m
theorem pay_v (g v : Vec Ideal S256x768 .f32) : k0_pay3 (F := Ideal) g v = newV g v := body_v _ g v
theorem pay_d (g m v w : Vec Ideal S256x768 .f32) : k0_pay4 (F := Ideal) g m v w = delta g w m v := by
  unfold k0_pay4
  rw [pay_m, pay_v, shapeCast_self]
  rfl

variable (m : (ℓ : Loc nD τ sig) → Buf (Elt Ideal) ℓ) (c : Dev nD)

/-- An argument, its layers under one another. -/
abbrev flat (a : FVec Ideal S4x1024x768 .f32) : FVec Ideal S4096x768 .f32 := shapeCast _ a shapeCasts_S4x1024x768_S4096x768

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] :=
  (by decide +kernel : ∀ t : Fin grid0.N, _)

theorem entry0 : V m c main_v0 = flat (m ((c : Thread nD τ).loc main_arg0)) := by entry_read; rfl
theorem entry1 : V m c main_v1 = flat (m ((c : Thread nD τ).loc main_arg1)) := by entry_read; rfl
theorem entry2 : V m c main_v2 = flat (m ((c : Thread nD τ).loc main_arg2)) := by entry_read; rfl
theorem entry3 : V m c main_v3 = flat (m ((c : Thread nD τ).loc main_arg3)) := by entry_read; rfl

/-- The weight's change and the new moments, as the call leaves them. -/
theorem arrays : (dats m 0 c).arrAt 4 cfg0.N = delta (V m c main_v0) (V m c main_v1) (V m c main_v2) (V m c main_v3) ∧
    (dats m 0 c).arrAt 5 cfg0.N = newM (V m c main_v0) (V m c main_v2) ∧
    (dats m 0 c).arrAt 6 cfg0.N = newV (V m c main_v0) (V m c main_v3) := by
  refine ⟨(dats m 0 c).arrAt_eq_of_covers 4 _ (by decide +kernel) fun t hf y => ?_, (dats m 0 c).arrAt_eq_of_covers 5 _ (by decide +kernel)
    fun t hf y => ?_, (dats m 0 c).arrAt_eq_of_covers 6 _ (by decide +kernel) fun t hf y => ?_⟩
  all_goals
    blk_simp
    first | rw [after0_4, out0_4] | rw [after0_5, out0_5] | rw [after0_6, out0_6]
    rw [View.canon_unit_zero (S := S256x768) hz2]
    simp only [View.ld_unit_zero (S := S256x768) hz2, pay_m, pay_v, pay_d]
    unfold iblk
    generalize V m c = W
  · exact stepW_congr (by blk_ext [idx t]) (by blk_ext [idx t]) (by blk_ext [idx t]) (by blk_ext [idx t])
  · exact stepM_congr (by blk_ext [idx t]) (by blk_ext [idx t])
  · exact stepV_congr (by blk_ext [idx t]) (by blk_ext [idx t])

theorem algebraic : Cert.algebraic_Kernel14Ideal_Reference14Ideal := by
  intro m g m' g' _ hag
  refine ⟨_, _, _, (θ_run _ _ _).mono (fun r h c => ⟨(h c).1.trans (arrays m c).1, (h c).2.1.trans (arrays m c).2.1,
    (h c).2.2.1.trans (arrays m c).2.2, (h c).2.2.2⟩) (Cert.Kernel14Ideal.Value.run_blocks m g), ?_⟩
  refine (θ_run _ _ _).mono (fun r h c => ?_) (Cert.Reference14Ideal.Value.run m' g')
  obtain ⟨e0, e1, e2, e3⟩ := hag c
  refine ⟨(h c).1.trans ?_, (h c).2.1.trans ?_, (h c).2.2.1.trans ?_, (h c).2.2.2⟩
  all_goals
    simp only [entry0, entry1, entry2, entry3, e0, e1, e2, e3]
    rfl

end Cert.Kernel14Ideal.Opt

end
-- ==== Proof.Opt.In.lean ====
/- The optimiser's call for the input projection's weight: the arrays that it leaves. -/
module

public import proofs.«01_k».proof.Proof.Gen.Kernel15Ideal.Value
public import proofs.«01_k».proof.Proof.Gen.Reference15Ideal.Run
public import proofs.«01_k».proof.Defs
public import proofs.«01_k».proof.Proof.Opt.Common

@[expose] public section

set_option maxRecDepth 16384

noncomputable section

namespace Cert.Kernel15Ideal.Opt

open Cert.Kernel15Ideal Cert.Kernel15Ideal.Gen Cert.Mm Cert.Opt Idealize.ShloMosaic Idealize.ShloMosaic.TcCoe Idealize.SL.Sem

theorem pay_m (g m : Vec Ideal S256x544 .f32) : k0_pay2 (F := Ideal) g m = newM g m := body_m _ g m
theorem pay_v (g v : Vec Ideal S256x544 .f32) : k0_pay3 (F := Ideal) g v = newV g v := body_v _ g v
theorem pay_d (g m v w : Vec Ideal S256x544 .f32) : k0_pay4 (F := Ideal) g m v w = delta g w m v := by
  unfold k0_pay4
  rw [pay_m, pay_v, shapeCast_self]
  rfl

variable (m : (ℓ : Loc nD τ sig) → Buf (Elt Ideal) ℓ) (c : Dev nD)

/-- An argument, its layers under one another. -/
abbrev flat (a : FVec Ideal S4x1024x544 .f32) : FVec Ideal S4096x544 .f32 := shapeCast _ a shapeCasts_S4x1024x544_S4096x544

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] :=
  (by decide +kernel : ∀ t : Fin grid0.N, _)

theorem entry0 : V m c main_v0 = flat (m ((c : Thread nD τ).loc main_arg0)) := by entry_read; rfl
theorem entry1 : V m c main_v1 = flat (m ((c : Thread nD τ).loc main_arg1)) := by entry_read; rfl
theorem entry2 : V m c main_v2 = flat (m ((c : Thread nD τ).loc main_arg2)) := by entry_read; rfl
theorem entry3 : V m c main_v3 = flat (m ((c : Thread nD τ).loc main_arg3)) := by entry_read; rfl

/-- The weight's change and the new moments, as the call leaves them. -/
theorem arrays : (dats m 0 c).arrAt 4 cfg0.N = delta (V m c main_v0) (V m c main_v1) (V m c main_v2) (V m c main_v3) ∧
    (dats m 0 c).arrAt 5 cfg0.N = newM (V m c main_v0) (V m c main_v2) ∧
    (dats m 0 c).arrAt 6 cfg0.N = newV (V m c main_v0) (V m c main_v3) := by
  refine ⟨(dats m 0 c).arrAt_eq_of_covers 4 _ (by decide +kernel) fun t hf y => ?_, (dats m 0 c).arrAt_eq_of_covers 5 _ (by decide +kernel)
    fun t hf y => ?_, (dats m 0 c).arrAt_eq_of_covers 6 _ (by decide +kernel) fun t hf y => ?_⟩
  all_goals
    blk_simp
    first | rw [after0_4, out0_4] | rw [after0_5, out0_5] | rw [after0_6, out0_6]
    rw [View.canon_unit_zero (S := S256x544) hz2]
    simp only [View.ld_unit_zero (S := S256x544) hz2, pay_m, pay_v, pay_d]
    unfold iblk
    generalize V m c = W
  · exact stepW_congr (by blk_ext [idx t]) (by blk_ext [idx t]) (by blk_ext [idx t]) (by blk_ext [idx t])
  · exact stepM_congr (by blk_ext [idx t]) (by blk_ext [idx t])
  · exact stepV_congr (by blk_ext [idx t]) (by blk_ext [idx t])

theorem algebraic : Cert.algebraic_Kernel15Ideal_Reference15Ideal := by
  intro m g m' g' _ hag
  refine ⟨_, _, _, (θ_run _ _ _).mono (fun r h c => ⟨(h c).1.trans (arrays m c).1, (h c).2.1.trans (arrays m c).2.1,
    (h c).2.2.1.trans (arrays m c).2.2, (h c).2.2.2⟩) (Cert.Kernel15Ideal.Value.run_blocks m g), ?_⟩
  refine (θ_run _ _ _).mono (fun r h c => ?_) (Cert.Reference15Ideal.Value.run m' g')
  obtain ⟨e0, e1, e2, e3⟩ := hag c
  refine ⟨(h c).1.trans ?_, (h c).2.1.trans ?_, (h c).2.2.1.trans ?_, (h c).2.2.2⟩
  all_goals
    simp only [entry0, entry1, entry2, entry3, e0, e1, e2, e3]
    rfl

end Cert.Kernel15Ideal.Opt

end
-- ==== Proof.Opt.Branch.lean ====
/- The optimiser's call for a branch's weight: the arrays that it leaves. -/
module

public import proofs.«01_k».proof.Proof.Gen.Kernel16Ideal.Value
public import proofs.«01_k».proof.Proof.Gen.Reference16Ideal.Run
public import proofs.«01_k».proof.Defs
public import proofs.«01_k».proof.Proof.Opt.Common

@[expose] public section

set_option maxRecDepth 16384

noncomputable section

namespace Cert.Kernel16Ideal.Opt

open Cert.Kernel16Ideal Cert.Kernel16Ideal.Gen Cert.Mm Cert.Opt Idealize.ShloMosaic Idealize.ShloMosaic.TcCoe Idealize.SL.Sem

theorem pay_m (g m : Vec Ideal S256x128 .f32) : k0_pay2 (F := Ideal) g m = newM g m := body_m _ g m
theorem pay_v (g v : Vec Ideal S256x128 .f32) : k0_pay3 (F := Ideal) g v = newV g v := body_v _ g v
theorem pay_d (g m v w : Vec Ideal S256x128 .f32) : k0_pay4 (F := Ideal) g m v w = delta g w m v := by
  unfold k0_pay4
  rw [pay_m, pay_v, shapeCast_self]
  rfl

variable (m : (ℓ : Loc nD τ sig) → Buf (Elt Ideal) ℓ) (c : Dev nD)

/-- An argument, its layers under one another. -/
abbrev flat (a : FVec Ideal S4x512x128 .f32) : FVec Ideal S2048x128 .f32 := shapeCast _ a shapeCasts_S4x512x128_S2048x128

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] :=
  (by decide +kernel : ∀ t : Fin grid0.N, _)

theorem entry0 : V m c main_v0 = flat (m ((c : Thread nD τ).loc main_arg0)) := by entry_read; rfl
theorem entry1 : V m c main_v1 = flat (m ((c : Thread nD τ).loc main_arg1)) := by entry_read; rfl
theorem entry2 : V m c main_v2 = flat (m ((c : Thread nD τ).loc main_arg2)) := by entry_read; rfl
theorem entry3 : V m c main_v3 = flat (m ((c : Thread nD τ).loc main_arg3)) := by entry_read; rfl

/-- The weight's change and the new moments, as the call leaves them. -/
theorem arrays : (dats m 0 c).arrAt 4 cfg0.N = delta (V m c main_v0) (V m c main_v1) (V m c main_v2) (V m c main_v3) ∧
    (dats m 0 c).arrAt 5 cfg0.N = newM (V m c main_v0) (V m c main_v2) ∧
    (dats m 0 c).arrAt 6 cfg0.N = newV (V m c main_v0) (V m c main_v3) := by
  refine ⟨(dats m 0 c).arrAt_eq_of_covers 4 _ (by decide +kernel) fun t hf y => ?_, (dats m 0 c).arrAt_eq_of_covers 5 _ (by decide +kernel)
    fun t hf y => ?_, (dats m 0 c).arrAt_eq_of_covers 6 _ (by decide +kernel) fun t hf y => ?_⟩
  all_goals
    blk_simp
    first | rw [after0_4, out0_4] | rw [after0_5, out0_5] | rw [after0_6, out0_6]
    rw [View.canon_unit_zero (S := S256x128) hz2]
    simp only [View.ld_unit_zero (S := S256x128) hz2, pay_m, pay_v, pay_d]
    unfold iblk
    generalize V m c = W
  · exact stepW_congr (by blk_ext [idx t]) (by blk_ext [idx t]) (by blk_ext [idx t]) (by blk_ext [idx t])
  · exact stepM_congr (by blk_ext [idx t]) (by blk_ext [idx t])
  · exact stepV_congr (by blk_ext [idx t]) (by blk_ext [idx t])

theorem algebraic : Cert.algebraic_Kernel16Ideal_Reference16Ideal := by
  intro m g m' g' _ hag
  refine ⟨_, _, _, (θ_run _ _ _).mono (fun r h c => ⟨(h c).1.trans (arrays m c).1, (h c).2.1.trans (arrays m c).2.1,
    (h c).2.2.1.trans (arrays m c).2.2, (h c).2.2.2⟩) (Cert.Kernel16Ideal.Value.run_blocks m g), ?_⟩
  refine (θ_run _ _ _).mono (fun r h c => ?_) (Cert.Reference16Ideal.Value.run m' g')
  obtain ⟨e0, e1, e2, e3⟩ := hag c
  refine ⟨(h c).1.trans ?_, (h c).2.1.trans ?_, (h c).2.2.1.trans ?_, (h c).2.2.2⟩
  all_goals
    simp only [entry0, entry1, entry2, entry3, e0, e1, e2, e3]
    rfl

end Cert.Kernel16Ideal.Opt

end
-- ==== Proof.Opt.Out.lean ====
/- The optimiser's call for the merge's weight: the arrays that it leaves. -/
module

public import proofs.«01_k».proof.Proof.Gen.Kernel17Ideal.Value
public import proofs.«01_k».proof.Proof.Gen.Reference17Ideal.Run
public import proofs.«01_k».proof.Defs
public import proofs.«01_k».proof.Proof.Opt.Common

@[expose] public section

set_option maxRecDepth 16384

noncomputable section

namespace Cert.Kernel17Ideal.Opt

open Cert.Kernel17Ideal Cert.Kernel17Ideal.Gen Cert.Mm Cert.Opt Idealize.ShloMosaic Idealize.ShloMosaic.TcCoe Idealize.SL.Sem

theorem pay_m (g m : Vec Ideal S256x1024 .f32) : k0_pay2 (F := Ideal) g m = newM g m := body_m _ g m
theorem pay_v (g v : Vec Ideal S256x1024 .f32) : k0_pay3 (F := Ideal) g v = newV g v := body_v _ g v
theorem pay_d (g m v w : Vec Ideal S256x1024 .f32) : k0_pay4 (F := Ideal) g m v w = delta g w m v := by
  unfold k0_pay4
  rw [pay_m, pay_v, shapeCast_self]
  rfl

variable (m : (ℓ : Loc nD τ sig) → Buf (Elt Ideal) ℓ) (c : Dev nD)

/-- An argument, its layers under one another. -/
abbrev flat (a : FVec Ideal S4x128x1024 .f32) : FVec Ideal S512x1024 .f32 := shapeCast _ a shapeCasts_S4x128x1024_S512x1024

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] :=
  (by decide +kernel : ∀ t : Fin grid0.N, _)

theorem entry0 : V m c main_v0 = flat (m ((c : Thread nD τ).loc main_arg0)) := by entry_read; rfl
theorem entry1 : V m c main_v1 = flat (m ((c : Thread nD τ).loc main_arg1)) := by entry_read; rfl
theorem entry2 : V m c main_v2 = flat (m ((c : Thread nD τ).loc main_arg2)) := by entry_read; rfl
theorem entry3 : V m c main_v3 = flat (m ((c : Thread nD τ).loc main_arg3)) := by entry_read; rfl

/-- The weight's change and the new moments, as the call leaves them. -/
theorem arrays : (dats m 0 c).arrAt 4 cfg0.N = delta (V m c main_v0) (V m c main_v1) (V m c main_v2) (V m c main_v3) ∧
    (dats m 0 c).arrAt 5 cfg0.N = newM (V m c main_v0) (V m c main_v2) ∧
    (dats m 0 c).arrAt 6 cfg0.N = newV (V m c main_v0) (V m c main_v3) := by
  refine ⟨(dats m 0 c).arrAt_eq_of_covers 4 _ (by decide +kernel) fun t hf y => ?_, (dats m 0 c).arrAt_eq_of_covers 5 _ (by decide +kernel)
    fun t hf y => ?_, (dats m 0 c).arrAt_eq_of_covers 6 _ (by decide +kernel) fun t hf y => ?_⟩
  all_goals
    blk_simp
    first | rw [after0_4, out0_4] | rw [after0_5, out0_5] | rw [after0_6, out0_6]
    rw [View.canon_unit_zero (S := S256x1024) hz2]
    simp only [View.ld_unit_zero (S := S256x1024) hz2, pay_m, pay_v, pay_d]
    unfold iblk
    generalize V m c = W
  · exact stepW_congr (by blk_ext [idx t]) (by blk_ext [idx t]) (by blk_ext [idx t]) (by blk_ext [idx t])
  · exact stepM_congr (by blk_ext [idx t]) (by blk_ext [idx t])
  · exact stepV_congr (by blk_ext [idx t]) (by blk_ext [idx t])

theorem algebraic : Cert.algebraic_Kernel17Ideal_Reference17Ideal := by
  intro m g m' g' _ hag
  refine ⟨_, _, _, (θ_run _ _ _).mono (fun r h c => ⟨(h c).1.trans (arrays m c).1, (h c).2.1.trans (arrays m c).2.1,
    (h c).2.2.1.trans (arrays m c).2.2, (h c).2.2.2⟩) (Cert.Kernel17Ideal.Value.run_blocks m g), ?_⟩
  refine (θ_run _ _ _).mono (fun r h c => ?_) (Cert.Reference17Ideal.Value.run m' g')
  obtain ⟨e0, e1, e2, e3⟩ := hag c
  refine ⟨(h c).1.trans ?_, (h c).2.1.trans ?_, (h c).2.2.1.trans ?_, (h c).2.2.2⟩
  all_goals
    simp only [entry0, entry1, entry2, entry3, e0, e1, e2, e3]
    rfl

end Cert.Kernel17Ideal.Opt

end
-- ==== Proof.Opt.FfnIn.lean ====
/- The optimiser's call for the feed-forward layer's first weight: the arrays that it leaves. -/
module

public import proofs.«01_k».proof.Proof.Gen.Kernel18Ideal.Value
public import proofs.«01_k».proof.Proof.Gen.Reference18Ideal.Run
public import proofs.«01_k».proof.Defs
public import proofs.«01_k».proof.Proof.Opt.Common

@[expose] public section

set_option maxRecDepth 16384

noncomputable section

namespace Cert.Kernel18Ideal.Opt

open Cert.Kernel18Ideal Cert.Kernel18Ideal.Gen Cert.Mm Cert.Opt Idealize.ShloMosaic Idealize.ShloMosaic.TcCoe Idealize.SL.Sem

theorem pay_m (g m : Vec Ideal S256x704 .f32) : k0_pay2 (F := Ideal) g m = newM g m := body_m _ g m
theorem pay_v (g v : Vec Ideal S256x704 .f32) : k0_pay3 (F := Ideal) g v = newV g v := body_v _ g v
theorem pay_d (g m v w : Vec Ideal S256x704 .f32) : k0_pay4 (F := Ideal) g m v w = delta g w m v := by
  unfold k0_pay4
  rw [pay_m, pay_v, shapeCast_self]
  rfl

variable (m : (ℓ : Loc nD τ sig) → Buf (Elt Ideal) ℓ) (c : Dev nD)

/-- An argument, its layers under one another. -/
abbrev flat (a : FVec Ideal S4x1024x704 .f32) : FVec Ideal S4096x704 .f32 := shapeCast _ a shapeCasts_S4x1024x704_S4096x704

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] :=
  (by decide +kernel : ∀ t : Fin grid0.N, _)

theorem entry0 : V m c main_v0 = flat (m ((c : Thread nD τ).loc main_arg0)) := by entry_read; rfl
theorem entry1 : V m c main_v1 = flat (m ((c : Thread nD τ).loc main_arg1)) := by entry_read; rfl
theorem entry2 : V m c main_v2 = flat (m ((c : Thread nD τ).loc main_arg2)) := by entry_read; rfl
theorem entry3 : V m c main_v3 = flat (m ((c : Thread nD τ).loc main_arg3)) := by entry_read; rfl

/-- The weight's change and the new moments, as the call leaves them. -/
theorem arrays : (dats m 0 c).arrAt 4 cfg0.N = delta (V m c main_v0) (V m c main_v1) (V m c main_v2) (V m c main_v3) ∧
    (dats m 0 c).arrAt 5 cfg0.N = newM (V m c main_v0) (V m c main_v2) ∧
    (dats m 0 c).arrAt 6 cfg0.N = newV (V m c main_v0) (V m c main_v3) := by
  refine ⟨(dats m 0 c).arrAt_eq_of_covers 4 _ (by decide +kernel) fun t hf y => ?_, (dats m 0 c).arrAt_eq_of_covers 5 _ (by decide +kernel)
    fun t hf y => ?_, (dats m 0 c).arrAt_eq_of_covers 6 _ (by decide +kernel) fun t hf y => ?_⟩
  all_goals
    blk_simp
    first | rw [after0_4, out0_4] | rw [after0_5, out0_5] | rw [after0_6, out0_6]
    rw [View.canon_unit_zero (S := S256x704) hz2]
    simp only [View.ld_unit_zero (S := S256x704) hz2, pay_m, pay_v, pay_d]
    unfold iblk
    generalize V m c = W
  · exact stepW_congr (by blk_ext [idx t]) (by blk_ext [idx t]) (by blk_ext [idx t]) (by blk_ext [idx t])
  · exact stepM_congr (by blk_ext [idx t]) (by blk_ext [idx t])
  · exact stepV_congr (by blk_ext [idx t]) (by blk_ext [idx t])

theorem algebraic : Cert.algebraic_Kernel18Ideal_Reference18Ideal := by
  intro m g m' g' _ hag
  refine ⟨_, _, _, (θ_run _ _ _).mono (fun r h c => ⟨(h c).1.trans (arrays m c).1, (h c).2.1.trans (arrays m c).2.1,
    (h c).2.2.1.trans (arrays m c).2.2, (h c).2.2.2⟩) (Cert.Kernel18Ideal.Value.run_blocks m g), ?_⟩
  refine (θ_run _ _ _).mono (fun r h c => ?_) (Cert.Reference18Ideal.Value.run m' g')
  obtain ⟨e0, e1, e2, e3⟩ := hag c
  refine ⟨(h c).1.trans ?_, (h c).2.1.trans ?_, (h c).2.2.1.trans ?_, (h c).2.2.2⟩
  all_goals
    simp only [entry0, entry1, entry2, entry3, e0, e1, e2, e3]
    rfl

end Cert.Kernel18Ideal.Opt

end
-- ==== Proof.Opt.FfnOut.lean ====
/- The optimiser's call for the feed-forward layer's second weight: the arrays that it leaves. -/
module

public import proofs.«01_k».proof.Proof.Gen.Kernel19Ideal.Value
public import proofs.«01_k».proof.Proof.Gen.Reference19Ideal.Run
public import proofs.«01_k».proof.Defs
public import proofs.«01_k».proof.Proof.Opt.Common

@[expose] public section

set_option maxRecDepth 16384

noncomputable section

namespace Cert.Kernel19Ideal.Opt

open Cert.Kernel19Ideal Cert.Kernel19Ideal.Gen Cert.Mm Cert.Opt Idealize.ShloMosaic Idealize.ShloMosaic.TcCoe Idealize.SL.Sem

theorem pay_m (g m : Vec Ideal S128x1024 .f32) : k0_pay2 (F := Ideal) g m = newM g m := body_m _ g m
theorem pay_v (g v : Vec Ideal S128x1024 .f32) : k0_pay3 (F := Ideal) g v = newV g v := body_v _ g v
theorem pay_d (g m v w : Vec Ideal S128x1024 .f32) : k0_pay4 (F := Ideal) g m v w = delta g w m v := by
  unfold k0_pay4
  rw [pay_m, pay_v, shapeCast_self]
  rfl

variable (m : (ℓ : Loc nD τ sig) → Buf (Elt Ideal) ℓ) (c : Dev nD)

/-- An argument, its layers under one another. -/
abbrev flat (a : FVec Ideal S4x352x1024 .f32) : FVec Ideal S1408x1024 .f32 := shapeCast _ a shapeCasts_S4x352x1024_S1408x1024

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] :=
  (by decide +kernel : ∀ t : Fin grid0.N, _)

theorem entry0 : V m c main_v0 = flat (m ((c : Thread nD τ).loc main_arg0)) := by entry_read; rfl
theorem entry1 : V m c main_v1 = flat (m ((c : Thread nD τ).loc main_arg1)) := by entry_read; rfl
theorem entry2 : V m c main_v2 = flat (m ((c : Thread nD τ).loc main_arg2)) := by entry_read; rfl
theorem entry3 : V m c main_v3 = flat (m ((c : Thread nD τ).loc main_arg3)) := by entry_read; rfl

/-- The weight's change and the new moments, as the call leaves them. -/
theorem arrays : (dats m 0 c).arrAt 4 cfg0.N = delta (V m c main_v0) (V m c main_v1) (V m c main_v2) (V m c main_v3) ∧
    (dats m 0 c).arrAt 5 cfg0.N = newM (V m c main_v0) (V m c main_v2) ∧
    (dats m 0 c).arrAt 6 cfg0.N = newV (V m c main_v0) (V m c main_v3) := by
  refine ⟨(dats m 0 c).arrAt_eq_of_covers 4 _ (by decide +kernel) fun t hf y => ?_, (dats m 0 c).arrAt_eq_of_covers 5 _ (by decide +kernel)
    fun t hf y => ?_, (dats m 0 c).arrAt_eq_of_covers 6 _ (by decide +kernel) fun t hf y => ?_⟩
  all_goals
    blk_simp
    first | rw [after0_4, out0_4] | rw [after0_5, out0_5] | rw [after0_6, out0_6]
    rw [View.canon_unit_zero (S := S128x1024) hz2]
    simp only [View.ld_unit_zero (S := S128x1024) hz2, pay_m, pay_v, pay_d]
    unfold iblk
    generalize V m c = W
  · exact stepW_congr (by blk_ext [idx t]) (by blk_ext [idx t]) (by blk_ext [idx t]) (by blk_ext [idx t])
  · exact stepM_congr (by blk_ext [idx t]) (by blk_ext [idx t])
  · exact stepV_congr (by blk_ext [idx t]) (by blk_ext [idx t])

theorem algebraic : Cert.algebraic_Kernel19Ideal_Reference19Ideal := by
  intro m g m' g' _ hag
  refine ⟨_, _, _, (θ_run _ _ _).mono (fun r h c => ⟨(h c).1.trans (arrays m c).1, (h c).2.1.trans (arrays m c).2.1,
    (h c).2.2.1.trans (arrays m c).2.2, (h c).2.2.2⟩) (Cert.Kernel19Ideal.Value.run_blocks m g), ?_⟩
  refine (θ_run _ _ _).mono (fun r h c => ?_) (Cert.Reference19Ideal.Value.run m' g')
  obtain ⟨e0, e1, e2, e3⟩ := hag c
  refine ⟨(h c).1.trans ?_, (h c).2.1.trans ?_, (h c).2.2.1.trans ?_, (h c).2.2.2⟩
  all_goals
    simp only [entry0, entry1, entry2, entry3, e0, e1, e2, e3]
    rfl

end Cert.Kernel19Ideal.Opt

end
-- ==== Proof.Loss.Body.lean ====
/- The loss: what the call's body computes from the blocks. -/
module

public import proofs.«01_k».proof.Proof.Gen.Kernel20Ideal.Value
public import proofs.«01_k».proof.Proof.Mm.Common

@[expose] public section

set_option maxRecDepth 16384

noncomputable section

namespace Cert.Kernel20Ideal.Loss

open Cert.Kernel20Ideal Cert.Kernel20Ideal.Gen Cert.Mm Idealize.ShloMosaic Idealize.ShloMosaic.TcCoe Idealize.SL.Sem

variable (c : Dev nD) (i : grid0.Coords) (a1 : Memref sig .tc .vmem S512x1024 .f32) (h1 : a1.IsWhole)
  (a2 : Memref sig .tc .vmem S512x1024 .f32) (h2 : a2.IsWhole) (a3 : Memref sig .tc .vmem S1x1 .f32) (h3 : a3.IsWhole)
  (a4 : Memref sig .tc .vmem S512x1024 .f32) (h4 : a4.IsWhole) (y l : Vec Ideal S512x1024 .f32) (s : Vec Ideal S1x1 .f32)

/-- Half the mean square of a row's difference. -/
def rowLoss (y l : Fin 1024 → EReal) : EReal :=
  Ideal.div (∑ k, (y k - l k) * (y k - l k)) (Ideal.ofBits FTy.f32 0x44800000#32)

theorem pay3_at (r : Fin 512) (j : Fin 1024) :
    k0_pay3 (F := Ideal) y l (ix2 r j) = (y (ix2 r j) - l (ix2 r j)) * Ideal.ofBits FTy.f32 0x3A800000#32 := by
  pointwise [k0_pay3, k0_pay2]

theorem pay4_at : k0_pay4 (F := Ideal) y l s (ix2 0 0) = s (ix2 0 0) + Ideal.ofBits FTy.f32 0x3F000000#32 *
    ∑ r : Fin 512, rowLoss (fun k => y (ix2 r k)) fun k => l (ix2 r k) := by
  unfold rowLoss
  pointwise [k0_pay4, k0_pay2]

theorem outA3 (e : cond0_0 i) : out0_A_3 c i a1 h1 a2 h2 a3 h3 a4 h4 e y l = k0_pay3 (F := Ideal) y l := by
  unfold out0_A_3
  rw [View.read_writes_eq_canon _ _ _ (cover0_A_3 c i a1 h1 a2 h2 a3 h3 a4 h4 e y l)]
  unfold kernelRun0_A
  dsimp only
  rw [View.canon_unit_zero hz2]
  rw [read_back a1 h1 y hz2, read_back a2 h2 l hz2]

theorem outB3 (e : ¬cond0_0 i) : out0_B_3 c i a1 h1 a2 h2 a3 h3 a4 h4 e y l s = k0_pay3 (F := Ideal) y l := by
  unfold out0_B_3
  rw [View.read_writes_eq_canon _ _ _ (cover0_B_3 c i a1 h1 a2 h2 a3 h3 a4 h4 e y l s)]
  unfold kernelRun0_B
  dsimp only
  rw [View.canon_unit_zero hz2]
  rw [read_back a1 h1 y hz2, read_back a2 h2 l hz2]

theorem outB2 (e : ¬cond0_0 i) : out0_B_2 c i a1 h1 a2 h2 a3 h3 a4 h4 e y l s = k0_pay4 (F := Ideal) y l s := by
  unfold out0_B_2
  rw [View.read_writes_eq_canon _ _ _ (cover0_B_2 c i a1 h1 a2 h2 a3 h3 a4 h4 e y l s)]
  unfold kernelRun0_B
  dsimp only
  rw [View.canon_unit_zero hz2]
  rw [read_back a1 h1 y hz2, read_back a2 h2 l hz2, read_back a3 h3 s hz2]

theorem outA2 (e : cond0_0 i) : out0_A_2 c i a1 h1 a2 h2 a3 h3 a4 h4 e y l = k0_pay4 (F := Ideal) y l (k0_pay1 (F := Ideal)) := by
  unfold out0_A_2
  rw [View.read_writes_eq_canon _ _ _ (cover0_A_2 c i a1 h1 a2 h2 a3 h3 a4 h4 e y l)]
  unfold kernelRun0_A
  dsimp only
  rw [View.canon_cons_unit_zero hz2]
  rw [read_back a1 h1 y hz2, read_back a2 h2 l hz2]
  delta kernelRun0_A.sl.v9 kernelRun0_A.sl.H2_1
  rw [View.readCov_unit_zero a3.view hz2]

end Cert.Kernel20Ideal.Loss

end
-- ==== Proof.Loss.Arrays.lean ====
/- The loss: the arrays that the call leaves, and what `jax.vjp` of the loss is. -/
module

public import proofs.«01_k».proof.Proof.Loss.Body
public import proofs.«01_k».proof.Proof.Norm.Common
public import proofs.«01_k».proof.Proof.Gen.Reference20Ideal.Run
public import proofs.«01_k».proof.Defs

@[expose] public section

set_option maxRecDepth 16384

noncomputable section

namespace Cert.Kernel20Ideal.Loss

open Cert.Kernel20Ideal Cert.Kernel20Ideal.Gen Cert.Mm Idealize.ShloMosaic Idealize.ShloMosaic.TcCoe Idealize.SL.Sem

abbrev Rows := FVec Ideal S8192x1024 .f32

/-- The loss, and its gradient. -/
def total (y l : Rows) : FVec Ideal S1x1 .f32 := fun _ => Ideal.ofBits FTy.f32 0x3F000000#32 *
  ∑ r : Fin 8192, rowLoss (fun k => y (ix2 r k)) fun k => l (ix2 r k)
def grad (y l : Rows) : Rows := fun i => (y i - l i) * Ideal.ofBits FTy.f32 0x3A800000#32

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧
    win0_3.index t = ![t.val, 0] :=
  (by decide +kernel : ∀ t : Fin grid0.N, _)

theorem lt_N (t : Fin cfg0.N) : t.val < 16 := t.isLt

abbrev Y : Rows := m ((c : Thread nD τ).loc main_arg0)
abbrev L : Rows := m ((c : Thread nD τ).loc main_arg1)
abbrev by_ (t : Fin cfg0.N) : Vec Ideal S512x1024 .f32 := iblk m c 0 t
abbrev bl (t : Fin cfg0.N) : Vec Ideal S512x1024 .f32 := iblk m c 1 t

theorem blk0 (t : Fin cfg0.N) (r : Fin 512) (k : Fin 1024) (R : Fin 8192) (hR : R.val = t.val * 512 + r.val) :
    by_ m c t (ix2 r k) = Y m c (ix2 R k) := by
  rw [Y, ← V_main_arg0 m c, show R = ⟨t.val * 512 + r.val, by have := lt_N t; omega⟩ from Fin.ext hR]
  unfold by_ iblk
  generalize V m c = W
  blk_point [idx t]

theorem blk1 (t : Fin cfg0.N) (r : Fin 512) (k : Fin 1024) (R : Fin 8192) (hR : R.val = t.val * 512 + r.val) :
    bl m c t (ix2 r k) = L m c (ix2 R k) := by
  rw [L, ← V_main_arg1 m c, show R = ⟨t.val * 512 + r.val, by have := lt_N t; omega⟩ from Fin.ext hR]
  unfold bl iblk
  generalize V m c = W
  blk_point [idx t]

theorem left3 (t : Fin cfg0.N) : (outsAt0 m c t.val t.isLt).2 = k0_pay3 (F := Ideal) (by_ m c t) (bl m c t) := by
  by_cases h : t.val % 16 = 0
  · rw [outsAt0_A m c t h]
    dsimp only
    rw [outA3]
  · rw [outsAt0_B m c t h]
    dsimp only
    rw [outB3]

theorem left3_at (t : Fin cfg0.N) (r : Fin 512) (j : Fin 1024) (R : Fin 8192) (hR : R.val = t.val * 512 + r.val) :
    (outsAt0 m c t.val t.isLt).2 (ix2 r j) = grad (Y m c) (L m c) (ix2 R j) := by
  rw [left3, pay3_at, blk0 m c t r j R hR, blk1 m c t r j R hR]
  rfl

/-- The gradient. -/
theorem arr3 : (dats m 0 c).arrAt 3 cfg0.N = grad (Y m c) (L m c) := by
  refine (dats m 0 c).arrAt_eq_of_covers 3 _ (by decide +kernel) fun t hf y => ?_
  blk_simp
  rw [after0_3]
  have hN := lt_N t
  have h0 : (y 0).val < 512 := (y 0).isLt
  refine (congrArg (outsAt0 m c t.val t.isLt).2 (idx2_eq (y : S512x1024.Idx))).trans ((left3_at m c t (y 0) (y 1)
    ⟨t.val * 512 + (y 0).val, by omega⟩ rfl).trans ?_)
  generalize grad _ _ = A
  blk_ext [idx t]

/-- A point's share of the loss. -/
def term (t : Fin cfg0.N) (_ : Unit) : EReal := Ideal.ofBits FTy.f32 0x3F000000#32 *
  ∑ r : Fin 512, rowLoss (fun k => by_ m c t (ix2 r k)) fun k => bl m c t (ix2 r k)

abbrev acc (n : ℕ) (h : n < cfg0.N) (_ : Unit) : EReal := (outsAt0 m c n h).1 (ix2 0 0)

theorem first (t : Fin cfg0.N) (h : t.val % 16 = 0) (u : Unit) : acc m c t.val t.isLt u = term m c t u := by
  unfold acc
  rw [outsAt0_A m c t h]
  dsimp only
  rw [outA2, pay4_at, show k0_pay1 (F := Ideal) (ix2 0 0) = 0 by pointwise [k0_pay1], zero_add]
  rfl

theorem next (t : Fin cfg0.N) (h : ¬t.val % 16 = 0) (u : Unit) : acc m c t.val t.isLt u =
    acc m c (t.val - 1) (Nat.lt_of_le_of_lt (Nat.sub_le _ _) t.isLt) u + term m c t u := by
  unfold acc
  rw [outsAt0_B m c t h]
  dsimp only
  rw [outB2, pay4_at]
  rfl

theorem half : Ideal.ofBits FTy.f32 0x3F000000#32 = ((1 / 2 : ℝ) : EReal) := by
  simp [Ideal.ofBits, Ideal.ieee, -EReal.coe_mul]; norm_num

theorem inv_1024 : Ideal.ofBits FTy.f32 0x3A800000#32 = ((1 / 1024 : ℝ) : EReal) := by
  simp [Ideal.ofBits, Ideal.ieee, -EReal.coe_mul]; norm_num

theorem two : Ideal.ofBits FTy.f32 0x40000000#32 = ((2 : ℝ) : EReal) := by
  simp [Ideal.ofBits, Ideal.ieee, -EReal.coe_mul]; norm_num

def lane (l : Fin 8192) : EReal := Ideal.ofBits FTy.f32 0x3F000000#32 *
  rowLoss (fun k => Y m c (ix2 l k)) fun k => L m c (ix2 l k)

theorem point (t : Fin cfg0.N) (u : Unit) (R : Fin 512 → Fin 8192) (hR : ∀ r, (R r).val = t.val * 512 + r.val) :
    term m c t u = ∑ r : Fin 512, lane m c (R r) := by
  unfold term lane
  simp only [half]
  rw [← Norm.mul_sum_real _ (by norm_num)]
  refine congrArg _ (Finset.sum_congr rfl fun r _ => ?_)
  exact congrArg₂ rowLoss (funext fun k => blk0 m c t r k _ (hR r)) (funext fun k => blk1 m c t r k _ (hR r))

theorem last (t : Fin cfg0.N) (hr : t.val % 16 = 16 - 1) : (outsAt0 m c t.val t.isLt).1 (ix2 0 0) = total (Y m c) (L m c) (ix2 0 0) := by
  refine (acc_total (acc m c) (term m c) (first m c) (next m c) t hr () (lane m c) rfl
    fun u hu => point m c u () _ fun r => by have := lt_N u; simp only; omega).trans ?_
  unfold total lane
  simp only [half]
  exact (Norm.mul_sum_real _ (by norm_num) _ _).symm

/-- The loss. -/
theorem arr2 : (dats m 0 c).arrAt 2 cfg0.N = total (Y m c) (L m c) := by
  refine (dats m 0 c).arrAt_eq_of_covers 2 _ (by decide +kernel) fun t hf y => ?_
  blk_simp
  rw [after0_2]
  have e : (y : S1x1.Idx) = ix2 0 0 := (idx2_eq (y : S1x1.Idx)).trans (congrArg₂ (fun a b : Fin 1 => ix2 a b) (Subsingleton.elim _ _) (Subsingleton.elim _ _))
  exact (congrArg (outsAt0 m c t.val t.isLt).1 e).trans (last m c t ((flush0_2 t).mp hf))

section Reference

open Cert.Reference20Ideal Cert.Reference20Ideal.Gen

variable (y l : FVec Ideal Cert.Reference20Ideal.S8192x1024 .f32)

/-- The rows' losses, one to a row. -/
def rows : FVec Ideal Cert.Reference20Ideal.S8192 .f32 := Host.divf (Host.reduceAdd (mulf (subf y l) (subf y l))
  (constant Cert.Reference20Ideal.S_ .f32 0x00000000#32) reducesTo_S8192x1024_S8192_d1 h_S_)
  (broadcastInDim Cert.Reference20Ideal.S8192 ![] bcast_S_S8192 (constant Cert.Reference20Ideal.S_ .f32 0x44800000#32))

theorem rows_at (r : Fin 8192) : rows y l (ix1 r) = rowLoss (fun k => y (ix2 r k)) fun k => l (ix2 r k) := by
  unfold rowLoss
  pointwise [rows]

theorem total_eq : shapeCast Cert.Reference20Ideal.S1x1 (mulf (constant Cert.Reference20Ideal.S_ .f32 0x3F000000#32) (Host.reduceAdd (rows y l)
    (constant Cert.Reference20Ideal.S_ .f32 0x00000000#32) reducesTo_S8192_S_d0 h_S_)) shapeCasts_S_S1x1 = total y l := by
  funext i
  unfold total
  simp only [← rows_at]
  generalize rows y l = A
  pointwise

theorem grad_eq : mulf (broadcastInDim Cert.Reference20Ideal.S8192x1024 ![0] bcast_S8192_S8192x1024_0 (Host.divf (broadcastInDim
    Cert.Reference20Ideal.S8192 ![] bcast_S_S8192 (mulf (constant Cert.Reference20Ideal.S_ .f32 0x3F000000#32) (constant
    Cert.Reference20Ideal.S_ .f32 0x3F800000#32))) (broadcastInDim Cert.Reference20Ideal.S8192 ![] bcast_S_S8192 (constant
    Cert.Reference20Ideal.S_ .f32 0x44800000#32)))) (mulf (broadcastInDim Cert.Reference20Ideal.S8192x1024 ![] bcast_S_S8192x1024 (constant
    Cert.Reference20Ideal.S_ .f32 0x40000000#32)) (subf y l)) = grad y l := by
  funext i
  rw [idx2_eq i]
  unfold grad
  pointwise
  rw [Norm.div_1024, half, inv_1024, two, ← EReal.coe_mul, ← mul_assoc, ← EReal.coe_mul, mul_comm]
  norm_num

end Reference

theorem algebraic : Cert.algebraic_Kernel20Ideal_Reference20Ideal := by
  intro m g m' g' _ hag
  refine ⟨_, _, (θ_run _ _ _).mono (fun r h c => ⟨(h c).1.trans (arr2 m c), (h c).2.1.trans (arr3 m c), (h c).2.2⟩)
    (Cert.Kernel20Ideal.Value.run_blocks m g), ?_⟩
  refine (θ_run _ _ _).mono (fun r h c => ?_) (Cert.Reference20Ideal.Value.run m' g')
  obtain ⟨e0, e1⟩ := hag c
  refine ⟨(h c).1.trans ?_, (h c).2.1.trans ?_, (h c).2.2⟩
  · rw [e0, e1]
    exact total_eq _ _
  · rw [e0, e1]
    exact grad_eq _ _

end Cert.Kernel20Ideal.Loss

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Attn.Ident
public import proofs.«01_k».proof.Proof.Gen.Pre_finite2
public import proofs.«01_k».proof.Proof.Ffn.Launch
public import proofs.«01_k».proof.Proof.Ffn.Ident
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Mm.InIdent
public import proofs.«01_k».proof.Proof.Merge.Ident
public import proofs.«01_k».proof.Proof.Mm.BranchIdent
public import proofs.«01_k».proof.Proof.Mm.FfnIdent
public import proofs.«01_k».proof.Proof.Norm.Bwd
public import proofs.«01_k».proof.Proof.Norm.Fwd
public import proofs.«01_k».proof.Proof.Norm.Host
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Opt.Mod
public import proofs.«01_k».proof.Proof.Opt.In
public import proofs.«01_k».proof.Proof.Opt.Branch
public import proofs.«01_k».proof.Proof.Opt.Out
public import proofs.«01_k».proof.Proof.Opt.FfnIn
public import proofs.«01_k».proof.Proof.Opt.FfnOut
public import proofs.«01_k».proof.Proof.Loss.Arrays
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Attn

theorem factsPre : Cert.Pre_finite.Facts := ⟨by decide, by decide⟩

/-- An extended real of finite magnitude is a real number. -/
theorem real_of_lt {x : EReal} (h : max x (-x) < ⊤) : x = ((x.toReal : ℝ) : EReal) := by
  refine (EReal.coe_toReal (fun e => ?_) fun e => ?_).symm <;> simp [e] at h

section

attribute [local instance] Cert.Kernel.Gen.facts Cert.KernelIdeal.Gen.facts Cert.ReferenceIdeal.Gen.facts factsPre

theorem finite4 (x : FVec Ideal Cert.Pre_finite.S2x4x8192x64 .f32) (h : cmpf .olt (Host.absf x) (broadcastInDim Cert.Pre_finite.S2x4x8192x64 ![]
    Cert.Pre_finite.Facts.bcast_S_S2x4x8192x64 (constant Cert.Pre_finite.S_ .f32 0x7F800000#32)) = fun _ => 1#1)
    (g : Fin 2) (r : Fin 4) (s : Fin 8192) (d : Fin 64) : x (ix4 g r s d) = ((x (ix4 g r s d)).toReal : EReal) := by
  have e := congrFun h (ix4 g r s d)
  refine real_of_lt ?_
  revert e
  pointwise
  intro e
  by_contra hn
  rw [inf_f32, show FloatOps.absf (x (ix4 g r s d)) = max (x (ix4 g r s d)) (-x (ix4 g r s d)) from rfl, decide_eq_false hn] at e
  exact absurd e (by decide)

theorem finite3 (x : FVec Ideal Cert.Pre_finite.S2x8448x64 .f32) (h : cmpf .olt (Host.absf x) (broadcastInDim Cert.Pre_finite.S2x8448x64 ![]
    Cert.Pre_finite.Facts.bcast_S_S2x8448x64 (constant Cert.Pre_finite.S_ .f32 0x7F800000#32)) = fun _ => 1#1)
    (g : Fin 2) (j : Fin 8448) (d : Fin 64) : x (ix3 g j d) = ((x (ix3 g j d)).toReal : EReal) := by
  have e := congrFun h (ix3 g j d)
  refine real_of_lt ?_
  revert e
  pointwise
  intro e
  by_contra hn
  rw [inf_f32, show FloatOps.absf (x (ix3 g j d)) = max (x (ix3 g j d)) (-x (ix3 g j d)) from rfl, decide_eq_false hn] at e
  exact absurd e (by decide)

theorem quiescent_R : Cert.quiescent_ReferenceIdeal := fun m g _ =>
  (θ_run _ _ _).mono (fun r h => ⟨fun c => (h c).2.2.2, sem_eq_zero_of_no_sems (by decide) r.2⟩)
    (Cert.ReferenceIdeal.Value.run m g)

theorem algebraic : Cert.algebraic_KernelIdeal_ReferenceIdeal_pre_finite := by
  intro m g m' g' hpre hag
  have h0 := fun c => finite4 _ (hpre c).1
  have h1 := fun c => finite3 _ (hpre c).2.1
  have h2 := fun c => finite3 _ (hpre c).2.2.1
  have h3 := fun c => finite4 _ (hpre c).2.2.2
  refine ⟨fun c => Cert.KernelIdeal.Attn.gradQ _ _ _ _, fun c => Cert.KernelIdeal.Attn.gradK _ _ _ _,
    fun c => Cert.KernelIdeal.Attn.gradV _ _ _,
    (θ_run _ _ _).mono (fun r h c => ⟨(h c).1.trans (Cert.KernelIdeal.Attn.arr9 m c _ _ _ _ (h0 c) (h1 c) (h2 c) (h3 c)),
      (h c).2.1.trans (Cert.KernelIdeal.Attn.arr10 m c _ _ _ _ (h0 c) (h1 c) (h2 c) (h3 c)),
      (h c).2.2.1.trans (Cert.KernelIdeal.Attn.arr11 m c _ _ _ (h0 c) (h1 c) (h3 c)), (h c).2.2.2⟩)
      (Cert.KernelIdeal.Value.run_blocks m g), ?_⟩
  refine (θ_run _ _ _).mono (fun r h c => ?_) (Cert.ReferenceIdeal.Value.run m' g')
  obtain ⟨r1, r2, r3, r4⟩ := h c
  obtain ⟨e0, e1, e2, e3⟩ := hag c
  refine ⟨r1.trans ((Cert.ReferenceIdeal.Attn.res52 m' c).trans ?_), r2.trans ((Cert.ReferenceIdeal.Attn.res49 m' c).trans ?_), r3.trans ?_, r4⟩
  · rw [e0, e1, e2, e3]
    exact Cert.ReferenceIdeal.Attn.dqT_eq _ _ _ _ (h0 c) (h1 c) (h2 c) (h3 c)
  · rw [e0, e1, e2, e3]
    exact Cert.ReferenceIdeal.Attn.dkT_eq _ _ _ _ (h0 c) (h1 c) (h2 c) (h3 c)
  · rw [e0, e1, e3]
    exact Cert.ReferenceIdeal.Attn.dvT_eq _ _ _ (h0 c) (h1 c) (h3 c)

end

section

attribute [local instance] Cert.Kernel2.Gen.facts Cert.Kernel2Ideal.Gen.facts Cert.Reference2Ideal.Gen.facts Cert.Pre_finite2.Gen.facts

theorem finite2 {M N : ℕ} (x : FVec Ideal ⟨2, ![M, N]⟩ .f32) (hb : Cert.Pre_finite2.S_.BroadcastsInDim ⟨2, ![M, N]⟩ (![] : Fin 0 → Fin 2))
    (h : cmpf .olt (Host.absf x) (broadcastInDim ⟨2, ![M, N]⟩ ![] hb (constant Cert.Pre_finite2.S_ .f32 0x7F800000#32)) = fun _ => 1#1)
    (r : Fin M) (j : Fin N) : x (ix2 r j) = ((x (ix2 r j)).toReal : EReal) := by
  have e := congrFun h (ix2 r j)
  refine real_of_lt ?_
  revert e
  pointwise
  intro e
  by_contra hn
  rw [inf_f32, show FloatOps.absf (x (ix2 r j)) = max (x (ix2 r j)) (-x (ix2 r j)) from rfl, decide_eq_false hn] at e
  exact absurd e (by decide)

theorem quiescent_R2 : Cert.quiescent_Reference2Ideal := fun m g _ =>
  (θ_run _ _ _).mono (fun r h => ⟨fun c => (h c).2.2, sem_eq_zero_of_no_sems (by decide) r.2⟩)
    (Cert.Reference2Ideal.Value.run m g)

theorem algebraic2 : Cert.algebraic_Kernel2Ideal_Reference2Ideal_pre_finite2 := by
  intro m g m' g' hpre hag
  refine ⟨fun c => Cert.Kernel2Ideal.Ffn.yAll _ _ _, fun c => Cert.Kernel2Ideal.Ffn.dhAll _ _ _ _,
    (θ_run _ _ _).mono (fun r h c => ⟨(h c).1.trans (Cert.Kernel2Ideal.Ffn.y_eq m g c), (h c).2.1.trans (Cert.Kernel2Ideal.Ffn.dh_eq m g c),
      (h c).2.2⟩) (Cert.Kernel2Ideal.Ffn.launch m g), ?_⟩
  refine (θ_run _ _ _).mono (fun r h c => ?_) (Cert.Reference2Ideal.Ffn.run m' g')
  obtain ⟨r1, r2⟩ := h c
  obtain ⟨e0, e1, e2, e3⟩ := hag c
  obtain ⟨y, d⟩ := r1 _ _ _ _ e0 e1 e2 e3
  exact ⟨y.trans (Cert.Reference2Ideal.Ffn.out_eq _ _ _), d.trans (Cert.Reference2Ideal.Ffn.din_eq (finite2 _ _ (hpre c).1) (finite2 _ _ (hpre c).2.1)
    (finite2 _ _ (hpre c).2.2.1) (finite2 _ _ (hpre c).2.2.2)), r2⟩

end

section

attribute [local instance] Cert.Kernel3Ideal.Gen.facts Cert.Reference3Ideal.Gen.facts

theorem quiescent_R3 : Cert.quiescent_Reference3Ideal := fun m g _ =>
  (θ_run _ _ _).mono (fun r h => ⟨fun c => (h c).2, sem_eq_zero_of_no_sems (by decide) r.2⟩) (Cert.Reference3Ideal.Value.run m g)

theorem algebraic3 : Cert.algebraic_Kernel3Ideal_Reference3Ideal := by
  intro m g m' g' _ hag
  refine ⟨_, (θ_run _ _ _).mono (fun r h c => ⟨(h c).1.trans (Cert.Mm.arr_3 m c), (h c).2⟩) (Cert.Kernel3Ideal.Value.run_blocks m g), ?_⟩
  refine (θ_run _ _ _).mono (fun r h c => ?_) (Cert.Reference3Ideal.Value.run m' g')
  obtain ⟨e0, e1, e2⟩ := hag c
  refine ⟨(h c).1.trans ?_, (h c).2⟩
  rw [e0, e2]
  exact Cert.Mm.ref_3 _ _

end

section

attribute [local instance] Cert.Kernel4Ideal.Gen.facts Cert.Reference4Ideal.Gen.facts

theorem quiescent_R4 : Cert.quiescent_Reference4Ideal := fun m g _ =>
  (θ_run _ _ _).mono (fun r h => ⟨fun c => (h c).2, sem_eq_zero_of_no_sems (by decide) r.2⟩) (Cert.Reference4Ideal.Value.run m g)

theorem algebraic4 : Cert.algebraic_Kernel4Ideal_Reference4Ideal := by
  intro m g m' g' _ hag
  refine ⟨_, (θ_run _ _ _).mono (fun r h c => ⟨(h c).1.trans (Cert.Mm.arr_4 m c), (h c).2⟩) (Cert.Kernel4Ideal.Value.run_blocks m g), ?_⟩
  refine (θ_run _ _ _).mono (fun r h c => ?_) (Cert.Reference4Ideal.Value.run m' g')
  obtain ⟨e0, e1, e2⟩ := hag c
  refine ⟨(h c).1.trans ?_, (h c).2⟩
  rw [e1, e2]
  exact Cert.Mm.ref_4 _ _

end

section

attribute [local instance] Cert.Kernel5Ideal.Gen.facts Cert.Reference5Ideal.Gen.facts

theorem quiescent_R5 : Cert.quiescent_Reference5Ideal := fun m g _ =>
  (θ_run _ _ _).mono (fun r h => ⟨fun c => (h c).2, sem_eq_zero_of_no_sems (by decide) r.2⟩) (Cert.Reference5Ideal.Value.run m g)

theorem algebraic5 : Cert.algebraic_Kernel5Ideal_Reference5Ideal := by
  intro m g m' g' _ hag
  refine ⟨_, (θ_run _ _ _).mono (fun r h c => ⟨(h c).1.trans (Cert.Mm.arr_5 m c), (h c).2⟩) (Cert.Kernel5Ideal.Value.run_blocks m g), ?_⟩
  refine (θ_run _ _ _).mono (fun r h c => ?_) (Cert.Reference5Ideal.Value.run m' g')
  obtain ⟨e0, e1, e2, e3⟩ := hag c
  refine ⟨(h c).1.trans ?_, (h c).2⟩
  rw [e0, e1, e2, e3]
  exact Cert.Mm.dwIn_left _ _ _

end

section

attribute [local instance] Cert.Kernel6Ideal.Gen.facts Cert.Reference6Ideal.Gen.facts

theorem quiescent_R6 : Cert.quiescent_Reference6Ideal := fun m g _ =>
  (θ_run _ _ _).mono (fun r h => ⟨fun c => (h c).2, sem_eq_zero_of_no_sems (by decide) r.2⟩) (Cert.Reference6Ideal.Value.run m g)

theorem algebraic6 : Cert.algebraic_Kernel6Ideal_Reference6Ideal := by
  intro m g m' g' _ hag
  refine ⟨_, (θ_run _ _ _).mono (fun r h c => ⟨(h c).1.trans (Cert.Mm.arr_6 m c), (h c).2⟩) (Cert.Kernel6Ideal.Value.run_blocks m g), ?_⟩
  refine (θ_run _ _ _).mono (fun r h c => ?_) (Cert.Reference6Ideal.Value.run m' g')
  obtain ⟨e0, e1, e2, e3⟩ := hag c
  refine ⟨(h c).1.trans ?_, (h c).2⟩
  rw [e0, e1, e2, e3]
  exact Cert.Mm.dwIn_right _ _ _

end

section

attribute [local instance] Cert.Kernel7Ideal.Gen.facts Cert.Reference7Ideal.Gen.facts

theorem quiescent_R7 : Cert.quiescent_Reference7Ideal := fun m g _ =>
  (θ_run _ _ _).mono (fun r h => ⟨fun c => (h c).2, sem_eq_zero_of_no_sems (by decide) r.2⟩) (Cert.Reference7Ideal.Value.run m g)

theorem algebraic7 : Cert.algebraic_Kernel7Ideal_Reference7Ideal := by
  intro m g m' g' _ hag
  refine ⟨_, (θ_run _ _ _).mono (fun r h c => ⟨(h c).1.trans (Cert.Mm.arr_7 m c), (h c).2⟩) (Cert.Kernel7Ideal.Value.run_blocks m g), ?_⟩
  refine (θ_run _ _ _).mono (fun r h c => ?_) (Cert.Reference7Ideal.Value.run m' g')
  obtain ⟨e0, e1, e2, e3⟩ := hag c
  refine ⟨(h c).1.trans ?_, (h c).2⟩
  rw [e0, e1, e3]
  exact Cert.Mm.dwOut_eq _ _

end

section

attribute [local instance] Cert.Kernel8Ideal.Gen.facts Cert.Reference8Ideal.Gen.facts

theorem quiescent_R8 : Cert.quiescent_Reference8Ideal := fun m g _ =>
  (θ_run _ _ _).mono (fun r h => ⟨fun c => (h c).2, sem_eq_zero_of_no_sems (by decide) r.2⟩) (Cert.Reference8Ideal.Value.run m g)

theorem algebraic8 : Cert.algebraic_Kernel8Ideal_Reference8Ideal := by
  intro m g m' g' _ hag
  refine ⟨_, (θ_run _ _ _).mono (fun r h c => ⟨(h c).1.trans (Cert.Mm.arr_8 m c), (h c).2⟩) (Cert.Kernel8Ideal.Value.run_blocks m g), ?_⟩
  refine (θ_run _ _ _).mono (fun r h c => ?_) (Cert.Reference8Ideal.Value.run m' g')
  obtain ⟨e0, e1⟩ := hag c
  refine ⟨(h c).1.trans ?_, (h c).2⟩
  rw [e0, e1]
  exact Cert.Mm.ref_8 _ _

end

section

attribute [local instance] Cert.Kernel9Ideal.Gen.facts Cert.Reference9Ideal.Gen.facts

theorem quiescent_R9 : Cert.quiescent_Reference9Ideal := fun m g _ =>
  (θ_run _ _ _).mono (fun r h => ⟨fun c => (h c).2.2.2.2.2, sem_eq_zero_of_no_sems (by decide) r.2⟩) (Cert.Reference9Ideal.Value.run m g)

open Cert.Kernel9Ideal.Merge in
theorem algebraic9 : Cert.algebraic_Kernel9Ideal_Reference9Ideal := by
  intro m g m' g' _ hag
  refine ⟨_, _, _, _, _, (θ_run _ _ _).mono (fun r h c => ⟨(h c).1.trans (y_eq m g c), (h c).2.1.trans (dya_eq m g c),
    (h c).2.2.1.trans (dyb_eq m g c), (h c).2.2.2.1.trans (dga_eq m g c), (h c).2.2.2.2.1.trans (dgb_eq m g c), (h c).2.2.2.2.2⟩)
    (launch m g), ?_⟩
  refine (θ_run _ _ _).mono (fun r h c => ?_) (Cert.Reference9Ideal.Value.run m' g')
  obtain ⟨e0, e1, e2, e3, e4, e5, e6, e7⟩ := hag c
  obtain ⟨r0, r1, r2, r3, r4, r5⟩ := h c
  rw [last_eq, branch_eq, branch_eq, e0, e1, e2, e3, e4, e5, e6] at r0
  rw [branch_back_eq, back_eq, e2, e4, e6, e7] at r1
  rw [branch_back_eq, back_eq, e3, e5, e6, e7] at r2
  rw [branch_eq, back_eq, e0, e2, e4, e6, e7] at r3
  rw [branch_eq, back_eq, e1, e3, e5, e6, e7] at r4
  exact ⟨r0, r1, r2, r3, r4, r5⟩

end

section

attribute [local instance] Cert.Kernel10Ideal.Gen.facts Cert.Reference10Ideal.Gen.facts

theorem quiescent_R10 : Cert.quiescent_Reference10Ideal := fun m g _ =>
  (θ_run _ _ _).mono (fun r h => ⟨fun c => (h c).2, sem_eq_zero_of_no_sems (by decide) r.2⟩) (Cert.Reference10Ideal.Value.run m g)

theorem algebraic10 : Cert.algebraic_Kernel10Ideal_Reference10Ideal := by
  intro m g m' g' _ hag
  refine ⟨_, (θ_run _ _ _).mono (fun r h c => ⟨(h c).1.trans (Cert.Mm.arr_10 m c), (h c).2⟩) (Cert.Kernel10Ideal.Value.run_blocks m g), ?_⟩
  refine (θ_run _ _ _).mono (fun r h c => ?_) (Cert.Reference10Ideal.Value.run m' g')
  obtain ⟨e0, e1, e2⟩ := hag c
  refine ⟨(h c).1.trans ?_, (h c).2⟩
  rw [e0, e2]
  exact Cert.Mm.ref_10 _ _

end

section

attribute [local instance] Cert.Kernel11Ideal.Gen.facts Cert.Reference11Ideal.Gen.facts

theorem quiescent_R11 : Cert.quiescent_Reference11Ideal := fun m g _ =>
  (θ_run _ _ _).mono (fun r h => ⟨fun c => (h c).2, sem_eq_zero_of_no_sems (by decide) r.2⟩) (Cert.Reference11Ideal.Value.run m g)

theorem algebraic11 : Cert.algebraic_Kernel11Ideal_Reference11Ideal := by
  intro m g m' g' _ hag
  refine ⟨_, (θ_run _ _ _).mono (fun r h c => ⟨(h c).1.trans (Cert.Mm.arr_11 m c), (h c).2⟩) (Cert.Kernel11Ideal.Value.run_blocks m g), ?_⟩
  refine (θ_run _ _ _).mono (fun r h c => ?_) (Cert.Reference11Ideal.Value.run m' g')
  obtain ⟨e0, e1, e2⟩ := hag c
  refine ⟨(h c).1.trans ?_, (h c).2⟩
  rw [e0, e2]
  exact Cert.Mm.ref_11 _ _

end

section

attribute [local instance] Cert.Kernel12Ideal.Gen.facts Cert.Reference12Ideal.Gen.facts

theorem quiescent_R12 : Cert.quiescent_Reference12Ideal := fun m g _ =>
  (θ_run _ _ _).mono (fun r h => ⟨fun c => (h c).2.2.2.2, sem_eq_zero_of_no_sems (by decide) r.2⟩) (Cert.Reference12Ideal.Value.run m g)

theorem algebraic12 : Cert.algebraic_Kernel12Ideal_Reference12Ideal := by
  intro m g m' g' _ hag
  refine ⟨_, _, _, _, (θ_run _ _ _).mono (fun r h c => ⟨(h c).1.trans (Cert.Kernel12Ideal.Norm.arr4 m c), (h c).2.1.trans (Cert.Kernel12Ideal.Norm.arr5 m c),
    (h c).2.2.1.trans (Cert.Kernel12Ideal.Norm.arr6 m c), (h c).2.2.2.1.trans (Cert.Kernel12Ideal.Norm.arr7 m c), (h c).2.2.2.2⟩)
    (Cert.Kernel12Ideal.Value.run_blocks m g), ?_⟩
  refine (θ_run _ _ _).mono (fun r h c => ?_) (Cert.Reference12Ideal.Value.run m' g')
  obtain ⟨e0, e1, e2, e3, e4⟩ := hag c
  refine ⟨(h c).1.trans ?_, (h c).2.1.trans ?_, (h c).2.2.1.trans ?_, (h c).2.2.2.1.trans ?_, (h c).2.2.2.2⟩
  · unfold Cert.Reference12Ideal.Value.res_main_v118
    rw [e0, e1, e3, e4]
    exact Cert.Norm.dx_whole _ _ _ _
  · rw [e0, e3, e4]
    exact Cert.Norm.dg_whole _ _ _
  · rw [e4]
    exact Cert.Norm.dsh_whole _
  · rw [e0, e1, e4]
    exact Cert.Norm.dsc_whole _ _ _

end

section

attribute [local instance] Cert.Kernel13Ideal.Gen.facts Cert.Reference13Ideal.Gen.facts

theorem quiescent_R13 : Cert.quiescent_Reference13Ideal := fun m g _ =>
  (θ_run _ _ _).mono (fun r h => ⟨fun c => (h c).2, sem_eq_zero_of_no_sems (by decide) r.2⟩) (Cert.Reference13Ideal.Value.run m g)

theorem algebraic13 : Cert.algebraic_Kernel13Ideal_Reference13Ideal := by
  intro m g m' g' _ hag
  refine ⟨_, (θ_run _ _ _).mono (fun r h c => ⟨(h c).1.trans (Cert.Kernel13Ideal.Norm.arr m c), (h c).2⟩) (Cert.Kernel13Ideal.Value.run_blocks m g), ?_⟩
  refine (θ_run _ _ _).mono (fun r h c => ?_) (Cert.Reference13Ideal.Value.run m' g')
  obtain ⟨e0, e1, e2, e3⟩ := hag c
  refine ⟨(h c).1.trans ?_, (h c).2⟩
  rw [e0, e1, e2, e3]
  exact Cert.Norm.fwd_eq _ _ _ _ _

end

theorem quiescent_R14 : Cert.quiescent_Reference14Ideal := fun m g _ =>
  (θ_run _ _ _).mono (fun r h => ⟨fun c => (h c).2.2.2, sem_eq_zero_of_no_sems (by decide) r.2⟩) (Cert.Reference14Ideal.Value.run m g)

theorem quiescent_R15 : Cert.quiescent_Reference15Ideal := fun m g _ =>
  (θ_run _ _ _).mono (fun r h => ⟨fun c => (h c).2.2.2, sem_eq_zero_of_no_sems (by decide) r.2⟩) (Cert.Reference15Ideal.Value.run m g)

theorem quiescent_R16 : Cert.quiescent_Reference16Ideal := fun m g _ =>
  (θ_run _ _ _).mono (fun r h => ⟨fun c => (h c).2.2.2, sem_eq_zero_of_no_sems (by decide) r.2⟩) (Cert.Reference16Ideal.Value.run m g)

theorem quiescent_R17 : Cert.quiescent_Reference17Ideal := fun m g _ =>
  (θ_run _ _ _).mono (fun r h => ⟨fun c => (h c).2.2.2, sem_eq_zero_of_no_sems (by decide) r.2⟩) (Cert.Reference17Ideal.Value.run m g)

theorem quiescent_R18 : Cert.quiescent_Reference18Ideal := fun m g _ =>
  (θ_run _ _ _).mono (fun r h => ⟨fun c => (h c).2.2.2, sem_eq_zero_of_no_sems (by decide) r.2⟩) (Cert.Reference18Ideal.Value.run m g)

theorem quiescent_R19 : Cert.quiescent_Reference19Ideal := fun m g _ =>
  (θ_run _ _ _).mono (fun r h => ⟨fun c => (h c).2.2.2, sem_eq_zero_of_no_sems (by decide) r.2⟩) (Cert.Reference19Ideal.Value.run m g)

theorem quiescent_R20 : Cert.quiescent_Reference20Ideal := fun m g _ =>
  (θ_run _ _ _).mono (fun r h => ⟨fun c => (h c).2.2, sem_eq_zero_of_no_sems (by decide) r.2⟩) (Cert.Reference20Ideal.Value.run m g)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  factsPre, Cert.Pre_finite2.Gen.facts,
  fun m g _ => Cert.Kernel.Gen.frame m g, fun m g _ => Cert.KernelIdeal.Gen.frame m g,
  fun m g _ => Cert.KernelIdeal.Gen.frame m g, quiescent_R, fun m g _ => quiescent_R m g trivial,
  fun m g _ => Cert.Kernel2.Gen.frame m g, fun m g _ => Cert.Kernel2Ideal.Gen.frame m g,
  fun m g _ => Cert.Kernel2Ideal.Gen.frame m g, quiescent_R2, fun m g _ => quiescent_R2 m g trivial,
  fun m g _ => Cert.Kernel3.Gen.frame m g, fun m g _ => Cert.Kernel3Ideal.Gen.frame m g, quiescent_R3,
  fun m g _ => Cert.Kernel4.Gen.frame m g, fun m g _ => Cert.Kernel4Ideal.Gen.frame m g, quiescent_R4,
  fun m g _ => Cert.Kernel5.Gen.frame m g, fun m g _ => Cert.Kernel5Ideal.Gen.frame m g, quiescent_R5,
  fun m g _ => Cert.Kernel6.Gen.frame m g, fun m g _ => Cert.Kernel6Ideal.Gen.frame m g, quiescent_R6,
  fun m g _ => Cert.Kernel7.Gen.frame m g, fun m g _ => Cert.Kernel7Ideal.Gen.frame m g, quiescent_R7,
  fun m g _ => Cert.Kernel8.Gen.frame m g, fun m g _ => Cert.Kernel8Ideal.Gen.frame m g, quiescent_R8,
  fun m g _ => Cert.Kernel9.Gen.frame m g, fun m g _ => Cert.Kernel9Ideal.Gen.frame m g, quiescent_R9,
  fun m g _ => Cert.Kernel10.Gen.frame m g, fun m g _ => Cert.Kernel10Ideal.Gen.frame m g, quiescent_R10,
  fun m g _ => Cert.Kernel11.Gen.frame m g, fun m g _ => Cert.Kernel11Ideal.Gen.frame m g, quiescent_R11,
  fun m g _ => Cert.Kernel12.Gen.frame m g, fun m g _ => Cert.Kernel12Ideal.Gen.frame m g, quiescent_R12,
  fun m g _ => Cert.Kernel13.Gen.frame m g, fun m g _ => Cert.Kernel13Ideal.Gen.frame m g, quiescent_R13,
  fun m g _ => Cert.Kernel14.Gen.frame m g, fun m g _ => Cert.Kernel14Ideal.Gen.frame m g, quiescent_R14,
  fun m g _ => Cert.Kernel15.Gen.frame m g, fun m g _ => Cert.Kernel15Ideal.Gen.frame m g, quiescent_R15,
  fun m g _ => Cert.Kernel16.Gen.frame m g, fun m g _ => Cert.Kernel16Ideal.Gen.frame m g, quiescent_R16,
  fun m g _ => Cert.Kernel17.Gen.frame m g, fun m g _ => Cert.Kernel17Ideal.Gen.frame m g, quiescent_R17,
  fun m g _ => Cert.Kernel18.Gen.frame m g, fun m g _ => Cert.Kernel18Ideal.Gen.frame m g, quiescent_R18,
  fun m g _ => Cert.Kernel19.Gen.frame m g, fun m g _ => Cert.Kernel19Ideal.Gen.frame m g, quiescent_R19,
  fun m g _ => Cert.Kernel20.Gen.frame m g, fun m g _ => Cert.Kernel20Ideal.Gen.frame m g, quiescent_R20,
  trivial, algebraic, trivial, algebraic2, trivial, algebraic3, trivial, algebraic4, trivial, algebraic5, trivial, algebraic6,
  trivial, algebraic7, trivial, algebraic8, trivial, algebraic9, trivial, algebraic10, trivial, algebraic11,
  trivial, algebraic12, trivial, algebraic13,
  trivial, Cert.Kernel14Ideal.Opt.algebraic,
  trivial, Cert.Kernel15Ideal.Opt.algebraic,
  trivial, Cert.Kernel16Ideal.Opt.algebraic,
  trivial, Cert.Kernel17Ideal.Opt.algebraic,
  trivial, Cert.Kernel18Ideal.Opt.algebraic,
  trivial, Cert.Kernel19Ideal.Opt.algebraic,
  trivial, Cert.Kernel20Ideal.Loss.algebraic⟩

end Cert.Proof

end
